-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S24x1x14336 : Shape := ⟨3, ![24, 1, 14336]⟩
abbrev S8x448x4096 : Shape := ⟨3, ![8, 448, 4096]⟩
abbrev S4096 : Shape := ⟨1, ![4096]⟩
abbrev S6 : Shape := ⟨1, ![6]⟩
abbrev S_ : Shape := ⟨0, ![]⟩

class Facts : Prop where
  bcast_S_S24x1x14336 : S_.BroadcastsInDim S24x1x14336 (![] : Fin 0 → Fin S24x1x14336.rank)
  bcast_S_S6 : S_.BroadcastsInDim S6 (![] : Fin 0 → Fin S6.rank)

variable [Facts]

def fn {F : FTy → Type} [FloatOps F] (main_arg0 : FVec F S24x1x14336 .bf16) (main_arg1 : IVec S8x448x4096 32) (main_arg2 : FVec F S4096 .f32) (main_arg3 : FVec F S4096 .f32) (main_arg4 : IVec S8x448x4096 32) (main_arg5 : FVec F S4096 .f32) (main_arg6 : FVec F S4096 .f32) (main_arg7 : IVec S6 32) : IVec S24x1x14336 1 × IVec S6 1 :=
  let main_v0 : FVec F S24x1x14336 .bf16 := Host.absf main_arg0
  let main_cst : FVec F S_ .bf16 := constant S_ .bf16 0x7F80#16
  let main_v1 : FVec F S24x1x14336 .bf16 := broadcastInDim S24x1x14336 ![] bcast_S_S24x1x14336 main_cst
  let main_v2 : IVec S24x1x14336 1 := cmpf .olt main_v0 main_v1
  let main_c : IVec S_ 32 := constantI S_ 32 0#32
  let main_v3 : IVec S6 32 := broadcastInDim S6 ![] bcast_S_S6 main_c
  let main_v4 : IVec S6 1 := cmpi .sge main_arg7 main_v3
  let main_c_0 : IVec S_ 32 := constantI S_ 32 268435456#32
  let main_v5 : IVec S6 32 := broadcastInDim S6 ![] bcast_S_S6 main_c_0
  let main_v6 : IVec S6 1 := cmpi .slt main_arg7 main_v5
  let main_v7 : IVec S6 1 := andi main_v4 main_v6
  (main_v2, main_v7)
-- ==== Kernel.lean ====
abbrev S24x1x14336 : Shape := ⟨3, ![24, 1, 14336]⟩
abbrev S8x448x4096 : Shape := ⟨3, ![8, 448, 4096]⟩
abbrev S4096 : Shape := ⟨1, ![4096]⟩
abbrev S6 : Shape := ⟨1, ![6]⟩
abbrev S24x14336 : Shape := ⟨2, ![24, 14336]⟩
abbrev S1x4096 : Shape := ⟨2, ![1, 4096]⟩
abbrev S24x4096 : Shape := ⟨2, ![24, 4096]⟩
abbrev S3x2x8x32x512 : Shape := ⟨5, ![3, 2, 8, 32, 512]⟩
abbrev S32x14336 : Shape := ⟨2, ![32, 14336]⟩
abbrev S24x128 : Shape := ⟨2, ![24, 128]⟩
abbrev S3x2 : Shape := ⟨2, ![3, 2]⟩
abbrev S1x1 : Shape := ⟨2, ![1, 1]⟩
abbrev S_ : Shape := ⟨0, ![]⟩
abbrev S1x1x8x32x512 : Shape := ⟨5, ![1, 1, 8, 32, 512]⟩
abbrev S8x32x512 : Shape := ⟨3, ![8, 32, 512]⟩
abbrev S32x256 : Shape := ⟨2, ![32, 256]⟩
abbrev S1 : Shape := ⟨1, ![1]⟩
abbrev S256x256 : Shape := ⟨2, ![256, 256]⟩
abbrev S8x256 : Shape := ⟨2, ![8, 256]⟩
abbrev S24x256 : Shape := ⟨2, ![24, 256]⟩
abbrev S24 : Shape := ⟨1, ![24]⟩
abbrev S24x1 : Shape := ⟨2, ![24, 1]⟩
abbrev S8x8x256 : Shape := ⟨3, ![8, 8, 256]⟩
abbrev S64x256 : Shape := ⟨2, ![64, 256]⟩
abbrev S1x1x1x8x256 : Shape := ⟨5, ![1, 1, 1, 8, 256]⟩
abbrev S8x1x256 : Shape := ⟨3, ![8, 1, 256]⟩
abbrev S1x256 : Shape := ⟨2, ![1, 256]⟩

abbrev nBuf : Space → Nat
  | .hbm => 14
  | .vmem => 9
  | .smem => 1
  | _ => 0

abbrev bufTy : (tb : Table) → Fin (tcTables nBuf tb) → BufTy
  | .hbm, ⟨0, _⟩ => ⟨S24x1x14336, .bf16⟩
  | .hbm, ⟨1, _⟩ => ⟨S8x448x4096, .i32⟩
  | .hbm, ⟨2, _⟩ => ⟨S4096, .f32⟩
  | .hbm, ⟨3, _⟩ => ⟨S4096, .f32⟩
  | .hbm, ⟨4, _⟩ => ⟨S8x448x4096, .i32⟩
  | .hbm, ⟨5, _⟩ => ⟨S4096, .f32⟩
  | .hbm, ⟨6, _⟩ => ⟨S4096, .f32⟩
  | .hbm, ⟨7, _⟩ => ⟨S6, .i32⟩
  | .hbm, ⟨8, _⟩ => ⟨S24x14336, .bf16⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S24x4096, .bf16⟩
  | .local _ .vmem, ⟨0, _⟩ => ⟨S24x14336, .bf16⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S24x4096, .bf16⟩
  | .local _ .vmem, ⟨6, _⟩ => ⟨S3x2x8x32x512, .i32⟩
  | .local _ .vmem, ⟨7, _⟩ => ⟨S32x14336, .bf16⟩
  | .local _ .vmem, ⟨8, _⟩ => ⟨S24x128, .f32⟩
  | .local _ .smem, ⟨0, _⟩ => ⟨S6, .i32⟩
  | _, _ => ⟨S24x1x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_mult1 : BitVec 32 :=
  let c0_i32_6_r0 : BitVec 32 := 0#32
  let c14_i32_7_r0 : BitVec 32 := 14#32
  let v18_r0 : BitVec 32 := Scalar.remsi c0_i32_6_r0 c14_i32_7_r0
  let c32_i32_r0 : BitVec 32 := 32#32
  let v19_r0 : BitVec 32 := Scalar.muli v18_r0 c32_i32_r0
  v19_r0
def k0_mult2 : BitVec 32 :=
  let c0_i32_0_r0 : BitVec 32 := 0#32
  let c0_i32_1_r0 : BitVec 32 := 0#32
  let v2_r0 : BitVec 1 := Scalar.cmpi .sgt c0_i32_0_r0 c0_i32_1_r0
  let v3_r0 : BitVec 32 := Scalar.extui v2_r0
  let c0_i32_2_r0 : BitVec 32 := 0#32
  let v4_r0 : BitVec 1 := Scalar.cmpi .slt c0_i32_0_r0 c0_i32_2_r0
  let v5_r0 : BitVec 32 := Scalar.extui v4_r0
  let v6_r0 : BitVec 32 := Scalar.subi v3_r0 v5_r0
  let c14_i32_r0 : BitVec 32 := 14#32
  let c0_i32_3_r0 : BitVec 32 := 0#32
  let v7_r0 : BitVec 1 := Scalar.cmpi .sgt c14_i32_r0 c0_i32_3_r0
  let v8_r0 : BitVec 32 := Scalar.extui v7_r0
  let c0_i32_4_r0 : BitVec 32 := 0#32
  let v9_r0 : BitVec 1 := Scalar.cmpi .slt c14_i32_r0 c0_i32_4_r0
  let v10_r0 : BitVec 32 := Scalar.extui v9_r0
  let v11_r0 : BitVec 32 := Scalar.subi v8_r0 v10_r0
  let v12_r0 : BitVec 1 := Scalar.cmpi .ne v6_r0 v11_r0
  let v13_r0 : BitVec 32 := Scalar.remsi c0_i32_0_r0 c14_i32_r0
  let c0_i32_5_r0 : BitVec 32 := 0#32
  let v14_r0 : BitVec 1 := Scalar.cmpi .ne v13_r0 c0_i32_5_r0
  let v15_r0 : BitVec 1 := Scalar.andi v12_r0 v14_r0
  let v1_r0 : BitVec 32 := Scalar.divsi c0_i32_0_r0 c14_i32_r0
  let c1_i32_r0 : BitVec 32 := 1#32
  let v16_r0 : BitVec 32 := Scalar.subi v1_r0 c1_i32_r0
  let v17_r0 : BitVec 32 := Scalar.select v15_r0 v16_r0 v1_r0
  let c512_i32_r0 : BitVec 32 := 512#32
  let v21_r0 : BitVec 32 := Scalar.muli v17_r0 c512_i32_r0
  v21_r0
def k0_mult3 : BitVec 32 :=
  let c0_i32_6_r0 : BitVec 32 := 0#32
  let c14_i32_7_r0 : BitVec 32 := 14#32
  let v18_r0 : BitVec 32 := Scalar.remsi c0_i32_6_r0 c14_i32_7_r0
  let c32_i32_8_r0 : BitVec 32 := 32#32
  let v23_r0 : BitVec 32 := Scalar.muli v18_r0 c32_i32_8_r0
  v23_r0
def k0_mult4 : BitVec 32 :=
  let c0_i32_0_r0 : BitVec 32 := 0#32
  let c0_i32_1_r0 : BitVec 32 := 0#32
  let v2_r0 : BitVec 1 := Scalar.cmpi .sgt c0_i32_0_r0 c0_i32_1_r0
  let v3_r0 : BitVec 32 := Scalar.extui v2_r0
  let c0_i32_2_r0 : BitVec 32 := 0#32
  let v4_r0 : BitVec 1 := Scalar.cmpi .slt c0_i32_0_r0 c0_i32_2_r0
  let v5_r0 : BitVec 32 := Scalar.extui v4_r0
  let v6_r0 : BitVec 32 := Scalar.subi v3_r0 v5_r0
  let c14_i32_r0 : BitVec 32 := 14#32
  let c0_i32_3_r0 : BitVec 32 := 0#32
  let v7_r0 : BitVec 1 := Scalar.cmpi .sgt c14_i32_r0 c0_i32_3_r0
  let v8_r0 : BitVec 32 := Scalar.extui v7_r0
  let c0_i32_4_r0 : BitVec 32 := 0#32
  let v9_r0 : BitVec 1 := Scalar.cmpi .slt c14_i32_r0 c0_i32_4_r0
  let v10_r0 : BitVec 32 := Scalar.extui v9_r0
  let v11_r0 : BitVec 32 := Scalar.subi v8_r0 v10_r0
  let v12_r0 : BitVec 1 := Scalar.cmpi .ne v6_r0 v11_r0
  let v13_r0 : BitVec 32 := Scalar.remsi c0_i32_0_r0 c14_i32_r0
  let c0_i32_5_r0 : BitVec 32 := 0#32
  let v14_r0 : BitVec 1 := Scalar.cmpi .ne v13_r0 c0_i32_5_r0
  let v15_r0 : BitVec 1 := Scalar.andi v12_r0 v14_r0
  let v1_r0 : BitVec 32 := Scalar.divsi c0_i32_0_r0 c14_i32_r0
  let c1_i32_r0 : BitVec 32 := 1#32
  let v16_r0 : BitVec 32 := Scalar.subi v1_r0 c1_i32_r0
  let v17_r0 : BitVec 32 := Scalar.select v15_r0 v16_r0 v1_r0
  let c512_i32_9_r0 : BitVec 32 := 512#32
  let v25_r0 : BitVec 32 := Scalar.muli v17_r0 c512_i32_9_r0
  v25_r0
def k0_off1 (c0_i32_r0 : BitVec 32) : Fin 2 → Nat :=
  let c3_i32_r0 : BitVec 32 := 3#32
  let v0_r0 : BitVec 32 := Scalar.remsi c0_i32_r0 c3_i32_r0
  let c0_i32_11_r0 : BitVec 32 := 0#32
  ![v0_r0.toNat, 0]
def k0_off2 (c0_i32_r0 : BitVec 32) : Fin 5 → Nat :=
  let c3_i32_r0 : BitVec 32 := 3#32
  let v0_r0 : BitVec 32 := Scalar.remsi c0_i32_r0 c3_i32_r0
  let c0_i32_10_r0 : BitVec 32 := 0#32
  let c0_i32_12_r0 : BitVec 32 := 0#32
  let c0_i32_13_r0 : BitVec 32 := 0#32
  let c0_i32_14_r0 : BitVec 32 := 0#32
  ![v0_r0.toNat, 0, 0, 0, 0]
def k0_off3 (c0_i32_6_r0 : BitVec 32) (c0_i32_0_r0 : BitVec 32) : Fin 3 → Nat :=
  let c0_i32_15_r0 : BitVec 32 := 0#32
  let c14_i32_7_r0 : BitVec 32 := 14#32
  let v18_r0 : BitVec 32 := Scalar.remsi c0_i32_6_r0 c14_i32_7_r0
  let c32_i32_r0 : BitVec 32 := 32#32
  let v19_r0 : BitVec 32 := Scalar.muli v18_r0 c32_i32_r0
  let v20_r0 : BitVec 32 := v19_r0
  let c0_i32_1_r0 : BitVec 32 := 0#32
  let v2_r0 : BitVec 1 := Scalar.cmpi .sgt c0_i32_0_r0 c0_i32_1_r0
  let v3_r0 : BitVec 32 := Scalar.extui v2_r0
  let c0_i32_2_r0 : BitVec 32 := 0#32
  let v4_r0 : BitVec 1 := Scalar.cmpi .slt c0_i32_0_r0 c0_i32_2_r0
  let v5_r0 : BitVec 32 := Scalar.extui v4_r0
  let v6_r0 : BitVec 32 := Scalar.subi v3_r0 v5_r0
  let c14_i32_r0 : BitVec 32 := 14#32
  let c0_i32_3_r0 : BitVec 32 := 0#32
  let v7_r0 : BitVec 1 := Scalar.cmpi .sgt c14_i32_r0 c0_i32_3_r0
  let v8_r0 : BitVec 32 := Scalar.extui v7_r0
  let c0_i32_4_r0 : BitVec 32 := 0#32
  let v9_r0 : BitVec 1 := Scalar.cmpi .slt c14_i32_r0 c0_i32_4_r0
  let v10_r0 : BitVec 32 := Scalar.extui v9_r0
  let v11_r0 : BitVec 32 := Scalar.subi v8_r0 v10_r0
  let v12_r0 : BitVec 1 := Scalar.cmpi .ne v6_r0 v11_r0
  let v13_r0 : BitVec 32 := Scalar.remsi c0_i32_0_r0 c14_i32_r0
  let c0_i32_5_r0 : BitVec 32 := 0#32
  let v14_r0 : BitVec 1 := Scalar.cmpi .ne v13_r0 c0_i32_5_r0
  let v15_r0 : BitVec 1 := Scalar.andi v12_r0 v14_r0
  let v1_r0 : BitVec 32 := Scalar.divsi c0_i32_0_r0 c14_i32_r0
  let c1_i32_r0 : BitVec 32 := 1#32
  let v16_r0 : BitVec 32 := Scalar.subi v1_r0 c1_i32_r0
  let v17_r0 : BitVec 32 := Scalar.select v15_r0 v16_r0 v1_r0
  let c512_i32_r0 : BitVec 32 := 512#32
  let v21_r0 : BitVec 32 := Scalar.muli v17_r0 c512_i32_r0
  let v22_r0 : BitVec 32 := v21_r0
  ![0, v20_r0.toNat, v22_r0.toNat]
def k0_off3_at (r : Fin 2) : BitVec 32 × BitVec 32 :=
  if r.val < 1 then
    (0#32, 0#32)
  else
    (1#32, 1#32)
def k0_off4 (c0_i32_r0 : BitVec 32) : Fin 2 → Nat :=
  let c3_i32_r0 : BitVec 32 := 3#32
  let v0_r0 : BitVec 32 := Scalar.remsi c0_i32_r0 c3_i32_r0
  let c1_i32_17_r0 : BitVec 32 := 1#32
  ![v0_r0.toNat, 1]
def k0_off5 (c0_i32_r0 : BitVec 32) : Fin 5 → Nat :=
  let c3_i32_r0 : BitVec 32 := 3#32
  let v0_r0 : BitVec 32 := Scalar.remsi c0_i32_r0 c3_i32_r0
  let c1_i32_16_r0 : BitVec 32 := 1#32
  let c0_i32_18_r0 : BitVec 32 := 0#32
  let c0_i32_19_r0 : BitVec 32 := 0#32
  let c0_i32_20_r0 : BitVec 32 := 0#32
  ![v0_r0.toNat, 1, 0, 0, 0]
def k0_mult5 : BitVec 32 :=
  let c1_i32_32_r0 : BitVec 32 := 1#32
  let c14_i32_33_r0 : BitVec 32 := 14#32
  let v55_r0 : BitVec 32 := Scalar.remsi c1_i32_32_r0 c14_i32_33_r0
  let c32_i32_34_r0 : BitVec 32 := 32#32
  let v56_r0 : BitVec 32 := Scalar.muli v55_r0 c32_i32_34_r0
  v56_r0
def k0_mult6 : BitVec 32 :=
  let c1_i32_24_r0 : BitVec 32 := 1#32
  let c0_i32_26_r0 : BitVec 32 := 0#32
  let v39_r0 : BitVec 1 := Scalar.cmpi .sgt c1_i32_24_r0 c0_i32_26_r0
  let v40_r0 : BitVec 32 := Scalar.extui v39_r0
  let c0_i32_27_r0 : BitVec 32 := 0#32
  let v41_r0 : BitVec 1 := Scalar.cmpi .slt c1_i32_24_r0 c0_i32_27_r0
  let v42_r0 : BitVec 32 := Scalar.extui v41_r0
  let v43_r0 : BitVec 32 := Scalar.subi v40_r0 v42_r0
  let c14_i32_25_r0 : BitVec 32 := 14#32
  let c0_i32_28_r0 : BitVec 32 := 0#32
  let v44_r0 : BitVec 1 := Scalar.cmpi .sgt c14_i32_25_r0 c0_i32_28_r0
  let v45_r0 : BitVec 32 := Scalar.extui v44_r0
  let c0_i32_29_r0 : BitVec 32 := 0#32
  let v46_r0 : BitVec 1 := Scalar.cmpi .slt c14_i32_25_r0 c0_i32_29_r0
  let v47_r0 : BitVec 32 := Scalar.extui v46_r0
  let v48_r0 : BitVec 32 := Scalar.subi v45_r0 v47_r0
  let v49_r0 : BitVec 1 := Scalar.cmpi .ne v43_r0 v48_r0
  let v50_r0 : BitVec 32 := Scalar.remsi c1_i32_24_r0 c14_i32_25_r0
  let c0_i32_30_r0 : BitVec 32 := 0#32
  let v51_r0 : BitVec 1 := Scalar.cmpi .ne v50_r0 c0_i32_30_r0
  let v52_r0 : BitVec 1 := Scalar.andi v49_r0 v51_r0
  let v38_r0 : BitVec 32 := Scalar.divsi c1_i32_24_r0 c14_i32_25_r0
  let c1_i32_31_r0 : BitVec 32 := 1#32
  let v53_r0 : BitVec 32 := Scalar.subi v38_r0 c1_i32_31_r0
  let v54_r0 : BitVec 32 := Scalar.select v52_r0 v53_r0 v38_r0
  let c512_i32_35_r0 : BitVec 32 := 512#32
  let v58_r0 : BitVec 32 := Scalar.muli v54_r0 c512_i32_35_r0
  v58_r0
def k0_mult7 : BitVec 32 :=
  let c1_i32_32_r0 : BitVec 32 := 1#32
  let c14_i32_33_r0 : BitVec 32 := 14#32
  let v55_r0 : BitVec 32 := Scalar.remsi c1_i32_32_r0 c14_i32_33_r0
  let c32_i32_36_r0 : BitVec 32 := 32#32
  let v60_r0 : BitVec 32 := Scalar.muli v55_r0 c32_i32_36_r0
  v60_r0
def k0_mult8 : BitVec 32 :=
  let c1_i32_24_r0 : BitVec 32 := 1#32
  let c0_i32_26_r0 : BitVec 32 := 0#32
  let v39_r0 : BitVec 1 := Scalar.cmpi .sgt c1_i32_24_r0 c0_i32_26_r0
  let v40_r0 : BitVec 32 := Scalar.extui v39_r0
  let c0_i32_27_r0 : BitVec 32 := 0#32
  let v41_r0 : BitVec 1 := Scalar.cmpi .slt c1_i32_24_r0 c0_i32_27_r0
  let v42_r0 : BitVec 32 := Scalar.extui v41_r0
  let v43_r0 : BitVec 32 := Scalar.subi v40_r0 v42_r0
  let c14_i32_25_r0 : BitVec 32 := 14#32
  let c0_i32_28_r0 : BitVec 32 := 0#32
  let v44_r0 : BitVec 1 := Scalar.cmpi .sgt c14_i32_25_r0 c0_i32_28_r0
  let v45_r0 : BitVec 32 := Scalar.extui v44_r0
  let c0_i32_29_r0 : BitVec 32 := 0#32
  let v46_r0 : BitVec 1 := Scalar.cmpi .slt c14_i32_25_r0 c0_i32_29_r0
  let v47_r0 : BitVec 32 := Scalar.extui v46_r0
  let v48_r0 : BitVec 32 := Scalar.subi v45_r0 v47_r0
  let v49_r0 : BitVec 1 := Scalar.cmpi .ne v43_r0 v48_r0
  let v50_r0 : BitVec 32 := Scalar.remsi c1_i32_24_r0 c14_i32_25_r0
  let c0_i32_30_r0 : BitVec 32 := 0#32
  let v51_r0 : BitVec 1 := Scalar.cmpi .ne v50_r0 c0_i32_30_r0
  let v52_r0 : BitVec 1 := Scalar.andi v49_r0 v51_r0
  let v38_r0 : BitVec 32 := Scalar.divsi c1_i32_24_r0 c14_i32_25_r0
  let c1_i32_31_r0 : BitVec 32 := 1#32
  let v53_r0 : BitVec 32 := Scalar.subi v38_r0 c1_i32_31_r0
  let v54_r0 : BitVec 32 := Scalar.select v52_r0 v53_r0 v38_r0
  let c512_i32_37_r0 : BitVec 32 := 512#32
  let v62_r0 : BitVec 32 := Scalar.muli v54_r0 c512_i32_37_r0
  v62_r0
@[reducible] def k0_t1_loop : Scf.Loop 32 :=
  let c0_i32_263_r0 : BitVec 32 := 0#32
  let c8_i32_r0 : BitVec 32 := 8#32
  let v784_r0 : BitVec 32 := Scalar.addi c0_i32_263_r0 c8_i32_r0
  let c1_i32_264_r0 : BitVec 32 := 1#32
  ⟨c0_i32_263_r0, v784_r0, c1_i32_264_r0⟩
@[reducible] def k0_t2_loop : Scf.Loop 32 :=
  let c0_i32_267_r0 : BitVec 32 := 0#32
  let c14_i32_268_r0 : BitVec 32 := 14#32
  let v786_r0 : BitVec 32 := Scalar.addi c0_i32_267_r0 c14_i32_268_r0
  let c1_i32_269_r0 : BitVec 32 := 1#32
  ⟨c0_i32_267_r0, v786_r0, c1_i32_269_r0⟩
def k0_mult9 (k0_t1 : Fin k0_t1_loop.trips) (k0_t2 : Fin k0_t2_loop.trips) : BitVec 32 :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c14_i32_348_r0 : BitVec 32 := 14#32
  let v1080_r0 : BitVec 32 := Scalar.remsi v1060_r0 c14_i32_348_r0
  let c32_i32_349_r0 : BitVec 32 := 32#32
  let v1081_r0 : BitVec 32 := Scalar.muli v1080_r0 c32_i32_349_r0
  v1081_r0
def k0_mult10 (k0_t1 : Fin k0_t1_loop.trips) (k0_t2 : Fin k0_t2_loop.trips) : BitVec 32 :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c0_i32_342_r0 : BitVec 32 := 0#32
  let v1064_r0 : BitVec 1 := Scalar.cmpi .sgt v1060_r0 c0_i32_342_r0
  let v1065_r0 : BitVec 32 := Scalar.extui v1064_r0
  let c0_i32_343_r0 : BitVec 32 := 0#32
  let v1066_r0 : BitVec 1 := Scalar.cmpi .slt v1060_r0 c0_i32_343_r0
  let v1067_r0 : BitVec 32 := Scalar.extui v1066_r0
  let v1068_r0 : BitVec 32 := Scalar.subi v1065_r0 v1067_r0
  let c14_i32_341_r0 : BitVec 32 := 14#32
  let c0_i32_344_r0 : BitVec 32 := 0#32
  let v1069_r0 : BitVec 1 := Scalar.cmpi .sgt c14_i32_341_r0 c0_i32_344_r0
  let v1070_r0 : BitVec 32 := Scalar.extui v1069_r0
  let c0_i32_345_r0 : BitVec 32 := 0#32
  let v1071_r0 : BitVec 1 := Scalar.cmpi .slt c14_i32_341_r0 c0_i32_345_r0
  let v1072_r0 : BitVec 32 := Scalar.extui v1071_r0
  let v1073_r0 : BitVec 32 := Scalar.subi v1070_r0 v1072_r0
  let v1074_r0 : BitVec 1 := Scalar.cmpi .ne v1068_r0 v1073_r0
  let v1075_r0 : BitVec 32 := Scalar.remsi v1060_r0 c14_i32_341_r0
  let c0_i32_346_r0 : BitVec 32 := 0#32
  let v1076_r0 : BitVec 1 := Scalar.cmpi .ne v1075_r0 c0_i32_346_r0
  let v1077_r0 : BitVec 1 := Scalar.andi v1074_r0 v1076_r0
  let v1063_r0 : BitVec 32 := Scalar.divsi v1060_r0 c14_i32_341_r0
  let c1_i32_347_r0 : BitVec 32 := 1#32
  let v1078_r0 : BitVec 32 := Scalar.subi v1063_r0 c1_i32_347_r0
  let v1079_r0 : BitVec 32 := Scalar.select v1077_r0 v1078_r0 v1063_r0
  let c512_i32_350_r0 : BitVec 32 := 512#32
  let v1083_r0 : BitVec 32 := Scalar.muli v1079_r0 c512_i32_350_r0
  v1083_r0
def k0_mult11 (k0_t1 : Fin k0_t1_loop.trips) (k0_t2 : Fin k0_t2_loop.trips) : BitVec 32 :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c14_i32_348_r0 : BitVec 32 := 14#32
  let v1080_r0 : BitVec 32 := Scalar.remsi v1060_r0 c14_i32_348_r0
  let c32_i32_351_r0 : BitVec 32 := 32#32
  let v1085_r0 : BitVec 32 := Scalar.muli v1080_r0 c32_i32_351_r0
  v1085_r0
def k0_mult12 (k0_t1 : Fin k0_t1_loop.trips) (k0_t2 : Fin k0_t2_loop.trips) : BitVec 32 :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c0_i32_342_r0 : BitVec 32 := 0#32
  let v1064_r0 : BitVec 1 := Scalar.cmpi .sgt v1060_r0 c0_i32_342_r0
  let v1065_r0 : BitVec 32 := Scalar.extui v1064_r0
  let c0_i32_343_r0 : BitVec 32 := 0#32
  let v1066_r0 : BitVec 1 := Scalar.cmpi .slt v1060_r0 c0_i32_343_r0
  let v1067_r0 : BitVec 32 := Scalar.extui v1066_r0
  let v1068_r0 : BitVec 32 := Scalar.subi v1065_r0 v1067_r0
  let c14_i32_341_r0 : BitVec 32 := 14#32
  let c0_i32_344_r0 : BitVec 32 := 0#32
  let v1069_r0 : BitVec 1 := Scalar.cmpi .sgt c14_i32_341_r0 c0_i32_344_r0
  let v1070_r0 : BitVec 32 := Scalar.extui v1069_r0
  let c0_i32_345_r0 : BitVec 32 := 0#32
  let v1071_r0 : BitVec 1 := Scalar.cmpi .slt c14_i32_341_r0 c0_i32_345_r0
  let v1072_r0 : BitVec 32 := Scalar.extui v1071_r0
  let v1073_r0 : BitVec 32 := Scalar.subi v1070_r0 v1072_r0
  let v1074_r0 : BitVec 1 := Scalar.cmpi .ne v1068_r0 v1073_r0
  let v1075_r0 : BitVec 32 := Scalar.remsi v1060_r0 c14_i32_341_r0
  let c0_i32_346_r0 : BitVec 32 := 0#32
  let v1076_r0 : BitVec 1 := Scalar.cmpi .ne v1075_r0 c0_i32_346_r0
  let v1077_r0 : BitVec 1 := Scalar.andi v1074_r0 v1076_r0
  let v1063_r0 : BitVec 32 := Scalar.divsi v1060_r0 c14_i32_341_r0
  let c1_i32_347_r0 : BitVec 32 := 1#32
  let v1078_r0 : BitVec 32 := Scalar.subi v1063_r0 c1_i32_347_r0
  let v1079_r0 : BitVec 32 := Scalar.select v1077_r0 v1078_r0 v1063_r0
  let c512_i32_352_r0 : BitVec 32 := 512#32
  let v1087_r0 : BitVec 32 := Scalar.muli v1079_r0 c512_i32_352_r0
  v1087_r0
def k0_off6 (k0_t1 : Fin k0_t1_loop.trips) (k0_t2 : Fin k0_t2_loop.trips) : Fin 2 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_340_r0 : BitVec 32 := 3#32
  let v1062_r0 : BitVec 32 := Scalar.remsi v1060_r0 c3_i32_340_r0
  let c0_i32_354_r0 : BitVec 32 := 0#32
  ![v1062_r0.toNat, 0]
def k0_off7 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_340_r0 : BitVec 32 := 3#32
  let v1062_r0 : BitVec 32 := Scalar.remsi v1060_r0 c3_i32_340_r0
  let c0_i32_353_r0 : BitVec 32 := 0#32
  let c0_i32_355_r0 : BitVec 32 := 0#32
  let c0_i32_356_r0 : BitVec 32 := 0#32
  let c0_i32_357_r0 : BitVec 32 := 0#32
  ![v1062_r0.toNat, 0, 0, 0, 0]
def k0_off8 (k0_t1 : Fin k0_t1_loop.trips) (k0_t2 : Fin k0_t2_loop.trips) : Fin 3 → Nat :=
  let c0_i32_358_r0 : BitVec 32 := 0#32
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c14_i32_348_r0 : BitVec 32 := 14#32
  let v1080_r0 : BitVec 32 := Scalar.remsi v1060_r0 c14_i32_348_r0
  let c32_i32_349_r0 : BitVec 32 := 32#32
  let v1081_r0 : BitVec 32 := Scalar.muli v1080_r0 c32_i32_349_r0
  let v1082_r0 : BitVec 32 := v1081_r0
  let c0_i32_342_r0 : BitVec 32 := 0#32
  let v1064_r0 : BitVec 1 := Scalar.cmpi .sgt v1060_r0 c0_i32_342_r0
  let v1065_r0 : BitVec 32 := Scalar.extui v1064_r0
  let c0_i32_343_r0 : BitVec 32 := 0#32
  let v1066_r0 : BitVec 1 := Scalar.cmpi .slt v1060_r0 c0_i32_343_r0
  let v1067_r0 : BitVec 32 := Scalar.extui v1066_r0
  let v1068_r0 : BitVec 32 := Scalar.subi v1065_r0 v1067_r0
  let c14_i32_341_r0 : BitVec 32 := 14#32
  let c0_i32_344_r0 : BitVec 32 := 0#32
  let v1069_r0 : BitVec 1 := Scalar.cmpi .sgt c14_i32_341_r0 c0_i32_344_r0
  let v1070_r0 : BitVec 32 := Scalar.extui v1069_r0
  let c0_i32_345_r0 : BitVec 32 := 0#32
  let v1071_r0 : BitVec 1 := Scalar.cmpi .slt c14_i32_341_r0 c0_i32_345_r0
  let v1072_r0 : BitVec 32 := Scalar.extui v1071_r0
  let v1073_r0 : BitVec 32 := Scalar.subi v1070_r0 v1072_r0
  let v1074_r0 : BitVec 1 := Scalar.cmpi .ne v1068_r0 v1073_r0
  let v1075_r0 : BitVec 32 := Scalar.remsi v1060_r0 c14_i32_341_r0
  let c0_i32_346_r0 : BitVec 32 := 0#32
  let v1076_r0 : BitVec 1 := Scalar.cmpi .ne v1075_r0 c0_i32_346_r0
  let v1077_r0 : BitVec 1 := Scalar.andi v1074_r0 v1076_r0
  let v1063_r0 : BitVec 32 := Scalar.divsi v1060_r0 c14_i32_341_r0
  let c1_i32_347_r0 : BitVec 32 := 1#32
  let v1078_r0 : BitVec 32 := Scalar.subi v1063_r0 c1_i32_347_r0
  let v1079_r0 : BitVec 32 := Scalar.select v1077_r0 v1078_r0 v1063_r0
  let c512_i32_350_r0 : BitVec 32 := 512#32
  let v1083_r0 : BitVec 32 := Scalar.muli v1079_r0 c512_i32_350_r0
  let v1084_r0 : BitVec 32 := v1083_r0
  ![0, v1082_r0.toNat, v1084_r0.toNat]
def k0_off9 (k0_t1 : Fin k0_t1_loop.trips) (k0_t2 : Fin k0_t2_loop.trips) : Fin 2 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_340_r0 : BitVec 32 := 3#32
  let v1062_r0 : BitVec 32 := Scalar.remsi v1060_r0 c3_i32_340_r0
  let c1_i32_360_r0 : BitVec 32 := 1#32
  ![v1062_r0.toNat, 1]
def k0_off10 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_340_r0 : BitVec 32 := 3#32
  let v1062_r0 : BitVec 32 := Scalar.remsi v1060_r0 c3_i32_340_r0
  let c1_i32_359_r0 : BitVec 32 := 1#32
  let c0_i32_361_r0 : BitVec 32 := 0#32
  let c0_i32_362_r0 : BitVec 32 := 0#32
  let c0_i32_363_r0 : BitVec 32 := 0#32
  ![v1062_r0.toNat, 1, 0, 0, 0]
def k0_cond1 (k0_t1 : Fin k0_t1_loop.trips) (k0_t2 : Fin k0_t2_loop.trips) : BitVec 1 :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_365_r0 : BitVec 32 := 3#32
  let v1099_r0 : BitVec 32 := Scalar.addi v1060_r0 c3_i32_365_r0
  let c1_i32_366_r0 : BitVec 32 := 1#32
  let v1100_r0 : BitVec 32 := Scalar.subi v1099_r0 c1_i32_366_r0
  let c112_i32_r0 : BitVec 32 := 112#32
  let v1101_r0 : BitVec 1 := Scalar.cmpi .slt v1100_r0 c112_i32_r0
  let v1102_r0 : BitVec 32 := Scalar.extui v1101_r0
  let c0_i32_367_r0 : BitVec 32 := 0#32
  let v1103_r0 : BitVec 1 := Scalar.cmpi .ne v1102_r0 c0_i32_367_r0
  v1103_r0

def k0_mult13 (k0_t1 : Fin k0_t1_loop.trips) (k0_t2 : Fin k0_t2_loop.trips) : BitVec 32 :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_1684_r0 : BitVec 32 := 3#32
  let v5787_r0 : BitVec 32 := Scalar.addi v1060_r0 c3_i32_1684_r0
  let c1_i32_1685_r0 : BitVec 32 := 1#32
  let v5788_r0 : BitVec 32 := Scalar.subi v5787_r0 c1_i32_1685_r0
  let c14_i32_1694_r0 : BitVec 32 := 14#32
  let v5807_r0 : BitVec 32 := Scalar.remsi v5788_r0 c14_i32_1694_r0
  let c32_i32_1695_r0 : BitVec 32 := 32#32
  let v5808_r0 : BitVec 32 := Scalar.muli v5807_r0 c32_i32_1695_r0
  v5808_r0
def k0_mult14 (k0_t1 : Fin k0_t1_loop.trips) (k0_t2 : Fin k0_t2_loop.trips) : BitVec 32 :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_1684_r0 : BitVec 32 := 3#32
  let v5787_r0 : BitVec 32 := Scalar.addi v1060_r0 c3_i32_1684_r0
  let c1_i32_1685_r0 : BitVec 32 := 1#32
  let v5788_r0 : BitVec 32 := Scalar.subi v5787_r0 c1_i32_1685_r0
  let c0_i32_1688_r0 : BitVec 32 := 0#32
  let v5791_r0 : BitVec 1 := Scalar.cmpi .sgt v5788_r0 c0_i32_1688_r0
  let v5792_r0 : BitVec 32 := Scalar.extui v5791_r0
  let c0_i32_1689_r0 : BitVec 32 := 0#32
  let v5793_r0 : BitVec 1 := Scalar.cmpi .slt v5788_r0 c0_i32_1689_r0
  let v5794_r0 : BitVec 32 := Scalar.extui v5793_r0
  let v5795_r0 : BitVec 32 := Scalar.subi v5792_r0 v5794_r0
  let c14_i32_1687_r0 : BitVec 32 := 14#32
  let c0_i32_1690_r0 : BitVec 32 := 0#32
  let v5796_r0 : BitVec 1 := Scalar.cmpi .sgt c14_i32_1687_r0 c0_i32_1690_r0
  let v5797_r0 : BitVec 32 := Scalar.extui v5796_r0
  let c0_i32_1691_r0 : BitVec 32 := 0#32
  let v5798_r0 : BitVec 1 := Scalar.cmpi .slt c14_i32_1687_r0 c0_i32_1691_r0
  let v5799_r0 : BitVec 32 := Scalar.extui v5798_r0
  let v5800_r0 : BitVec 32 := Scalar.subi v5797_r0 v5799_r0
  let v5801_r0 : BitVec 1 := Scalar.cmpi .ne v5795_r0 v5800_r0
  let v5802_r0 : BitVec 32 := Scalar.remsi v5788_r0 c14_i32_1687_r0
  let c0_i32_1692_r0 : BitVec 32 := 0#32
  let v5803_r0 : BitVec 1 := Scalar.cmpi .ne v5802_r0 c0_i32_1692_r0
  let v5804_r0 : BitVec 1 := Scalar.andi v5801_r0 v5803_r0
  let v5790_r0 : BitVec 32 := Scalar.divsi v5788_r0 c14_i32_1687_r0
  let c1_i32_1693_r0 : BitVec 32 := 1#32
  let v5805_r0 : BitVec 32 := Scalar.subi v5790_r0 c1_i32_1693_r0
  let v5806_r0 : BitVec 32 := Scalar.select v5804_r0 v5805_r0 v5790_r0
  let c512_i32_1696_r0 : BitVec 32 := 512#32
  let v5810_r0 : BitVec 32 := Scalar.muli v5806_r0 c512_i32_1696_r0
  v5810_r0
def k0_mult15 (k0_t1 : Fin k0_t1_loop.trips) (k0_t2 : Fin k0_t2_loop.trips) : BitVec 32 :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_1684_r0 : BitVec 32 := 3#32
  let v5787_r0 : BitVec 32 := Scalar.addi v1060_r0 c3_i32_1684_r0
  let c1_i32_1685_r0 : BitVec 32 := 1#32
  let v5788_r0 : BitVec 32 := Scalar.subi v5787_r0 c1_i32_1685_r0
  let c14_i32_1694_r0 : BitVec 32 := 14#32
  let v5807_r0 : BitVec 32 := Scalar.remsi v5788_r0 c14_i32_1694_r0
  let c32_i32_1697_r0 : BitVec 32 := 32#32
  let v5812_r0 : BitVec 32 := Scalar.muli v5807_r0 c32_i32_1697_r0
  v5812_r0
def k0_mult16 (k0_t1 : Fin k0_t1_loop.trips) (k0_t2 : Fin k0_t2_loop.trips) : BitVec 32 :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_1684_r0 : BitVec 32 := 3#32
  let v5787_r0 : BitVec 32 := Scalar.addi v1060_r0 c3_i32_1684_r0
  let c1_i32_1685_r0 : BitVec 32 := 1#32
  let v5788_r0 : BitVec 32 := Scalar.subi v5787_r0 c1_i32_1685_r0
  let c0_i32_1688_r0 : BitVec 32 := 0#32
  let v5791_r0 : BitVec 1 := Scalar.cmpi .sgt v5788_r0 c0_i32_1688_r0
  let v5792_r0 : BitVec 32 := Scalar.extui v5791_r0
  let c0_i32_1689_r0 : BitVec 32 := 0#32
  let v5793_r0 : BitVec 1 := Scalar.cmpi .slt v5788_r0 c0_i32_1689_r0
  let v5794_r0 : BitVec 32 := Scalar.extui v5793_r0
  let v5795_r0 : BitVec 32 := Scalar.subi v5792_r0 v5794_r0
  let c14_i32_1687_r0 : BitVec 32 := 14#32
  let c0_i32_1690_r0 : BitVec 32 := 0#32
  let v5796_r0 : BitVec 1 := Scalar.cmpi .sgt c14_i32_1687_r0 c0_i32_1690_r0
  let v5797_r0 : BitVec 32 := Scalar.extui v5796_r0
  let c0_i32_1691_r0 : BitVec 32 := 0#32
  let v5798_r0 : BitVec 1 := Scalar.cmpi .slt c14_i32_1687_r0 c0_i32_1691_r0
  let v5799_r0 : BitVec 32 := Scalar.extui v5798_r0
  let v5800_r0 : BitVec 32 := Scalar.subi v5797_r0 v5799_r0
  let v5801_r0 : BitVec 1 := Scalar.cmpi .ne v5795_r0 v5800_r0
  let v5802_r0 : BitVec 32 := Scalar.remsi v5788_r0 c14_i32_1687_r0
  let c0_i32_1692_r0 : BitVec 32 := 0#32
  let v5803_r0 : BitVec 1 := Scalar.cmpi .ne v5802_r0 c0_i32_1692_r0
  let v5804_r0 : BitVec 1 := Scalar.andi v5801_r0 v5803_r0
  let v5790_r0 : BitVec 32 := Scalar.divsi v5788_r0 c14_i32_1687_r0
  let c1_i32_1693_r0 : BitVec 32 := 1#32
  let v5805_r0 : BitVec 32 := Scalar.subi v5790_r0 c1_i32_1693_r0
  let v5806_r0 : BitVec 32 := Scalar.select v5804_r0 v5805_r0 v5790_r0
  let c512_i32_1698_r0 : BitVec 32 := 512#32
  let v5814_r0 : BitVec 32 := Scalar.muli v5806_r0 c512_i32_1698_r0
  v5814_r0
def k0_off11 (k0_t1 : Fin k0_t1_loop.trips) (k0_t2 : Fin k0_t2_loop.trips) : Fin 2 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_1684_r0 : BitVec 32 := 3#32
  let v5787_r0 : BitVec 32 := Scalar.addi v1060_r0 c3_i32_1684_r0
  let c1_i32_1685_r0 : BitVec 32 := 1#32
  let v5788_r0 : BitVec 32 := Scalar.subi v5787_r0 c1_i32_1685_r0
  let c3_i32_1686_r0 : BitVec 32 := 3#32
  let v5789_r0 : BitVec 32 := Scalar.remsi v5788_r0 c3_i32_1686_r0
  let c0_i32_1700_r0 : BitVec 32 := 0#32
  ![v5789_r0.toNat, 0]
def k0_off12 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_1684_r0 : BitVec 32 := 3#32
  let v5787_r0 : BitVec 32 := Scalar.addi v1060_r0 c3_i32_1684_r0
  let c1_i32_1685_r0 : BitVec 32 := 1#32
  let v5788_r0 : BitVec 32 := Scalar.subi v5787_r0 c1_i32_1685_r0
  let c3_i32_1686_r0 : BitVec 32 := 3#32
  let v5789_r0 : BitVec 32 := Scalar.remsi v5788_r0 c3_i32_1686_r0
  let c0_i32_1699_r0 : BitVec 32 := 0#32
  let c0_i32_1701_r0 : BitVec 32 := 0#32
  let c0_i32_1702_r0 : BitVec 32 := 0#32
  let c0_i32_1703_r0 : BitVec 32 := 0#32
  ![v5789_r0.toNat, 0, 0, 0, 0]
def k0_off13 (k0_t1 : Fin k0_t1_loop.trips) (k0_t2 : Fin k0_t2_loop.trips) : Fin 3 → Nat :=
  let c0_i32_1704_r0 : BitVec 32 := 0#32
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_1684_r0 : BitVec 32 := 3#32
  let v5787_r0 : BitVec 32 := Scalar.addi v1060_r0 c3_i32_1684_r0
  let c1_i32_1685_r0 : BitVec 32 := 1#32
  let v5788_r0 : BitVec 32 := Scalar.subi v5787_r0 c1_i32_1685_r0
  let c14_i32_1694_r0 : BitVec 32 := 14#32
  let v5807_r0 : BitVec 32 := Scalar.remsi v5788_r0 c14_i32_1694_r0
  let c32_i32_1695_r0 : BitVec 32 := 32#32
  let v5808_r0 : BitVec 32 := Scalar.muli v5807_r0 c32_i32_1695_r0
  let v5809_r0 : BitVec 32 := v5808_r0
  let c0_i32_1688_r0 : BitVec 32 := 0#32
  let v5791_r0 : BitVec 1 := Scalar.cmpi .sgt v5788_r0 c0_i32_1688_r0
  let v5792_r0 : BitVec 32 := Scalar.extui v5791_r0
  let c0_i32_1689_r0 : BitVec 32 := 0#32
  let v5793_r0 : BitVec 1 := Scalar.cmpi .slt v5788_r0 c0_i32_1689_r0
  let v5794_r0 : BitVec 32 := Scalar.extui v5793_r0
  let v5795_r0 : BitVec 32 := Scalar.subi v5792_r0 v5794_r0
  let c14_i32_1687_r0 : BitVec 32 := 14#32
  let c0_i32_1690_r0 : BitVec 32 := 0#32
  let v5796_r0 : BitVec 1 := Scalar.cmpi .sgt c14_i32_1687_r0 c0_i32_1690_r0
  let v5797_r0 : BitVec 32 := Scalar.extui v5796_r0
  let c0_i32_1691_r0 : BitVec 32 := 0#32
  let v5798_r0 : BitVec 1 := Scalar.cmpi .slt c14_i32_1687_r0 c0_i32_1691_r0
  let v5799_r0 : BitVec 32 := Scalar.extui v5798_r0
  let v5800_r0 : BitVec 32 := Scalar.subi v5797_r0 v5799_r0
  let v5801_r0 : BitVec 1 := Scalar.cmpi .ne v5795_r0 v5800_r0
  let v5802_r0 : BitVec 32 := Scalar.remsi v5788_r0 c14_i32_1687_r0
  let c0_i32_1692_r0 : BitVec 32 := 0#32
  let v5803_r0 : BitVec 1 := Scalar.cmpi .ne v5802_r0 c0_i32_1692_r0
  let v5804_r0 : BitVec 1 := Scalar.andi v5801_r0 v5803_r0
  let v5790_r0 : BitVec 32 := Scalar.divsi v5788_r0 c14_i32_1687_r0
  let c1_i32_1693_r0 : BitVec 32 := 1#32
  let v5805_r0 : BitVec 32 := Scalar.subi v5790_r0 c1_i32_1693_r0
  let v5806_r0 : BitVec 32 := Scalar.select v5804_r0 v5805_r0 v5790_r0
  let c512_i32_1696_r0 : BitVec 32 := 512#32
  let v5810_r0 : BitVec 32 := Scalar.muli v5806_r0 c512_i32_1696_r0
  let v5811_r0 : BitVec 32 := v5810_r0
  ![0, v5809_r0.toNat, v5811_r0.toNat]
def k0_off14 (k0_t1 : Fin k0_t1_loop.trips) (k0_t2 : Fin k0_t2_loop.trips) : Fin 2 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_1684_r0 : BitVec 32 := 3#32
  let v5787_r0 : BitVec 32 := Scalar.addi v1060_r0 c3_i32_1684_r0
  let c1_i32_1685_r0 : BitVec 32 := 1#32
  let v5788_r0 : BitVec 32 := Scalar.subi v5787_r0 c1_i32_1685_r0
  let c3_i32_1686_r0 : BitVec 32 := 3#32
  let v5789_r0 : BitVec 32 := Scalar.remsi v5788_r0 c3_i32_1686_r0
  let c1_i32_1706_r0 : BitVec 32 := 1#32
  ![v5789_r0.toNat, 1]
def k0_off15 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_1684_r0 : BitVec 32 := 3#32
  let v5787_r0 : BitVec 32 := Scalar.addi v1060_r0 c3_i32_1684_r0
  let c1_i32_1685_r0 : BitVec 32 := 1#32
  let v5788_r0 : BitVec 32 := Scalar.subi v5787_r0 c1_i32_1685_r0
  let c3_i32_1686_r0 : BitVec 32 := 3#32
  let v5789_r0 : BitVec 32 := Scalar.remsi v5788_r0 c3_i32_1686_r0
  let c1_i32_1705_r0 : BitVec 32 := 1#32
  let c0_i32_1707_r0 : BitVec 32 := 0#32
  let c0_i32_1708_r0 : BitVec 32 := 0#32
  let c0_i32_1709_r0 : BitVec 32 := 0#32
  ![v5789_r0.toNat, 1, 0, 0, 0]
def k0_mult17 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_r0 : BitVec 32 := 1024#32
  let v1105_r0 : BitVec 32 := Scalar.muli arg15_r0 c1024_i32_r0
  v1105_r0
def k0_mult18 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_r0 : BitVec 32 := 1024#32
  let v1105_r0 : BitVec 32 := Scalar.muli arg15_r0 c1024_i32_r0
  let v1106_r0 : BitVec 32 := v1105_r0
  let c0_i32_369_r0 : BitVec 32 := 0#32
  let v1107_r0 : BitVec 32 := Scalar.addi v1106_r0 c0_i32_369_r0
  v1107_r0
def k0_off16 (k0_t2 : Fin k0_t2_loop.trips) : Fin 2 → Nat :=
  let c0_370_r0 : Index := 0#32
  let c0_i32_267_r0 : BitVec 32 := 0#32
  let c1_i32_269_r0 : BitVec 32 := 1#32
  let arg15_r0 : BitVec 32 := Scf.iv c0_i32_267_r0 c1_i32_269_r0 k0_t2
  let c1024_i32_r0 : BitVec 32 := 1024#32
  let v1105_r0 : BitVec 32 := Scalar.muli arg15_r0 c1024_i32_r0
  let v1106_r0 : BitVec 32 := v1105_r0
  let c0_i32_369_r0 : BitVec 32 := 0#32
  let v1107_r0 : BitVec 32 := Scalar.addi v1106_r0 c0_i32_369_r0
  let v1108_r0 : BitVec 32 := v1107_r0
  let v1109_r0 : Index := Scalar.indexCast v1108_r0
  ![0, v1109_r0.toNat]
def k0_off17 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1111_r0 : Index := Scalar.indexCast v1061_r0
  let c0_371_r0 : Index := 0#32
  let c0_372_r0 : Index := 0#32
  let c0_373_r0 : Index := 0#32
  let c0_374_r0 : Index := 0#32
  ![v1111_r0.toNat, 0, 0, 0, 0]
def k0_off18 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1114_r0 : Index := Scalar.indexCast v1061_r0
  let c0_375_r0 : Index := 0#32
  let c1_376_r0 : Index := 1#32
  let c0_377_r0 : Index := 0#32
  let c0_378_r0 : Index := 0#32
  ![v1114_r0.toNat, 0, 1, 0, 0]
def k0_off19 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1117_r0 : Index := Scalar.indexCast v1061_r0
  let c0_379_r0 : Index := 0#32
  let c2_380_r0 : Index := 2#32
  let c0_381_r0 : Index := 0#32
  let c0_382_r0 : Index := 0#32
  ![v1117_r0.toNat, 0, 2, 0, 0]
def k0_off20 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1168_r0 : Index := Scalar.indexCast v1061_r0
  let c1_399_r0 : Index := 1#32
  let c0_400_r0 : Index := 0#32
  let c0_401_r0 : Index := 0#32
  let c0_402_r0 : Index := 0#32
  ![v1168_r0.toNat, 1, 0, 0, 0]
def k0_off21 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1171_r0 : Index := Scalar.indexCast v1061_r0
  let c1_403_r0 : Index := 1#32
  let c1_404_r0 : Index := 1#32
  let c0_405_r0 : Index := 0#32
  let c0_406_r0 : Index := 0#32
  ![v1171_r0.toNat, 1, 1, 0, 0]
def k0_off22 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1174_r0 : Index := Scalar.indexCast v1061_r0
  let c1_407_r0 : Index := 1#32
  let c2_408_r0 : Index := 2#32
  let c0_409_r0 : Index := 0#32
  let c0_410_r0 : Index := 0#32
  ![v1174_r0.toNat, 1, 2, 0, 0]
def k0_off23 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1283_r0 : Index := Scalar.indexCast v1061_r0
  let c0_432_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v1284_r0 : Index := Scalar.indexCast v132_r0
  let c0_433_r0 : Index := 0#32
  let c0_434_r0 : Index := 0#32
  ![v1283_r0.toNat, 0, v1284_r0.toNat, 0, 0]

def k0_off24 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1288_r0 : Index := Scalar.indexCast v1061_r0
  let c0_436_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let c1_i32_435_r0 : BitVec 32 := 1#32
  let v1287_r0 : BitVec 32 := Scalar.addi v132_r0 c1_i32_435_r0
  let v1289_r0 : Index := Scalar.indexCast v1287_r0
  let c0_437_r0 : Index := 0#32
  let c0_438_r0 : Index := 0#32
  ![v1288_r0.toNat, 0, v1289_r0.toNat, 0, 0]
def k0_off25 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1318_r0 : Index := Scalar.indexCast v1061_r0
  let c1_450_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v1319_r0 : Index := Scalar.indexCast v132_r0
  let c0_451_r0 : Index := 0#32
  let c0_452_r0 : Index := 0#32
  ![v1318_r0.toNat, 1, v1319_r0.toNat, 0, 0]
def k0_off26 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1323_r0 : Index := Scalar.indexCast v1061_r0
  let c1_454_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let c1_i32_453_r0 : BitVec 32 := 1#32
  let v1322_r0 : BitVec 32 := Scalar.addi v132_r0 c1_i32_453_r0
  let v1324_r0 : Index := Scalar.indexCast v1322_r0
  let c0_455_r0 : Index := 0#32
  let c0_456_r0 : Index := 0#32
  ![v1323_r0.toNat, 1, v1324_r0.toNat, 0, 0]
def k0_off27 (v112_r0 : BitVec 32) (v117_r0 : BitVec 32) (v122_r0 : BitVec 32) (v127_r0 : BitVec 32) (k0_t1 : Fin k0_t1_loop.trips) (k0_t2 : Fin k0_t2_loop.trips) (c3_i32_66_r0 : BitVec 32) (c3_i32_67_r0 : BitVec 32) (c5_i32_68_r0 : BitVec 32) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1411_r0 : Index := Scalar.indexCast v1061_r0
  let c0_469_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v133_r0 : BitVec 1 := Scalar.cmpi .sgt v132_r0 c3_i32_66_r0
  let v134_r0 : BitVec 32 := Scalar.select v133_r0 c3_i32_67_r0 c5_i32_68_r0
  let v1412_r0 : Index := Scalar.indexCast v134_r0
  let c0_470_r0 : Index := 0#32
  let c0_471_r0 : Index := 0#32
  ![v1411_r0.toNat, 0, v1412_r0.toNat, 0, 0]
def k0_off27_at (r : Fin 3) : BitVec 32 × BitVec 32 × BitVec 32 :=
  if r.val < 1 then
    (3#32, 3#32, 5#32)
  else
    if r.val < 2 then
      (4#32, 4#32, 6#32)
    else
      (5#32, 5#32, 7#32)
def k0_off28 (v112_r0 : BitVec 32) (v117_r0 : BitVec 32) (v122_r0 : BitVec 32) (v127_r0 : BitVec 32) (k0_t1 : Fin k0_t1_loop.trips) (k0_t2 : Fin k0_t2_loop.trips) (c3_i32_66_r0 : BitVec 32) (c3_i32_67_r0 : BitVec 32) (c5_i32_68_r0 : BitVec 32) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1429_r0 : Index := Scalar.indexCast v1061_r0
  let c1_479_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v133_r0 : BitVec 1 := Scalar.cmpi .sgt v132_r0 c3_i32_66_r0
  let v134_r0 : BitVec 32 := Scalar.select v133_r0 c3_i32_67_r0 c5_i32_68_r0
  let v1430_r0 : Index := Scalar.indexCast v134_r0
  let c0_480_r0 : Index := 0#32
  let c0_481_r0 : Index := 0#32
  ![v1429_r0.toNat, 1, v1430_r0.toNat, 0, 0]
def k0_off28_at (r : Fin 3) : BitVec 32 × BitVec 32 × BitVec 32 :=
  if r.val < 1 then
    (3#32, 3#32, 5#32)
  else
    if r.val < 2 then
      (4#32, 4#32, 6#32)
    else
      (5#32, 5#32, 7#32)
def k0_off29 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1693_r0 : Index := Scalar.indexCast v1061_r0
  let c0_529_r0 : Index := 0#32
  let c0_530_r0 : Index := 0#32
  let c0_531_r0 : Index := 0#32
  let c256_532_r0 : Index := 256#32
  ![v1693_r0.toNat, 0, 0, 0, 256]
def k0_off30 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1696_r0 : Index := Scalar.indexCast v1061_r0
  let c0_533_r0 : Index := 0#32
  let c1_534_r0 : Index := 1#32
  let c0_535_r0 : Index := 0#32
  let c256_536_r0 : Index := 256#32
  ![v1696_r0.toNat, 0, 1, 0, 256]
def k0_off31 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1699_r0 : Index := Scalar.indexCast v1061_r0
  let c0_537_r0 : Index := 0#32
  let c2_538_r0 : Index := 2#32
  let c0_539_r0 : Index := 0#32
  let c256_540_r0 : Index := 256#32
  ![v1699_r0.toNat, 0, 2, 0, 256]
def k0_off32 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1750_r0 : Index := Scalar.indexCast v1061_r0
  let c1_562_r0 : Index := 1#32
  let c0_563_r0 : Index := 0#32
  let c0_564_r0 : Index := 0#32
  let c256_565_r0 : Index := 256#32
  ![v1750_r0.toNat, 1, 0, 0, 256]
def k0_off33 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1753_r0 : Index := Scalar.indexCast v1061_r0
  let c1_566_r0 : Index := 1#32
  let c1_567_r0 : Index := 1#32
  let c0_568_r0 : Index := 0#32
  let c256_569_r0 : Index := 256#32
  ![v1753_r0.toNat, 1, 1, 0, 256]
def k0_off34 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1756_r0 : Index := Scalar.indexCast v1061_r0
  let c1_570_r0 : Index := 1#32
  let c2_571_r0 : Index := 2#32
  let c0_572_r0 : Index := 0#32
  let c256_573_r0 : Index := 256#32
  ![v1756_r0.toNat, 1, 2, 0, 256]
def k0_off35 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1865_r0 : Index := Scalar.indexCast v1061_r0
  let c0_595_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v1866_r0 : Index := Scalar.indexCast v132_r0
  let c0_596_r0 : Index := 0#32
  let c256_597_r0 : Index := 256#32
  ![v1865_r0.toNat, 0, v1866_r0.toNat, 0, 256]
def k0_off36 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1870_r0 : Index := Scalar.indexCast v1061_r0
  let c0_599_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let c1_i32_598_r0 : BitVec 32 := 1#32
  let v1869_r0 : BitVec 32 := Scalar.addi v132_r0 c1_i32_598_r0
  let v1871_r0 : Index := Scalar.indexCast v1869_r0
  let c0_600_r0 : Index := 0#32
  let c256_601_r0 : Index := 256#32
  ![v1870_r0.toNat, 0, v1871_r0.toNat, 0, 256]
def k0_off37 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1900_r0 : Index := Scalar.indexCast v1061_r0
  let c1_614_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v1901_r0 : Index := Scalar.indexCast v132_r0
  let c0_615_r0 : Index := 0#32
  let c256_616_r0 : Index := 256#32
  ![v1900_r0.toNat, 1, v1901_r0.toNat, 0, 256]
def k0_off38 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1905_r0 : Index := Scalar.indexCast v1061_r0
  let c1_618_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let c1_i32_617_r0 : BitVec 32 := 1#32
  let v1904_r0 : BitVec 32 := Scalar.addi v132_r0 c1_i32_617_r0
  let v1906_r0 : Index := Scalar.indexCast v1904_r0
  let c0_619_r0 : Index := 0#32
  let c256_620_r0 : Index := 256#32
  ![v1905_r0.toNat, 1, v1906_r0.toNat, 0, 256]
def k0_off39 (v112_r0 : BitVec 32) (v117_r0 : BitVec 32) (v122_r0 : BitVec 32) (v127_r0 : BitVec 32) (k0_t1 : Fin k0_t1_loop.trips) (k0_t2 : Fin k0_t2_loop.trips) (c3_i32_66_r0 : BitVec 32) (c3_i32_67_r0 : BitVec 32) (c5_i32_68_r0 : BitVec 32) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v1993_r0 : Index := Scalar.indexCast v1061_r0
  let c0_633_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v133_r0 : BitVec 1 := Scalar.cmpi .sgt v132_r0 c3_i32_66_r0
  let v134_r0 : BitVec 32 := Scalar.select v133_r0 c3_i32_67_r0 c5_i32_68_r0
  let v1994_r0 : Index := Scalar.indexCast v134_r0
  let c0_634_r0 : Index := 0#32
  let c256_635_r0 : Index := 256#32
  ![v1993_r0.toNat, 0, v1994_r0.toNat, 0, 256]
def k0_off39_at (r : Fin 3) : BitVec 32 × BitVec 32 × BitVec 32 :=
  if r.val < 1 then
    (3#32, 3#32, 5#32)
  else
    if r.val < 2 then
      (4#32, 4#32, 6#32)
    else
      (5#32, 5#32, 7#32)
def k0_off40 (v112_r0 : BitVec 32) (v117_r0 : BitVec 32) (v122_r0 : BitVec 32) (v127_r0 : BitVec 32) (k0_t1 : Fin k0_t1_loop.trips) (k0_t2 : Fin k0_t2_loop.trips) (c3_i32_66_r0 : BitVec 32) (c3_i32_67_r0 : BitVec 32) (c5_i32_68_r0 : BitVec 32) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v2011_r0 : Index := Scalar.indexCast v1061_r0
  let c1_643_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v133_r0 : BitVec 1 := Scalar.cmpi .sgt v132_r0 c3_i32_66_r0
  let v134_r0 : BitVec 32 := Scalar.select v133_r0 c3_i32_67_r0 c5_i32_68_r0
  let v2012_r0 : Index := Scalar.indexCast v134_r0
  let c0_644_r0 : Index := 0#32
  let c256_645_r0 : Index := 256#32
  ![v2011_r0.toNat, 1, v2012_r0.toNat, 0, 256]
def k0_off40_at (r : Fin 3) : BitVec 32 × BitVec 32 × BitVec 32 :=
  if r.val < 1 then
    (3#32, 3#32, 5#32)
  else
    if r.val < 2 then
      (4#32, 4#32, 6#32)
    else
      (5#32, 5#32, 7#32)
def k0_mult19 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_693_r0 : BitVec 32 := 1024#32
  let v2275_r0 : BitVec 32 := Scalar.muli arg15_r0 c1024_i32_693_r0
  v2275_r0
def k0_mult20 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_693_r0 : BitVec 32 := 1024#32
  let v2275_r0 : BitVec 32 := Scalar.muli arg15_r0 c1024_i32_693_r0
  let v2276_r0 : BitVec 32 := v2275_r0
  let c256_i32_694_r0 : BitVec 32 := 256#32
  let v2277_r0 : BitVec 32 := Scalar.addi v2276_r0 c256_i32_694_r0
  v2277_r0
def k0_off41 (k0_t2 : Fin k0_t2_loop.trips) (c256_i32_694_r0 : BitVec 32) : Fin 2 → Nat :=
  let c0_695_r0 : Index := 0#32
  let c0_i32_267_r0 : BitVec 32 := 0#32
  let c1_i32_269_r0 : BitVec 32 := 1#32
  let arg15_r0 : BitVec 32 := Scf.iv c0_i32_267_r0 c1_i32_269_r0 k0_t2
  let c1024_i32_693_r0 : BitVec 32 := 1024#32
  let v2275_r0 : BitVec 32 := Scalar.muli arg15_r0 c1024_i32_693_r0
  let v2276_r0 : BitVec 32 := v2275_r0
  let v2277_r0 : BitVec 32 := Scalar.addi v2276_r0 c256_i32_694_r0
  let v2278_r0 : BitVec 32 := v2277_r0
  let v2279_r0 : Index := Scalar.indexCast v2278_r0
  ![0, v2279_r0.toNat]
def k0_off42 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v2281_r0 : Index := Scalar.indexCast v1061_r0
  let c0_696_r0 : Index := 0#32
  let c0_697_r0 : Index := 0#32
  let c8_r0 : Index := 8#32
  let c0_698_r0 : Index := 0#32
  ![v2281_r0.toNat, 0, 0, 8, 0]
def k0_off43 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v2284_r0 : Index := Scalar.indexCast v1061_r0
  let c0_699_r0 : Index := 0#32
  let c1_700_r0 : Index := 1#32
  let c8_701_r0 : Index := 8#32
  let c0_702_r0 : Index := 0#32
  ![v2284_r0.toNat, 0, 1, 8, 0]
def k0_off44 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v2287_r0 : Index := Scalar.indexCast v1061_r0
  let c0_703_r0 : Index := 0#32
  let c2_704_r0 : Index := 2#32
  let c8_705_r0 : Index := 8#32
  let c0_706_r0 : Index := 0#32
  ![v2287_r0.toNat, 0, 2, 8, 0]
def k0_off45 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v2338_r0 : Index := Scalar.indexCast v1061_r0
  let c1_728_r0 : Index := 1#32
  let c0_729_r0 : Index := 0#32
  let c8_730_r0 : Index := 8#32
  let c0_731_r0 : Index := 0#32
  ![v2338_r0.toNat, 1, 0, 8, 0]
def k0_off46 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v2341_r0 : Index := Scalar.indexCast v1061_r0
  let c1_732_r0 : Index := 1#32
  let c1_733_r0 : Index := 1#32
  let c8_734_r0 : Index := 8#32
  let c0_735_r0 : Index := 0#32
  ![v2341_r0.toNat, 1, 1, 8, 0]
def k0_off47 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v2344_r0 : Index := Scalar.indexCast v1061_r0
  let c1_736_r0 : Index := 1#32
  let c2_737_r0 : Index := 2#32
  let c8_738_r0 : Index := 8#32
  let c0_739_r0 : Index := 0#32
  ![v2344_r0.toNat, 1, 2, 8, 0]
def k0_off48 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v2453_r0 : Index := Scalar.indexCast v1061_r0
  let c0_761_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v2454_r0 : Index := Scalar.indexCast v132_r0
  let c8_762_r0 : Index := 8#32
  let c0_763_r0 : Index := 0#32
  ![v2453_r0.toNat, 0, v2454_r0.toNat, 8, 0]
def k0_off49 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v2458_r0 : Index := Scalar.indexCast v1061_r0
  let c0_765_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let c1_i32_764_r0 : BitVec 32 := 1#32
  let v2457_r0 : BitVec 32 := Scalar.addi v132_r0 c1_i32_764_r0
  let v2459_r0 : Index := Scalar.indexCast v2457_r0
  let c8_766_r0 : Index := 8#32
  let c0_767_r0 : Index := 0#32
  ![v2458_r0.toNat, 0, v2459_r0.toNat, 8, 0]
def k0_off50 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v2488_r0 : Index := Scalar.indexCast v1061_r0
  let c1_780_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v2489_r0 : Index := Scalar.indexCast v132_r0
  let c8_781_r0 : Index := 8#32
  let c0_782_r0 : Index := 0#32
  ![v2488_r0.toNat, 1, v2489_r0.toNat, 8, 0]
def k0_off51 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v2493_r0 : Index := Scalar.indexCast v1061_r0
  let c1_784_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let c1_i32_783_r0 : BitVec 32 := 1#32
  let v2492_r0 : BitVec 32 := Scalar.addi v132_r0 c1_i32_783_r0
  let v2494_r0 : Index := Scalar.indexCast v2492_r0
  let c8_785_r0 : Index := 8#32
  let c0_786_r0 : Index := 0#32
  ![v2493_r0.toNat, 1, v2494_r0.toNat, 8, 0]
def k0_off52 (v112_r0 : BitVec 32) (v117_r0 : BitVec 32) (v122_r0 : BitVec 32) (v127_r0 : BitVec 32) (k0_t1 : Fin k0_t1_loop.trips) (k0_t2 : Fin k0_t2_loop.trips) (c3_i32_66_r0 : BitVec 32) (c3_i32_67_r0 : BitVec 32) (c5_i32_68_r0 : BitVec 32) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v2581_r0 : Index := Scalar.indexCast v1061_r0
  let c0_799_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v133_r0 : BitVec 1 := Scalar.cmpi .sgt v132_r0 c3_i32_66_r0
  let v134_r0 : BitVec 32 := Scalar.select v133_r0 c3_i32_67_r0 c5_i32_68_r0
  let v2582_r0 : Index := Scalar.indexCast v134_r0
  let c8_800_r0 : Index := 8#32
  let c0_801_r0 : Index := 0#32
  ![v2581_r0.toNat, 0, v2582_r0.toNat, 8, 0]
def k0_off52_at (r : Fin 3) : BitVec 32 × BitVec 32 × BitVec 32 :=
  if r.val < 1 then
    (3#32, 3#32, 5#32)
  else
    if r.val < 2 then
      (4#32, 4#32, 6#32)
    else
      (5#32, 5#32, 7#32)
def k0_off53 (v112_r0 : BitVec 32) (v117_r0 : BitVec 32) (v122_r0 : BitVec 32) (v127_r0 : BitVec 32) (k0_t1 : Fin k0_t1_loop.trips) (k0_t2 : Fin k0_t2_loop.trips) (c3_i32_66_r0 : BitVec 32) (c3_i32_67_r0 : BitVec 32) (c5_i32_68_r0 : BitVec 32) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v2599_r0 : Index := Scalar.indexCast v1061_r0
  let c1_809_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v133_r0 : BitVec 1 := Scalar.cmpi .sgt v132_r0 c3_i32_66_r0
  let v134_r0 : BitVec 32 := Scalar.select v133_r0 c3_i32_67_r0 c5_i32_68_r0
  let v2600_r0 : Index := Scalar.indexCast v134_r0
  let c8_810_r0 : Index := 8#32
  let c0_811_r0 : Index := 0#32
  ![v2599_r0.toNat, 1, v2600_r0.toNat, 8, 0]
def k0_off53_at (r : Fin 3) : BitVec 32 × BitVec 32 × BitVec 32 :=
  if r.val < 1 then
    (3#32, 3#32, 5#32)
  else
    if r.val < 2 then
      (4#32, 4#32, 6#32)
    else
      (5#32, 5#32, 7#32)
def k0_off54 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v2863_r0 : Index := Scalar.indexCast v1061_r0
  let c0_859_r0 : Index := 0#32
  let c0_860_r0 : Index := 0#32
  let c8_861_r0 : Index := 8#32
  let c256_862_r0 : Index := 256#32
  ![v2863_r0.toNat, 0, 0, 8, 256]
def k0_off55 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v2866_r0 : Index := Scalar.indexCast v1061_r0
  let c0_863_r0 : Index := 0#32
  let c1_864_r0 : Index := 1#32
  let c8_865_r0 : Index := 8#32
  let c256_866_r0 : Index := 256#32
  ![v2866_r0.toNat, 0, 1, 8, 256]
def k0_off56 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v2869_r0 : Index := Scalar.indexCast v1061_r0
  let c0_867_r0 : Index := 0#32
  let c2_868_r0 : Index := 2#32
  let c8_869_r0 : Index := 8#32
  let c256_870_r0 : Index := 256#32
  ![v2869_r0.toNat, 0, 2, 8, 256]
def k0_off57 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v2920_r0 : Index := Scalar.indexCast v1061_r0
  let c1_892_r0 : Index := 1#32
  let c0_893_r0 : Index := 0#32
  let c8_894_r0 : Index := 8#32
  let c256_895_r0 : Index := 256#32
  ![v2920_r0.toNat, 1, 0, 8, 256]
def k0_off58 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v2923_r0 : Index := Scalar.indexCast v1061_r0
  let c1_896_r0 : Index := 1#32
  let c1_897_r0 : Index := 1#32
  let c8_898_r0 : Index := 8#32
  let c256_899_r0 : Index := 256#32
  ![v2923_r0.toNat, 1, 1, 8, 256]
def k0_off59 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v2926_r0 : Index := Scalar.indexCast v1061_r0
  let c1_900_r0 : Index := 1#32
  let c2_901_r0 : Index := 2#32
  let c8_902_r0 : Index := 8#32
  let c256_903_r0 : Index := 256#32
  ![v2926_r0.toNat, 1, 2, 8, 256]
def k0_off60 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v3035_r0 : Index := Scalar.indexCast v1061_r0
  let c0_925_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v3036_r0 : Index := Scalar.indexCast v132_r0
  let c8_926_r0 : Index := 8#32
  let c256_927_r0 : Index := 256#32
  ![v3035_r0.toNat, 0, v3036_r0.toNat, 8, 256]
def k0_off61 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v3040_r0 : Index := Scalar.indexCast v1061_r0
  let c0_929_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let c1_i32_928_r0 : BitVec 32 := 1#32
  let v3039_r0 : BitVec 32 := Scalar.addi v132_r0 c1_i32_928_r0
  let v3041_r0 : Index := Scalar.indexCast v3039_r0
  let c8_930_r0 : Index := 8#32
  let c256_931_r0 : Index := 256#32
  ![v3040_r0.toNat, 0, v3041_r0.toNat, 8, 256]
def k0_off62 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v3070_r0 : Index := Scalar.indexCast v1061_r0
  let c1_944_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v3071_r0 : Index := Scalar.indexCast v132_r0
  let c8_945_r0 : Index := 8#32
  let c256_946_r0 : Index := 256#32
  ![v3070_r0.toNat, 1, v3071_r0.toNat, 8, 256]
def k0_off63 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v3075_r0 : Index := Scalar.indexCast v1061_r0
  let c1_948_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let c1_i32_947_r0 : BitVec 32 := 1#32
  let v3074_r0 : BitVec 32 := Scalar.addi v132_r0 c1_i32_947_r0
  let v3076_r0 : Index := Scalar.indexCast v3074_r0
  let c8_949_r0 : Index := 8#32
  let c256_950_r0 : Index := 256#32
  ![v3075_r0.toNat, 1, v3076_r0.toNat, 8, 256]
def k0_off64 (v112_r0 : BitVec 32) (v117_r0 : BitVec 32) (v122_r0 : BitVec 32) (v127_r0 : BitVec 32) (k0_t1 : Fin k0_t1_loop.trips) (k0_t2 : Fin k0_t2_loop.trips) (c3_i32_66_r0 : BitVec 32) (c3_i32_67_r0 : BitVec 32) (c5_i32_68_r0 : BitVec 32) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v3163_r0 : Index := Scalar.indexCast v1061_r0
  let c0_963_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v133_r0 : BitVec 1 := Scalar.cmpi .sgt v132_r0 c3_i32_66_r0
  let v134_r0 : BitVec 32 := Scalar.select v133_r0 c3_i32_67_r0 c5_i32_68_r0
  let v3164_r0 : Index := Scalar.indexCast v134_r0
  let c8_964_r0 : Index := 8#32
  let c256_965_r0 : Index := 256#32
  ![v3163_r0.toNat, 0, v3164_r0.toNat, 8, 256]
def k0_off64_at (r : Fin 3) : BitVec 32 × BitVec 32 × BitVec 32 :=
  if r.val < 1 then
    (3#32, 3#32, 5#32)
  else
    if r.val < 2 then
      (4#32, 4#32, 6#32)
    else
      (5#32, 5#32, 7#32)
def k0_off65 (v112_r0 : BitVec 32) (v117_r0 : BitVec 32) (v122_r0 : BitVec 32) (v127_r0 : BitVec 32) (k0_t1 : Fin k0_t1_loop.trips) (k0_t2 : Fin k0_t2_loop.trips) (c3_i32_66_r0 : BitVec 32) (c3_i32_67_r0 : BitVec 32) (c5_i32_68_r0 : BitVec 32) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v3181_r0 : Index := Scalar.indexCast v1061_r0
  let c1_973_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v133_r0 : BitVec 1 := Scalar.cmpi .sgt v132_r0 c3_i32_66_r0
  let v134_r0 : BitVec 32 := Scalar.select v133_r0 c3_i32_67_r0 c5_i32_68_r0
  let v3182_r0 : Index := Scalar.indexCast v134_r0
  let c8_974_r0 : Index := 8#32
  let c256_975_r0 : Index := 256#32
  ![v3181_r0.toNat, 1, v3182_r0.toNat, 8, 256]
def k0_off65_at (r : Fin 3) : BitVec 32 × BitVec 32 × BitVec 32 :=
  if r.val < 1 then
    (3#32, 3#32, 5#32)
  else
    if r.val < 2 then
      (4#32, 4#32, 6#32)
    else
      (5#32, 5#32, 7#32)
def k0_mult21 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1023_r0 : BitVec 32 := 1024#32
  let v3445_r0 : BitVec 32 := Scalar.muli arg15_r0 c1024_i32_1023_r0
  v3445_r0
def k0_mult22 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1023_r0 : BitVec 32 := 1024#32
  let v3445_r0 : BitVec 32 := Scalar.muli arg15_r0 c1024_i32_1023_r0
  let v3446_r0 : BitVec 32 := v3445_r0
  let c512_i32_1024_r0 : BitVec 32 := 512#32
  let v3447_r0 : BitVec 32 := Scalar.addi v3446_r0 c512_i32_1024_r0
  v3447_r0
def k0_off66 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v3451_r0 : Index := Scalar.indexCast v1061_r0
  let c0_1026_r0 : Index := 0#32
  let c0_1027_r0 : Index := 0#32
  let c16_r0 : Index := 16#32
  let c0_1028_r0 : Index := 0#32
  ![v3451_r0.toNat, 0, 0, 16, 0]
def k0_off67 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v3454_r0 : Index := Scalar.indexCast v1061_r0
  let c0_1029_r0 : Index := 0#32
  let c1_1030_r0 : Index := 1#32
  let c16_1031_r0 : Index := 16#32
  let c0_1032_r0 : Index := 0#32
  ![v3454_r0.toNat, 0, 1, 16, 0]
def k0_off68 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v3457_r0 : Index := Scalar.indexCast v1061_r0
  let c0_1033_r0 : Index := 0#32
  let c2_1034_r0 : Index := 2#32
  let c16_1035_r0 : Index := 16#32
  let c0_1036_r0 : Index := 0#32
  ![v3457_r0.toNat, 0, 2, 16, 0]
def k0_off69 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v3508_r0 : Index := Scalar.indexCast v1061_r0
  let c1_1058_r0 : Index := 1#32
  let c0_1059_r0 : Index := 0#32
  let c16_1060_r0 : Index := 16#32
  let c0_1061_r0 : Index := 0#32
  ![v3508_r0.toNat, 1, 0, 16, 0]
def k0_off70 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v3511_r0 : Index := Scalar.indexCast v1061_r0
  let c1_1062_r0 : Index := 1#32
  let c1_1063_r0 : Index := 1#32
  let c16_1064_r0 : Index := 16#32
  let c0_1065_r0 : Index := 0#32
  ![v3511_r0.toNat, 1, 1, 16, 0]
def k0_off71 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v3514_r0 : Index := Scalar.indexCast v1061_r0
  let c1_1066_r0 : Index := 1#32
  let c2_1067_r0 : Index := 2#32
  let c16_1068_r0 : Index := 16#32
  let c0_1069_r0 : Index := 0#32
  ![v3514_r0.toNat, 1, 2, 16, 0]
def k0_off72 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v3623_r0 : Index := Scalar.indexCast v1061_r0
  let c0_1091_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v3624_r0 : Index := Scalar.indexCast v132_r0
  let c16_1092_r0 : Index := 16#32
  let c0_1093_r0 : Index := 0#32
  ![v3623_r0.toNat, 0, v3624_r0.toNat, 16, 0]
def k0_off73 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v3628_r0 : Index := Scalar.indexCast v1061_r0
  let c0_1095_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let c1_i32_1094_r0 : BitVec 32 := 1#32
  let v3627_r0 : BitVec 32 := Scalar.addi v132_r0 c1_i32_1094_r0
  let v3629_r0 : Index := Scalar.indexCast v3627_r0
  let c16_1096_r0 : Index := 16#32
  let c0_1097_r0 : Index := 0#32
  ![v3628_r0.toNat, 0, v3629_r0.toNat, 16, 0]
def k0_off74 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v3658_r0 : Index := Scalar.indexCast v1061_r0
  let c1_1110_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v3659_r0 : Index := Scalar.indexCast v132_r0
  let c16_1111_r0 : Index := 16#32
  let c0_1112_r0 : Index := 0#32
  ![v3658_r0.toNat, 1, v3659_r0.toNat, 16, 0]
def k0_off75 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v3663_r0 : Index := Scalar.indexCast v1061_r0
  let c1_1114_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let c1_i32_1113_r0 : BitVec 32 := 1#32
  let v3662_r0 : BitVec 32 := Scalar.addi v132_r0 c1_i32_1113_r0
  let v3664_r0 : Index := Scalar.indexCast v3662_r0
  let c16_1115_r0 : Index := 16#32
  let c0_1116_r0 : Index := 0#32
  ![v3663_r0.toNat, 1, v3664_r0.toNat, 16, 0]
def k0_off76 (v112_r0 : BitVec 32) (v117_r0 : BitVec 32) (v122_r0 : BitVec 32) (v127_r0 : BitVec 32) (k0_t1 : Fin k0_t1_loop.trips) (k0_t2 : Fin k0_t2_loop.trips) (c3_i32_66_r0 : BitVec 32) (c3_i32_67_r0 : BitVec 32) (c5_i32_68_r0 : BitVec 32) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v3751_r0 : Index := Scalar.indexCast v1061_r0
  let c0_1129_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v133_r0 : BitVec 1 := Scalar.cmpi .sgt v132_r0 c3_i32_66_r0
  let v134_r0 : BitVec 32 := Scalar.select v133_r0 c3_i32_67_r0 c5_i32_68_r0
  let v3752_r0 : Index := Scalar.indexCast v134_r0
  let c16_1130_r0 : Index := 16#32
  let c0_1131_r0 : Index := 0#32
  ![v3751_r0.toNat, 0, v3752_r0.toNat, 16, 0]
def k0_off76_at (r : Fin 3) : BitVec 32 × BitVec 32 × BitVec 32 :=
  if r.val < 1 then
    (3#32, 3#32, 5#32)
  else
    if r.val < 2 then
      (4#32, 4#32, 6#32)
    else
      (5#32, 5#32, 7#32)
def k0_off77 (v112_r0 : BitVec 32) (v117_r0 : BitVec 32) (v122_r0 : BitVec 32) (v127_r0 : BitVec 32) (k0_t1 : Fin k0_t1_loop.trips) (k0_t2 : Fin k0_t2_loop.trips) (c3_i32_66_r0 : BitVec 32) (c3_i32_67_r0 : BitVec 32) (c5_i32_68_r0 : BitVec 32) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v3769_r0 : Index := Scalar.indexCast v1061_r0
  let c1_1139_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v133_r0 : BitVec 1 := Scalar.cmpi .sgt v132_r0 c3_i32_66_r0
  let v134_r0 : BitVec 32 := Scalar.select v133_r0 c3_i32_67_r0 c5_i32_68_r0
  let v3770_r0 : Index := Scalar.indexCast v134_r0
  let c16_1140_r0 : Index := 16#32
  let c0_1141_r0 : Index := 0#32
  ![v3769_r0.toNat, 1, v3770_r0.toNat, 16, 0]
def k0_off77_at (r : Fin 3) : BitVec 32 × BitVec 32 × BitVec 32 :=
  if r.val < 1 then
    (3#32, 3#32, 5#32)
  else
    if r.val < 2 then
      (4#32, 4#32, 6#32)
    else
      (5#32, 5#32, 7#32)
def k0_off78 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4033_r0 : Index := Scalar.indexCast v1061_r0
  let c0_1189_r0 : Index := 0#32
  let c0_1190_r0 : Index := 0#32
  let c16_1191_r0 : Index := 16#32
  let c256_1192_r0 : Index := 256#32
  ![v4033_r0.toNat, 0, 0, 16, 256]
def k0_off79 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4036_r0 : Index := Scalar.indexCast v1061_r0
  let c0_1193_r0 : Index := 0#32
  let c1_1194_r0 : Index := 1#32
  let c16_1195_r0 : Index := 16#32
  let c256_1196_r0 : Index := 256#32
  ![v4036_r0.toNat, 0, 1, 16, 256]
def k0_off80 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4039_r0 : Index := Scalar.indexCast v1061_r0
  let c0_1197_r0 : Index := 0#32
  let c2_1198_r0 : Index := 2#32
  let c16_1199_r0 : Index := 16#32
  let c256_1200_r0 : Index := 256#32
  ![v4039_r0.toNat, 0, 2, 16, 256]
def k0_off81 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4090_r0 : Index := Scalar.indexCast v1061_r0
  let c1_1222_r0 : Index := 1#32
  let c0_1223_r0 : Index := 0#32
  let c16_1224_r0 : Index := 16#32
  let c256_1225_r0 : Index := 256#32
  ![v4090_r0.toNat, 1, 0, 16, 256]
def k0_off82 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4093_r0 : Index := Scalar.indexCast v1061_r0
  let c1_1226_r0 : Index := 1#32
  let c1_1227_r0 : Index := 1#32
  let c16_1228_r0 : Index := 16#32
  let c256_1229_r0 : Index := 256#32
  ![v4093_r0.toNat, 1, 1, 16, 256]
def k0_off83 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4096_r0 : Index := Scalar.indexCast v1061_r0
  let c1_1230_r0 : Index := 1#32
  let c2_1231_r0 : Index := 2#32
  let c16_1232_r0 : Index := 16#32
  let c256_1233_r0 : Index := 256#32
  ![v4096_r0.toNat, 1, 2, 16, 256]
def k0_off84 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4205_r0 : Index := Scalar.indexCast v1061_r0
  let c0_1255_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v4206_r0 : Index := Scalar.indexCast v132_r0
  let c16_1256_r0 : Index := 16#32
  let c256_1257_r0 : Index := 256#32
  ![v4205_r0.toNat, 0, v4206_r0.toNat, 16, 256]
def k0_off85 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4210_r0 : Index := Scalar.indexCast v1061_r0
  let c0_1259_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let c1_i32_1258_r0 : BitVec 32 := 1#32
  let v4209_r0 : BitVec 32 := Scalar.addi v132_r0 c1_i32_1258_r0
  let v4211_r0 : Index := Scalar.indexCast v4209_r0
  let c16_1260_r0 : Index := 16#32
  let c256_1261_r0 : Index := 256#32
  ![v4210_r0.toNat, 0, v4211_r0.toNat, 16, 256]
def k0_off86 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4240_r0 : Index := Scalar.indexCast v1061_r0
  let c1_1274_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v4241_r0 : Index := Scalar.indexCast v132_r0
  let c16_1275_r0 : Index := 16#32
  let c256_1276_r0 : Index := 256#32
  ![v4240_r0.toNat, 1, v4241_r0.toNat, 16, 256]
def k0_off87 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4245_r0 : Index := Scalar.indexCast v1061_r0
  let c1_1278_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let c1_i32_1277_r0 : BitVec 32 := 1#32
  let v4244_r0 : BitVec 32 := Scalar.addi v132_r0 c1_i32_1277_r0
  let v4246_r0 : Index := Scalar.indexCast v4244_r0
  let c16_1279_r0 : Index := 16#32
  let c256_1280_r0 : Index := 256#32
  ![v4245_r0.toNat, 1, v4246_r0.toNat, 16, 256]
def k0_off88 (v112_r0 : BitVec 32) (v117_r0 : BitVec 32) (v122_r0 : BitVec 32) (v127_r0 : BitVec 32) (k0_t1 : Fin k0_t1_loop.trips) (k0_t2 : Fin k0_t2_loop.trips) (c3_i32_66_r0 : BitVec 32) (c3_i32_67_r0 : BitVec 32) (c5_i32_68_r0 : BitVec 32) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4333_r0 : Index := Scalar.indexCast v1061_r0
  let c0_1293_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v133_r0 : BitVec 1 := Scalar.cmpi .sgt v132_r0 c3_i32_66_r0
  let v134_r0 : BitVec 32 := Scalar.select v133_r0 c3_i32_67_r0 c5_i32_68_r0
  let v4334_r0 : Index := Scalar.indexCast v134_r0
  let c16_1294_r0 : Index := 16#32
  let c256_1295_r0 : Index := 256#32
  ![v4333_r0.toNat, 0, v4334_r0.toNat, 16, 256]
def k0_off88_at (r : Fin 3) : BitVec 32 × BitVec 32 × BitVec 32 :=
  if r.val < 1 then
    (3#32, 3#32, 5#32)
  else
    if r.val < 2 then
      (4#32, 4#32, 6#32)
    else
      (5#32, 5#32, 7#32)
def k0_off89 (v112_r0 : BitVec 32) (v117_r0 : BitVec 32) (v122_r0 : BitVec 32) (v127_r0 : BitVec 32) (k0_t1 : Fin k0_t1_loop.trips) (k0_t2 : Fin k0_t2_loop.trips) (c3_i32_66_r0 : BitVec 32) (c3_i32_67_r0 : BitVec 32) (c5_i32_68_r0 : BitVec 32) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4351_r0 : Index := Scalar.indexCast v1061_r0
  let c1_1303_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v133_r0 : BitVec 1 := Scalar.cmpi .sgt v132_r0 c3_i32_66_r0
  let v134_r0 : BitVec 32 := Scalar.select v133_r0 c3_i32_67_r0 c5_i32_68_r0
  let v4352_r0 : Index := Scalar.indexCast v134_r0
  let c16_1304_r0 : Index := 16#32
  let c256_1305_r0 : Index := 256#32
  ![v4351_r0.toNat, 1, v4352_r0.toNat, 16, 256]
def k0_off89_at (r : Fin 3) : BitVec 32 × BitVec 32 × BitVec 32 :=
  if r.val < 1 then
    (3#32, 3#32, 5#32)
  else
    if r.val < 2 then
      (4#32, 4#32, 6#32)
    else
      (5#32, 5#32, 7#32)
def k0_mult23 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1353_r0 : BitVec 32 := 1024#32
  let v4615_r0 : BitVec 32 := Scalar.muli arg15_r0 c1024_i32_1353_r0
  v4615_r0
def k0_mult24 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1353_r0 : BitVec 32 := 1024#32
  let v4615_r0 : BitVec 32 := Scalar.muli arg15_r0 c1024_i32_1353_r0
  let v4616_r0 : BitVec 32 := v4615_r0
  let c768_i32_r0 : BitVec 32 := 768#32
  let v4617_r0 : BitVec 32 := Scalar.addi v4616_r0 c768_i32_r0
  v4617_r0
def k0_off90 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4621_r0 : Index := Scalar.indexCast v1061_r0
  let c0_1355_r0 : Index := 0#32
  let c0_1356_r0 : Index := 0#32
  let c24_r0 : Index := 24#32
  let c0_1357_r0 : Index := 0#32
  ![v4621_r0.toNat, 0, 0, 24, 0]
def k0_off91 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4624_r0 : Index := Scalar.indexCast v1061_r0
  let c0_1358_r0 : Index := 0#32
  let c1_1359_r0 : Index := 1#32
  let c24_1360_r0 : Index := 24#32
  let c0_1361_r0 : Index := 0#32
  ![v4624_r0.toNat, 0, 1, 24, 0]
def k0_off92 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4627_r0 : Index := Scalar.indexCast v1061_r0
  let c0_1362_r0 : Index := 0#32
  let c2_1363_r0 : Index := 2#32
  let c24_1364_r0 : Index := 24#32
  let c0_1365_r0 : Index := 0#32
  ![v4627_r0.toNat, 0, 2, 24, 0]
def k0_off93 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4678_r0 : Index := Scalar.indexCast v1061_r0
  let c1_1387_r0 : Index := 1#32
  let c0_1388_r0 : Index := 0#32
  let c24_1389_r0 : Index := 24#32
  let c0_1390_r0 : Index := 0#32
  ![v4678_r0.toNat, 1, 0, 24, 0]
def k0_off94 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4681_r0 : Index := Scalar.indexCast v1061_r0
  let c1_1391_r0 : Index := 1#32
  let c1_1392_r0 : Index := 1#32
  let c24_1393_r0 : Index := 24#32
  let c0_1394_r0 : Index := 0#32
  ![v4681_r0.toNat, 1, 1, 24, 0]
def k0_off95 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4684_r0 : Index := Scalar.indexCast v1061_r0
  let c1_1395_r0 : Index := 1#32
  let c2_1396_r0 : Index := 2#32
  let c24_1397_r0 : Index := 24#32
  let c0_1398_r0 : Index := 0#32
  ![v4684_r0.toNat, 1, 2, 24, 0]
def k0_off96 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4793_r0 : Index := Scalar.indexCast v1061_r0
  let c0_1420_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v4794_r0 : Index := Scalar.indexCast v132_r0
  let c24_1421_r0 : Index := 24#32
  let c0_1422_r0 : Index := 0#32
  ![v4793_r0.toNat, 0, v4794_r0.toNat, 24, 0]
def k0_off97 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4798_r0 : Index := Scalar.indexCast v1061_r0
  let c0_1424_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let c1_i32_1423_r0 : BitVec 32 := 1#32
  let v4797_r0 : BitVec 32 := Scalar.addi v132_r0 c1_i32_1423_r0
  let v4799_r0 : Index := Scalar.indexCast v4797_r0
  let c24_1425_r0 : Index := 24#32
  let c0_1426_r0 : Index := 0#32
  ![v4798_r0.toNat, 0, v4799_r0.toNat, 24, 0]
def k0_off98 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4828_r0 : Index := Scalar.indexCast v1061_r0
  let c1_1439_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v4829_r0 : Index := Scalar.indexCast v132_r0
  let c24_1440_r0 : Index := 24#32
  let c0_1441_r0 : Index := 0#32
  ![v4828_r0.toNat, 1, v4829_r0.toNat, 24, 0]
def k0_off99 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4833_r0 : Index := Scalar.indexCast v1061_r0
  let c1_1443_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let c1_i32_1442_r0 : BitVec 32 := 1#32
  let v4832_r0 : BitVec 32 := Scalar.addi v132_r0 c1_i32_1442_r0
  let v4834_r0 : Index := Scalar.indexCast v4832_r0
  let c24_1444_r0 : Index := 24#32
  let c0_1445_r0 : Index := 0#32
  ![v4833_r0.toNat, 1, v4834_r0.toNat, 24, 0]
def k0_off100 (v112_r0 : BitVec 32) (v117_r0 : BitVec 32) (v122_r0 : BitVec 32) (v127_r0 : BitVec 32) (k0_t1 : Fin k0_t1_loop.trips) (k0_t2 : Fin k0_t2_loop.trips) (c3_i32_66_r0 : BitVec 32) (c3_i32_67_r0 : BitVec 32) (c5_i32_68_r0 : BitVec 32) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4921_r0 : Index := Scalar.indexCast v1061_r0
  let c0_1458_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v133_r0 : BitVec 1 := Scalar.cmpi .sgt v132_r0 c3_i32_66_r0
  let v134_r0 : BitVec 32 := Scalar.select v133_r0 c3_i32_67_r0 c5_i32_68_r0
  let v4922_r0 : Index := Scalar.indexCast v134_r0
  let c24_1459_r0 : Index := 24#32
  let c0_1460_r0 : Index := 0#32
  ![v4921_r0.toNat, 0, v4922_r0.toNat, 24, 0]
def k0_off100_at (r : Fin 3) : BitVec 32 × BitVec 32 × BitVec 32 :=
  if r.val < 1 then
    (3#32, 3#32, 5#32)
  else
    if r.val < 2 then
      (4#32, 4#32, 6#32)
    else
      (5#32, 5#32, 7#32)
def k0_off101 (v112_r0 : BitVec 32) (v117_r0 : BitVec 32) (v122_r0 : BitVec 32) (v127_r0 : BitVec 32) (k0_t1 : Fin k0_t1_loop.trips) (k0_t2 : Fin k0_t2_loop.trips) (c3_i32_66_r0 : BitVec 32) (c3_i32_67_r0 : BitVec 32) (c5_i32_68_r0 : BitVec 32) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v4939_r0 : Index := Scalar.indexCast v1061_r0
  let c1_1468_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v133_r0 : BitVec 1 := Scalar.cmpi .sgt v132_r0 c3_i32_66_r0
  let v134_r0 : BitVec 32 := Scalar.select v133_r0 c3_i32_67_r0 c5_i32_68_r0
  let v4940_r0 : Index := Scalar.indexCast v134_r0
  let c24_1469_r0 : Index := 24#32
  let c0_1470_r0 : Index := 0#32
  ![v4939_r0.toNat, 1, v4940_r0.toNat, 24, 0]
def k0_off101_at (r : Fin 3) : BitVec 32 × BitVec 32 × BitVec 32 :=
  if r.val < 1 then
    (3#32, 3#32, 5#32)
  else
    if r.val < 2 then
      (4#32, 4#32, 6#32)
    else
      (5#32, 5#32, 7#32)
def k0_off102 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v5203_r0 : Index := Scalar.indexCast v1061_r0
  let c0_1518_r0 : Index := 0#32
  let c0_1519_r0 : Index := 0#32
  let c24_1520_r0 : Index := 24#32
  let c256_1521_r0 : Index := 256#32
  ![v5203_r0.toNat, 0, 0, 24, 256]
def k0_off103 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v5206_r0 : Index := Scalar.indexCast v1061_r0
  let c0_1522_r0 : Index := 0#32
  let c1_1523_r0 : Index := 1#32
  let c24_1524_r0 : Index := 24#32
  let c256_1525_r0 : Index := 256#32
  ![v5206_r0.toNat, 0, 1, 24, 256]
def k0_off104 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v5209_r0 : Index := Scalar.indexCast v1061_r0
  let c0_1526_r0 : Index := 0#32
  let c2_1527_r0 : Index := 2#32
  let c24_1528_r0 : Index := 24#32
  let c256_1529_r0 : Index := 256#32
  ![v5209_r0.toNat, 0, 2, 24, 256]
def k0_off105 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v5260_r0 : Index := Scalar.indexCast v1061_r0
  let c1_1551_r0 : Index := 1#32
  let c0_1552_r0 : Index := 0#32
  let c24_1553_r0 : Index := 24#32
  let c256_1554_r0 : Index := 256#32
  ![v5260_r0.toNat, 1, 0, 24, 256]
def k0_off106 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v5263_r0 : Index := Scalar.indexCast v1061_r0
  let c1_1555_r0 : Index := 1#32
  let c1_1556_r0 : Index := 1#32
  let c24_1557_r0 : Index := 24#32
  let c256_1558_r0 : Index := 256#32
  ![v5263_r0.toNat, 1, 1, 24, 256]
def k0_off107 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v5266_r0 : Index := Scalar.indexCast v1061_r0
  let c1_1559_r0 : Index := 1#32
  let c2_1560_r0 : Index := 2#32
  let c24_1561_r0 : Index := 24#32
  let c256_1562_r0 : Index := 256#32
  ![v5266_r0.toNat, 1, 2, 24, 256]
def k0_off108 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v5375_r0 : Index := Scalar.indexCast v1061_r0
  let c0_1584_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v5376_r0 : Index := Scalar.indexCast v132_r0
  let c24_1585_r0 : Index := 24#32
  let c256_1586_r0 : Index := 256#32
  ![v5375_r0.toNat, 0, v5376_r0.toNat, 24, 256]
def k0_off109 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v5380_r0 : Index := Scalar.indexCast v1061_r0
  let c0_1588_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let c1_i32_1587_r0 : BitVec 32 := 1#32
  let v5379_r0 : BitVec 32 := Scalar.addi v132_r0 c1_i32_1587_r0
  let v5381_r0 : Index := Scalar.indexCast v5379_r0
  let c24_1589_r0 : Index := 24#32
  let c256_1590_r0 : Index := 256#32
  ![v5380_r0.toNat, 0, v5381_r0.toNat, 24, 256]
def k0_off110 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v5410_r0 : Index := Scalar.indexCast v1061_r0
  let c1_1603_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v5411_r0 : Index := Scalar.indexCast v132_r0
  let c24_1604_r0 : Index := 24#32
  let c256_1605_r0 : Index := 256#32
  ![v5410_r0.toNat, 1, v5411_r0.toNat, 24, 256]
def k0_off111 (v112_r0 : BitVec 32) (v117_r0 : BitVec 32) (v122_r0 : BitVec 32) (v127_r0 : BitVec 32) (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v5415_r0 : Index := Scalar.indexCast v1061_r0
  let c1_1607_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let c1_i32_1606_r0 : BitVec 32 := 1#32
  let v5414_r0 : BitVec 32 := Scalar.addi v132_r0 c1_i32_1606_r0
  let v5416_r0 : Index := Scalar.indexCast v5414_r0
  let c24_1608_r0 : Index := 24#32
  let c256_1609_r0 : Index := 256#32
  ![v5415_r0.toNat, 1, v5416_r0.toNat, 24, 256]
def k0_off112 (v112_r0 : BitVec 32) (v117_r0 : BitVec 32) (v122_r0 : BitVec 32) (v127_r0 : BitVec 32) (k0_t1 : Fin k0_t1_loop.trips) (k0_t2 : Fin k0_t2_loop.trips) (c3_i32_66_r0 : BitVec 32) (c3_i32_67_r0 : BitVec 32) (c5_i32_68_r0 : BitVec 32) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v5503_r0 : Index := Scalar.indexCast v1061_r0
  let c0_1622_r0 : Index := 0#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v133_r0 : BitVec 1 := Scalar.cmpi .sgt v132_r0 c3_i32_66_r0
  let v134_r0 : BitVec 32 := Scalar.select v133_r0 c3_i32_67_r0 c5_i32_68_r0
  let v5504_r0 : Index := Scalar.indexCast v134_r0
  let c24_1623_r0 : Index := 24#32
  let c256_1624_r0 : Index := 256#32
  ![v5503_r0.toNat, 0, v5504_r0.toNat, 24, 256]
def k0_off112_at (r : Fin 3) : BitVec 32 × BitVec 32 × BitVec 32 :=
  if r.val < 1 then
    (3#32, 3#32, 5#32)
  else
    if r.val < 2 then
      (4#32, 4#32, 6#32)
    else
      (5#32, 5#32, 7#32)
def k0_off113 (v112_r0 : BitVec 32) (v117_r0 : BitVec 32) (v122_r0 : BitVec 32) (v127_r0 : BitVec 32) (k0_t1 : Fin k0_t1_loop.trips) (k0_t2 : Fin k0_t2_loop.trips) (c3_i32_66_r0 : BitVec 32) (c3_i32_67_r0 : BitVec 32) (c5_i32_68_r0 : BitVec 32) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v5521_r0 : Index := Scalar.indexCast v1061_r0
  let c1_1632_r0 : Index := 1#32
  let c0_i32_62_r0 : BitVec 32 := 0#32
  let v128_r0 : BitVec 1 := Scalar.cmpi .eq v127_r0 c0_i32_62_r0
  let c4_i32_63_r0 : BitVec 32 := 4#32
  let c0_i32_59_r0 : BitVec 32 := 0#32
  let v123_r0 : BitVec 1 := Scalar.cmpi .eq v122_r0 c0_i32_59_r0
  let c5_i32_r0 : BitVec 32 := 5#32
  let c0_i32_56_r0 : BitVec 32 := 0#32
  let v118_r0 : BitVec 1 := Scalar.cmpi .eq v117_r0 c0_i32_56_r0
  let c6_i32_r0 : BitVec 32 := 6#32
  let c0_i32_53_r0 : BitVec 32 := 0#32
  let v113_r0 : BitVec 1 := Scalar.cmpi .eq v112_r0 c0_i32_53_r0
  let c7_i32_r0 : BitVec 32 := 7#32
  let c4_i32_r0 : BitVec 32 := 4#32
  let v114_r0 : BitVec 32 := Scalar.select v113_r0 c7_i32_r0 c4_i32_r0
  let v119_r0 : BitVec 32 := Scalar.select v118_r0 c6_i32_r0 v114_r0
  let v124_r0 : BitVec 32 := Scalar.select v123_r0 c5_i32_r0 v119_r0
  let v129_r0 : BitVec 32 := Scalar.select v128_r0 c4_i32_63_r0 v124_r0
  let c1_i32_65_r0 : BitVec 32 := 1#32
  let v132_r0 : BitVec 32 := Scalar.subi v129_r0 c1_i32_65_r0
  let v133_r0 : BitVec 1 := Scalar.cmpi .sgt v132_r0 c3_i32_66_r0
  let v134_r0 : BitVec 32 := Scalar.select v133_r0 c3_i32_67_r0 c5_i32_68_r0
  let v5522_r0 : Index := Scalar.indexCast v134_r0
  let c24_1633_r0 : Index := 24#32
  let c256_1634_r0 : Index := 256#32
  ![v5521_r0.toNat, 1, v5522_r0.toNat, 24, 256]
def k0_off113_at (r : Fin 3) : BitVec 32 × BitVec 32 × BitVec 32 :=
  if r.val < 1 then
    (3#32, 3#32, 5#32)
  else
    if r.val < 2 then
      (4#32, 4#32, 6#32)
    else
      (5#32, 5#32, 7#32)

def k0_chk1_0 (v112_r0 : BitVec 32) (v117_r0 : BitVec 32) (v122_r0 : BitVec 32) (v127_r0 : BitVec 32) : Prop :=
  (∀ (k0_t1 : Fin k0_t1_loop.trips) (k0_t2 : Fin k0_t2_loop.trips), ∀ a, (k0_off23 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off24 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off25 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off26 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ (r : Fin 3), ∀ a, (k0_off27 v112_r0 v117_r0 v122_r0 v127_r0 k0_t1 k0_t2 (k0_off27_at r).1 (k0_off27_at r).2.1 (k0_off27_at r).2.2) a + S1x1x1x8x256.size a ≤ S3x2x8x32x512.size a) ∧
  (∀ (k0_t1 : Fin k0_t1_loop.trips) (k0_t2 : Fin k0_t2_loop.trips), ∀ (r : Fin 3), ∀ a, (k0_off28 v112_r0 v117_r0 v122_r0 v127_r0 k0_t1 k0_t2 (k0_off28_at r).1 (k0_off28_at r).2.1 (k0_off28_at r).2.2) a + S1x1x1x8x256.size a ≤ S3x2x8x32x512.size a) ∧
  (∀ (k0_t1 : Fin k0_t1_loop.trips) (k0_t2 : Fin k0_t2_loop.trips), ∀ a, (k0_off35 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off36 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off37 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off38 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ (r : Fin 3), ∀ a, (k0_off39 v112_r0 v117_r0 v122_r0 v127_r0 k0_t1 k0_t2 (k0_off39_at r).1 (k0_off39_at r).2.1 (k0_off39_at r).2.2) a + S1x1x1x8x256.size a ≤ S3x2x8x32x512.size a) ∧
  (∀ (k0_t1 : Fin k0_t1_loop.trips) (k0_t2 : Fin k0_t2_loop.trips), ∀ (r : Fin 3), ∀ a, (k0_off40 v112_r0 v117_r0 v122_r0 v127_r0 k0_t1 k0_t2 (k0_off40_at r).1 (k0_off40_at r).2.1 (k0_off40_at r).2.2) a + S1x1x1x8x256.size a ≤ S3x2x8x32x512.size a) ∧
  (∀ (k0_t1 : Fin k0_t1_loop.trips) (k0_t2 : Fin k0_t2_loop.trips), ∀ a, (k0_off48 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off49 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off50 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off51 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ (r : Fin 3), ∀ a, (k0_off52 v112_r0 v117_r0 v122_r0 v127_r0 k0_t1 k0_t2 (k0_off52_at r).1 (k0_off52_at r).2.1 (k0_off52_at r).2.2) a + S1x1x1x8x256.size a ≤ S3x2x8x32x512.size a) ∧
  (∀ (k0_t1 : Fin k0_t1_loop.trips) (k0_t2 : Fin k0_t2_loop.trips), ∀ (r : Fin 3), ∀ a, (k0_off53 v112_r0 v117_r0 v122_r0 v127_r0 k0_t1 k0_t2 (k0_off53_at r).1 (k0_off53_at r).2.1 (k0_off53_at r).2.2) a + S1x1x1x8x256.size a ≤ S3x2x8x32x512.size a) ∧
  (∀ (k0_t1 : Fin k0_t1_loop.trips) (k0_t2 : Fin k0_t2_loop.trips), ∀ a, (k0_off60 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off61 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off62 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off63 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ (r : Fin 3), ∀ a, (k0_off64 v112_r0 v117_r0 v122_r0 v127_r0 k0_t1 k0_t2 (k0_off64_at r).1 (k0_off64_at r).2.1 (k0_off64_at r).2.2) a + S1x1x1x8x256.size a ≤ S3x2x8x32x512.size a) ∧
  (∀ (k0_t1 : Fin k0_t1_loop.trips) (k0_t2 : Fin k0_t2_loop.trips), ∀ (r : Fin 3), ∀ a, (k0_off65 v112_r0 v117_r0 v122_r0 v127_r0 k0_t1 k0_t2 (k0_off65_at r).1 (k0_off65_at r).2.1 (k0_off65_at r).2.2) a + S1x1x1x8x256.size a ≤ S3x2x8x32x512.size a) ∧
  (∀ (k0_t1 : Fin k0_t1_loop.trips) (k0_t2 : Fin k0_t2_loop.trips), ∀ a, (k0_off72 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off73 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off74 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off75 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ (r : Fin 3), ∀ a, (k0_off76 v112_r0 v117_r0 v122_r0 v127_r0 k0_t1 k0_t2 (k0_off76_at r).1 (k0_off76_at r).2.1 (k0_off76_at r).2.2) a + S1x1x1x8x256.size a ≤ S3x2x8x32x512.size a) ∧
  (∀ (k0_t1 : Fin k0_t1_loop.trips) (k0_t2 : Fin k0_t2_loop.trips), ∀ (r : Fin 3), ∀ a, (k0_off77 v112_r0 v117_r0 v122_r0 v127_r0 k0_t1 k0_t2 (k0_off77_at r).1 (k0_off77_at r).2.1 (k0_off77_at r).2.2) a + S1x1x1x8x256.size a ≤ S3x2x8x32x512.size a) ∧
  (∀ (k0_t1 : Fin k0_t1_loop.trips) (k0_t2 : Fin k0_t2_loop.trips), ∀ a, (k0_off84 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off85 v112_r0 v117_r0 v122_r0 v127_r0 k0_t1 k0_t2) a + S1x1x1x8x256.size a ≤ S3x2x8x32x512.size a)
def k0_chk1_1 (v112_r0 : BitVec 32) (v117_r0 : BitVec 32) (v122_r0 : BitVec 32) (v127_r0 : BitVec 32) : Prop :=
  (∀ (k0_t1 : Fin k0_t1_loop.trips) (k0_t2 : Fin k0_t2_loop.trips), ∀ a, (k0_off86 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off87 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ (r : Fin 3), ∀ a, (k0_off88 v112_r0 v117_r0 v122_r0 v127_r0 k0_t1 k0_t2 (k0_off88_at r).1 (k0_off88_at r).2.1 (k0_off88_at r).2.2) a + S1x1x1x8x256.size a ≤ S3x2x8x32x512.size a) ∧
  (∀ (k0_t1 : Fin k0_t1_loop.trips) (k0_t2 : Fin k0_t2_loop.trips), ∀ (r : Fin 3), ∀ a, (k0_off89 v112_r0 v117_r0 v122_r0 v127_r0 k0_t1 k0_t2 (k0_off89_at r).1 (k0_off89_at r).2.1 (k0_off89_at r).2.2) a + S1x1x1x8x256.size a ≤ S3x2x8x32x512.size a) ∧
  (∀ (k0_t1 : Fin k0_t1_loop.trips) (k0_t2 : Fin k0_t2_loop.trips), ∀ a, (k0_off96 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off97 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off98 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off99 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ (r : Fin 3), ∀ a, (k0_off100 v112_r0 v117_r0 v122_r0 v127_r0 k0_t1 k0_t2 (k0_off100_at r).1 (k0_off100_at r).2.1 (k0_off100_at r).2.2) a + S1x1x1x8x256.size a ≤ S3x2x8x32x512.size a) ∧
  (∀ (k0_t1 : Fin k0_t1_loop.trips) (k0_t2 : Fin k0_t2_loop.trips), ∀ (r : Fin 3), ∀ a, (k0_off101 v112_r0 v117_r0 v122_r0 v127_r0 k0_t1 k0_t2 (k0_off101_at r).1 (k0_off101_at r).2.1 (k0_off101_at r).2.2) a + S1x1x1x8x256.size a ≤ S3x2x8x32x512.size a) ∧
  (∀ (k0_t1 : Fin k0_t1_loop.trips) (k0_t2 : Fin k0_t2_loop.trips), ∀ a, (k0_off108 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off109 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off110 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ a, (k0_off111 v112_r0 v117_r0 v122_r0 v127_r0 k0_t1 k0_t2) a + S1x1x1x8x256.size a ≤ S3x2x8x32x512.size a) ∧
  (∀ (k0_t1 : Fin k0_t1_loop.trips) (k0_t2 : Fin k0_t2_loop.trips), ∀ (r : Fin 3), ∀ a, (k0_off112 v112_r0 v117_r0 v122_r0 v127_r0 k0_t1 k0_t2 (k0_off112_at r).1 (k0_off112_at r).2.1 (k0_off112_at r).2.2) a + S1x1x1x8x256.size a ≤ S3x2x8x32x512.size a) ∧
  (∀ (k0_t1 : Fin k0_t1_loop.trips) (k0_t2 : Fin k0_t2_loop.trips), ∀ (r : Fin 3), ∀ a, (k0_off113 v112_r0 v117_r0 v122_r0 v127_r0 k0_t1 k0_t2 (k0_off113_at r).1 (k0_off113_at r).2.1 (k0_off113_at r).2.2) a + S1x1x1x8x256.size a ≤ S3x2x8x32x512.size a)
def k0_chk1 (v112_r0 : BitVec 32) (v117_r0 : BitVec 32) (v122_r0 : BitVec 32) (v127_r0 : BitVec 32) : Prop :=
  k0_chk1_0 v112_r0 v117_r0 v122_r0 v127_r0 ∧
  k0_chk1_1 v112_r0 v117_r0 v122_r0 v127_r0
theorem k0_off23_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off23 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.1 k0_t1 k0_t2
theorem k0_off24_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off24 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.1 k0_t1 k0_t2
theorem k0_off25_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off25 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.1 k0_t1 k0_t2
theorem k0_off26_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off26 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.2.1 k0_t1 k0_t2
theorem k0_off27_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ (r : Fin 3), ∀ a, (k0_off27 v112_r0 v117_r0 v122_r0 v127_r0 k0_t1 k0_t2 (k0_off27_at r).1 (k0_off27_at r).2.1 (k0_off27_at r).2.2) a + S1x1x1x8x256.size a ≤ S3x2x8x32x512.size a := fun v112_r0 v117_r0 v122_r0 v127_r0 k0_hw1 k0_t1 k0_t2 r => k0_hw1.1.2.2.2.2.1 k0_t1 k0_t2 r
theorem k0_off28_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ (r : Fin 3), ∀ a, (k0_off28 v112_r0 v117_r0 v122_r0 v127_r0 k0_t1 k0_t2 (k0_off28_at r).1 (k0_off28_at r).2.1 (k0_off28_at r).2.2) a + S1x1x1x8x256.size a ≤ S3x2x8x32x512.size a := fun v112_r0 v117_r0 v122_r0 v127_r0 k0_hw1 k0_t1 k0_t2 r => k0_hw1.1.2.2.2.2.2.1 k0_t1 k0_t2 r
theorem k0_off35_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off35 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.2.2.2.2.1 k0_t1 k0_t2
theorem k0_off36_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off36 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.2.2.2.2.2.1 k0_t1 k0_t2
theorem k0_off37_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off37 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.2.2.2.2.2.2.1 k0_t1 k0_t2
theorem k0_off38_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off38 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.2.2.2.2.2.2.2.1 k0_t1 k0_t2
theorem k0_off39_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ (r : Fin 3), ∀ a, (k0_off39 v112_r0 v117_r0 v122_r0 v127_r0 k0_t1 k0_t2 (k0_off39_at r).1 (k0_off39_at r).2.1 (k0_off39_at r).2.2) a + S1x1x1x8x256.size a ≤ S3x2x8x32x512.size a := fun v112_r0 v117_r0 v122_r0 v127_r0 k0_hw1 k0_t1 k0_t2 r => k0_hw1.1.2.2.2.2.2.2.2.2.2.2.1 k0_t1 k0_t2 r
theorem k0_off40_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ (r : Fin 3), ∀ a, (k0_off40 v112_r0 v117_r0 v122_r0 v127_r0 k0_t1 k0_t2 (k0_off40_at r).1 (k0_off40_at r).2.1 (k0_off40_at r).2.2) a + S1x1x1x8x256.size a ≤ S3x2x8x32x512.size a := fun v112_r0 v117_r0 v122_r0 v127_r0 k0_hw1 k0_t1 k0_t2 r => k0_hw1.1.2.2.2.2.2.2.2.2.2.2.2.1 k0_t1 k0_t2 r
theorem k0_off48_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off48 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.2.2.2.2.2.2.2.2.2.2.1 k0_t1 k0_t2
theorem k0_off49_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off49 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.2.2.2.2.2.2.2.2.2.2.2.1 k0_t1 k0_t2
theorem k0_off50_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off50 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.2.2.2.2.2.2.2.2.2.2.2.2.1 k0_t1 k0_t2
theorem k0_off51_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off51 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.2.2.2.2.2.2.2.2.2.2.2.2.2.1 k0_t1 k0_t2
theorem k0_off52_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ (r : Fin 3), ∀ a, (k0_off52 v112_r0 v117_r0 v122_r0 v127_r0 k0_t1 k0_t2 (k0_off52_at r).1 (k0_off52_at r).2.1 (k0_off52_at r).2.2) a + S1x1x1x8x256.size a ≤ S3x2x8x32x512.size a := fun v112_r0 v117_r0 v122_r0 v127_r0 k0_hw1 k0_t1 k0_t2 r => k0_hw1.1.2.2.2.2.2.2.2.2.2.2.2.2.2.2.2.2.1 k0_t1 k0_t2 r
theorem k0_off53_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ (r : Fin 3), ∀ a, (k0_off53 v112_r0 v117_r0 v122_r0 v127_r0 k0_t1 k0_t2 (k0_off53_at r).1 (k0_off53_at r).2.1 (k0_off53_at r).2.2) a + S1x1x1x8x256.size a ≤ S3x2x8x32x512.size a := fun v112_r0 v117_r0 v122_r0 v127_r0 k0_hw1 k0_t1 k0_t2 r => k0_hw1.1.2.2.2.2.2.2.2.2.2.2.2.2.2.2.2.2.2.1 k0_t1 k0_t2 r
theorem k0_off60_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off60 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.2.2.2.2.2.2.2.2.2.2.2.2.2.2.2.2.1 k0_t1 k0_t2
theorem k0_off61_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off61 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.2.2.2.2.2.2.2.2.2.2.2.2.2.2.2.2.2.1 k0_t1 k0_t2
theorem k0_off62_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off62 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.2.2.2.2.2.2.2.2.2.2.2.2.2.2.2.2.2.2.1 k0_t1 k0_t2
theorem k0_off63_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off63 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.2.2.2.2.2.2.2.2.2.2.2.2.2.2.2.2.2.2.2.1 k0_t1 k0_t2
theorem k0_off64_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ (r : Fin 3), ∀ a, (k0_off64 v112_r0 v117_r0 v122_r0 v127_r0 k0_t1 k0_t2 (k0_off64_at r).1 (k0_off64_at r).2.1 (k0_off64_at r).2.2) a + S1x1x1x8x256.size a ≤ S3x2x8x32x512.size a := fun v112_r0 v117_r0 v122_r0 v127_r0 k0_hw1 k0_t1 k0_t2 r => k0_hw1.1.2.2.2.2.2.2.2.2.2.2.2.2.2.2.2.2.2.2.2.2.2.2.1 k0_t1 k0_t2 r
theorem k0_off65_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ (r : Fin 3), ∀ a, (k0_off65 v112_r0 v117_r0 v122_r0 v127_r0 k0_t1 k0_t2 (k0_off65_at r).1 (k0_off65_at r).2.1 (k0_off65_at r).2.2) a + S1x1x1x8x256.size a ≤ S3x2x8x32x512.size a := fun v112_r0 v117_r0 v122_r0 v127_r0 k0_hw1 k0_t1 k0_t2 r => k0_hw1.1.2.2.2.2.2.2.2.2.2.2.2.2.2.2.2.2.2.2.2.2.2.2.2.1 k0_t1 k0_t2 r
theorem k0_off72_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off72 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.2.2.2.2.2.2.2.2.2.2.2.2.2.2.2.2.2.2.2.2.2.2.1 k0_t1 k0_t2
theorem k0_off73_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off73 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.2.2.2.2.2.2.2.2.2.2.2.2.2.2.2.2.2.2.2.2.2.2.2.1 k0_t1 k0_t2
theorem k0_off74_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off74 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.2.2.2.2.2.2.2.2.2.2.2.2.2.2.2.2.2.2.2.2.2.2.2.2.1 k0_t1 k0_t2
theorem k0_off75_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off75 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.2.2.2.2.2.2.2.2.2.2.2.2.2.2.2.2.2.2.2.2.2.2.2.2.2.1 k0_t1 k0_t2
theorem k0_off76_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ (r : Fin 3), ∀ a, (k0_off76 v112_r0 v117_r0 v122_r0 v127_r0 k0_t1 k0_t2 (k0_off76_at r).1 (k0_off76_at r).2.1 (k0_off76_at r).2.2) a + S1x1x1x8x256.size a ≤ S3x2x8x32x512.size a := fun v112_r0 v117_r0 v122_r0 v127_r0 k0_hw1 k0_t1 k0_t2 r => k0_hw1.1.2.2.2.2.2.2.2.2.2.2.2.2.2.2.2.2.2.2.2.2.2.2.2.2.2.2.2.2.1 k0_t1 k0_t2 r
theorem k0_off77_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ (r : Fin 3), ∀ a, (k0_off77 v112_r0 v117_r0 v122_r0 v127_r0 k0_t1 k0_t2 (k0_off77_at r).1 (k0_off77_at r).2.1 (k0_off77_at r).2.2) a + S1x1x1x8x256.size a ≤ S3x2x8x32x512.size a := fun v112_r0 v117_r0 v122_r0 v127_r0 k0_hw1 k0_t1 k0_t2 r => k0_hw1.1.2.2.2.2.2.2.2.2.2.2.2.2.2.2.2.2.2.2.2.2.2.2.2.2.2.2.2.2.2.1 k0_t1 k0_t2 r
theorem k0_off84_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off84 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.2.2.2.2.2.2.2.2.2.2.2.2.2.2.2.2.2.2.2.2.2.2.2.2.2.2.2.2.1 k0_t1 k0_t2
theorem k0_off85_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off85 v112_r0 v117_r0 v122_r0 v127_r0 k0_t1 k0_t2) a + S1x1x1x8x256.size a ≤ S3x2x8x32x512.size a := fun v112_r0 v117_r0 v122_r0 v127_r0 k0_hw1 k0_t1 k0_t2 => k0_hw1.1.2.2.2.2.2.2.2.2.2.2.2.2.2.2.2.2.2.2.2.2.2.2.2.2.2.2.2.2.2.2.2 k0_t1 k0_t2
theorem k0_off86_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off86 v112_r0 v117_r0 v122_r0 v127_r0 k0_t1 k0_t2) a + S1x1x1x8x256.size a ≤ S3x2x8x32x512.size a := fun v112_r0 v117_r0 v122_r0 v127_r0 k0_hw1 k0_t1 k0_t2 => k0_hw1.2.1 k0_t1 k0_t2
theorem k0_off87_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off87 v112_r0 v117_r0 v122_r0 v127_r0 k0_t1 k0_t2) a + S1x1x1x8x256.size a ≤ S3x2x8x32x512.size a := fun v112_r0 v117_r0 v122_r0 v127_r0 k0_hw1 k0_t1 k0_t2 => k0_hw1.2.2.1 k0_t1 k0_t2
theorem k0_off88_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ (r : Fin 3), ∀ a, (k0_off88 v112_r0 v117_r0 v122_r0 v127_r0 k0_t1 k0_t2 (k0_off88_at r).1 (k0_off88_at r).2.1 (k0_off88_at r).2.2) a + S1x1x1x8x256.size a ≤ S3x2x8x32x512.size a := fun v112_r0 v117_r0 v122_r0 v127_r0 k0_hw1 k0_t1 k0_t2 r => k0_hw1.2.2.2.1 k0_t1 k0_t2 r
theorem k0_off89_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ (r : Fin 3), ∀ a, (k0_off89 v112_r0 v117_r0 v122_r0 v127_r0 k0_t1 k0_t2 (k0_off89_at r).1 (k0_off89_at r).2.1 (k0_off89_at r).2.2) a + S1x1x1x8x256.size a ≤ S3x2x8x32x512.size a := fun v112_r0 v117_r0 v122_r0 v127_r0 k0_hw1 k0_t1 k0_t2 r => k0_hw1.2.2.2.2.1 k0_t1 k0_t2 r
theorem k0_off96_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off96 v112_r0 v117_r0 v122_r0 v127_r0 k0_t1 k0_t2) a + S1x1x1x8x256.size a ≤ S3x2x8x32x512.size a := fun v112_r0 v117_r0 v122_r0 v127_r0 k0_hw1 k0_t1 k0_t2 => k0_hw1.2.2.2.2.2.1 k0_t1 k0_t2
theorem k0_off97_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off97 v112_r0 v117_r0 v122_r0 v127_r0 k0_t1 k0_t2) a + S1x1x1x8x256.size a ≤ S3x2x8x32x512.size a := fun v112_r0 v117_r0 v122_r0 v127_r0 k0_hw1 k0_t1 k0_t2 => k0_hw1.2.2.2.2.2.2.1 k0_t1 k0_t2
theorem k0_off98_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off98 v112_r0 v117_r0 v122_r0 v127_r0 k0_t1 k0_t2) a + S1x1x1x8x256.size a ≤ S3x2x8x32x512.size a := fun v112_r0 v117_r0 v122_r0 v127_r0 k0_hw1 k0_t1 k0_t2 => k0_hw1.2.2.2.2.2.2.2.1 k0_t1 k0_t2
theorem k0_off99_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off99 v112_r0 v117_r0 v122_r0 v127_r0 k0_t1 k0_t2) a + S1x1x1x8x256.size a ≤ S3x2x8x32x512.size a := fun v112_r0 v117_r0 v122_r0 v127_r0 k0_hw1 k0_t1 k0_t2 => k0_hw1.2.2.2.2.2.2.2.2.1 k0_t1 k0_t2
theorem k0_off100_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ (r : Fin 3), ∀ a, (k0_off100 v112_r0 v117_r0 v122_r0 v127_r0 k0_t1 k0_t2 (k0_off100_at r).1 (k0_off100_at r).2.1 (k0_off100_at r).2.2) a + S1x1x1x8x256.size a ≤ S3x2x8x32x512.size a := fun v112_r0 v117_r0 v122_r0 v127_r0 k0_hw1 k0_t1 k0_t2 r => k0_hw1.2.2.2.2.2.2.2.2.2.1 k0_t1 k0_t2 r
theorem k0_off101_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ (r : Fin 3), ∀ a, (k0_off101 v112_r0 v117_r0 v122_r0 v127_r0 k0_t1 k0_t2 (k0_off101_at r).1 (k0_off101_at r).2.1 (k0_off101_at r).2.2) a + S1x1x1x8x256.size a ≤ S3x2x8x32x512.size a := fun v112_r0 v117_r0 v122_r0 v127_r0 k0_hw1 k0_t1 k0_t2 r => k0_hw1.2.2.2.2.2.2.2.2.2.2.1 k0_t1 k0_t2 r
theorem k0_off108_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off108 v112_r0 v117_r0 v122_r0 v127_r0 k0_t1 k0_t2) a + S1x1x1x8x256.size a ≤ S3x2x8x32x512.size a := fun v112_r0 v117_r0 v122_r0 v127_r0 k0_hw1 k0_t1 k0_t2 => k0_hw1.2.2.2.2.2.2.2.2.2.2.2.1 k0_t1 k0_t2
theorem k0_off109_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off109 v112_r0 v117_r0 v122_r0 v127_r0 k0_t1 k0_t2) a + S1x1x1x8x256.size a ≤ S3x2x8x32x512.size a := fun v112_r0 v117_r0 v122_r0 v127_r0 k0_hw1 k0_t1 k0_t2 => k0_hw1.2.2.2.2.2.2.2.2.2.2.2.2.1 k0_t1 k0_t2
theorem k0_off110_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off110 v112_r0 v117_r0 v122_r0 v127_r0 k0_t1 k0_t2) a + S1x1x1x8x256.size a ≤ S3x2x8x32x512.size a := fun v112_r0 v117_r0 v122_r0 v127_r0 k0_hw1 k0_t1 k0_t2 => k0_hw1.2.2.2.2.2.2.2.2.2.2.2.2.2.1 k0_t1 k0_t2
theorem k0_off111_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ a, (k0_off111 v112_r0 v117_r0 v122_r0 v127_r0 k0_t1 k0_t2) a + S1x1x1x8x256.size a ≤ S3x2x8x32x512.size a := fun v112_r0 v117_r0 v122_r0 v127_r0 k0_hw1 k0_t1 k0_t2 => k0_hw1.2.2.2.2.2.2.2.2.2.2.2.2.2.2.1 k0_t1 k0_t2
theorem k0_off112_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ (r : Fin 3), ∀ a, (k0_off112 v112_r0 v117_r0 v122_r0 v127_r0 k0_t1 k0_t2 (k0_off112_at r).1 (k0_off112_at r).2.1 (k0_off112_at r).2.2) a + S1x1x1x8x256.size a ≤ S3x2x8x32x512.size a := fun v112_r0 v117_r0 v122_r0 v127_r0 k0_hw1 k0_t1 k0_t2 r => k0_hw1.2.2.2.2.2.2.2.2.2.2.2.2.2.2.2.1 k0_t1 k0_t2 r
theorem k0_off113_inb : ∀ (v112_r0 : BitVec 32) (v117_r0 : BitVec 32) (v122_r0 : BitVec 32) (v127_r0 : BitVec 32) (k0_hw1 : k0_chk1 v112_r0 v117_r0 v122_r0 v127_r0) (k0_t1 : Fin k0_t1_loop.trips) (k0_t2 : Fin k0_t2_loop.trips), ∀ (r : Fin 3), ∀ a, (k0_off113 v112_r0 v117_r0 v122_r0 v127_r0 k0_t1 k0_t2 (k0_off113_at r).1 (k0_off113_at r).2.1 (k0_off113_at r).2.2) a + S1x1x1x8x256.size a ≤ S3x2x8x32x512.size a := fun v112_r0 v117_r0 v122_r0 v127_r0 k0_hw1 k0_t1 k0_t2 r => k0_hw1.2.2.2.2.2.2.2.2.2.2.2.2.2.2.2.2 k0_t1 k0_t2 r

def k0_off114 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v5787_r0 : Index := Scalar.indexCast v1061_r0
  let c0_1684_r0 : Index := 0#32
  let c4_1685_r0 : Index := 4#32
  let c0_1686_r0 : Index := 0#32
  let c0_1687_r0 : Index := 0#32
  ![v5787_r0.toNat, 0, 4, 0, 0]
def k0_mult25 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1695_r0 : BitVec 32 := 1024#32
  let v5833_r0 : BitVec 32 := Scalar.muli arg15_r0 c1024_i32_1695_r0
  v5833_r0
def k0_mult26 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1695_r0 : BitVec 32 := 1024#32
  let v5833_r0 : BitVec 32 := Scalar.muli arg15_r0 c1024_i32_1695_r0
  let v5834_r0 : BitVec 32 := v5833_r0
  let c0_i32_1696_r0 : BitVec 32 := 0#32
  let v5835_r0 : BitVec 32 := Scalar.addi v5834_r0 c0_i32_1696_r0
  v5835_r0
def k0_off115 (k0_t2 : Fin k0_t2_loop.trips) (c0_i32_1696_r0 : BitVec 32) : Fin 2 → Nat :=
  let c0_1697_r0 : Index := 0#32
  let c0_i32_267_r0 : BitVec 32 := 0#32
  let c1_i32_269_r0 : BitVec 32 := 1#32
  let arg15_r0 : BitVec 32 := Scf.iv c0_i32_267_r0 c1_i32_269_r0 k0_t2
  let c1024_i32_1695_r0 : BitVec 32 := 1024#32
  let v5833_r0 : BitVec 32 := Scalar.muli arg15_r0 c1024_i32_1695_r0
  let v5834_r0 : BitVec 32 := v5833_r0
  let v5835_r0 : BitVec 32 := Scalar.addi v5834_r0 c0_i32_1696_r0
  let v5836_r0 : BitVec 32 := v5835_r0
  let v5837_r0 : Index := Scalar.indexCast v5836_r0
  ![0, v5837_r0.toNat]
def k0_off116 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v5839_r0 : Index := Scalar.indexCast v1061_r0
  let c1_1698_r0 : Index := 1#32
  let c4_1699_r0 : Index := 4#32
  let c0_1700_r0 : Index := 0#32
  let c0_1701_r0 : Index := 0#32
  ![v5839_r0.toNat, 1, 4, 0, 0]
def k0_mult27 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1709_r0 : BitVec 32 := 1024#32
  let v5885_r0 : BitVec 32 := Scalar.muli arg15_r0 c1024_i32_1709_r0
  v5885_r0
def k0_mult28 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1709_r0 : BitVec 32 := 1024#32
  let v5885_r0 : BitVec 32 := Scalar.muli arg15_r0 c1024_i32_1709_r0
  let v5886_r0 : BitVec 32 := v5885_r0
  let c0_i32_1710_r0 : BitVec 32 := 0#32
  let v5887_r0 : BitVec 32 := Scalar.addi v5886_r0 c0_i32_1710_r0
  v5887_r0
def k0_off117 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v5891_r0 : Index := Scalar.indexCast v1061_r0
  let c0_1712_r0 : Index := 0#32
  let c4_1713_r0 : Index := 4#32
  let c0_1714_r0 : Index := 0#32
  let c256_1715_r0 : Index := 256#32
  ![v5891_r0.toNat, 0, 4, 0, 256]
def k0_mult29 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1723_r0 : BitVec 32 := 1024#32
  let v5937_r0 : BitVec 32 := Scalar.muli arg15_r0 c1024_i32_1723_r0
  v5937_r0
def k0_mult30 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1723_r0 : BitVec 32 := 1024#32
  let v5937_r0 : BitVec 32 := Scalar.muli arg15_r0 c1024_i32_1723_r0
  let v5938_r0 : BitVec 32 := v5937_r0
  let c0_i32_1724_r0 : BitVec 32 := 0#32
  let v5939_r0 : BitVec 32 := Scalar.addi v5938_r0 c0_i32_1724_r0
  v5939_r0
def k0_off118 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v5943_r0 : Index := Scalar.indexCast v1061_r0
  let c1_1726_r0 : Index := 1#32
  let c4_1727_r0 : Index := 4#32
  let c0_1728_r0 : Index := 0#32
  let c256_1729_r0 : Index := 256#32
  ![v5943_r0.toNat, 1, 4, 0, 256]
def k0_mult31 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1737_r0 : BitVec 32 := 1024#32
  let v5989_r0 : BitVec 32 := Scalar.muli arg15_r0 c1024_i32_1737_r0
  v5989_r0
def k0_mult32 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1737_r0 : BitVec 32 := 1024#32
  let v5989_r0 : BitVec 32 := Scalar.muli arg15_r0 c1024_i32_1737_r0
  let v5990_r0 : BitVec 32 := v5989_r0
  let c0_i32_1738_r0 : BitVec 32 := 0#32
  let v5991_r0 : BitVec 32 := Scalar.addi v5990_r0 c0_i32_1738_r0
  v5991_r0
def k0_off119 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v5995_r0 : Index := Scalar.indexCast v1061_r0
  let c0_1740_r0 : Index := 0#32
  let c4_1741_r0 : Index := 4#32
  let c8_1742_r0 : Index := 8#32
  let c0_1743_r0 : Index := 0#32
  ![v5995_r0.toNat, 0, 4, 8, 0]
def k0_mult33 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1751_r0 : BitVec 32 := 1024#32
  let v6041_r0 : BitVec 32 := Scalar.muli arg15_r0 c1024_i32_1751_r0
  v6041_r0
def k0_mult34 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1751_r0 : BitVec 32 := 1024#32
  let v6041_r0 : BitVec 32 := Scalar.muli arg15_r0 c1024_i32_1751_r0
  let v6042_r0 : BitVec 32 := v6041_r0
  let c256_i32_1752_r0 : BitVec 32 := 256#32
  let v6043_r0 : BitVec 32 := Scalar.addi v6042_r0 c256_i32_1752_r0
  v6043_r0
def k0_off120 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v6047_r0 : Index := Scalar.indexCast v1061_r0
  let c1_1754_r0 : Index := 1#32
  let c4_1755_r0 : Index := 4#32
  let c8_1756_r0 : Index := 8#32
  let c0_1757_r0 : Index := 0#32
  ![v6047_r0.toNat, 1, 4, 8, 0]
def k0_mult35 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1765_r0 : BitVec 32 := 1024#32
  let v6093_r0 : BitVec 32 := Scalar.muli arg15_r0 c1024_i32_1765_r0
  v6093_r0
def k0_mult36 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1765_r0 : BitVec 32 := 1024#32
  let v6093_r0 : BitVec 32 := Scalar.muli arg15_r0 c1024_i32_1765_r0
  let v6094_r0 : BitVec 32 := v6093_r0
  let c256_i32_1766_r0 : BitVec 32 := 256#32
  let v6095_r0 : BitVec 32 := Scalar.addi v6094_r0 c256_i32_1766_r0
  v6095_r0
def k0_off121 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v6099_r0 : Index := Scalar.indexCast v1061_r0
  let c0_1768_r0 : Index := 0#32
  let c4_1769_r0 : Index := 4#32
  let c8_1770_r0 : Index := 8#32
  let c256_1771_r0 : Index := 256#32
  ![v6099_r0.toNat, 0, 4, 8, 256]
def k0_mult37 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1779_r0 : BitVec 32 := 1024#32
  let v6145_r0 : BitVec 32 := Scalar.muli arg15_r0 c1024_i32_1779_r0
  v6145_r0
def k0_mult38 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1779_r0 : BitVec 32 := 1024#32
  let v6145_r0 : BitVec 32 := Scalar.muli arg15_r0 c1024_i32_1779_r0
  let v6146_r0 : BitVec 32 := v6145_r0
  let c256_i32_1780_r0 : BitVec 32 := 256#32
  let v6147_r0 : BitVec 32 := Scalar.addi v6146_r0 c256_i32_1780_r0
  v6147_r0
def k0_off122 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v6151_r0 : Index := Scalar.indexCast v1061_r0
  let c1_1782_r0 : Index := 1#32
  let c4_1783_r0 : Index := 4#32
  let c8_1784_r0 : Index := 8#32
  let c256_1785_r0 : Index := 256#32
  ![v6151_r0.toNat, 1, 4, 8, 256]
def k0_mult39 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1793_r0 : BitVec 32 := 1024#32
  let v6197_r0 : BitVec 32 := Scalar.muli arg15_r0 c1024_i32_1793_r0
  v6197_r0
def k0_mult40 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1793_r0 : BitVec 32 := 1024#32
  let v6197_r0 : BitVec 32 := Scalar.muli arg15_r0 c1024_i32_1793_r0
  let v6198_r0 : BitVec 32 := v6197_r0
  let c256_i32_1794_r0 : BitVec 32 := 256#32
  let v6199_r0 : BitVec 32 := Scalar.addi v6198_r0 c256_i32_1794_r0
  v6199_r0
def k0_off123 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v6203_r0 : Index := Scalar.indexCast v1061_r0
  let c0_1796_r0 : Index := 0#32
  let c4_1797_r0 : Index := 4#32
  let c16_1798_r0 : Index := 16#32
  let c0_1799_r0 : Index := 0#32
  ![v6203_r0.toNat, 0, 4, 16, 0]
def k0_mult41 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1807_r0 : BitVec 32 := 1024#32
  let v6249_r0 : BitVec 32 := Scalar.muli arg15_r0 c1024_i32_1807_r0
  v6249_r0
def k0_mult42 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1807_r0 : BitVec 32 := 1024#32
  let v6249_r0 : BitVec 32 := Scalar.muli arg15_r0 c1024_i32_1807_r0
  let v6250_r0 : BitVec 32 := v6249_r0
  let c512_i32_1808_r0 : BitVec 32 := 512#32
  let v6251_r0 : BitVec 32 := Scalar.addi v6250_r0 c512_i32_1808_r0
  v6251_r0
def k0_off124 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v6255_r0 : Index := Scalar.indexCast v1061_r0
  let c1_1810_r0 : Index := 1#32
  let c4_1811_r0 : Index := 4#32
  let c16_1812_r0 : Index := 16#32
  let c0_1813_r0 : Index := 0#32
  ![v6255_r0.toNat, 1, 4, 16, 0]
def k0_mult43 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1821_r0 : BitVec 32 := 1024#32
  let v6301_r0 : BitVec 32 := Scalar.muli arg15_r0 c1024_i32_1821_r0
  v6301_r0
def k0_mult44 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1821_r0 : BitVec 32 := 1024#32
  let v6301_r0 : BitVec 32 := Scalar.muli arg15_r0 c1024_i32_1821_r0
  let v6302_r0 : BitVec 32 := v6301_r0
  let c512_i32_1822_r0 : BitVec 32 := 512#32
  let v6303_r0 : BitVec 32 := Scalar.addi v6302_r0 c512_i32_1822_r0
  v6303_r0
def k0_off125 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v6307_r0 : Index := Scalar.indexCast v1061_r0
  let c0_1824_r0 : Index := 0#32
  let c4_1825_r0 : Index := 4#32
  let c16_1826_r0 : Index := 16#32
  let c256_1827_r0 : Index := 256#32
  ![v6307_r0.toNat, 0, 4, 16, 256]
def k0_mult45 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1835_r0 : BitVec 32 := 1024#32
  let v6353_r0 : BitVec 32 := Scalar.muli arg15_r0 c1024_i32_1835_r0
  v6353_r0
def k0_mult46 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1835_r0 : BitVec 32 := 1024#32
  let v6353_r0 : BitVec 32 := Scalar.muli arg15_r0 c1024_i32_1835_r0
  let v6354_r0 : BitVec 32 := v6353_r0
  let c512_i32_1836_r0 : BitVec 32 := 512#32
  let v6355_r0 : BitVec 32 := Scalar.addi v6354_r0 c512_i32_1836_r0
  v6355_r0
def k0_off126 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v6359_r0 : Index := Scalar.indexCast v1061_r0
  let c1_1838_r0 : Index := 1#32
  let c4_1839_r0 : Index := 4#32
  let c16_1840_r0 : Index := 16#32
  let c256_1841_r0 : Index := 256#32
  ![v6359_r0.toNat, 1, 4, 16, 256]
def k0_mult47 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1849_r0 : BitVec 32 := 1024#32
  let v6405_r0 : BitVec 32 := Scalar.muli arg15_r0 c1024_i32_1849_r0
  v6405_r0
def k0_mult48 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1849_r0 : BitVec 32 := 1024#32
  let v6405_r0 : BitVec 32 := Scalar.muli arg15_r0 c1024_i32_1849_r0
  let v6406_r0 : BitVec 32 := v6405_r0
  let c512_i32_1850_r0 : BitVec 32 := 512#32
  let v6407_r0 : BitVec 32 := Scalar.addi v6406_r0 c512_i32_1850_r0
  v6407_r0
def k0_off127 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v6411_r0 : Index := Scalar.indexCast v1061_r0
  let c0_1852_r0 : Index := 0#32
  let c4_1853_r0 : Index := 4#32
  let c24_1854_r0 : Index := 24#32
  let c0_1855_r0 : Index := 0#32
  ![v6411_r0.toNat, 0, 4, 24, 0]
def k0_mult49 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1863_r0 : BitVec 32 := 1024#32
  let v6457_r0 : BitVec 32 := Scalar.muli arg15_r0 c1024_i32_1863_r0
  v6457_r0
def k0_mult50 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1863_r0 : BitVec 32 := 1024#32
  let v6457_r0 : BitVec 32 := Scalar.muli arg15_r0 c1024_i32_1863_r0
  let v6458_r0 : BitVec 32 := v6457_r0
  let c768_i32_1864_r0 : BitVec 32 := 768#32
  let v6459_r0 : BitVec 32 := Scalar.addi v6458_r0 c768_i32_1864_r0
  v6459_r0
def k0_off128 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v6463_r0 : Index := Scalar.indexCast v1061_r0
  let c1_1866_r0 : Index := 1#32
  let c4_1867_r0 : Index := 4#32
  let c24_1868_r0 : Index := 24#32
  let c0_1869_r0 : Index := 0#32
  ![v6463_r0.toNat, 1, 4, 24, 0]
def k0_mult51 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1877_r0 : BitVec 32 := 1024#32
  let v6509_r0 : BitVec 32 := Scalar.muli arg15_r0 c1024_i32_1877_r0
  v6509_r0
def k0_mult52 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1877_r0 : BitVec 32 := 1024#32
  let v6509_r0 : BitVec 32 := Scalar.muli arg15_r0 c1024_i32_1877_r0
  let v6510_r0 : BitVec 32 := v6509_r0
  let c768_i32_1878_r0 : BitVec 32 := 768#32
  let v6511_r0 : BitVec 32 := Scalar.addi v6510_r0 c768_i32_1878_r0
  v6511_r0
def k0_off129 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v6515_r0 : Index := Scalar.indexCast v1061_r0
  let c0_1880_r0 : Index := 0#32
  let c4_1881_r0 : Index := 4#32
  let c24_1882_r0 : Index := 24#32
  let c256_1883_r0 : Index := 256#32
  ![v6515_r0.toNat, 0, 4, 24, 256]
def k0_mult53 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1891_r0 : BitVec 32 := 1024#32
  let v6561_r0 : BitVec 32 := Scalar.muli arg15_r0 c1024_i32_1891_r0
  v6561_r0
def k0_mult54 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1891_r0 : BitVec 32 := 1024#32
  let v6561_r0 : BitVec 32 := Scalar.muli arg15_r0 c1024_i32_1891_r0
  let v6562_r0 : BitVec 32 := v6561_r0
  let c768_i32_1892_r0 : BitVec 32 := 768#32
  let v6563_r0 : BitVec 32 := Scalar.addi v6562_r0 c768_i32_1892_r0
  v6563_r0
def k0_off130 (k0_t1 : Fin k0_t1_loop.trips) (k0_t2 : Fin k0_t2_loop.trips) : Fin 5 → Nat :=
  let c0_i32_263_r0 : BitVec 32 := 0#32
  let c1_i32_264_r0 : BitVec 32 := 1#32
  let arg13_r0 : BitVec 32 := Scf.iv c0_i32_263_r0 c1_i32_264_r0 k0_t1
  let c14_i32_338_r0 : BitVec 32 := 14#32
  let v1059_r0 : BitVec 32 := Scalar.muli arg13_r0 c14_i32_338_r0
  let c0_i32_267_r0 : BitVec 32 := 0#32
  let c1_i32_269_r0 : BitVec 32 := 1#32
  let arg15_r0 : BitVec 32 := Scf.iv c0_i32_267_r0 c1_i32_269_r0 k0_t2
  let v1060_r0 : BitVec 32 := Scalar.addi v1059_r0 arg15_r0
  let c3_i32_339_r0 : BitVec 32 := 3#32
  let v1061_r0 : BitVec 32 := Scalar.remsi v1060_r0 c3_i32_339_r0
  let v6567_r0 : Index := Scalar.indexCast v1061_r0
  let c1_1894_r0 : Index := 1#32
  let c4_1895_r0 : Index := 4#32
  let c24_1896_r0 : Index := 24#32
  let c256_1897_r0 : Index := 256#32
  ![v6567_r0.toNat, 1, 4, 24, 256]
def k0_mult55 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1905_r0 : BitVec 32 := 1024#32
  let v6613_r0 : BitVec 32 := Scalar.muli arg15_r0 c1024_i32_1905_r0
  v6613_r0
def k0_mult56 (k0_t2 : Fin k0_t2_loop.trips) : BitVec 32 :=
  let c0_i32_267_r0 : BitVec 32 := 0#32
  let c1_i32_269_r0 : BitVec 32 := 1#32
  let arg15_r0 : BitVec 32 := Scf.iv c0_i32_267_r0 c1_i32_269_r0 k0_t2
  let c1024_i32_1905_r0 : BitVec 32 := 1024#32
  let v6613_r0 : BitVec 32 := Scalar.muli arg15_r0 c1024_i32_1905_r0
  let v6614_r0 : BitVec 32 := v6613_r0
  let c768_i32_1906_r0 : BitVec 32 := 768#32
  let v6615_r0 : BitVec 32 := Scalar.addi v6614_r0 c768_i32_1906_r0
  v6615_r0
def k0_mult57 (k0_t1 : Fin k0_t1_loop.trips) : BitVec 32 :=
  let c0_i32_263_r0 : BitVec 32 := 0#32
  let c1_i32_264_r0 : BitVec 32 := 1#32
  let arg13_r0 : BitVec 32 := Scf.iv c0_i32_263_r0 c1_i32_264_r0 k0_t1
  let c512_i32_284_r0 : BitVec 32 := 512#32
  let v817_r0 : BitVec 32 := Scalar.muli arg13_r0 c512_i32_284_r0
  v817_r0
def k0_off131 (k0_t1 : Fin k0_t1_loop.trips) (c0_i32_285_r0 : BitVec 32) : Fin 2 → Nat :=
  let c0_296_r0 : Index := 0#32
  let c0_i32_263_r0 : BitVec 32 := 0#32
  let c1_i32_264_r0 : BitVec 32 := 1#32
  let arg13_r0 : BitVec 32 := Scf.iv c0_i32_263_r0 c1_i32_264_r0 k0_t1
  let c512_i32_284_r0 : BitVec 32 := 512#32
  let v817_r0 : BitVec 32 := Scalar.muli arg13_r0 c512_i32_284_r0
  let v818_r0 : BitVec 32 := v817_r0
  let v819_r0 : BitVec 32 := Scalar.addi v818_r0 c0_i32_285_r0
  let v863_r0 : Index := Scalar.indexCast v819_r0
  ![0, v863_r0.toNat]
def k0_off132 (k0_t1 : Fin k0_t1_loop.trips) (c0_i32_285_r0 : BitVec 32) : Fin 2 → Nat :=
  let c0_310_r0 : Index := 0#32
  let c0_i32_263_r0 : BitVec 32 := 0#32
  let c1_i32_264_r0 : BitVec 32 := 1#32
  let arg13_r0 : BitVec 32 := Scf.iv c0_i32_263_r0 c1_i32_264_r0 k0_t1
  let c512_i32_284_r0 : BitVec 32 := 512#32
  let v817_r0 : BitVec 32 := Scalar.muli arg13_r0 c512_i32_284_r0
  let v818_r0 : BitVec 32 := v817_r0
  let v819_r0 : BitVec 32 := Scalar.addi v818_r0 c0_i32_285_r0
  let v936_r0 : Index := Scalar.indexCast v819_r0
  ![0, v936_r0.toNat]
def k0_mult58 (k0_t1 : Fin k0_t1_loop.trips) : BitVec 32 :=
  let c0_i32_263_r0 : BitVec 32 := 0#32
  let c1_i32_264_r0 : BitVec 32 := 1#32
  let arg13_r0 : BitVec 32 := Scf.iv c0_i32_263_r0 c1_i32_264_r0 k0_t1
  let c512_i32_311_r0 : BitVec 32 := 512#32
  let v938_r0 : BitVec 32 := Scalar.muli arg13_r0 c512_i32_311_r0
  v938_r0
abbrev stage0_0 : Fin 1 → Memref sig .tc .smem S6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x14336 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S24x1x14336 : Shape := ⟨3, ![24, 1, 14336]⟩
abbrev S8x448x4096 : Shape := ⟨3, ![8, 448, 4096]⟩
abbrev S4096 : Shape := ⟨1, ![4096]⟩
abbrev S6 : Shape := ⟨1, ![6]⟩
abbrev S24x14336 : Shape := ⟨2, ![24, 14336]⟩
abbrev S_ : Shape := ⟨0, ![]⟩
abbrev S24 : Shape := ⟨1, ![24]⟩
abbrev S1x6 : Shape := ⟨2, ![1, 6]⟩
abbrev S24x1 : Shape := ⟨2, ![24, 1]⟩
abbrev S24x6 : Shape := ⟨2, ![24, 6]⟩
abbrev S8 : Shape := ⟨1, ![8]⟩
abbrev S1x8 : Shape := ⟨2, ![1, 8]⟩
abbrev S24x8 : Shape := ⟨2, ![24, 8]⟩
abbrev S24x448x32 : Shape := ⟨3, ![24, 448, 32]⟩
abbrev S32 : Shape := ⟨1, ![32]⟩
abbrev S1x1x32x1 : Shape := ⟨4, ![1, 1, 32, 1]⟩
abbrev S8x448x1x4096 : Shape := ⟨4, ![8, 448, 1, 4096]⟩
abbrev S8x448x32x4096 : Shape := ⟨4, ![8, 448, 32, 4096]⟩
abbrev S8x4096x24 : Shape := ⟨3, ![8, 4096, 24]⟩
abbrev S8x24x4096 : Shape := ⟨3, ![8, 24, 4096]⟩
abbrev S8x24 : Shape := ⟨2, ![8, 24]⟩
abbrev S8x24x1 : Shape := ⟨3, ![8, 24, 1]⟩
abbrev S24x4096 : Shape := ⟨2, ![24, 4096]⟩
abbrev S1x4096 : Shape := ⟨2, ![1, 4096]⟩

abbrev nBuf : Space → Nat
  | .hbm => 131
  | .vmem => 0
  | .smem => 0
  | _ => 0

abbrev hbmTy0_0 (i : Nat) : BufTy := match i % 128 with
  | 0 => ⟨S24x1x14336, .bf16⟩
  | 1 => ⟨S8x448x4096, .i32⟩
  | 2 => ⟨S4096, .f32⟩
  | 3 => ⟨S4096, .f32⟩
  | 4 => ⟨S8x448x4096, .i32⟩
  | 5 => ⟨S4096, .f32⟩
  | 6 => ⟨S4096, .f32⟩
  | 7 => ⟨S6, .i32⟩
  | 8 => ⟨S24x14336, .bf16⟩
  | 9 => ⟨S_, .i32⟩
  | 10 => ⟨S_, .i32⟩
  | 11 => ⟨S6, .i32⟩
  | 12 => ⟨S24, .i32⟩
  | 13 => ⟨S1x6, .i32⟩
  | 14 => ⟨S24x1, .i32⟩
  | 15 => ⟨S24x6, .i32⟩
  | 16 => ⟨S24x6, .i32⟩
  | 17 => ⟨S24x6, .i1⟩
  | 18 => ⟨S24x6, .i32⟩
  | 19 => ⟨S_, .i32⟩
  | 20 => ⟨S24, .i32⟩
  | 21 => ⟨S_, .i32⟩
  | 22 => ⟨S24, .i32⟩
  | 23 => ⟨S24, .i32⟩
  | 24 => ⟨S8, .i32⟩
  | 25 => ⟨S_, .i32⟩
  | 26 => ⟨S8, .i32⟩
  | 27 => ⟨S8, .i32⟩
  | 28 => ⟨S_, .i32⟩
  | 29 => ⟨S8, .i32⟩
  | 30 => ⟨S8, .i32⟩
  | 31 => ⟨S8, .f32⟩
  | 32 => ⟨S1x8, .i32⟩
  | 33 => ⟨S24x1, .i32⟩
  | 34 => ⟨S24x8, .i32⟩
  | 35 => ⟨S24x8, .i32⟩
  | 36 => ⟨S24x8, .i1⟩
  | 37 => ⟨S1x8, .f32⟩
  | 38 => ⟨S_, .f32⟩
  | 39 => ⟨S_, .f32⟩
  | 40 => ⟨S24x8, .f32⟩
  | 41 => ⟨S24x8, .f32⟩
  | 42 => ⟨S24x8, .f32⟩
  | 43 => ⟨S_, .i32⟩
  | 44 => ⟨S24, .i32⟩
  | 45 => ⟨S24, .i32⟩
  | 46 => ⟨S_, .i32⟩
  | 47 => ⟨S24, .i32⟩
  | 48 => ⟨S24, .i32⟩
  | 49 => ⟨S24, .f32⟩
  | 50 => ⟨S_, .f32⟩
  | 51 => ⟨S24, .f32⟩
  | 52 => ⟨S24, .f32⟩
  | 53 => ⟨S_, .f32⟩
  | 54 => ⟨S24, .f32⟩
  | 55 => ⟨S24, .f32⟩
  | 56 => ⟨S24x14336, .f32⟩
  | 57 => ⟨S_, .f32⟩
  | 58 => ⟨S24, .f32⟩
  | 59 => ⟨S24x448x32, .bf16⟩
  | 60 => ⟨S32, .i32⟩
  | 61 => ⟨S1x1x32x1, .i32⟩
  | 62 => ⟨S8x448x1x4096, .i32⟩
  | 63 => ⟨S8x448x32x4096, .i32⟩
  | 64 => ⟨S8x448x32x4096, .i32⟩
  | 65 => ⟨S8x448x32x4096, .i32⟩
  | 66 => ⟨S_, .i32⟩
  | 67 => ⟨S8x448x32x4096, .i32⟩
  | 68 => ⟨S8x448x32x4096, .i32⟩
  | 69 => ⟨S8x448x32x4096, .bf16⟩
  | 70 => ⟨S8x4096x24, .f32⟩
  | 71 => ⟨S8x24x4096, .f32⟩
  | 72 => ⟨S8x24, .f32⟩
  | 73 => ⟨S8x24x1, .f32⟩
  | 74 => ⟨S8x24x4096, .f32⟩
  | 75 => ⟨S8x24x4096, .f32⟩
  | 76 => ⟨S_, .f32⟩
  | 77 => ⟨S24x4096, .f32⟩
  | 78 => ⟨S1x4096, .f32⟩
  | 79 => ⟨S24x1, .f32⟩
  | 80 => ⟨S1x4096, .f32⟩
  | 81 => ⟨S24x4096, .f32⟩
  | 82 => ⟨S24x4096, .f32⟩
  | 83 => ⟨S24x4096, .f32⟩
  | 84 => ⟨S24x1, .f32⟩
  | 85 => ⟨S24x4096, .f32⟩
  | 86 => ⟨S24x4096, .f32⟩
  | 87 => ⟨S24x4096, .f32⟩
  | 88 => ⟨S24x4096, .f32⟩
  | 89 => ⟨S24x4096, .f32⟩
  | 90 => ⟨S32, .i32⟩
  | 91 => ⟨S1x1x32x1, .i32⟩
  | 92 => ⟨S8x448x1x4096, .i32⟩
  | 93 => ⟨S8x448x32x4096, .i32⟩
  | 94 => ⟨S8x448x32x4096, .i32⟩
  | 95 => ⟨S8x448x32x4096, .i32⟩
  | 96 => ⟨S_, .i32⟩
  | 97 => ⟨S8x448x32x4096, .i32⟩
  | 98 => ⟨S8x448x32x4096, .i32⟩
  | 99 => ⟨S8x448x32x4096, .bf16⟩
  | 100 => ⟨S8x4096x24, .f32⟩
  | 101 => ⟨S8x24x4096, .f32⟩
  | 102 => ⟨S8x24, .f32⟩
  | 103 => ⟨S8x24x1, .f32⟩
  | 104 => ⟨S8x24x4096, .f32⟩
  | 105 => ⟨S8x24x4096, .f32⟩
  | 106 => ⟨S_, .f32⟩
  | 107 => ⟨S24x4096, .f32⟩
  | 108 => ⟨S1x4096, .f32⟩
  | 109 => ⟨S24x1, .f32⟩
  | 110 => ⟨S1x4096, .f32⟩
  | 111 => ⟨S24x4096, .f32⟩
  | 112 => ⟨S24x4096, .f32⟩
  | 113 => ⟨S24x4096, .f32⟩
  | 114 => ⟨S24x1, .f32⟩
  | 115 => ⟨S24x4096, .f32⟩
  | 116 => ⟨S24x4096, .f32⟩
  | 117 => ⟨S24x4096, .f32⟩
  | 118 => ⟨S24x4096, .f32⟩
  | 119 => ⟨S24x4096, .f32⟩
  | 120 => ⟨S24x4096, .f32⟩
  | 121 => ⟨S24x4096, .f32⟩
  | 122 => ⟨S_, .f32⟩
  | 123 => ⟨S24x4096, .f32⟩
  | 124 => ⟨S24x4096, .f32⟩
  | 125 => ⟨S_, .f32⟩
  | 126 => ⟨S24x4096, .f32⟩
  | 127 => ⟨S24x4096, .f32⟩
  | _ => ⟨S24x1x14336, .bf16⟩

abbrev hbmTy0_1 (i : Nat) : BufTy := match i % 128 with
  | 0 => ⟨S24x4096, .f32⟩
  | 1 => ⟨S24x4096, .f32⟩
  | 2 => ⟨S24x4096, .bf16⟩
  | _ => ⟨S24x1x14336, .bf16⟩

abbrev hbmTy (i : Nat) : BufTy := match i / 128 with
  | 0 => hbmTy0_0 i
  | 1 => hbmTy0_1 i
  | _ => ⟨S24x1x14336, .bf16⟩

abbrev bufTy : (tb : Table) → Fin (tcTables nBuf tb) → BufTy
  | .hbm, ⟨i, _⟩ => hbmTy i
  | _, _ => ⟨S24x1x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_call0_c : Ref sig .tc := ⟨.hbm, 9, rfl⟩
abbrev main_call0_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_10 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_11 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_call2_v0 : Ref sig .tc := ⟨.hbm, 120, rfl⟩
abbrev main_call2_v1 : Ref sig .tc := ⟨.hbm, 121, rfl⟩
abbrev main_call2_cst : Ref sig .tc := ⟨.hbm, 122, rfl⟩
abbrev main_call2_v2 : Ref sig .tc := ⟨.hbm, 123, rfl⟩
abbrev main_call2_v3 : Ref sig .tc := ⟨.hbm, 124, rfl⟩
abbrev main_call2_cst_0 : Ref sig .tc := ⟨.hbm, 125, rfl⟩
abbrev main_call2_v4 : Ref sig .tc := ⟨.hbm, 126, rfl⟩
abbrev main_call2_v5 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩

abbrev nD : Nat := 1
abbrev τ : Topo := Topo.v7x

variable {F : FTy → Type} [FloatOps F]
-- ==== Proof.Base.lean ====
/- Straight-line pieces of the kernel body as evaluations: what a piece returns, over memory it only reads. -/
module

public import proofs.«01_k».proof.Proof.Gen.KernelIdeal.Loops
public import proofs.«01_k».proof.Proof.Gen.KernelIdeal.Frame
public import Idealize.ShloMosaic.Lib.Mxu.Lemmas

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The resource algebra of the proof. -/
abbrev MM (F : FTy → Type) [FloatOps F] := MT nD τ sig Unit (Elt F) ℕ (Pipeline.UD sig nD τ) ℕ
/-- A program of the kernel body. -/
abbrev Pr (F : FTy → Type) [FloatOps F] (α : Type) : Type 1 := Prog (TpuEff nD τ sig (Elt F) Λ₀ .tc) α

/-- Under the resources `R`, which it gives back, the program `p` returns `v`. -/
def Ev (c : Dev nD) (R : sProp (MM F)) {α : Type} (p : Pr F α) (v : α) : Prop :=
  ∀ Q : α → sProp (MM F), iprop(R ∗ (R -∗ Q v)) ⊢ wp frame (wpE (defs₀ (F := F)) Variants.none (c : Thread nD τ) none) Set.univ p Q

variable (c : Dev nD) (R : sProp (MM F))

variable {c R}

theorem Ev.pure {α : Type} (v : α) : Ev c R (Prog.ret v : Pr F α) v := by
  intro Q
  rw [wp_ret]
  iintro ⟨HR, HQ⟩
  imodintro
  iapply HQ
  iexact HR

theorem Ev.pure' {α : Type} {v w : α} (h : v = w) : Ev c R (Prog.ret v : Pr F α) w := h ▸ Ev.pure v

theorem Ev.bind {α β : Type} {p : Pr F α} {k : α → Pr F β} {v : α} {w : β} (h : Ev c R p v) (hk : Ev c R (k v) w) :
    Ev c R (p >>= k) w := by
  intro Q
  rw [wp_bind]
  refine .trans ?_ (h _)
  iintro ⟨HR, HQ⟩
  isplitl [HR]
  · iexact HR
  · iintro HR
    iapply (hk Q)
    isplitl [HR]
    · iexact HR
    · iexact HQ

theorem Ev.op_assume {α : Type} {P : Prop} {d : Decidable P} {k : PLift P → Pr F α} {w : α} (h : P) (hk : Ev c R (k ⟨h⟩) w) :
    Ev c R (.op (.assume P d) k) w := by
  intro Q
  exact (hk Q).trans (wp_assume (defs := defs₀ (F := F)) Variants.none (c : Thread nD τ) none Set.univ h)

theorem Ev.push {s : Mxu F} {q r : Fin 2} {tr : Bool} {φ : FTy} {v : FVec F (Mxu.STile 256) φ} (h : s.reg q r = none) :
    Ev c R (s.pushRhs q r tr v : Pr F (Mxu F)) (s.pushed q r tr v) :=
  Ev.op_assume (Mxu.pushOk_of_none _ _ _ _ h) (Ev.pure _)

theorem Ev.loaded {s : Mxu F} {q : Fin 2} {A M : ℕ} {φ : FTy} {l : FVec F (Mxu.STile M) φ} {h : Mxu.Fits A M} {t : Mxu.Staged F}
    (ht : s.gmr q = some t) :
    Ev c R (s.accLhsLoaded q A l h : Pr F (Mxu F)) (s.accBy q t A l h) := by
  obtain ⟨hs, e⟩ := Option.eq_some_iff_get_eq.mp ht
  rw [← e]
  exact Ev.op_assume hs (Ev.pure _)

/-- Under the resources `R`, which it turns into `R'`, the program `p` returns `v`. -/
def Tr (c : Dev nD) (R R' : sProp (MM F)) {α : Type} (p : Pr F α) (v : α) : Prop :=
  ∀ Q : α → sProp (MM F), iprop(R ∗ (R' -∗ Q v)) ⊢ wp frame (wpE (defs₀ (F := F)) Variants.none (c : Thread nD τ) none) Set.univ p Q

theorem Tr.bind {R R₁ R₂ : sProp (MM F)} {α β : Type} {p : Pr F α} {k : α → Pr F β} {v : α} {w : β} (h : Tr c R R₁ p v) (hk : Tr c R₁ R₂ (k v) w) :
    Tr c R R₂ (p >>= k) w := by
  intro Q
  rw [wp_bind]
  refine .trans ?_ (h _)
  iintro ⟨HR, HQ⟩
  isplitl [HR]
  · iexact HR
  · iintro HR
    iapply (hk Q)
    isplitl [HR]
    · iexact HR
    · iexact HQ

/-- What a piece does under resources it gives back it does beside others. -/
theorem Tr.ofEv {R R₂ : sProp (MM F)} {α : Type} {p : Pr F α} {v : α} (h : Ev c R p v) : Tr c iprop(R ∗ R₂) iprop(R ∗ R₂) p v := by
  intro Q
  refine .trans ?_ (h Q)
  iintro ⟨⟨H1, H2⟩, HQ⟩
  isplitl [H1]
  · iexact H1
  · iintro H1
    iapply HQ
    isplitl [H1]
    · iexact H1
    · iexact H2

theorem Tr.pure {R : sProp (MM F)} {α : Type} (v : α) : Tr c R R (Prog.ret v : Pr F α) v := Ev.pure v

/-- Resources may be weakened before and after. -/
theorem Tr.conv {R R' R₁ R₁' : sProp (MM F)} {α : Type} {p : Pr F α} {v : α} (h : Tr c R R' p v) (h1 : R₁ ⊢ R) (h2 : R' ⊢ R₁') : Tr c R₁ R₁' p v := by
  intro Q
  refine .trans ?_ (h Q)
  iintro ⟨H1, HQ⟩
  isplitl [H1]
  · iapply h1 $$ H1
  · iintro H
    iapply HQ
    iapply h2 $$ H

theorem Tr.frame {R R' R₂ : sProp (MM F)} {α : Type} {p : Pr F α} {v : α} (h : Tr c R R' p v) : Tr c iprop(R ∗ R₂) iprop(R' ∗ R₂) p v := by
  intro Q
  refine .trans ?_ (h Q)
  iintro ⟨⟨H1, H2⟩, HQ⟩
  isplitl [H1]
  · iexact H1
  · iintro H1
    iapply HQ
    isplitl [H1]
    · iexact H1
    · iexact H2

/-- The first piece of a piece. -/
theorem Tr.bind2 {R R₁ R₂ : sProp (MM F)} {α β γ : Type} {p : Pr F α} {k : α → Pr F β} {g : β → Pr F γ} {v : α} {w : γ} (h : Tr c R R₁ p v)
    (hk : Tr c R₁ R₂ (k v >>= g) w) : Tr c R R₂ ((p >>= k) >>= g) w := by
  have e : ((p >>= k) >>= g) = (p >>= fun x => k x >>= g) := bind_assoc p k g
  rw [e]
  exact Tr.bind h hk

theorem Ev.bind2 {α β γ : Type} {p : Pr F α} {k : α → Pr F β} {g : β → Pr F γ} {v : α} {w : γ} (h : Ev c R p v) (hk : Ev c R (k v >>= g) w) :
    Ev c R ((p >>= k) >>= g) w := Tr.bind2 (R := R) (R₁ := R) (R₂ := R) h hk

theorem Ev.ite {α : Type} {b : Prop} [Decidable b] {p q : Pr F α} {v : α} (h1 : b → Ev c R p v) (h2 : ¬b → Ev c R q v) :
    Ev c R (if b then p else q) v := by
  by_cases hb : b
  · rw [if_pos hb]; exact h1 hb
  · rw [if_neg hb]; exact h2 hb

/-! ## The two planes' words, and the loads -/

/-- Contents of a plane array. -/
abbrev Planes (F : FTy → Type) [FloatOps F] := S8x448x4096.Idx → Elt F .i32
/-- Contents of the ring buffer. -/
abbrev Ring (F : FTy → Type) [FloatOps F] := S3x2x8x32x512.Idx → Elt F .i32
/-- Contents of the permuted activations. -/
abbrev Xp (F : FTy → Type) [FloatOps F] := S32x14336.Idx → Elt F .bf16

/-- The index of word `(w, n)` of plane `p`, positions taken modulo the extents. -/
def pix (p w n : ℕ) : S8x448x4096.Idx := fun a => ⟨(![p, w, n] a) % S8x448x4096.size a, Nat.mod_lt _ (by fin_cases a <;> decide)⟩
/-- The index of row `r`, column `l` of the permuted activations, positions taken modulo the extents. -/
def xix (r l : ℕ) : S32x14336.Idx := fun a => ⟨(![r, l] a) % S32x14336.size a, Nat.mod_lt _ (by fin_cases a <;> decide)⟩

/-- The ring buffer where the words of chunk `cc` of block `n` of the array `A` have landed. -/
def slotC (A : Planes F) (n cc : ℕ) : Ring F := fun i => A (pix (i 2).val (32 * cc + (i 3).val) (512 * n + (i 4).val))
/-- What a load of tile `(k, t)` of plane `p` reads there. -/
def ldW (A : Planes F) (n cc : ℕ) (p k t : ℕ) : Vec F S1x1x1x8x256 .i32 :=
  fun i => A (pix p (32 * cc + (8 * k + (i 3).val)) (512 * n + (256 * t + (i 4).val)))
/-- Tile `k` of the activations of chunk `cc`. -/
def ldX (X : Xp F) (cc k : ℕ) : Vec F S32x256 .bf16 := fun i => X (xix (i 0).val (1024 * cc + (256 * k + (i 1).val)))

/-- The cell of the ring buffer for slot `r` and array `m`. -/
def cell (r m : ℕ) : Finset S3x2x8x32x512.Idx := Finset.univ.filter fun i => (i 0).val = r ∧ (i 1).val = m

/-- What the matrix loop reads: the two landed cells and the activations. -/
def Rc (c : Dev nD) (r n cc : ℕ) (G U : Planes F) (X : Xp F) : sProp (MM F) :=
  iprop(((Memref.whole cc0_scratch0).view.loc (c : Thread nD τ) ↦[cell r 0]{fullShare} (slotC G n cc : Ring F))
    ∗ ((Memref.whole cc0_scratch0).view.loc (c : Thread nD τ) ↦[cell r 1]{fullShare} (slotC U n cc : Ring F))
    ∗ ((Memref.whole cc0_scratch1).view.loc (c : Thread nD τ) ↦[Finset.univ]{fullShare} X))

theorem readAt_slotC (A : Planes F) (n cc r m p k t : ℕ) (off : Fin 5 → ℕ)
    (inb : ∀ a, off a + S1x1x1x8x256.size a ≤ S3x2x8x32x512.size a) (ho : off = ![r, m, p, 8 * k, 256 * t]) :
    (Memref.whole cc0_scratch0).view.readAt (Elt F) (Rect.unit (s := S3x2x8x32x512) off S1x1x1x8x256.size inb).toLoadRect (slotC A n cc : Ring F)
      = ldW A n cc p k t := by
  subst ho
  funext i
  show A _ = A _
  congr 1
  have h2 : (i 2).val = 0 := by have := (i 2).isLt; simp [S1x1x1x8x256] at this ⊢; omega
  funext a
  apply Fin.ext
  fin_cases a
  · show (p + 1 * (i 2).val) % _ = p % _
    rw [h2]; rfl
  · show (32 * cc + (8 * k + 1 * (i 3).val)) % _ = _ % _
    rw [Nat.one_mul]; rfl
  · show (512 * n + (256 * t + 1 * (i 4).val)) % _ = _ % _
    rw [Nat.one_mul]; rfl

theorem set_cell (r m p k t : ℕ) (off : Fin 5 → ℕ)
    (inb : ∀ a, off a + S1x1x1x8x256.size a ≤ S3x2x8x32x512.size a) (ho : off = ![r, m, p, 8 * k, 256 * t]) :
    (Memref.whole cc0_scratch0).view.setOn (Rect.unit (s := S3x2x8x32x512) off S1x1x1x8x256.size inb).toLoadRect.set ⊆ cell r m := by
  subst ho
  intro i hi
  have hi' : i ∈ (Rect.unit (s := S3x2x8x32x512) ![r, m, p, 8 * k, 256 * t] S1x1x1x8x256.size inb).set := by
    simpa [View.setOn] using hi
  have hi'' := Rect.mem_set_unit.mp hi'
  have h0 : r ≤ (i 0).val ∧ (i 0).val < r + 1 := hi'' 0
  have h1 : m ≤ (i 1).val ∧ (i 1).val < m + 1 := hi'' 1
  simp only [cell, Finset.mem_filter, Finset.mem_univ, true_and]
  omega

/-- Under a points-to, a load returns what is there. -/
theorem Ev.lift_load {cs : CoreSpace} {s : Shape} {e : EltTy} {m : Memref sig .tc cs s e} {r : LoadRect s} {hl : m.view.LoadsAt r}
    {S : Finset (Idx (m.view.loc (c : Thread nD τ)))} {q : PosShare TreeShare} {f : Buf (Elt F) (m.view.loc (c : Thread nD τ))}
    {v : r.shape.Idx → Elt F e} (hS : m.view.setOn r.set ⊆ S) (hv : m.view.readAt (Elt F) r f = v) :
    Ev c (m.view.loc (c : Thread nD τ) ↦[S]{q} f) (Prog.lift (.load m r hl) : Pr F _) v := by
  subst hv
  intro Q
  iintro ⟨HR, HQ⟩
  iapply (wp_load (defs := defs₀ (F := F)) (𝒱 := Variants.none) (c := (c : Thread nD τ)) (bd := none) (E := Set.univ) hS) $$ HR
  iintro HR
  rw [wp_ret]
  imodintro
  iapply HQ
  iexact HR

theorem Ev.frame_l {R R' : sProp (MM F)} {α : Type} {p : Pr F α} {v : α} (h : Ev c R p v) : Ev c iprop(R ∗ R') p v := by
  intro Q
  refine .trans ?_ (h Q)
  iintro ⟨⟨H1, H2⟩, HQ⟩
  isplitl [H1]
  · iexact H1
  · iintro H1
    iapply HQ
    isplitl [H1]
    · iexact H1
    · iexact H2

theorem Ev.frame_r {R R' : sProp (MM F)} {α : Type} {p : Pr F α} {v : α} (h : Ev c R' p v) : Ev c iprop(R ∗ R') p v := by
  intro Q
  refine .trans ?_ (h Q)
  iintro ⟨⟨H1, H2⟩, HQ⟩
  isplitl [H2]
  · iexact H2
  · iintro H2
    iapply HQ
    isplitl [H1]
    · iexact H1
    · iexact H2

variable {r n cc : ℕ} {G U : Planes F} {X : Xp F}

theorem Ev.load0 (p k t : ℕ) {off : Fin 5 → ℕ} {inb : ∀ a, off a + S1x1x1x8x256.size a ≤ S3x2x8x32x512.size a}
    {hl : (Memref.whole cc0_scratch0).view.LoadsAt (Rect.unit (s := S3x2x8x32x512) off S1x1x1x8x256.size inb).toLoadRect}
    (ho : off = ![r, 0, p, 8 * k, 256 * t]) :
    Ev c (Rc c r n cc G U X) (Prog.lift (.load (Memref.whole cc0_scratch0) (Rect.unit (s := S3x2x8x32x512) off S1x1x1x8x256.size inb).toLoadRect hl) : Pr F _)
      (ldW G n cc p k t) :=
  Ev.frame_l (Ev.lift_load (set_cell r 0 p k t off inb ho) (readAt_slotC G n cc r 0 p k t off inb ho))

theorem Ev.load1 (p k t : ℕ) {off : Fin 5 → ℕ} {inb : ∀ a, off a + S1x1x1x8x256.size a ≤ S3x2x8x32x512.size a}
    {hl : (Memref.whole cc0_scratch0).view.LoadsAt (Rect.unit (s := S3x2x8x32x512) off S1x1x1x8x256.size inb).toLoadRect}
    (ho : off = ![r, 1, p, 8 * k, 256 * t]) :
    Ev c (Rc c r n cc G U X) (Prog.lift (.load (Memref.whole cc0_scratch0) (Rect.unit (s := S3x2x8x32x512) off S1x1x1x8x256.size inb).toLoadRect hl) : Pr F _)
      (ldW U n cc p k t) :=
  Ev.frame_r (Ev.frame_l (Ev.lift_load (set_cell r 1 p k t off inb ho) (readAt_slotC U n cc r 1 p k t off inb ho)))

theorem Ev.loadX (k : ℕ) {off : Fin 2 → ℕ} {inb : ∀ a, off a + S32x256.size a ≤ S32x14336.size a}
    {hl : (Memref.whole cc0_scratch1).view.LoadsAt (Rect.unit (s := S32x14336) off S32x256.size inb).toLoadRect}
    (ho : off = ![0, 1024 * cc + 256 * k]) :
    Ev c (Rc c r n cc G U X) (Prog.lift (.load (Memref.whole cc0_scratch1) (Rect.unit (s := S32x14336) off S32x256.size inb).toLoadRect hl) : Pr F _)
      (ldX X cc k) := by
  refine Ev.frame_r (Ev.frame_r (Ev.lift_load (Finset.subset_univ _) ?_))
  subst ho
  funext i
  show X _ = X _
  congr 1
  funext a
  apply Fin.ext
  fin_cases a
  · show 0 + 1 * (i 0).val = (i 0).val % 32
    have := (i 0).isLt
    simp [S32x256] at this ⊢; omega
  · show 1024 * cc + 256 * k + 1 * (i 1).val = (1024 * cc + (256 * k + (i 1).val)) % 14336
    have h1 := (i 1).isLt
    have h2 := inb 1
    simp [S32x256, S32x14336] at h1 h2 ⊢
    omega

/-! ## One matrix step -/

/-- Push a tile, multiply the activations by it into rows `4A …`, and let the zero rows use it once more. -/
def stP (q r : Fin 2) (s : Mxu F) (v : FVec F S256x256 .bf16) : Mxu F := s.pushed q r false v
def stA (q r : Fin 2) (A : ℕ) (hA : Mxu.Fits A 32) (s : Mxu F) (v : FVec F S256x256 .bf16) (x : FVec F S32x256 .bf16) : Mxu F :=
  (stP q r s v).accLhs q r A x hA
def stJ (q r : Fin 2) (A : ℕ) (hA : Mxu.Fits A 32) (z : FVec F S64x256 .bf16) (s : Mxu F) (v : FVec F S256x256 .bf16) (x : FVec F S32x256 .bf16) : Mxu F :=
  (stA q r A hA s v x).accBy q ((stP q r s v).staged q r) 96 z fits_96_64

/-- Every staging register is empty. -/
def Clean (s : Mxu F) : Prop := ∀ q r, s.reg q r = none

variable {q' r' : Fin 2} {A : ℕ} {hA : Mxu.Fits A 32} {z : FVec F S64x256 .bf16} {s : Mxu F} {v : FVec F S256x256 .bf16}
  {x : FVec F S32x256 .bf16}

theorem Clean.stA (h : Clean s) : Clean (stA q' r' A hA s v x) := by
  intro a b
  unfold Hand.stA Hand.stP
  by_cases hne : a = q' ∧ b = r'
  · obtain ⟨rfl, rfl⟩ := hne; simp
  · rw [Mxu.reg_accLhs_ne _ _ _ _ _ _ _ _ hne, Mxu.reg_pushed_ne _ _ _ _ _ _ _ hne]; exact h a b

theorem Clean.stJ (h : Clean s) : Clean (stJ q' r' A hA z s v x) := Clean.stA (x := x) (hA := hA) h

theorem Ev.junk : Ev c R ((stA q' r' A hA s v x).accLhsLoaded q' 96 z fits_96_64 : Pr F (Mxu F)) (stJ q' r' A hA z s v x) :=
  Ev.loaded (Mxu.gmr_accLhs _ _ _ _ _ _)

end Cert.KernelIdeal.Hand
-- ==== Proof.Codes.lean ====
/- The matrix steps of one chunk: their code tiles, and the states of the matrix unit between them. -/
module

public import proofs.«01_k».proof.Proof.Base

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-! ## The planes a chunk reads -/

/-- The plane numbers of the pair and of the three single planes. -/
structure Pl where
  hi : ℕ
  lo : ℕ
  s0 : ℕ
  s1 : ℕ
  s2 : ℕ

/-- The width no row has, from the counts of rows of widths 3 … 7 that the kernel compares with zero. -/
def absW (w3 w4 w5 w6 : BitVec 32) : BitVec 32 :=
  Scalar.select (Scalar.cmpi .eq w6 0#32) 4#32 (Scalar.select (Scalar.cmpi .eq w5 0#32) 5#32 (Scalar.select (Scalar.cmpi .eq w4 0#32) 6#32
    (Scalar.select (Scalar.cmpi .eq w3 0#32) 7#32 4#32)))

/-- A single plane: `b` when the pair starts beyond `a`, else `d`. -/
def sgW (w3 w4 w5 w6 a b d : BitVec 32) : BitVec 32 :=
  Scalar.select (Scalar.cmpi .sgt (Scalar.subi (absW w3 w4 w5 w6) 1#32) a) b d

/-- The planes read, as the kernel computes them. -/
def plOf (w3 w4 w5 w6 : BitVec 32) : Pl where
  hi := (Scalar.indexCast (Scalar.subi (absW w3 w4 w5 w6) 1#32)).toNat
  lo := (Scalar.indexCast (Scalar.addi (Scalar.subi (absW w3 w4 w5 w6) 1#32) 1#32)).toNat
  s0 := (Scalar.indexCast (sgW w3 w4 w5 w6 3#32 3#32 5#32)).toNat
  s1 := (Scalar.indexCast (sgW w3 w4 w5 w6 4#32 4#32 6#32)).toNat
  s2 := (Scalar.indexCast (sgW w3 w4 w5 w6 5#32 5#32 7#32)).toNat

/-- The slot of the ring a trip reads, as the kernel computes it. -/
def rowW (t1 : Fin k0_t1_loop.trips) (t2 : Fin k0_t2_loop.trips) : ℕ :=
  (Scalar.indexCast (Scalar.remsi (Scalar.addi (Scalar.muli (Scf.iv 0#32 1#32 t1) 14#32) (Scf.iv 0#32 1#32 t2)) 3#32)).toNat

/-! ## Code tiles -/

/-- A tile of words as a matrix. -/
def wd (a : Vec F S1x1x1x8x256 .i32) : IVec S8x256 32 := shapeCast S8x256 a shapeCasts_S1x1x1x8x256_S8x256
def shl1 (a : IVec S8x256 32) : IVec S8x256 32 := shli a (broadcast S8x256 1#32)
def shr (k : BitVec 32) (a : IVec S8x256 32) : IVec S8x256 32 := shrsi a (broadcast S8x256 k)
def msk (k : BitVec 32) (a : IVec S8x256 32) : IVec S8x256 32 := andi a (broadcast S8x256 k)
/-- The eight nibbles of each word, each in its own row, as bf16 integers. -/
def nibs (h : IVec S8x8x256 32) (a : IVec S8x256 32) : FVec F S64x256 .bf16 :=
  sitofp .bf16 (trunci 4 (shapeCast S64x256 (shrui (broadcastTo S8x8x256 (shapeCast S8x1x256 (shapeCast S8x1x256 a shapeCasts_S8x256_S8x1x256)
    shapeCasts_S8x1x256_S8x1x256) broadcasts_S8x1x256_S8x8x256) h) shapeCasts_S8x8x256_S64x256) natLt_4_32)
/-- Four such row groups, one above another. -/
def quad (h : IVec S8x8x256 32) (a b d e : IVec S8x256 32) : FVec F S256x256 .bf16 :=
  concatenate S256x256 0 [⟨S64x256, nibs h a⟩, ⟨S64x256, nibs h b⟩, ⟨S64x256, nibs h d⟩, ⟨S64x256, nibs h e⟩]
    concatenates_S64x256_S64x256_S64x256_S64x256_S256x256_d0

/-- Two-bit codes at the even positions, and at the odd positions, of the planes `a` (high bit) and `b`. -/
def evn (a b : IVec S8x256 32) : IVec S8x256 32 := ori (msk 2863311530#32 (shl1 a)) (msk 1431655765#32 b)
def odd (a b : IVec S8x256 32) : IVec S8x256 32 := ori (msk 2863311530#32 a) (msk 1431655765#32 (shr 1#32 b))

def tripleCode (h : IVec S8x8x256 32) (a b d : Vec F S1x1x1x8x256 .i32) : FVec F S256x256 .bf16 :=
  quad h (ori (msk 1717986918#32 (shl1 (evn (wd a) (wd b)))) (msk 286331153#32 (wd d)))
    (ori (msk 1717986918#32 (shl1 (odd (wd a) (wd b)))) (msk 286331153#32 (shr 1#32 (wd d))))
    (ori (msk 1717986918#32 (shr 1#32 (evn (wd a) (wd b)))) (msk 286331153#32 (shr 2#32 (wd d))))
    (ori (msk 1717986918#32 (shr 1#32 (odd (wd a) (wd b)))) (msk 286331153#32 (shr 3#32 (wd d))))

def pairCode (h : IVec S8x8x256 32) (a b : Vec F S1x1x1x8x256 .i32) : FVec F S256x256 .bf16 :=
  quad h (msk 858993459#32 (evn (wd a) (wd b))) (msk 858993459#32 (odd (wd a) (wd b)))
    (msk 858993459#32 (shr 2#32 (evn (wd a) (wd b)))) (msk 858993459#32 (shr 2#32 (odd (wd a) (wd b))))

def singleCode (h : IVec S8x8x256 32) (a : Vec F S1x1x1x8x256 .i32) : FVec F S256x256 .bf16 :=
  quad h (msk 286331153#32 (wd a)) (msk 286331153#32 (shr 1#32 (wd a))) (msk 286331153#32 (shr 2#32 (wd a))) (msk 286331153#32 (shr 3#32 (wd a)))

/-- The code tile of segment `g` of tile `(k, t)`. -/
def segCode (h : IVec S8x8x256 32) (pl : Pl) (A : Planes F) (n cc k t : ℕ) : ℕ → FVec F S256x256 .bf16
  | 0 => tripleCode h (ldW A n cc 0 k t) (ldW A n cc 1 k t) (ldW A n cc 2 k t)
  | 1 => pairCode h (ldW A n cc pl.hi k t) (ldW A n cc pl.lo k t)
  | 2 => singleCode h (ldW A n cc pl.s0 k t)
  | 3 => singleCode h (ldW A n cc pl.s1 k t)
  | _ => singleCode h (ldW A n cc pl.s2 k t)

/-- The array of unit `q`: the gate's on unit 0, the up projection's on unit 1. -/
def armOf (G U : Planes F) : ℕ → Planes F
  | 0 => G
  | _ => U

/-! ## The steps of a chunk -/

def unitOf (j : ℕ) : Fin 2 := ⟨j % 2, Nat.mod_lt _ (by decide)⟩
def regOf (j : ℕ) : Fin 2 := ⟨j / 2 % 2, Nat.mod_lt _ (by decide)⟩
/-- The result rows of step `j`: six groups for each of the two column tiles. -/
def addrOf (j : ℕ) : ℕ := 8 * (6 * (j / 10 % 2) + j / 2 % 5)
theorem fits_addr (j : ℕ) : Mxu.Fits (addrOf j) 32 := by
  have h : ∀ a < 2, ∀ b < 5, Mxu.Fits (8 * (6 * a + b)) 32 := by decide
  exact h _ (Nat.mod_lt _ (by decide)) _ (Nat.mod_lt _ (by decide))

def codeAt (h : IVec S8x8x256 32) (pl : Pl) (G U : Planes F) (n cc j : ℕ) : FVec F S256x256 .bf16 :=
  segCode h pl (armOf G U (j % 2)) n cc (j / 20) (j / 10 % 2) (j / 2 % 5)

/-- The unit's state after the first `j` steps of a chunk. -/
def St (h : IVec S8x8x256 32) (pl : Pl) (z : FVec F S64x256 .bf16) (G U : Planes F) (X : Xp F) (n cc : ℕ) (s : Mxu F) : ℕ → Mxu F
  | 0 => s
  | j + 1 => stJ (unitOf j) (regOf j) (addrOf j) (fits_addr j) z (St h pl z G U X n cc s j) (codeAt h pl G U n cc j) (ldX X cc (j / 20))

/-- The result rows of extra step `j`. -/
def addrFix (j : ℕ) : ℕ := 8 * (6 * (j / 2 % 2) + 5)
theorem fits_addrFix (j : ℕ) : Mxu.Fits (addrFix j) 32 := by
  have h : ∀ a < 2, Mxu.Fits (8 * (6 * a + 5)) 32 := by decide
  exact h _ (Nat.mod_lt _ (by decide))

/-- The unit's state after the first `j` extra steps, taken when every width occurs. -/
def StF (h : IVec S8x8x256 32) (G U : Planes F) (X : Xp F) (n cc : ℕ) (s : Mxu F) : ℕ → Mxu F
  | 0 => s
  | j + 1 => stA (unitOf j) 0 (addrFix j) (fits_addrFix j) (StF h G U X n cc s j)
      (singleCode h (ldW (armOf G U (j % 2)) n cc 4 (j / 4) (j / 2 % 2))) (ldX X cc (j / 4))

variable {h : IVec S8x8x256 32} {pl : Pl} {z : FVec F S64x256 .bf16} {G U : Planes F} {X : Xp F} {n cc : ℕ} {s : Mxu F}

theorem clean_St (hs : Clean s) : ∀ j, Clean (St h pl z G U X n cc s j)
  | 0 => hs
  | j + 1 => (clean_St hs j).stJ

theorem clean_StF (hs : Clean s) : ∀ j, Clean (StF h G U X n cc s j)
  | 0 => hs
  | j + 1 => (clean_StF hs j).stA

theorem xoff0 (t : Fin k0_t2_loop.trips) : k0_off16 t = ![0, 1024 * t.val + 256 * 0] := by
  revert t; decide
theorem xoff1 (t : Fin k0_t2_loop.trips) : k0_off41 t 256#32 = ![0, 1024 * t.val + 256 * 1] := by
  revert t; decide
theorem xoff2 (t : Fin k0_t2_loop.trips) : k0_off41 t 512#32 = ![0, 1024 * t.val + 256 * 2] := by
  revert t; decide
theorem xoff3 (t : Fin k0_t2_loop.trips) : k0_off41 t 768#32 = ![0, 1024 * t.val + 256 * 3] := by
  revert t; decide
theorem foff0 (t : Fin k0_t2_loop.trips) : k0_off115 t 0#32 = ![0, 1024 * t.val + 256 * 0] := by
  revert t; decide
theorem foff1 (t : Fin k0_t2_loop.trips) : k0_off115 t 256#32 = ![0, 1024 * t.val + 256 * 1] := by
  revert t; decide
theorem foff2 (t : Fin k0_t2_loop.trips) : k0_off115 t 512#32 = ![0, 1024 * t.val + 256 * 2] := by
  revert t; decide
theorem foff3 (t : Fin k0_t2_loop.trips) : k0_off115 t 768#32 = ![0, 1024 * t.val + 256 * 3] := by
  revert t; decide

end Cert.KernelIdeal.Hand
-- ==== Proof.PartsA.lean ====
/- The pieces of a chunk: the first steps. -/
module

public import proofs.«01_k».proof.Proof.Codes

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

variable {arg0 : Memref sig .tc .smem S6 .i32} {harg0 : arg0.IsWhole}
variable {arg1 : Memref sig .tc .vmem S24x14336 .bf16} {harg1 : arg1.IsWhole}
variable {arg2 : Memref sig .tc .vmem S1x4096 .f32} {harg2 : arg2.IsWhole}
variable {arg3 : Memref sig .tc .vmem S1x4096 .f32} {harg3 : arg3.IsWhole}
variable {arg4 : Memref sig .tc .vmem S1x4096 .f32} {harg4 : arg4.IsWhole}
variable {arg5 : Memref sig .tc .vmem S1x4096 .f32} {harg5 : arg5.IsWhole}
variable {arg6 : Memref sig .tc .hbm S8x448x4096 .i32} {harg6 : arg6.IsWhole}
variable {arg7 : Memref sig .tc .hbm S8x448x4096 .i32} {harg7 : arg7.IsWhole}
variable {arg8 : Memref sig .tc .vmem S24x4096 .bf16} {harg8 : arg8.IsWhole}
variable {h9 : (Memref.whole cc0_scratch0).IsWhole}
variable {h10 : (Memref.whole cc0_scratch1).IsWhole}
variable {arg11 : Memref sig .tc .vmem S24x128 .f32} {harg11 : arg11.IsWhole}
variable {arg12 : DmaSems sig S3x2}
variable {c : Dev nD} {G U : Planes F} {X : Xp F} {w3 w4 w5 w6 : Elt F .i32} {t1 : Fin k0_t1_loop.trips} {t2 : Fin k0_t2_loop.trips}

theorem ev_part22 {v1113 : IVec S8x256 32} {v1116 : IVec S8x256 32} {v1119 : IVec S8x256 32} {v1123 : IVec S8x256 32} {v1124 : IVec S8x256 32} :
    Ev c (Rc c (rowW t1 t2) t1.val t2.val G U X) (k0_part22 arg0 harg0 arg1 harg1 arg2 harg2 arg3 harg3 arg4 harg4 arg5 harg5 arg6 harg6 arg7 harg7 arg8 harg8 (Memref.whole cc0_scratch0) h9 (Memref.whole cc0_scratch1) h10 arg11 harg11 arg12 v1113 v1116 v1119 v1123 v1124 : Pr F _)
      ⟨k0_pay82 v1116 v1119 v1123 v1124, k0_pay83 v1113 v1116 v1119, k0_pay84 v1116 v1119 v1123 v1124, k0_pay85 v1113 v1116, k0_pay86 v1119⟩ := by
  rw [k0_part22_eq_skeleton]
  unfold k0_part22_skel
  exact Ev.pure' rfl

theorem ev_part23 {v1061 : BitVec 32} {v1162 : IVec S8x256 32} {v1166 : IVec S8x256 32} :
    Ev c (Rc c (rowW t1 t2) t1.val t2.val G U X) (k0_part23 arg0 harg0 arg1 harg1 arg2 harg2 arg3 harg3 arg4 harg4 arg5 harg5 arg6 harg6 arg7 harg7 arg8 harg8 (Memref.whole cc0_scratch0) h9 (Memref.whole cc0_scratch1) h10 arg11 harg11 arg12 t1 t2 v1061 v1162 v1166 : Pr F _)
      ⟨k0_pay87 v1162 v1166, k0_pay90 (ldW U t1.val t2.val 2 0 0), k0_pay91 (ldW U t1.val t2.val 0 0 0) (ldW U t1.val t2.val 1 0 0), k0_pay92 (ldW U t1.val t2.val 0 0 0) (ldW U t1.val t2.val 1 0 0), k0_pay93 (ldW U t1.val t2.val 0 0 0) (ldW U t1.val t2.val 1 0 0) (ldW U t1.val t2.val 2 0 0), k0_pay94 (ldW U t1.val t2.val 0 0 0) (ldW U t1.val t2.val 1 0 0), k0_pay95⟩ := by
  rw [k0_part23_eq_skeleton]
  unfold k0_part23_skel
  refine Ev.bind (Ev.load1 0 0 0 rfl) ?_
  refine Ev.bind (Ev.load1 1 0 0 rfl) ?_
  refine Ev.bind (Ev.load1 2 0 0 rfl) ?_
  exact Ev.pure' rfl

theorem ev_part24 {v783 : IVec S8x8x256 32} {v1140 : IVec S8x256 32} {v1149 : IVec S8x256 32} {v1158 : IVec S8x256 32} {v1167 : IVec S8x256 32} {v1176 : IVec S8x256 32} {v1183 : IVec S8x256 32} {v1190 : IVec S8x256 32} {v1201 : IVec S8x256 32} {v1202 : IVec S8x256 32} :
    Ev c (Rc c (rowW t1 t2) t1.val t2.val G U X) (k0_part24 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1140 v1149 v1158 v1167 v1176 v1183 v1190 v1201 v1202 : Pr F _)
      ⟨k0_pay96 v1176 v1201 v1202, k0_pay97 v1176 v1183, k0_pay98 v1176 v1190, k0_pay99 (F := F) v783 v1140 v1149 v1158 v1167⟩ := by
  rw [k0_part24_eq_skeleton]
  unfold k0_part24_skel
  exact Ev.pure' rfl

theorem ev_part25 {hw : k0_chk1 w3 w4 w5 w6} {v132 : BitVec 32} {v783 : IVec S8x8x256 32} {v1061 : BitVec 32} {v1104 : FVec F S64x256 .bf16} {v1110 : Vec F S32x256 .bf16} {v1197 : IVec S8x256 32} {v1206 : IVec S8x256 32} {v1215 : IVec S8x256 32} {v1224 : IVec S8x256 32} {v1253 : FVec F S256x256 .bf16} {s s' : Mxu F} (hk : Clean s) (hs : (stJ 1 0 0 fits_0_32 v1104 (stJ 0 0 0 fits_0_32 v1104 s v1253 v1110) (k0_pay100 (F := F) v783 v1197 v1206 v1215 v1224) v1110) = s') :
    Ev c (Rc c (rowW t1 t2) t1.val t2.val G U X) (k0_part25 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v132 v783 t1 t2 s v1061 v1104 v1110 v1197 v1206 v1215 v1224 v1253 : Pr F _)
      ⟨s', k0_pay101 (ldW G t1.val t2.val (plOf w3 w4 w5 w6).hi 0 0), k0_pay102 (ldW G t1.val t2.val (plOf w3 w4 w5 w6).lo 0 0), k0_pay103 (ldW G t1.val t2.val (plOf w3 w4 w5 w6).hi 0 0), k0_pay104 (ldW G t1.val t2.val (plOf w3 w4 w5 w6).lo 0 0)⟩ := by
  subst hs
  rw [k0_part25_eq_skeleton]
  unfold k0_part25_skel
  refine Ev.bind (Ev.push (hk _ _)) ?_
  refine Ev.bind Ev.junk ?_
  refine Ev.bind (Ev.push ((hk.stJ) _ _)) ?_
  refine Ev.bind Ev.junk ?_
  refine Ev.bind (Ev.load0 (plOf w3 w4 w5 w6).hi 0 0 rfl) ?_
  refine Ev.bind (Ev.load0 (plOf w3 w4 w5 w6).lo 0 0 rfl) ?_
  exact Ev.pure' rfl

theorem ev_part26 {hw : k0_chk1 w3 w4 w5 w6} {v132 : BitVec 32} {v1061 : BitVec 32} {v1286 : IVec S8x256 32} {v1291 : IVec S8x256 32} {v1295 : IVec S8x256 32} {v1297 : IVec S8x256 32} :
    Ev c (Rc c (rowW t1 t2) t1.val t2.val G U X) (k0_part26 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v132 t1 t2 v1061 v1286 v1291 v1295 v1297 : Pr F _)
      ⟨k0_pay107 v1295 v1297, k0_pay108 v1286 v1291, k0_pay109 v1295 v1297, k0_pay110 v1286 v1291, k0_pay112 (ldW U t1.val t2.val (plOf w3 w4 w5 w6).lo 0 0), k0_pay113 (ldW U t1.val t2.val (plOf w3 w4 w5 w6).hi 0 0) (ldW U t1.val t2.val (plOf w3 w4 w5 w6).lo 0 0), k0_pay114 (ldW U t1.val t2.val (plOf w3 w4 w5 w6).hi 0 0), k0_pay115⟩ := by
  rw [k0_part26_eq_skeleton]
  unfold k0_part26_skel
  refine Ev.bind (Ev.load1 (plOf w3 w4 w5 w6).hi 0 0 rfl) ?_
  refine Ev.bind (Ev.load1 (plOf w3 w4 w5 w6).lo 0 0 rfl) ?_
  exact Ev.pure' rfl

theorem ev_part27 {v783 : IVec S8x8x256 32} {v1104 : FVec F S64x256 .bf16} {v1110 : Vec F S32x256 .bf16} {v1307 : IVec S8x256 32} {v1309 : IVec S8x256 32} {v1313 : IVec S8x256 32} {v1317 : IVec S8x256 32} {v1326 : IVec S8x256 32} {v1333 : IVec S8x256 32} {v1335 : IVec S8x256 32} {v1336 : IVec S8x256 32} {s s' : Mxu F} (hk : Clean s) (hs : (stJ 0 1 8 fits_8_32 v1104 s (k0_pay120 (F := F) v783 v1307 v1309 v1313 v1317) v1110) = s') :
    Ev c (Rc c (rowW t1 t2) t1.val t2.val G U X) (k0_part27 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v1110 s v1307 v1309 v1313 v1317 v1326 v1333 v1335 v1336 : Pr F _)
      ⟨k0_pay117 v1326 v1335 v1336, k0_pay118 v1333, k0_pay119 v1326 v1335 v1336, s', k0_pay121 v783 v1333⟩ := by
  subst hs
  rw [k0_part27_eq_skeleton]
  unfold k0_part27_skel
  refine Ev.bind (Ev.push (hk _ _)) ?_
  refine Ev.bind Ev.junk ?_
  exact Ev.pure' rfl

theorem ev_part28 {hw : k0_chk1 w3 w4 w5 w6} {v134 : BitVec 32} {v783 : IVec S8x8x256 32} {v1061 : BitVec 32} {v1104 : FVec F S64x256 .bf16} {v1110 : Vec F S32x256 .bf16} {v1344 : IVec S8x256 32} {v1348 : IVec S8x256 32} {v1352 : IVec S8x256 32} {v1386 : IVec S64x256 32} {s s' : Mxu F} (hk : Clean s) (hs : (stJ 1 1 8 fits_8_32 v1104 s (k0_pay122 (F := F) v783 v1344 v1348 v1352 v1386) v1110) = s') :
    Ev c (Rc c (rowW t1 t2) t1.val t2.val G U X) (k0_part28 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v134 v783 t1 t2 v1061 v1104 v1110 v1344 v1348 v1352 s v1386 : Pr F _)
      ⟨s', k0_pay124 (ldW G t1.val t2.val (plOf w3 w4 w5 w6).s0 0 0), k0_pay125 (ldW G t1.val t2.val (plOf w3 w4 w5 w6).s0 0 0), k0_pay126 (ldW G t1.val t2.val (plOf w3 w4 w5 w6).s0 0 0), k0_pay127 (ldW G t1.val t2.val (plOf w3 w4 w5 w6).s0 0 0)⟩ := by
  subst hs
  rw [k0_part28_eq_skeleton]
  unfold k0_part28_skel
  refine Ev.bind (Ev.push (hk _ _)) ?_
  refine Ev.bind Ev.junk ?_
  refine Ev.bind (Ev.load0 (plOf w3 w4 w5 w6).s0 0 0 rfl) ?_
  exact Ev.pure' rfl

theorem ev_part29 {hw : k0_chk1 w3 w4 w5 w6} {v783 : IVec S8x8x256 32} {v1104 : FVec F S64x256 .bf16} {v1110 : Vec F S32x256 .bf16} {v1416 : IVec S8x256 32} {v1420 : IVec S8x256 32} {v1424 : IVec S8x256 32} {v1428 : IVec S8x256 32} {s s' : Mxu F} (hk : Clean s) (hs : (stJ 0 0 16 fits_16_32 v1104 s (k0_pay132 (F := F) v783 v1416 v1420 v1424 v1428) v1110) = s') :
    Ev c (Rc c (rowW t1 t2) t1.val t2.val G U X) (k0_part29 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v783 t1 t2 v1104 v1110 s v1416 v1420 v1424 v1428 : Pr F _)
      ⟨k0_pay129 (ldW U t1.val t2.val (plOf w3 w4 w5 w6).s0 0 0), k0_pay130 (ldW U t1.val t2.val (plOf w3 w4 w5 w6).s0 0 0), k0_pay131 (ldW U t1.val t2.val (plOf w3 w4 w5 w6).s0 0 0), s', k0_pay133 v783 (ldW U t1.val t2.val (plOf w3 w4 w5 w6).s0 0 0)⟩ := by
  subst hs
  rw [k0_part29_eq_skeleton]
  unfold k0_part29_skel
  refine Ev.bind (Ev.load1 (plOf w3 w4 w5 w6).s0 0 0 rfl) ?_
  refine Ev.bind (Ev.push (hk _ _)) ?_
  refine Ev.bind Ev.junk ?_
  exact Ev.pure' rfl

theorem ev_part30 {hw : k0_chk1 w3 w4 w5 w6} {v136 : BitVec 32} {v783 : IVec S8x8x256 32} {v1061 : BitVec 32} {v1104 : FVec F S64x256 .bf16} {v1110 : Vec F S32x256 .bf16} {v1438 : IVec S8x256 32} {v1442 : IVec S8x256 32} {v1446 : IVec S8x256 32} {v1480 : IVec S64x256 32} {s s' : Mxu F} (hk : Clean s) (hs : (stJ 1 0 16 fits_16_32 v1104 s (k0_pay134 (F := F) v783 v1438 v1442 v1446 v1480) v1110) = s') :
    Ev c (Rc c (rowW t1 t2) t1.val t2.val G U X) (k0_part30 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v136 v783 t1 t2 v1061 v1104 v1110 v1438 v1442 v1446 s v1480 : Pr F _)
      ⟨s', k0_pay136 (ldW G t1.val t2.val (plOf w3 w4 w5 w6).s1 0 0), k0_pay137 (ldW G t1.val t2.val (plOf w3 w4 w5 w6).s1 0 0), k0_pay138 (ldW G t1.val t2.val (plOf w3 w4 w5 w6).s1 0 0), k0_pay139 (ldW G t1.val t2.val (plOf w3 w4 w5 w6).s1 0 0)⟩ := by
  subst hs
  rw [k0_part30_eq_skeleton]
  unfold k0_part30_skel
  refine Ev.bind (Ev.push (hk _ _)) ?_
  refine Ev.bind Ev.junk ?_
  refine Ev.bind (Ev.load0 (plOf w3 w4 w5 w6).s1 0 0 rfl) ?_
  exact Ev.pure' rfl

theorem ev_part31 {hw : k0_chk1 w3 w4 w5 w6} {v783 : IVec S8x8x256 32} {v1104 : FVec F S64x256 .bf16} {v1110 : Vec F S32x256 .bf16} {v1510 : IVec S8x256 32} {v1514 : IVec S8x256 32} {v1518 : IVec S8x256 32} {v1522 : IVec S8x256 32} {s s' : Mxu F} (hk : Clean s) (hs : (stJ 0 1 24 fits_24_32 v1104 s (k0_pay144 (F := F) v783 v1510 v1514 v1518 v1522) v1110) = s') :
    Ev c (Rc c (rowW t1 t2) t1.val t2.val G U X) (k0_part31 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v783 t1 t2 v1104 v1110 s v1510 v1514 v1518 v1522 : Pr F _)
      ⟨k0_pay141 (ldW U t1.val t2.val (plOf w3 w4 w5 w6).s1 0 0), k0_pay142 (ldW U t1.val t2.val (plOf w3 w4 w5 w6).s1 0 0), k0_pay143 (ldW U t1.val t2.val (plOf w3 w4 w5 w6).s1 0 0), s', k0_pay145 v783 (ldW U t1.val t2.val (plOf w3 w4 w5 w6).s1 0 0)⟩ := by
  subst hs
  rw [k0_part31_eq_skeleton]
  unfold k0_part31_skel
  refine Ev.bind (Ev.load1 (plOf w3 w4 w5 w6).s1 0 0 rfl) ?_
  refine Ev.bind (Ev.push (hk _ _)) ?_
  refine Ev.bind Ev.junk ?_
  exact Ev.pure' rfl

theorem ev_part32 {hw : k0_chk1 w3 w4 w5 w6} {v138 : BitVec 32} {v783 : IVec S8x8x256 32} {v1061 : BitVec 32} {v1104 : FVec F S64x256 .bf16} {v1110 : Vec F S32x256 .bf16} {v1532 : IVec S8x256 32} {v1536 : IVec S8x256 32} {v1540 : IVec S8x256 32} {v1574 : IVec S64x256 32} {s s' : Mxu F} (hk : Clean s) (hs : (stJ 1 1 24 fits_24_32 v1104 s (k0_pay146 (F := F) v783 v1532 v1536 v1540 v1574) v1110) = s') :
    Ev c (Rc c (rowW t1 t2) t1.val t2.val G U X) (k0_part32 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v138 v783 t1 t2 v1061 v1104 v1110 v1532 v1536 v1540 s v1574 : Pr F _)
      ⟨s', k0_pay148 (ldW G t1.val t2.val (plOf w3 w4 w5 w6).s2 0 0), k0_pay149 (ldW G t1.val t2.val (plOf w3 w4 w5 w6).s2 0 0), k0_pay150 (ldW G t1.val t2.val (plOf w3 w4 w5 w6).s2 0 0), k0_pay151 (ldW G t1.val t2.val (plOf w3 w4 w5 w6).s2 0 0)⟩ := by
  subst hs
  rw [k0_part32_eq_skeleton]
  unfold k0_part32_skel
  refine Ev.bind (Ev.push (hk _ _)) ?_
  refine Ev.bind Ev.junk ?_
  refine Ev.bind (Ev.load0 (plOf w3 w4 w5 w6).s2 0 0 rfl) ?_
  exact Ev.pure' rfl

theorem ev_part33 {hw : k0_chk1 w3 w4 w5 w6} {v783 : IVec S8x8x256 32} {v1104 : FVec F S64x256 .bf16} {v1110 : Vec F S32x256 .bf16} {v1604 : IVec S8x256 32} {v1608 : IVec S8x256 32} {v1612 : IVec S8x256 32} {v1616 : IVec S8x256 32} {s s' : Mxu F} (hk : Clean s) (hs : (stJ 0 0 32 fits_32_32 v1104 s (k0_pay156 (F := F) v783 v1604 v1608 v1612 v1616) v1110) = s') :
    Ev c (Rc c (rowW t1 t2) t1.val t2.val G U X) (k0_part33 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v783 t1 t2 v1104 v1110 s v1604 v1608 v1612 v1616 : Pr F _)
      ⟨k0_pay153 (ldW U t1.val t2.val (plOf w3 w4 w5 w6).s2 0 0), k0_pay154 (ldW U t1.val t2.val (plOf w3 w4 w5 w6).s2 0 0), k0_pay155 (ldW U t1.val t2.val (plOf w3 w4 w5 w6).s2 0 0), s', k0_pay157 v783 (ldW U t1.val t2.val (plOf w3 w4 w5 w6).s2 0 0)⟩ := by
  subst hs
  rw [k0_part33_eq_skeleton]
  unfold k0_part33_skel
  refine Ev.bind (Ev.load1 (plOf w3 w4 w5 w6).s2 0 0 rfl) ?_
  refine Ev.bind (Ev.push (hk _ _)) ?_
  refine Ev.bind Ev.junk ?_
  exact Ev.pure' rfl

theorem ev_part34 {v783 : IVec S8x8x256 32} {v1061 : BitVec 32} {v1104 : FVec F S64x256 .bf16} {v1110 : Vec F S32x256 .bf16} {v1626 : IVec S8x256 32} {v1630 : IVec S8x256 32} {v1634 : IVec S8x256 32} {v1668 : IVec S64x256 32} {s s' : Mxu F} (hk : Clean s) (hs : (stJ 1 0 32 fits_32_32 v1104 s (k0_pay158 (F := F) v783 v1626 v1630 v1634 v1668) v1110) = s') :
    Ev c (Rc c (rowW t1 t2) t1.val t2.val G U X) (k0_part34 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 v1061 v1104 v1110 v1626 v1630 v1634 s v1668 : Pr F _)
      ⟨s', k0_pay159 (ldW G t1.val t2.val 0 0 1), k0_pay160 (ldW G t1.val t2.val 1 0 1), k0_pay161 (ldW G t1.val t2.val 2 0 1), k0_pay162 (ldW G t1.val t2.val 0 0 1) (ldW G t1.val t2.val 1 0 1), k0_pay163⟩ := by
  subst hs
  rw [k0_part34_eq_skeleton]
  unfold k0_part34_skel
  refine Ev.bind (Ev.push (hk _ _)) ?_
  refine Ev.bind Ev.junk ?_
  refine Ev.bind (Ev.load0 0 0 1 rfl) ?_
  refine Ev.bind (Ev.load0 1 0 1 rfl) ?_
  refine Ev.bind (Ev.load0 2 0 1 rfl) ?_
  exact Ev.pure' rfl

theorem ev_part35 {v1061 : BitVec 32} {v1695 : IVec S8x256 32} {v1698 : IVec S8x256 32} {v1701 : IVec S8x256 32} {v1708 : IVec S8x256 32} {v1709 : IVec S8x256 32} :
    Ev c (Rc c (rowW t1 t2) t1.val t2.val G U X) (k0_part35 arg0 harg0 arg1 harg1 arg2 harg2 arg3 harg3 arg4 harg4 arg5 harg5 arg6 harg6 arg7 harg7 arg8 harg8 (Memref.whole cc0_scratch0) h9 (Memref.whole cc0_scratch1) h10 arg11 harg11 arg12 v1061 v1695 v1698 v1701 v1708 v1709 : Pr F _)
      ⟨k0_pay165 v1701 v1708, k0_pay166 v1695 v1698 v1701 v1709, k0_pay167 v1701 v1708, k0_pay168 v1695 v1698 v1701 v1709⟩ := by
  rw [k0_part35_eq_skeleton]
  unfold k0_part35_skel
  exact Ev.pure' rfl

theorem ev_part36 {v1061 : BitVec 32} :
    Ev c (Rc c (rowW t1 t2) t1.val t2.val G U X) (k0_part36 arg0 harg0 arg1 harg1 arg2 harg2 arg3 harg3 arg4 harg4 arg5 harg5 arg6 harg6 arg7 harg7 arg8 harg8 (Memref.whole cc0_scratch0) h9 (Memref.whole cc0_scratch1) h10 arg11 harg11 arg12 t1 t2 v1061 : Pr F _)
      ⟨k0_pay171 (ldW U t1.val t2.val 2 0 1), k0_pay172 (ldW U t1.val t2.val 0 0 1) (ldW U t1.val t2.val 1 0 1), k0_pay173 (ldW U t1.val t2.val 0 0 1) (ldW U t1.val t2.val 1 0 1), k0_pay174 (ldW U t1.val t2.val 0 0 1) (ldW U t1.val t2.val 1 0 1) (ldW U t1.val t2.val 2 0 1), k0_pay175 (ldW U t1.val t2.val 0 0 1) (ldW U t1.val t2.val 1 0 1), k0_pay176 (ldW U t1.val t2.val 2 0 1)⟩ := by
  rw [k0_part36_eq_skeleton]
  unfold k0_part36_skel
  refine Ev.bind (Ev.load1 0 0 1 rfl) ?_
  refine Ev.bind (Ev.load1 1 0 1 rfl) ?_
  refine Ev.bind (Ev.load1 2 0 1 rfl) ?_
  exact Ev.pure' rfl

theorem ev_part37 {v783 : IVec S8x8x256 32} {v1104 : FVec F S64x256 .bf16} {v1110 : Vec F S32x256 .bf16} {v1722 : IVec S8x256 32} {v1731 : IVec S8x256 32} {v1740 : IVec S8x256 32} {v1749 : IVec S8x256 32} {v1758 : IVec S8x256 32} {v1765 : IVec S8x256 32} {v1772 : IVec S8x256 32} {v1779 : IVec S8x256 32} {v1783 : IVec S8x256 32} {v1787 : IVec S8x256 32} {s s' : Mxu F} (hk : Clean s) (hs : (stJ 0 1 48 fits_48_32 v1104 s (k0_pay180 (F := F) v783 v1722 v1731 v1740 v1749) v1110) = s') :
    Ev c (Rc c (rowW t1 t2) t1.val t2.val G U X) (k0_part37 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v1110 s v1722 v1731 v1740 v1749 v1758 v1765 v1772 v1779 v1783 v1787 : Pr F _)
      ⟨k0_pay177 v1783 v1787, k0_pay178 v1758 v1765, k0_pay179 v1758 v1772, s', k0_pay181 v1779⟩ := by
  subst hs
  rw [k0_part37_eq_skeleton]
  unfold k0_part37_skel
  refine Ev.bind (Ev.push (hk _ _)) ?_
  refine Ev.bind Ev.junk ?_
  exact Ev.pure' rfl

theorem ev_part38 {hw : k0_chk1 w3 w4 w5 w6} {v132 : BitVec 32} {v783 : IVec S8x8x256 32} {v1061 : BitVec 32} {v1104 : FVec F S64x256 .bf16} {v1110 : Vec F S32x256 .bf16} {v1788 : IVec S8x256 32} {v1797 : IVec S8x256 32} {v1806 : IVec S8x256 32} {v1836 : IVec S8x1x256 32} {s s' : Mxu F} (hk : Clean s) (hs : (stJ 1 1 48 fits_48_32 v1104 s (k0_pay182 (F := F) v783 v1788 v1797 v1806 v1836) v1110) = s') :
    Ev c (Rc c (rowW t1 t2) t1.val t2.val G U X) (k0_part38 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v132 v783 t1 t2 v1061 v1104 v1110 v1788 v1797 v1806 s v1836 : Pr F _)
      ⟨s', k0_pay184 (ldW G t1.val t2.val (plOf w3 w4 w5 w6).lo 0 1), k0_pay185 (ldW G t1.val t2.val (plOf w3 w4 w5 w6).hi 0 1) (ldW G t1.val t2.val (plOf w3 w4 w5 w6).lo 0 1), k0_pay186 (ldW G t1.val t2.val (plOf w3 w4 w5 w6).hi 0 1)⟩ := by
  subst hs
  rw [k0_part38_eq_skeleton]
  unfold k0_part38_skel
  refine Ev.bind (Ev.push (hk _ _)) ?_
  refine Ev.bind Ev.junk ?_
  refine Ev.bind (Ev.load0 (plOf w3 w4 w5 w6).hi 0 1 rfl) ?_
  refine Ev.bind (Ev.load0 (plOf w3 w4 w5 w6).lo 0 1 rfl) ?_
  exact Ev.pure' rfl

theorem ev_part39 {hw : k0_chk1 w3 w4 w5 w6} {v132 : BitVec 32} {v1061 : BitVec 32} {v1873 : IVec S8x256 32} {v1880 : IVec S8x256 32} {v1882 : IVec S8x256 32} :
    Ev c (Rc c (rowW t1 t2) t1.val t2.val G U X) (k0_part39 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v132 t1 t2 v1061 v1873 v1880 v1882 : Pr F _)
      ⟨k0_pay188 v1880, k0_pay189 v1873 v1882, k0_pay190 v1880, k0_pay191 v1873 v1882, k0_pay194 (ldW U t1.val t2.val (plOf w3 w4 w5 w6).hi 0 1) (ldW U t1.val t2.val (plOf w3 w4 w5 w6).lo 0 1), k0_pay195 (ldW U t1.val t2.val (plOf w3 w4 w5 w6).hi 0 1), k0_pay196 (ldW U t1.val t2.val (plOf w3 w4 w5 w6).lo 0 1)⟩ := by
  rw [k0_part39_eq_skeleton]
  unfold k0_part39_skel
  refine Ev.bind (Ev.load1 (plOf w3 w4 w5 w6).hi 0 1 rfl) ?_
  refine Ev.bind (Ev.load1 (plOf w3 w4 w5 w6).lo 0 1 rfl) ?_
  exact Ev.pure' rfl

theorem ev_part40 {v783 : IVec S8x8x256 32} {v1104 : FVec F S64x256 .bf16} {v1110 : Vec F S32x256 .bf16} {v1889 : IVec S8x256 32} {v1891 : IVec S8x256 32} {v1895 : IVec S8x256 32} {v1899 : IVec S8x256 32} {v1915 : IVec S8x256 32} {v1917 : IVec S8x256 32} {v1921 : IVec S8x256 32} {s s' : Mxu F} (hk : Clean s) (hs : (stJ 0 0 56 fits_56_32 v1104 s (k0_pay200 (F := F) v783 v1889 v1891 v1895 v1899) v1110) = s') :
    Ev c (Rc c (rowW t1 t2) t1.val t2.val G U X) (k0_part40 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v1110 s v1889 v1891 v1895 v1899 v1915 v1917 v1921 : Pr F _)
      ⟨k0_pay198 v1915, k0_pay199 v1917 v1921, s', k0_pay201 (F := F) v783 v1915, k0_pay202 v1917 v1921⟩ := by
  subst hs
  rw [k0_part40_eq_skeleton]
  unfold k0_part40_skel
  refine Ev.bind (Ev.push (hk _ _)) ?_
  refine Ev.bind Ev.junk ?_
  exact Ev.pure' rfl

theorem ev_part41 {hw : k0_chk1 w3 w4 w5 w6} {v134 : BitVec 32} {v783 : IVec S8x8x256 32} {v1061 : BitVec 32} {v1104 : FVec F S64x256 .bf16} {v1110 : Vec F S32x256 .bf16} {v1930 : IVec S8x256 32} {v1934 : IVec S8x256 32} {v1970 : FVec F S64x256 .bf16} {v1972 : IVec S8x1x256 32} {s s' : Mxu F} (hk : Clean s) (hs : (stJ 1 0 56 fits_56_32 v1104 s (k0_pay203 v783 v1930 v1934 v1970 v1972) v1110) = s') :
    Ev c (Rc c (rowW t1 t2) t1.val t2.val G U X) (k0_part41 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v134 v783 t1 t2 v1061 v1104 v1110 v1930 v1934 s v1970 v1972 : Pr F _)
      ⟨s', k0_pay205 (ldW G t1.val t2.val (plOf w3 w4 w5 w6).s0 0 1), k0_pay206 (ldW G t1.val t2.val (plOf w3 w4 w5 w6).s0 0 1), k0_pay207 (ldW G t1.val t2.val (plOf w3 w4 w5 w6).s0 0 1), k0_pay208 (ldW G t1.val t2.val (plOf w3 w4 w5 w6).s0 0 1), k0_pay209 (ldW U t1.val t2.val (plOf w3 w4 w5 w6).s0 0 1), k0_pay210⟩ := by
  subst hs
  rw [k0_part41_eq_skeleton]
  unfold k0_part41_skel
  refine Ev.bind (Ev.push (hk _ _)) ?_
  refine Ev.bind Ev.junk ?_
  refine Ev.bind (Ev.load0 (plOf w3 w4 w5 w6).s0 0 1 rfl) ?_
  refine Ev.bind (Ev.load1 (plOf w3 w4 w5 w6).s0 0 1 rfl) ?_
  exact Ev.pure' rfl

theorem ev_part42 {v783 : IVec S8x8x256 32} {v1104 : FVec F S64x256 .bf16} {v1110 : Vec F S32x256 .bf16} {v1998 : IVec S8x256 32} {v2002 : IVec S8x256 32} {v2006 : IVec S8x256 32} {v2010 : IVec S8x256 32} {v2014 : IVec S8x256 32} {v2015 : IVec S8x256 32} {s s' : Mxu F} (hk : Clean s) (hs : (stJ 0 1 64 fits_64_32 v1104 s (k0_pay213 (F := F) v783 v1998 v2002 v2006 v2010) v1110) = s') :
    Ev c (Rc c (rowW t1 t2) t1.val t2.val G U X) (k0_part42 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v1110 s v1998 v2002 v2006 v2010 v2014 v2015 : Pr F _)
      ⟨k0_pay211 v2014, k0_pay212 v2014, s', k0_pay214 (F := F) v783 v2014 v2015, k0_pay215 v2014⟩ := by
  subst hs
  rw [k0_part42_eq_skeleton]
  unfold k0_part42_skel
  refine Ev.bind (Ev.push (hk _ _)) ?_
  refine Ev.bind Ev.junk ?_
  exact Ev.pure' rfl

theorem ev_part43 {hw : k0_chk1 w3 w4 w5 w6} {v136 : BitVec 32} {v783 : IVec S8x8x256 32} {v1061 : BitVec 32} {v1104 : FVec F S64x256 .bf16} {v1110 : Vec F S32x256 .bf16} {v2024 : IVec S8x256 32} {v2028 : IVec S8x256 32} {v2064 : FVec F S64x256 .bf16} {v2066 : IVec S8x1x256 32} {s s' : Mxu F} (hk : Clean s) (hs : (stJ 1 1 64 fits_64_32 v1104 s (k0_pay216 v783 v2024 v2028 v2064 v2066) v1110) = s') :
    Ev c (Rc c (rowW t1 t2) t1.val t2.val G U X) (k0_part43 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v136 v783 t1 t2 v1061 v1104 v1110 v2024 v2028 s v2064 v2066 : Pr F _)
      ⟨s', k0_pay218 (ldW G t1.val t2.val (plOf w3 w4 w5 w6).s1 0 1), k0_pay219 (ldW G t1.val t2.val (plOf w3 w4 w5 w6).s1 0 1), k0_pay220 (ldW G t1.val t2.val (plOf w3 w4 w5 w6).s1 0 1), k0_pay221 (ldW G t1.val t2.val (plOf w3 w4 w5 w6).s1 0 1), k0_pay222 (ldW U t1.val t2.val (plOf w3 w4 w5 w6).s1 0 1), k0_pay223⟩ := by
  subst hs
  rw [k0_part43_eq_skeleton]
  unfold k0_part43_skel
  refine Ev.bind (Ev.push (hk _ _)) ?_
  refine Ev.bind Ev.junk ?_
  refine Ev.bind (Ev.load0 (plOf w3 w4 w5 w6).s1 0 1 rfl) ?_
  refine Ev.bind (Ev.load1 (plOf w3 w4 w5 w6).s1 0 1 rfl) ?_
  exact Ev.pure' rfl

theorem ev_part44 {v783 : IVec S8x8x256 32} {v1104 : FVec F S64x256 .bf16} {v1110 : Vec F S32x256 .bf16} {v2092 : IVec S8x256 32} {v2096 : IVec S8x256 32} {v2100 : IVec S8x256 32} {v2104 : IVec S8x256 32} {v2108 : IVec S8x256 32} {v2109 : IVec S8x256 32} {s s' : Mxu F} (hk : Clean s) (hs : (stJ 0 0 72 fits_72_32 v1104 s (k0_pay226 (F := F) v783 v2092 v2096 v2100 v2104) v1110) = s') :
    Ev c (Rc c (rowW t1 t2) t1.val t2.val G U X) (k0_part44 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v1110 s v2092 v2096 v2100 v2104 v2108 v2109 : Pr F _)
      ⟨k0_pay224 v2108, k0_pay225 v2108, s', k0_pay227 (F := F) v783 v2108 v2109, k0_pay228 v2108⟩ := by
  subst hs
  rw [k0_part44_eq_skeleton]
  unfold k0_part44_skel
  refine Ev.bind (Ev.push (hk _ _)) ?_
  refine Ev.bind Ev.junk ?_
  exact Ev.pure' rfl

theorem ev_part45 {hw : k0_chk1 w3 w4 w5 w6} {v138 : BitVec 32} {v783 : IVec S8x8x256 32} {v1061 : BitVec 32} {v1104 : FVec F S64x256 .bf16} {v1110 : Vec F S32x256 .bf16} {v2118 : IVec S8x256 32} {v2122 : IVec S8x256 32} {v2158 : FVec F S64x256 .bf16} {v2160 : IVec S8x1x256 32} {s s' : Mxu F} (hk : Clean s) (hs : (stJ 1 0 72 fits_72_32 v1104 s (k0_pay229 v783 v2118 v2122 v2158 v2160) v1110) = s') :
    Ev c (Rc c (rowW t1 t2) t1.val t2.val G U X) (k0_part45 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v138 v783 t1 t2 v1061 v1104 v1110 v2118 v2122 s v2158 v2160 : Pr F _)
      ⟨s', k0_pay231 (ldW G t1.val t2.val (plOf w3 w4 w5 w6).s2 0 1), k0_pay232 (ldW G t1.val t2.val (plOf w3 w4 w5 w6).s2 0 1), k0_pay233 (ldW G t1.val t2.val (plOf w3 w4 w5 w6).s2 0 1), k0_pay234 (ldW G t1.val t2.val (plOf w3 w4 w5 w6).s2 0 1), k0_pay235 (ldW U t1.val t2.val (plOf w3 w4 w5 w6).s2 0 1), k0_pay236⟩ := by
  subst hs
  rw [k0_part45_eq_skeleton]
  unfold k0_part45_skel
  refine Ev.bind (Ev.push (hk _ _)) ?_
  refine Ev.bind Ev.junk ?_
  refine Ev.bind (Ev.load0 (plOf w3 w4 w5 w6).s2 0 1 rfl) ?_
  refine Ev.bind (Ev.load1 (plOf w3 w4 w5 w6).s2 0 1 rfl) ?_
  exact Ev.pure' rfl

theorem ev_part46 {v783 : IVec S8x8x256 32} {v1104 : FVec F S64x256 .bf16} {v1110 : Vec F S32x256 .bf16} {v2186 : IVec S8x256 32} {v2190 : IVec S8x256 32} {v2194 : IVec S8x256 32} {v2198 : IVec S8x256 32} {v2202 : IVec S8x256 32} {v2203 : IVec S8x256 32} {s s' : Mxu F} (hk : Clean s) (hs : (stJ 0 1 80 fits_80_32 v1104 s (k0_pay239 (F := F) v783 v2186 v2190 v2194 v2198) v1110) = s') :
    Ev c (Rc c (rowW t1 t2) t1.val t2.val G U X) (k0_part46 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v1110 s v2186 v2190 v2194 v2198 v2202 v2203 : Pr F _)
      ⟨k0_pay237 v2202, k0_pay238 v2202, s', k0_pay240 (F := F) v783 v2202 v2203, k0_pay241 v2202⟩ := by
  subst hs
  rw [k0_part46_eq_skeleton]
  unfold k0_part46_skel
  refine Ev.bind (Ev.push (hk _ _)) ?_
  refine Ev.bind Ev.junk ?_
  exact Ev.pure' rfl

theorem ev_part47 {v783 : IVec S8x8x256 32} {arg15 : BitVec 32} {v1061 : BitVec 32} {v1104 : FVec F S64x256 .bf16} {v1110 : Vec F S32x256 .bf16} {v2212 : IVec S8x256 32} {v2216 : IVec S8x256 32} {v2252 : FVec F S64x256 .bf16} {v2254 : IVec S8x1x256 32} {s s' : Mxu F} (hk : Clean s) (hs : (stJ 1 1 80 fits_80_32 v1104 s (k0_pay242 v783 v2212 v2216 v2252 v2254) v1110) = s') :
    Ev c (Rc c (rowW t1 t2) t1.val t2.val G U X) (k0_part47 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 arg15 v1061 v1104 v1110 v2212 v2216 s v2252 v2254 : Pr F _)
      ⟨s', (ldX X t2.val 1), k0_pay243 (ldW G t1.val t2.val 0 1 0), k0_pay244 (ldW G t1.val t2.val 1 1 0), k0_pay245 (ldW G t1.val t2.val 2 1 0), k0_pay246 (ldW G t1.val t2.val 0 1 0), 1431655765#32⟩ := by
  subst hs
  rw [k0_part47_eq_skeleton]
  unfold k0_part47_skel
  refine Ev.bind (Ev.push (hk _ _)) ?_
  refine Ev.bind Ev.junk ?_
  refine Ev.bind (Ev.loadX 1 (xoff1 _)) ?_
  refine Ev.bind (Ev.load0 0 1 0 rfl) ?_
  refine Ev.bind (Ev.load0 1 1 0 rfl) ?_
  refine Ev.bind (Ev.load0 2 1 0 rfl) ?_
  exact Ev.pure' rfl

theorem ev_part48 {v2283 : IVec S8x256 32} {v2286 : IVec S8x256 32} {v2289 : IVec S8x256 32} {v2293 : IVec S8x256 32} {c1431655765_i32_709 : BitVec 32} :
    Ev c (Rc c (rowW t1 t2) t1.val t2.val G U X) (k0_part48 arg0 harg0 arg1 harg1 arg2 harg2 arg3 harg3 arg4 harg4 arg5 harg5 arg6 harg6 arg7 harg7 arg8 harg8 (Memref.whole cc0_scratch0) h9 (Memref.whole cc0_scratch1) h10 arg11 harg11 arg12 v2283 v2286 v2289 v2293 c1431655765_i32_709 : Pr F _)
      ⟨k0_pay249 v2286 v2289 v2293 c1431655765_i32_709, k0_pay250 v2283 v2286 v2289, k0_pay251 v2286 v2289 v2293 c1431655765_i32_709, k0_pay252 v2283 v2286, k0_pay253 v2289, k0_pay254⟩ := by
  rw [k0_part48_eq_skeleton]
  unfold k0_part48_skel
  exact Ev.pure' rfl

theorem ev_part49 {v1061 : BitVec 32} {v2332 : IVec S8x256 32} {v2334 : IVec S8x256 32} {v2335 : IVec S8x256 32} :
    Ev c (Rc c (rowW t1 t2) t1.val t2.val G U X) (k0_part49 arg0 harg0 arg1 harg1 arg2 harg2 arg3 harg3 arg4 harg4 arg5 harg5 arg6 harg6 arg7 harg7 arg8 harg8 (Memref.whole cc0_scratch0) h9 (Memref.whole cc0_scratch1) h10 arg11 harg11 arg12 t1 t2 v1061 v2332 v2334 v2335 : Pr F _)
      ⟨k0_pay255 v2332 v2334 v2335, k0_pay258 (ldW U t1.val t2.val 2 1 0), k0_pay259 (ldW U t1.val t2.val 0 1 0) (ldW U t1.val t2.val 1 1 0), k0_pay260 (ldW U t1.val t2.val 0 1 0) (ldW U t1.val t2.val 1 1 0), k0_pay261 (ldW U t1.val t2.val 0 1 0) (ldW U t1.val t2.val 1 1 0) (ldW U t1.val t2.val 2 1 0), k0_pay262 (ldW U t1.val t2.val 0 1 0) (ldW U t1.val t2.val 1 1 0), 1#32⟩ := by
  rw [k0_part49_eq_skeleton]
  unfold k0_part49_skel
  refine Ev.bind (Ev.load1 0 1 0 rfl) ?_
  refine Ev.bind (Ev.load1 1 1 0 rfl) ?_
  refine Ev.bind (Ev.load1 2 1 0 rfl) ?_
  exact Ev.pure' rfl

theorem ev_part50 {v783 : IVec S8x8x256 32} {v2310 : IVec S8x256 32} {v2319 : IVec S8x256 32} {v2328 : IVec S8x256 32} {v2337 : IVec S8x256 32} {v2346 : IVec S8x256 32} {v2353 : IVec S8x256 32} {v2360 : IVec S8x256 32} {v2371 : IVec S8x256 32} {c1_i32_751 : BitVec 32} :
    Ev c (Rc c (rowW t1 t2) t1.val t2.val G U X) (k0_part50 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v2310 v2319 v2328 v2337 v2346 v2353 v2360 v2371 c1_i32_751 : Pr F _)
      ⟨k0_pay263 v2346 v2371 c1_i32_751, k0_pay264 v2346 v2353, k0_pay265 v2346 v2360, k0_pay266 (F := F) v783 v2310, k0_pay267 (F := F) v783 v2319, k0_pay268 (F := F) v783 v2328, k0_pay269 (F := F) v783 v2337⟩ := by
  rw [k0_part50_eq_skeleton]
  unfold k0_part50_skel
  exact Ev.pure' rfl

theorem ev_part51 {hw : k0_chk1 w3 w4 w5 w6} {v132 : BitVec 32} {v783 : IVec S8x8x256 32} {v1061 : BitVec 32} {v1104 : FVec F S64x256 .bf16} {v2280 : Vec F S32x256 .bf16} {v2367 : IVec S8x256 32} {v2376 : IVec S8x256 32} {v2385 : IVec S8x256 32} {v2394 : IVec S8x256 32} {v2401 : FVec F S64x256 .bf16} {v2408 : FVec F S64x256 .bf16} {v2415 : FVec F S64x256 .bf16} {v2422 : FVec F S64x256 .bf16} {s s' : Mxu F} (hk : Clean s) (hs : (stJ 1 0 0 fits_0_32 v1104 (stJ 0 0 0 fits_0_32 v1104 s (k0_pay270 v2401 v2408 v2415 v2422) v2280) (k0_pay271 (F := F) v783 v2367 v2376 v2385 v2394) v2280) = s') :
    Ev c (Rc c (rowW t1 t2) t1.val t2.val G U X) (k0_part51 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v132 v783 t1 t2 v1061 v1104 s v2280 v2367 v2376 v2385 v2394 v2401 v2408 v2415 v2422 : Pr F _)
      ⟨s', k0_pay272 (ldW G t1.val t2.val (plOf w3 w4 w5 w6).hi 1 0), k0_pay273 (ldW G t1.val t2.val (plOf w3 w4 w5 w6).lo 1 0), k0_pay274 (ldW G t1.val t2.val (plOf w3 w4 w5 w6).hi 1 0), k0_pay275⟩ := by
  subst hs
  rw [k0_part51_eq_skeleton]
  unfold k0_part51_skel
  refine Ev.bind (Ev.push (hk _ _)) ?_
  refine Ev.bind Ev.junk ?_
  refine Ev.bind (Ev.push ((hk.stJ) _ _)) ?_
  refine Ev.bind Ev.junk ?_
  refine Ev.bind (Ev.load0 (plOf w3 w4 w5 w6).hi 1 0 rfl) ?_
  refine Ev.bind (Ev.load0 (plOf w3 w4 w5 w6).lo 1 0 rfl) ?_
  exact Ev.pure' rfl

theorem ev_part52 {hw : k0_chk1 w3 w4 w5 w6} {v132 : BitVec 32} {v1061 : BitVec 32} {v2456 : IVec S8x256 32} {v2461 : IVec S8x256 32} {v2465 : IVec S8x256 32} {v2466 : IVec S8x256 32} :
    Ev c (Rc c (rowW t1 t2) t1.val t2.val G U X) (k0_part52 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v132 t1 t2 v1061 v2456 v2461 v2465 v2466 : Pr F _)
      ⟨k0_pay278 v2461 v2465 v2466, k0_pay279 v2456 v2461, k0_pay280 v2461 v2465 v2466, k0_pay281 v2456 v2461, k0_pay283 (ldW U t1.val t2.val (plOf w3 w4 w5 w6).lo 1 0), k0_pay284 (ldW U t1.val t2.val (plOf w3 w4 w5 w6).hi 1 0) (ldW U t1.val t2.val (plOf w3 w4 w5 w6).lo 1 0), k0_pay285 (ldW U t1.val t2.val (plOf w3 w4 w5 w6).hi 1 0), 1#32⟩ := by
  rw [k0_part52_eq_skeleton]
  unfold k0_part52_skel
  refine Ev.bind (Ev.load1 (plOf w3 w4 w5 w6).hi 1 0 rfl) ?_
  refine Ev.bind (Ev.load1 (plOf w3 w4 w5 w6).lo 1 0 rfl) ?_
  exact Ev.pure' rfl

theorem ev_part53 {v783 : IVec S8x8x256 32} {v1104 : FVec F S64x256 .bf16} {v2280 : Vec F S32x256 .bf16} {v2477 : IVec S8x256 32} {v2479 : IVec S8x256 32} {v2483 : IVec S8x256 32} {v2487 : IVec S8x256 32} {v2496 : IVec S8x256 32} {v2503 : IVec S8x256 32} {v2505 : IVec S8x256 32} {c1_i32_791 : BitVec 32} {s s' : Mxu F} (hk : Clean s) (hs : (stJ 0 1 8 fits_8_32 v1104 s (k0_pay290 (F := F) v783 v2477 v2479 v2483 v2487) v2280) = s') :
    Ev c (Rc c (rowW t1 t2) t1.val t2.val G U X) (k0_part53 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v2280 s v2477 v2479 v2483 v2487 v2496 v2503 v2505 c1_i32_791 : Pr F _)
      ⟨k0_pay287 v2496 v2505 c1_i32_791, k0_pay288 v2503, k0_pay289 v2496 v2505 c1_i32_791, s', k0_pay291 v783 v2503⟩ := by
  subst hs
  rw [k0_part53_eq_skeleton]
  unfold k0_part53_skel
  refine Ev.bind (Ev.push (hk _ _)) ?_
  refine Ev.bind Ev.junk ?_
  exact Ev.pure' rfl

theorem ev_part54 {hw : k0_chk1 w3 w4 w5 w6} {v134 : BitVec 32} {v783 : IVec S8x8x256 32} {v1061 : BitVec 32} {v1104 : FVec F S64x256 .bf16} {v2280 : Vec F S32x256 .bf16} {v2514 : IVec S8x256 32} {v2518 : IVec S8x256 32} {v2522 : IVec S8x256 32} {v2555 : IVec S8x8x256 32} {s s' : Mxu F} (hk : Clean s) (hs : (stJ 1 1 8 fits_8_32 v1104 s (k0_pay292 (F := F) v783 v2514 v2518 v2522 v2555) v2280) = s') :
    Ev c (Rc c (rowW t1 t2) t1.val t2.val G U X) (k0_part54 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v134 v783 t1 t2 v1061 v1104 v2280 v2514 v2518 v2522 s v2555 : Pr F _)
      ⟨s', k0_pay294 (ldW G t1.val t2.val (plOf w3 w4 w5 w6).s0 1 0), k0_pay295 (ldW G t1.val t2.val (plOf w3 w4 w5 w6).s0 1 0), k0_pay296 (ldW G t1.val t2.val (plOf w3 w4 w5 w6).s0 1 0), k0_pay297 (ldW G t1.val t2.val (plOf w3 w4 w5 w6).s0 1 0)⟩ := by
  subst hs
  rw [k0_part54_eq_skeleton]
  unfold k0_part54_skel
  refine Ev.bind (Ev.push (hk _ _)) ?_
  refine Ev.bind Ev.junk ?_
  refine Ev.bind (Ev.load0 (plOf w3 w4 w5 w6).s0 1 0 rfl) ?_
  exact Ev.pure' rfl

theorem ev_part55 {hw : k0_chk1 w3 w4 w5 w6} {v783 : IVec S8x8x256 32} {v1104 : FVec F S64x256 .bf16} {v2280 : Vec F S32x256 .bf16} {v2586 : IVec S8x256 32} {v2590 : IVec S8x256 32} {v2594 : IVec S8x256 32} {v2598 : IVec S8x256 32} {s s' : Mxu F} (hk : Clean s) (hs : (stJ 0 0 16 fits_16_32 v1104 s (k0_pay302 (F := F) v783 v2586 v2590 v2594 v2598) v2280) = s') :
    Ev c (Rc c (rowW t1 t2) t1.val t2.val G U X) (k0_part55 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v783 t1 t2 v1104 v2280 s v2586 v2590 v2594 v2598 : Pr F _)
      ⟨k0_pay299 (ldW U t1.val t2.val (plOf w3 w4 w5 w6).s0 1 0), k0_pay300 (ldW U t1.val t2.val (plOf w3 w4 w5 w6).s0 1 0), k0_pay301 (ldW U t1.val t2.val (plOf w3 w4 w5 w6).s0 1 0), s', k0_pay303 v783 (ldW U t1.val t2.val (plOf w3 w4 w5 w6).s0 1 0)⟩ := by
  subst hs
  rw [k0_part55_eq_skeleton]
  unfold k0_part55_skel
  refine Ev.bind (Ev.load1 (plOf w3 w4 w5 w6).s0 1 0 rfl) ?_
  refine Ev.bind (Ev.push (hk _ _)) ?_
  refine Ev.bind Ev.junk ?_
  exact Ev.pure' rfl

theorem ev_part56 {hw : k0_chk1 w3 w4 w5 w6} {v136 : BitVec 32} {v783 : IVec S8x8x256 32} {v1061 : BitVec 32} {v1104 : FVec F S64x256 .bf16} {v2280 : Vec F S32x256 .bf16} {v2608 : IVec S8x256 32} {v2612 : IVec S8x256 32} {v2616 : IVec S8x256 32} {v2649 : IVec S8x8x256 32} {s s' : Mxu F} (hk : Clean s) (hs : (stJ 1 0 16 fits_16_32 v1104 s (k0_pay304 (F := F) v783 v2608 v2612 v2616 v2649) v2280) = s') :
    Ev c (Rc c (rowW t1 t2) t1.val t2.val G U X) (k0_part56 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v136 v783 t1 t2 v1061 v1104 v2280 v2608 v2612 v2616 s v2649 : Pr F _)
      ⟨s', k0_pay306 (ldW G t1.val t2.val (plOf w3 w4 w5 w6).s1 1 0), k0_pay307 (ldW G t1.val t2.val (plOf w3 w4 w5 w6).s1 1 0), k0_pay308 (ldW G t1.val t2.val (plOf w3 w4 w5 w6).s1 1 0), k0_pay309 (ldW G t1.val t2.val (plOf w3 w4 w5 w6).s1 1 0)⟩ := by
  subst hs
  rw [k0_part56_eq_skeleton]
  unfold k0_part56_skel
  refine Ev.bind (Ev.push (hk _ _)) ?_
  refine Ev.bind Ev.junk ?_
  refine Ev.bind (Ev.load0 (plOf w3 w4 w5 w6).s1 1 0 rfl) ?_
  exact Ev.pure' rfl

end Cert.KernelIdeal.Hand
-- ==== Proof.PartsB.lean ====
/- The pieces of a chunk: the middle steps. -/
module

public import proofs.«01_k».proof.Proof.Codes

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

variable {arg0 : Memref sig .tc .smem S6 .i32} {harg0 : arg0.IsWhole}
variable {arg1 : Memref sig .tc .vmem S24x14336 .bf16} {harg1 : arg1.IsWhole}
variable {arg2 : Memref sig .tc .vmem S1x4096 .f32} {harg2 : arg2.IsWhole}
variable {arg3 : Memref sig .tc .vmem S1x4096 .f32} {harg3 : arg3.IsWhole}
variable {arg4 : Memref sig .tc .vmem S1x4096 .f32} {harg4 : arg4.IsWhole}
variable {arg5 : Memref sig .tc .vmem S1x4096 .f32} {harg5 : arg5.IsWhole}
variable {arg6 : Memref sig .tc .hbm S8x448x4096 .i32} {harg6 : arg6.IsWhole}
variable {arg7 : Memref sig .tc .hbm S8x448x4096 .i32} {harg7 : arg7.IsWhole}
variable {arg8 : Memref sig .tc .vmem S24x4096 .bf16} {harg8 : arg8.IsWhole}
variable {h9 : (Memref.whole cc0_scratch0).IsWhole}
variable {h10 : (Memref.whole cc0_scratch1).IsWhole}
variable {arg11 : Memref sig .tc .vmem S24x128 .f32} {harg11 : arg11.IsWhole}
variable {arg12 : DmaSems sig S3x2}
variable {c : Dev nD} {G U : Planes F} {X : Xp F} {w3 w4 w5 w6 : Elt F .i32} {t1 : Fin k0_t1_loop.trips} {t2 : Fin k0_t2_loop.trips}

theorem ev_part57 {hw : k0_chk1 w3 w4 w5 w6} {v783 : IVec S8x8x256 32} {v1104 : FVec F S64x256 .bf16} {v2280 : Vec F S32x256 .bf16} {v2680 : IVec S8x256 32} {v2684 : IVec S8x256 32} {v2688 : IVec S8x256 32} {v2692 : IVec S8x256 32} {s s' : Mxu F} (hk : Clean s) (hs : (stJ 0 1 24 fits_24_32 v1104 s (k0_pay314 (F := F) v783 v2680 v2684 v2688 v2692) v2280) = s') :
    Ev c (Rc c (rowW t1 t2) t1.val t2.val G U X) (k0_part57 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v783 t1 t2 v1104 v2280 s v2680 v2684 v2688 v2692 : Pr F _)
      ⟨k0_pay311 (ldW U t1.val t2.val (plOf w3 w4 w5 w6).s1 1 0), k0_pay312 (ldW U t1.val t2.val (plOf w3 w4 w5 w6).s1 1 0), k0_pay313 (ldW U t1.val t2.val (plOf w3 w4 w5 w6).s1 1 0), s', k0_pay315 v783 (ldW U t1.val t2.val (plOf w3 w4 w5 w6).s1 1 0)⟩ := by
  subst hs
  rw [k0_part57_eq_skeleton]
  unfold k0_part57_skel
  refine Ev.bind (Ev.load1 (plOf w3 w4 w5 w6).s1 1 0 rfl) ?_
  refine Ev.bind (Ev.push (hk _ _)) ?_
  refine Ev.bind Ev.junk ?_
  exact Ev.pure' rfl

theorem ev_part58 {hw : k0_chk1 w3 w4 w5 w6} {v138 : BitVec 32} {v783 : IVec S8x8x256 32} {v1061 : BitVec 32} {v1104 : FVec F S64x256 .bf16} {v2280 : Vec F S32x256 .bf16} {v2702 : IVec S8x256 32} {v2706 : IVec S8x256 32} {v2710 : IVec S8x256 32} {v2743 : IVec S8x8x256 32} {s s' : Mxu F} (hk : Clean s) (hs : (stJ 1 1 24 fits_24_32 v1104 s (k0_pay316 (F := F) v783 v2702 v2706 v2710 v2743) v2280) = s') :
    Ev c (Rc c (rowW t1 t2) t1.val t2.val G U X) (k0_part58 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v138 v783 t1 t2 v1061 v1104 v2280 v2702 v2706 v2710 s v2743 : Pr F _)
      ⟨s', k0_pay318 (ldW G t1.val t2.val (plOf w3 w4 w5 w6).s2 1 0), k0_pay319 (ldW G t1.val t2.val (plOf w3 w4 w5 w6).s2 1 0), k0_pay320 (ldW G t1.val t2.val (plOf w3 w4 w5 w6).s2 1 0), k0_pay321 (ldW G t1.val t2.val (plOf w3 w4 w5 w6).s2 1 0)⟩ := by
  subst hs
  rw [k0_part58_eq_skeleton]
  unfold k0_part58_skel
  refine Ev.bind (Ev.push (hk _ _)) ?_
  refine Ev.bind Ev.junk ?_
  refine Ev.bind (Ev.load0 (plOf w3 w4 w5 w6).s2 1 0 rfl) ?_
  exact Ev.pure' rfl

theorem ev_part59 {hw : k0_chk1 w3 w4 w5 w6} {v783 : IVec S8x8x256 32} {v1104 : FVec F S64x256 .bf16} {v2280 : Vec F S32x256 .bf16} {v2774 : IVec S8x256 32} {v2778 : IVec S8x256 32} {v2782 : IVec S8x256 32} {v2786 : IVec S8x256 32} {s s' : Mxu F} (hk : Clean s) (hs : (stJ 0 0 32 fits_32_32 v1104 s (k0_pay326 (F := F) v783 v2774 v2778 v2782 v2786) v2280) = s') :
    Ev c (Rc c (rowW t1 t2) t1.val t2.val G U X) (k0_part59 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v783 t1 t2 v1104 v2280 s v2774 v2778 v2782 v2786 : Pr F _)
      ⟨k0_pay323 (ldW U t1.val t2.val (plOf w3 w4 w5 w6).s2 1 0), k0_pay324 (ldW U t1.val t2.val (plOf w3 w4 w5 w6).s2 1 0), k0_pay325 (ldW U t1.val t2.val (plOf w3 w4 w5 w6).s2 1 0), s', k0_pay327 v783 (ldW U t1.val t2.val (plOf w3 w4 w5 w6).s2 1 0)⟩ := by
  subst hs
  rw [k0_part59_eq_skeleton]
  unfold k0_part59_skel
  refine Ev.bind (Ev.load1 (plOf w3 w4 w5 w6).s2 1 0 rfl) ?_
  refine Ev.bind (Ev.push (hk _ _)) ?_
  refine Ev.bind Ev.junk ?_
  exact Ev.pure' rfl

theorem ev_part60 {v783 : IVec S8x8x256 32} {v1061 : BitVec 32} {v1104 : FVec F S64x256 .bf16} {v2280 : Vec F S32x256 .bf16} {v2796 : IVec S8x256 32} {v2800 : IVec S8x256 32} {v2804 : IVec S8x256 32} {v2837 : IVec S8x8x256 32} {s s' : Mxu F} (hk : Clean s) (hs : (stJ 1 0 32 fits_32_32 v1104 s (k0_pay328 (F := F) v783 v2796 v2800 v2804 v2837) v2280) = s') :
    Ev c (Rc c (rowW t1 t2) t1.val t2.val G U X) (k0_part60 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 v1061 v1104 v2280 v2796 v2800 v2804 s v2837 : Pr F _)
      ⟨s', k0_pay329 (ldW G t1.val t2.val 0 1 1), k0_pay330 (ldW G t1.val t2.val 1 1 1), k0_pay331 (ldW G t1.val t2.val 2 1 1), k0_pay332 (ldW G t1.val t2.val 0 1 1) (ldW G t1.val t2.val 1 1 1), 2863311530#32⟩ := by
  subst hs
  rw [k0_part60_eq_skeleton]
  unfold k0_part60_skel
  refine Ev.bind (Ev.push (hk _ _)) ?_
  refine Ev.bind Ev.junk ?_
  refine Ev.bind (Ev.load0 0 1 1 rfl) ?_
  refine Ev.bind (Ev.load0 1 1 1 rfl) ?_
  refine Ev.bind (Ev.load0 2 1 1 rfl) ?_
  exact Ev.pure' rfl

theorem ev_part61 {v1061 : BitVec 32} {v2865 : IVec S8x256 32} {v2868 : IVec S8x256 32} {v2871 : IVec S8x256 32} {v2878 : IVec S8x256 32} {c_m1431655766_i32_874 : BitVec 32} :
    Ev c (Rc c (rowW t1 t2) t1.val t2.val G U X) (k0_part61 arg0 harg0 arg1 harg1 arg2 harg2 arg3 harg3 arg4 harg4 arg5 harg5 arg6 harg6 arg7 harg7 arg8 harg8 (Memref.whole cc0_scratch0) h9 (Memref.whole cc0_scratch1) h10 arg11 harg11 arg12 v1061 v2865 v2868 v2871 v2878 c_m1431655766_i32_874 : Pr F _)
      ⟨k0_pay334 v2871 v2878, k0_pay335 v2865 v2868 v2871 c_m1431655766_i32_874, k0_pay336 v2871 v2878, k0_pay337 v2865 v2868 v2871 c_m1431655766_i32_874⟩ := by
  rw [k0_part61_eq_skeleton]
  unfold k0_part61_skel
  exact Ev.pure' rfl

theorem ev_part62 {v1061 : BitVec 32} :
    Ev c (Rc c (rowW t1 t2) t1.val t2.val G U X) (k0_part62 arg0 harg0 arg1 harg1 arg2 harg2 arg3 harg3 arg4 harg4 arg5 harg5 arg6 harg6 arg7 harg7 arg8 harg8 (Memref.whole cc0_scratch0) h9 (Memref.whole cc0_scratch1) h10 arg11 harg11 arg12 t1 t2 v1061 : Pr F _)
      ⟨k0_pay340 (ldW U t1.val t2.val 2 1 1), k0_pay341 (ldW U t1.val t2.val 0 1 1) (ldW U t1.val t2.val 1 1 1), k0_pay342 (ldW U t1.val t2.val 0 1 1) (ldW U t1.val t2.val 1 1 1), k0_pay343 (ldW U t1.val t2.val 0 1 1) (ldW U t1.val t2.val 1 1 1) (ldW U t1.val t2.val 2 1 1), k0_pay344 (ldW U t1.val t2.val 0 1 1) (ldW U t1.val t2.val 1 1 1), k0_pay345 (ldW U t1.val t2.val 2 1 1), k0_pay346⟩ := by
  rw [k0_part62_eq_skeleton]
  unfold k0_part62_skel
  refine Ev.bind (Ev.load1 0 1 1 rfl) ?_
  refine Ev.bind (Ev.load1 1 1 1 rfl) ?_
  refine Ev.bind (Ev.load1 2 1 1 rfl) ?_
  exact Ev.pure' rfl

theorem ev_part63 {v783 : IVec S8x8x256 32} {v1104 : FVec F S64x256 .bf16} {v2280 : Vec F S32x256 .bf16} {v2892 : IVec S8x256 32} {v2901 : IVec S8x256 32} {v2910 : IVec S8x256 32} {v2919 : IVec S8x256 32} {v2928 : IVec S8x256 32} {v2935 : IVec S8x256 32} {v2942 : IVec S8x256 32} {v2953 : IVec S8x256 32} {v2955 : IVec S8x256 32} {v2956 : IVec S8x256 32} {s s' : Mxu F} (hk : Clean s) (hs : (stJ 0 1 48 fits_48_32 v1104 s (k0_pay350 (F := F) v783 v2892 v2901 v2910 v2919) v2280) = s') :
    Ev c (Rc c (rowW t1 t2) t1.val t2.val G U X) (k0_part63 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v2280 s v2892 v2901 v2910 v2919 v2928 v2935 v2942 v2953 v2955 v2956 : Pr F _)
      ⟨k0_pay347 v2953 v2955 v2956, k0_pay348 v2928 v2935, k0_pay349 v2928 v2942, s'⟩ := by
  subst hs
  rw [k0_part63_eq_skeleton]
  unfold k0_part63_skel
  refine Ev.bind (Ev.push (hk _ _)) ?_
  refine Ev.bind Ev.junk ?_
  exact Ev.pure' rfl

theorem ev_part64 {hw : k0_chk1 w3 w4 w5 w6} {v132 : BitVec 32} {v783 : IVec S8x8x256 32} {v1061 : BitVec 32} {v1104 : FVec F S64x256 .bf16} {v2280 : Vec F S32x256 .bf16} {v2949 : IVec S8x256 32} {v2958 : IVec S8x256 32} {v2967 : IVec S8x256 32} {v2976 : IVec S8x256 32} {s s' : Mxu F} (hk : Clean s) (hs : (stJ 1 1 48 fits_48_32 v1104 s (k0_pay351 (F := F) v783 v2949 v2958 v2967 v2976) v2280) = s') :
    Ev c (Rc c (rowW t1 t2) t1.val t2.val G U X) (k0_part64 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v132 v783 t1 t2 v1061 v1104 v2280 v2949 v2958 v2967 v2976 s : Pr F _)
      ⟨s', k0_pay352 (ldW G t1.val t2.val (plOf w3 w4 w5 w6).hi 1 1), k0_pay353 (ldW G t1.val t2.val (plOf w3 w4 w5 w6).lo 1 1), k0_pay354 (ldW G t1.val t2.val (plOf w3 w4 w5 w6).hi 1 1) (ldW G t1.val t2.val (plOf w3 w4 w5 w6).lo 1 1), k0_pay355⟩ := by
  subst hs
  rw [k0_part64_eq_skeleton]
  unfold k0_part64_skel
  refine Ev.bind (Ev.push (hk _ _)) ?_
  refine Ev.bind Ev.junk ?_
  refine Ev.bind (Ev.load0 (plOf w3 w4 w5 w6).hi 1 1 rfl) ?_
  refine Ev.bind (Ev.load0 (plOf w3 w4 w5 w6).lo 1 1 rfl) ?_
  exact Ev.pure' rfl

theorem ev_part65 {hw : k0_chk1 w3 w4 w5 w6} {v132 : BitVec 32} {v1061 : BitVec 32} {v3038 : IVec S8x256 32} {v3043 : IVec S8x256 32} {v3050 : IVec S8x256 32} {v3051 : IVec S8x256 32} :
    Ev c (Rc c (rowW t1 t2) t1.val t2.val G U X) (k0_part65 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v132 t1 t2 v1061 v3038 v3043 v3050 v3051 : Pr F _)
      ⟨k0_pay357 v3050, k0_pay358 v3038 v3043 v3051, k0_pay359 v3050, k0_pay360 v3038 v3043 v3051, k0_pay363 (ldW U t1.val t2.val (plOf w3 w4 w5 w6).hi 1 1) (ldW U t1.val t2.val (plOf w3 w4 w5 w6).lo 1 1), k0_pay364 (ldW U t1.val t2.val (plOf w3 w4 w5 w6).hi 1 1), k0_pay365 (ldW U t1.val t2.val (plOf w3 w4 w5 w6).lo 1 1), k0_pay366⟩ := by
  rw [k0_part65_eq_skeleton]
  unfold k0_part65_skel
  refine Ev.bind (Ev.load1 (plOf w3 w4 w5 w6).hi 1 1 rfl) ?_
  refine Ev.bind (Ev.load1 (plOf w3 w4 w5 w6).lo 1 1 rfl) ?_
  exact Ev.pure' rfl

theorem ev_part66 {v783 : IVec S8x8x256 32} {v1104 : FVec F S64x256 .bf16} {v2280 : Vec F S32x256 .bf16} {v3059 : IVec S8x256 32} {v3061 : IVec S8x256 32} {v3065 : IVec S8x256 32} {v3069 : IVec S8x256 32} {v3085 : IVec S8x256 32} {v3087 : IVec S8x256 32} {v3089 : IVec S8x256 32} {v3090 : IVec S8x256 32} {s s' : Mxu F} (hk : Clean s) (hs : (stJ 0 0 56 fits_56_32 v1104 s (k0_pay370 (F := F) v783 v3059 v3061 v3065 v3069) v2280) = s') :
    Ev c (Rc c (rowW t1 t2) t1.val t2.val G U X) (k0_part66 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v2280 s v3059 v3061 v3065 v3069 v3085 v3087 v3089 v3090 : Pr F _)
      ⟨k0_pay368 v3085, k0_pay369 v3087 v3089 v3090, s', k0_pay371 (F := F) v783 v3085, k0_pay372 v3087 v3089 v3090⟩ := by
  subst hs
  rw [k0_part66_eq_skeleton]
  unfold k0_part66_skel
  refine Ev.bind (Ev.push (hk _ _)) ?_
  refine Ev.bind Ev.junk ?_
  exact Ev.pure' rfl

theorem ev_part67 {hw : k0_chk1 w3 w4 w5 w6} {v134 : BitVec 32} {v783 : IVec S8x8x256 32} {v1061 : BitVec 32} {v1104 : FVec F S64x256 .bf16} {v2280 : Vec F S32x256 .bf16} {v3100 : IVec S8x256 32} {v3104 : IVec S8x256 32} {v3140 : FVec F S64x256 .bf16} {v3141 : IVec S8x1x256 32} {s s' : Mxu F} (hk : Clean s) (hs : (stJ 1 0 56 fits_56_32 v1104 s (k0_pay373 v783 v3100 v3104 v3140 v3141) v2280) = s') :
    Ev c (Rc c (rowW t1 t2) t1.val t2.val G U X) (k0_part67 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v134 v783 t1 t2 v1061 v1104 v2280 v3100 v3104 s v3140 v3141 : Pr F _)
      ⟨s', k0_pay375 (ldW G t1.val t2.val (plOf w3 w4 w5 w6).s0 1 1), k0_pay376 (ldW G t1.val t2.val (plOf w3 w4 w5 w6).s0 1 1), k0_pay377 (ldW G t1.val t2.val (plOf w3 w4 w5 w6).s0 1 1), k0_pay378 (ldW G t1.val t2.val (plOf w3 w4 w5 w6).s0 1 1), k0_pay379 (ldW U t1.val t2.val (plOf w3 w4 w5 w6).s0 1 1), 286331153#32⟩ := by
  subst hs
  rw [k0_part67_eq_skeleton]
  unfold k0_part67_skel
  refine Ev.bind (Ev.push (hk _ _)) ?_
  refine Ev.bind Ev.junk ?_
  refine Ev.bind (Ev.load0 (plOf w3 w4 w5 w6).s0 1 1 rfl) ?_
  refine Ev.bind (Ev.load1 (plOf w3 w4 w5 w6).s0 1 1 rfl) ?_
  exact Ev.pure' rfl

theorem ev_part68 {v783 : IVec S8x8x256 32} {v1104 : FVec F S64x256 .bf16} {v2280 : Vec F S32x256 .bf16} {v3168 : IVec S8x256 32} {v3172 : IVec S8x256 32} {v3176 : IVec S8x256 32} {v3180 : IVec S8x256 32} {v3184 : IVec S8x256 32} {c286331153_i32_976 : BitVec 32} {s s' : Mxu F} (hk : Clean s) (hs : (stJ 0 1 64 fits_64_32 v1104 s (k0_pay382 (F := F) v783 v3168 v3172 v3176 v3180) v2280) = s') :
    Ev c (Rc c (rowW t1 t2) t1.val t2.val G U X) (k0_part68 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v2280 s v3168 v3172 v3176 v3180 v3184 c286331153_i32_976 : Pr F _)
      ⟨k0_pay380 v3184, k0_pay381 v3184, s', k0_pay383 (F := F) v783 v3184 c286331153_i32_976, k0_pay384 v3184⟩ := by
  subst hs
  rw [k0_part68_eq_skeleton]
  unfold k0_part68_skel
  refine Ev.bind (Ev.push (hk _ _)) ?_
  refine Ev.bind Ev.junk ?_
  exact Ev.pure' rfl

theorem ev_part69 {hw : k0_chk1 w3 w4 w5 w6} {v136 : BitVec 32} {v783 : IVec S8x8x256 32} {v1061 : BitVec 32} {v1104 : FVec F S64x256 .bf16} {v2280 : Vec F S32x256 .bf16} {v3194 : IVec S8x256 32} {v3198 : IVec S8x256 32} {v3234 : FVec F S64x256 .bf16} {v3235 : IVec S8x1x256 32} {s s' : Mxu F} (hk : Clean s) (hs : (stJ 1 1 64 fits_64_32 v1104 s (k0_pay385 v783 v3194 v3198 v3234 v3235) v2280) = s') :
    Ev c (Rc c (rowW t1 t2) t1.val t2.val G U X) (k0_part69 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v136 v783 t1 t2 v1061 v1104 v2280 v3194 v3198 s v3234 v3235 : Pr F _)
      ⟨s', k0_pay387 (ldW G t1.val t2.val (plOf w3 w4 w5 w6).s1 1 1), k0_pay388 (ldW G t1.val t2.val (plOf w3 w4 w5 w6).s1 1 1), k0_pay389 (ldW G t1.val t2.val (plOf w3 w4 w5 w6).s1 1 1), k0_pay390 (ldW G t1.val t2.val (plOf w3 w4 w5 w6).s1 1 1), k0_pay391 (ldW U t1.val t2.val (plOf w3 w4 w5 w6).s1 1 1), 286331153#32⟩ := by
  subst hs
  rw [k0_part69_eq_skeleton]
  unfold k0_part69_skel
  refine Ev.bind (Ev.push (hk _ _)) ?_
  refine Ev.bind Ev.junk ?_
  refine Ev.bind (Ev.load0 (plOf w3 w4 w5 w6).s1 1 1 rfl) ?_
  refine Ev.bind (Ev.load1 (plOf w3 w4 w5 w6).s1 1 1 rfl) ?_
  exact Ev.pure' rfl

theorem ev_part70 {v783 : IVec S8x8x256 32} {v1104 : FVec F S64x256 .bf16} {v2280 : Vec F S32x256 .bf16} {v3262 : IVec S8x256 32} {v3266 : IVec S8x256 32} {v3270 : IVec S8x256 32} {v3274 : IVec S8x256 32} {v3278 : IVec S8x256 32} {c286331153_i32_996 : BitVec 32} {s s' : Mxu F} (hk : Clean s) (hs : (stJ 0 0 72 fits_72_32 v1104 s (k0_pay394 (F := F) v783 v3262 v3266 v3270 v3274) v2280) = s') :
    Ev c (Rc c (rowW t1 t2) t1.val t2.val G U X) (k0_part70 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v2280 s v3262 v3266 v3270 v3274 v3278 c286331153_i32_996 : Pr F _)
      ⟨k0_pay392 v3278, k0_pay393 v3278, s', k0_pay395 (F := F) v783 v3278 c286331153_i32_996, k0_pay396 v3278⟩ := by
  subst hs
  rw [k0_part70_eq_skeleton]
  unfold k0_part70_skel
  refine Ev.bind (Ev.push (hk _ _)) ?_
  refine Ev.bind Ev.junk ?_
  exact Ev.pure' rfl

theorem ev_part71 {hw : k0_chk1 w3 w4 w5 w6} {v138 : BitVec 32} {v783 : IVec S8x8x256 32} {v1061 : BitVec 32} {v1104 : FVec F S64x256 .bf16} {v2280 : Vec F S32x256 .bf16} {v3288 : IVec S8x256 32} {v3292 : IVec S8x256 32} {v3328 : FVec F S64x256 .bf16} {v3329 : IVec S8x1x256 32} {s s' : Mxu F} (hk : Clean s) (hs : (stJ 1 0 72 fits_72_32 v1104 s (k0_pay397 v783 v3288 v3292 v3328 v3329) v2280) = s') :
    Ev c (Rc c (rowW t1 t2) t1.val t2.val G U X) (k0_part71 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v138 v783 t1 t2 v1061 v1104 v2280 v3288 v3292 s v3328 v3329 : Pr F _)
      ⟨s', k0_pay399 (ldW G t1.val t2.val (plOf w3 w4 w5 w6).s2 1 1), k0_pay400 (ldW G t1.val t2.val (plOf w3 w4 w5 w6).s2 1 1), k0_pay401 (ldW G t1.val t2.val (plOf w3 w4 w5 w6).s2 1 1), k0_pay402 (ldW G t1.val t2.val (plOf w3 w4 w5 w6).s2 1 1), k0_pay403 (ldW U t1.val t2.val (plOf w3 w4 w5 w6).s2 1 1), 286331153#32⟩ := by
  subst hs
  rw [k0_part71_eq_skeleton]
  unfold k0_part71_skel
  refine Ev.bind (Ev.push (hk _ _)) ?_
  refine Ev.bind Ev.junk ?_
  refine Ev.bind (Ev.load0 (plOf w3 w4 w5 w6).s2 1 1 rfl) ?_
  refine Ev.bind (Ev.load1 (plOf w3 w4 w5 w6).s2 1 1 rfl) ?_
  exact Ev.pure' rfl

theorem ev_part72 {v783 : IVec S8x8x256 32} {v1104 : FVec F S64x256 .bf16} {v2280 : Vec F S32x256 .bf16} {v3356 : IVec S8x256 32} {v3360 : IVec S8x256 32} {v3364 : IVec S8x256 32} {v3368 : IVec S8x256 32} {v3372 : IVec S8x256 32} {c286331153_i32_1016 : BitVec 32} {s s' : Mxu F} (hk : Clean s) (hs : (stJ 0 1 80 fits_80_32 v1104 s (k0_pay406 (F := F) v783 v3356 v3360 v3364 v3368) v2280) = s') :
    Ev c (Rc c (rowW t1 t2) t1.val t2.val G U X) (k0_part72 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v2280 s v3356 v3360 v3364 v3368 v3372 c286331153_i32_1016 : Pr F _)
      ⟨k0_pay404 v3372, k0_pay405 v3372, s', k0_pay407 (F := F) v783 v3372 c286331153_i32_1016, k0_pay408 v3372⟩ := by
  subst hs
  rw [k0_part72_eq_skeleton]
  unfold k0_part72_skel
  refine Ev.bind (Ev.push (hk _ _)) ?_
  refine Ev.bind Ev.junk ?_
  exact Ev.pure' rfl

theorem ev_part73 {v783 : IVec S8x8x256 32} {arg15 : BitVec 32} {v1061 : BitVec 32} {v1104 : FVec F S64x256 .bf16} {v2280 : Vec F S32x256 .bf16} {v3382 : IVec S8x256 32} {v3386 : IVec S8x256 32} {v3422 : FVec F S64x256 .bf16} {v3423 : IVec S8x1x256 32} {s s' : Mxu F} (hk : Clean s) (hs : (stJ 1 1 80 fits_80_32 v1104 s (k0_pay409 v783 v3382 v3386 v3422 v3423) v2280) = s') :
    Ev c (Rc c (rowW t1 t2) t1.val t2.val G U X) (k0_part73 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 arg15 v1061 v1104 v2280 v3382 v3386 s v3422 v3423 : Pr F _)
      ⟨s', (ldX X t2.val 2), k0_pay410 (ldW G t1.val t2.val 0 2 0), k0_pay411 (ldW G t1.val t2.val 1 2 0), k0_pay412 (ldW G t1.val t2.val 2 2 0), k0_pay413 (ldW G t1.val t2.val 0 2 0)⟩ := by
  subst hs
  rw [k0_part73_eq_skeleton]
  unfold k0_part73_skel
  refine Ev.bind (Ev.push (hk _ _)) ?_
  refine Ev.bind Ev.junk ?_
  refine Ev.bind (Ev.loadX 2 (xoff2 _)) ?_
  refine Ev.bind (Ev.load0 0 2 0 rfl) ?_
  refine Ev.bind (Ev.load0 1 2 0 rfl) ?_
  refine Ev.bind (Ev.load0 2 2 0 rfl) ?_
  exact Ev.pure' rfl

theorem ev_part74 {v3453 : IVec S8x256 32} {v3456 : IVec S8x256 32} {v3459 : IVec S8x256 32} {v3463 : IVec S8x256 32} :
    Ev c (Rc c (rowW t1 t2) t1.val t2.val G U X) (k0_part74 arg0 harg0 arg1 harg1 arg2 harg2 arg3 harg3 arg4 harg4 arg5 harg5 arg6 harg6 arg7 harg7 arg8 harg8 (Memref.whole cc0_scratch0) h9 (Memref.whole cc0_scratch1) h10 arg11 harg11 arg12 v3453 v3456 v3459 v3463 : Pr F _)
      ⟨k0_pay416 v3456 v3459 v3463, k0_pay417 v3453 v3456 v3459, k0_pay418 v3456 v3459 v3463, k0_pay419 v3453 v3456, k0_pay420 v3459, 286331153#32⟩ := by
  rw [k0_part74_eq_skeleton]
  unfold k0_part74_skel
  exact Ev.pure' rfl

theorem ev_part75 {v1061 : BitVec 32} {v3502 : IVec S8x256 32} {v3504 : IVec S8x256 32} {c286331153_i32_1057 : BitVec 32} :
    Ev c (Rc c (rowW t1 t2) t1.val t2.val G U X) (k0_part75 arg0 harg0 arg1 harg1 arg2 harg2 arg3 harg3 arg4 harg4 arg5 harg5 arg6 harg6 arg7 harg7 arg8 harg8 (Memref.whole cc0_scratch0) h9 (Memref.whole cc0_scratch1) h10 arg11 harg11 arg12 t1 t2 v1061 v3502 v3504 c286331153_i32_1057 : Pr F _)
      ⟨k0_pay421 v3502 v3504 c286331153_i32_1057, k0_pay424 (ldW U t1.val t2.val 2 2 0), k0_pay425 (ldW U t1.val t2.val 0 2 0) (ldW U t1.val t2.val 1 2 0), k0_pay426 (ldW U t1.val t2.val 0 2 0) (ldW U t1.val t2.val 1 2 0), k0_pay427 (ldW U t1.val t2.val 0 2 0) (ldW U t1.val t2.val 1 2 0) (ldW U t1.val t2.val 2 2 0), k0_pay428 (ldW U t1.val t2.val 0 2 0) (ldW U t1.val t2.val 1 2 0)⟩ := by
  rw [k0_part75_eq_skeleton]
  unfold k0_part75_skel
  refine Ev.bind (Ev.load1 0 2 0 rfl) ?_
  refine Ev.bind (Ev.load1 1 2 0 rfl) ?_
  refine Ev.bind (Ev.load1 2 2 0 rfl) ?_
  exact Ev.pure' rfl

theorem ev_part76 {v783 : IVec S8x8x256 32} {v3480 : IVec S8x256 32} {v3489 : IVec S8x256 32} {v3498 : IVec S8x256 32} {v3507 : IVec S8x256 32} {v3516 : IVec S8x256 32} {v3523 : IVec S8x256 32} {v3530 : IVec S8x256 32} {v3541 : IVec S8x256 32} :
    Ev c (Rc c (rowW t1 t2) t1.val t2.val G U X) (k0_part76 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v3480 v3489 v3498 v3507 v3516 v3523 v3530 v3541 : Pr F _)
      ⟨k0_pay429 v3516 v3541, k0_pay430 v3516 v3523, k0_pay431 v3516 v3530, k0_pay432 (F := F) v783 v3480, k0_pay433 (F := F) v783 v3489, k0_pay434 (F := F) v783 v3498, k0_pay435 v783 v3507⟩ := by
  rw [k0_part76_eq_skeleton]
  unfold k0_part76_skel
  exact Ev.pure' rfl

theorem ev_part77 {hw : k0_chk1 w3 w4 w5 w6} {v132 : BitVec 32} {v783 : IVec S8x8x256 32} {v1061 : BitVec 32} {v1104 : FVec F S64x256 .bf16} {v3450 : Vec F S32x256 .bf16} {v3537 : IVec S8x256 32} {v3546 : IVec S8x256 32} {v3555 : IVec S8x256 32} {v3564 : IVec S8x256 32} {v3571 : FVec F S64x256 .bf16} {v3578 : FVec F S64x256 .bf16} {v3585 : FVec F S64x256 .bf16} {v3591 : IVec S64x256 4} {s s' : Mxu F} (hk : Clean s) (hs : (stJ 1 0 0 fits_0_32 v1104 (stJ 0 0 0 fits_0_32 v1104 s (k0_pay436 v3571 v3578 v3585 v3591) v3450) (k0_pay437 (F := F) v783 v3537 v3546 v3555 v3564) v3450) = s') :
    Ev c (Rc c (rowW t1 t2) t1.val t2.val G U X) (k0_part77 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v132 v783 t1 t2 v1061 v1104 s v3450 v3537 v3546 v3555 v3564 v3571 v3578 v3585 v3591 : Pr F _)
      ⟨s', k0_pay438 (ldW G t1.val t2.val (plOf w3 w4 w5 w6).hi 2 0), k0_pay439 (ldW G t1.val t2.val (plOf w3 w4 w5 w6).lo 2 0), k0_pay440 (ldW G t1.val t2.val (plOf w3 w4 w5 w6).hi 2 0), 1431655765#32⟩ := by
  subst hs
  rw [k0_part77_eq_skeleton]
  unfold k0_part77_skel
  refine Ev.bind (Ev.push (hk _ _)) ?_
  refine Ev.bind Ev.junk ?_
  refine Ev.bind (Ev.push ((hk.stJ) _ _)) ?_
  refine Ev.bind Ev.junk ?_
  refine Ev.bind (Ev.load0 (plOf w3 w4 w5 w6).hi 2 0 rfl) ?_
  refine Ev.bind (Ev.load0 (plOf w3 w4 w5 w6).lo 2 0 rfl) ?_
  exact Ev.pure' rfl

theorem ev_part78 {hw : k0_chk1 w3 w4 w5 w6} {v132 : BitVec 32} {v1061 : BitVec 32} {v3626 : IVec S8x256 32} {v3631 : IVec S8x256 32} {v3635 : IVec S8x256 32} {c1431655765_i32_1100 : BitVec 32} :
    Ev c (Rc c (rowW t1 t2) t1.val t2.val G U X) (k0_part78 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v132 t1 t2 v1061 v3626 v3631 v3635 c1431655765_i32_1100 : Pr F _)
      ⟨k0_pay443 v3631 v3635 c1431655765_i32_1100, k0_pay444 v3626 v3631, k0_pay445 v3631 v3635 c1431655765_i32_1100, k0_pay446 v3626 v3631, k0_pay448 (ldW U t1.val t2.val (plOf w3 w4 w5 w6).lo 2 0), k0_pay449 (ldW U t1.val t2.val (plOf w3 w4 w5 w6).hi 2 0) (ldW U t1.val t2.val (plOf w3 w4 w5 w6).lo 2 0), k0_pay450 (ldW U t1.val t2.val (plOf w3 w4 w5 w6).hi 2 0)⟩ := by
  rw [k0_part78_eq_skeleton]
  unfold k0_part78_skel
  refine Ev.bind (Ev.load1 (plOf w3 w4 w5 w6).hi 2 0 rfl) ?_
  refine Ev.bind (Ev.load1 (plOf w3 w4 w5 w6).lo 2 0 rfl) ?_
  exact Ev.pure' rfl

theorem ev_part79 {v783 : IVec S8x8x256 32} {v1104 : FVec F S64x256 .bf16} {v3450 : Vec F S32x256 .bf16} {v3647 : IVec S8x256 32} {v3649 : IVec S8x256 32} {v3653 : IVec S8x256 32} {v3657 : IVec S8x256 32} {v3666 : IVec S8x256 32} {v3673 : IVec S8x256 32} {v3675 : IVec S8x256 32} {s s' : Mxu F} (hk : Clean s) (hs : (stJ 0 1 8 fits_8_32 v1104 s (k0_pay455 (F := F) v783 v3647 v3649 v3653 v3657) v3450) = s') :
    Ev c (Rc c (rowW t1 t2) t1.val t2.val G U X) (k0_part79 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v3450 s v3647 v3649 v3653 v3657 v3666 v3673 v3675 : Pr F _)
      ⟨k0_pay452 v3666 v3675, k0_pay453 v3673, k0_pay454 v3666 v3675, s', k0_pay456 v3673⟩ := by
  subst hs
  rw [k0_part79_eq_skeleton]
  unfold k0_part79_skel
  refine Ev.bind (Ev.push (hk _ _)) ?_
  refine Ev.bind Ev.junk ?_
  exact Ev.pure' rfl

theorem ev_part80 {hw : k0_chk1 w3 w4 w5 w6} {v134 : BitVec 32} {v783 : IVec S8x8x256 32} {v1061 : BitVec 32} {v1104 : FVec F S64x256 .bf16} {v3450 : Vec F S32x256 .bf16} {v3684 : IVec S8x256 32} {v3688 : IVec S8x256 32} {v3692 : IVec S8x256 32} {v3724 : IVec S8x8x256 32} {s s' : Mxu F} (hk : Clean s) (hs : (stJ 1 1 8 fits_8_32 v1104 s (k0_pay457 (F := F) v783 v3684 v3688 v3692 v3724) v3450) = s') :
    Ev c (Rc c (rowW t1 t2) t1.val t2.val G U X) (k0_part80 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v134 v783 t1 t2 v1061 v1104 v3450 v3684 v3688 v3692 s v3724 : Pr F _)
      ⟨s', k0_pay459 (ldW G t1.val t2.val (plOf w3 w4 w5 w6).s0 2 0), k0_pay460 (ldW G t1.val t2.val (plOf w3 w4 w5 w6).s0 2 0), k0_pay461 (ldW G t1.val t2.val (plOf w3 w4 w5 w6).s0 2 0), k0_pay462 (ldW G t1.val t2.val (plOf w3 w4 w5 w6).s0 2 0)⟩ := by
  subst hs
  rw [k0_part80_eq_skeleton]
  unfold k0_part80_skel
  refine Ev.bind (Ev.push (hk _ _)) ?_
  refine Ev.bind Ev.junk ?_
  refine Ev.bind (Ev.load0 (plOf w3 w4 w5 w6).s0 2 0 rfl) ?_
  exact Ev.pure' rfl

theorem ev_part81 {hw : k0_chk1 w3 w4 w5 w6} {v783 : IVec S8x8x256 32} {v1104 : FVec F S64x256 .bf16} {v3450 : Vec F S32x256 .bf16} {v3756 : IVec S8x256 32} {v3760 : IVec S8x256 32} {v3764 : IVec S8x256 32} {v3768 : IVec S8x256 32} {s s' : Mxu F} (hk : Clean s) (hs : (stJ 0 0 16 fits_16_32 v1104 s (k0_pay467 (F := F) v783 v3756 v3760 v3764 v3768) v3450) = s') :
    Ev c (Rc c (rowW t1 t2) t1.val t2.val G U X) (k0_part81 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v783 t1 t2 v1104 v3450 s v3756 v3760 v3764 v3768 : Pr F _)
      ⟨k0_pay464 (ldW U t1.val t2.val (plOf w3 w4 w5 w6).s0 2 0), k0_pay465 (ldW U t1.val t2.val (plOf w3 w4 w5 w6).s0 2 0), k0_pay466 (ldW U t1.val t2.val (plOf w3 w4 w5 w6).s0 2 0), s', k0_pay468 (ldW U t1.val t2.val (plOf w3 w4 w5 w6).s0 2 0)⟩ := by
  subst hs
  rw [k0_part81_eq_skeleton]
  unfold k0_part81_skel
  refine Ev.bind (Ev.load1 (plOf w3 w4 w5 w6).s0 2 0 rfl) ?_
  refine Ev.bind (Ev.push (hk _ _)) ?_
  refine Ev.bind Ev.junk ?_
  exact Ev.pure' rfl

theorem ev_part82 {hw : k0_chk1 w3 w4 w5 w6} {v136 : BitVec 32} {v783 : IVec S8x8x256 32} {v1061 : BitVec 32} {v1104 : FVec F S64x256 .bf16} {v3450 : Vec F S32x256 .bf16} {v3778 : IVec S8x256 32} {v3782 : IVec S8x256 32} {v3786 : IVec S8x256 32} {v3818 : IVec S8x8x256 32} {s s' : Mxu F} (hk : Clean s) (hs : (stJ 1 0 16 fits_16_32 v1104 s (k0_pay469 (F := F) v783 v3778 v3782 v3786 v3818) v3450) = s') :
    Ev c (Rc c (rowW t1 t2) t1.val t2.val G U X) (k0_part82 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v136 v783 t1 t2 v1061 v1104 v3450 v3778 v3782 v3786 s v3818 : Pr F _)
      ⟨s', k0_pay471 (ldW G t1.val t2.val (plOf w3 w4 w5 w6).s1 2 0), k0_pay472 (ldW G t1.val t2.val (plOf w3 w4 w5 w6).s1 2 0), k0_pay473 (ldW G t1.val t2.val (plOf w3 w4 w5 w6).s1 2 0), k0_pay474 (ldW G t1.val t2.val (plOf w3 w4 w5 w6).s1 2 0)⟩ := by
  subst hs
  rw [k0_part82_eq_skeleton]
  unfold k0_part82_skel
  refine Ev.bind (Ev.push (hk _ _)) ?_
  refine Ev.bind Ev.junk ?_
  refine Ev.bind (Ev.load0 (plOf w3 w4 w5 w6).s1 2 0 rfl) ?_
  exact Ev.pure' rfl

theorem ev_part83 {hw : k0_chk1 w3 w4 w5 w6} {v783 : IVec S8x8x256 32} {v1104 : FVec F S64x256 .bf16} {v3450 : Vec F S32x256 .bf16} {v3850 : IVec S8x256 32} {v3854 : IVec S8x256 32} {v3858 : IVec S8x256 32} {v3862 : IVec S8x256 32} {s s' : Mxu F} (hk : Clean s) (hs : (stJ 0 1 24 fits_24_32 v1104 s (k0_pay479 (F := F) v783 v3850 v3854 v3858 v3862) v3450) = s') :
    Ev c (Rc c (rowW t1 t2) t1.val t2.val G U X) (k0_part83 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v783 t1 t2 v1104 v3450 s v3850 v3854 v3858 v3862 : Pr F _)
      ⟨k0_pay476 (ldW U t1.val t2.val (plOf w3 w4 w5 w6).s1 2 0), k0_pay477 (ldW U t1.val t2.val (plOf w3 w4 w5 w6).s1 2 0), k0_pay478 (ldW U t1.val t2.val (plOf w3 w4 w5 w6).s1 2 0), s', k0_pay480 (ldW U t1.val t2.val (plOf w3 w4 w5 w6).s1 2 0)⟩ := by
  subst hs
  rw [k0_part83_eq_skeleton]
  unfold k0_part83_skel
  refine Ev.bind (Ev.load1 (plOf w3 w4 w5 w6).s1 2 0 rfl) ?_
  refine Ev.bind (Ev.push (hk _ _)) ?_
  refine Ev.bind Ev.junk ?_
  exact Ev.pure' rfl

theorem ev_part84 {hw : k0_chk1 w3 w4 w5 w6} {v138 : BitVec 32} {v783 : IVec S8x8x256 32} {v1061 : BitVec 32} {v1104 : FVec F S64x256 .bf16} {v3450 : Vec F S32x256 .bf16} {v3872 : IVec S8x256 32} {v3876 : IVec S8x256 32} {v3880 : IVec S8x256 32} {v3912 : IVec S8x8x256 32} {s s' : Mxu F} (hk : Clean s) (hs : (stJ 1 1 24 fits_24_32 v1104 s (k0_pay481 (F := F) v783 v3872 v3876 v3880 v3912) v3450) = s') :
    Ev c (Rc c (rowW t1 t2) t1.val t2.val G U X) (k0_part84 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v138 v783 t1 t2 v1061 v1104 v3450 v3872 v3876 v3880 s v3912 : Pr F _)
      ⟨s', k0_pay483 (ldW G t1.val t2.val (plOf w3 w4 w5 w6).s2 2 0), k0_pay484 (ldW G t1.val t2.val (plOf w3 w4 w5 w6).s2 2 0), k0_pay485 (ldW G t1.val t2.val (plOf w3 w4 w5 w6).s2 2 0), k0_pay486 (ldW G t1.val t2.val (plOf w3 w4 w5 w6).s2 2 0)⟩ := by
  subst hs
  rw [k0_part84_eq_skeleton]
  unfold k0_part84_skel
  refine Ev.bind (Ev.push (hk _ _)) ?_
  refine Ev.bind Ev.junk ?_
  refine Ev.bind (Ev.load0 (plOf w3 w4 w5 w6).s2 2 0 rfl) ?_
  exact Ev.pure' rfl

theorem ev_part85 {hw : k0_chk1 w3 w4 w5 w6} {v783 : IVec S8x8x256 32} {v1104 : FVec F S64x256 .bf16} {v3450 : Vec F S32x256 .bf16} {v3944 : IVec S8x256 32} {v3948 : IVec S8x256 32} {v3952 : IVec S8x256 32} {v3956 : IVec S8x256 32} {s s' : Mxu F} (hk : Clean s) (hs : (stJ 0 0 32 fits_32_32 v1104 s (k0_pay491 (F := F) v783 v3944 v3948 v3952 v3956) v3450) = s') :
    Ev c (Rc c (rowW t1 t2) t1.val t2.val G U X) (k0_part85 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v783 t1 t2 v1104 v3450 s v3944 v3948 v3952 v3956 : Pr F _)
      ⟨k0_pay488 (ldW U t1.val t2.val (plOf w3 w4 w5 w6).s2 2 0), k0_pay489 (ldW U t1.val t2.val (plOf w3 w4 w5 w6).s2 2 0), k0_pay490 (ldW U t1.val t2.val (plOf w3 w4 w5 w6).s2 2 0), s', k0_pay492 (ldW U t1.val t2.val (plOf w3 w4 w5 w6).s2 2 0)⟩ := by
  subst hs
  rw [k0_part85_eq_skeleton]
  unfold k0_part85_skel
  refine Ev.bind (Ev.load1 (plOf w3 w4 w5 w6).s2 2 0 rfl) ?_
  refine Ev.bind (Ev.push (hk _ _)) ?_
  refine Ev.bind Ev.junk ?_
  exact Ev.pure' rfl

theorem ev_part86 {v783 : IVec S8x8x256 32} {v1061 : BitVec 32} {v1104 : FVec F S64x256 .bf16} {v3450 : Vec F S32x256 .bf16} {v3966 : IVec S8x256 32} {v3970 : IVec S8x256 32} {v3974 : IVec S8x256 32} {v4006 : IVec S8x8x256 32} {s s' : Mxu F} (hk : Clean s) (hs : (stJ 1 0 32 fits_32_32 v1104 s (k0_pay493 (F := F) v783 v3966 v3970 v3974 v4006) v3450) = s') :
    Ev c (Rc c (rowW t1 t2) t1.val t2.val G U X) (k0_part86 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 v1061 v1104 v3450 v3966 v3970 v3974 s v4006 : Pr F _)
      ⟨s', k0_pay494 (ldW G t1.val t2.val 0 2 1), k0_pay495 (ldW G t1.val t2.val 1 2 1), k0_pay496 (ldW G t1.val t2.val 2 2 1), k0_pay497 (ldW G t1.val t2.val 0 2 1) (ldW G t1.val t2.val 1 2 1)⟩ := by
  subst hs
  rw [k0_part86_eq_skeleton]
  unfold k0_part86_skel
  refine Ev.bind (Ev.push (hk _ _)) ?_
  refine Ev.bind Ev.junk ?_
  refine Ev.bind (Ev.load0 0 2 1 rfl) ?_
  refine Ev.bind (Ev.load0 1 2 1 rfl) ?_
  refine Ev.bind (Ev.load0 2 2 1 rfl) ?_
  exact Ev.pure' rfl

theorem ev_part87 {v1061 : BitVec 32} {v4035 : IVec S8x256 32} {v4038 : IVec S8x256 32} {v4041 : IVec S8x256 32} {v4048 : IVec S8x256 32} :
    Ev c (Rc c (rowW t1 t2) t1.val t2.val G U X) (k0_part87 arg0 harg0 arg1 harg1 arg2 harg2 arg3 harg3 arg4 harg4 arg5 harg5 arg6 harg6 arg7 harg7 arg8 harg8 (Memref.whole cc0_scratch0) h9 (Memref.whole cc0_scratch1) h10 arg11 harg11 arg12 v1061 v4035 v4038 v4041 v4048 : Pr F _)
      ⟨k0_pay499 v4041 v4048, k0_pay500 v4035 v4038 v4041, k0_pay501 v4041 v4048, k0_pay502 v4035 v4038 v4041⟩ := by
  rw [k0_part87_eq_skeleton]
  unfold k0_part87_skel
  exact Ev.pure' rfl

theorem ev_part88 {v1061 : BitVec 32} :
    Ev c (Rc c (rowW t1 t2) t1.val t2.val G U X) (k0_part88 arg0 harg0 arg1 harg1 arg2 harg2 arg3 harg3 arg4 harg4 arg5 harg5 arg6 harg6 arg7 harg7 arg8 harg8 (Memref.whole cc0_scratch0) h9 (Memref.whole cc0_scratch1) h10 arg11 harg11 arg12 t1 t2 v1061 : Pr F _)
      ⟨k0_pay505 (ldW U t1.val t2.val 2 2 1), k0_pay506 (ldW U t1.val t2.val 0 2 1) (ldW U t1.val t2.val 1 2 1), k0_pay507 (ldW U t1.val t2.val 0 2 1) (ldW U t1.val t2.val 1 2 1), k0_pay508 (ldW U t1.val t2.val 0 2 1) (ldW U t1.val t2.val 1 2 1) (ldW U t1.val t2.val 2 2 1), k0_pay509 (ldW U t1.val t2.val 0 2 1) (ldW U t1.val t2.val 1 2 1), k0_pay510 (ldW U t1.val t2.val 2 2 1), 286331153#32⟩ := by
  rw [k0_part88_eq_skeleton]
  unfold k0_part88_skel
  refine Ev.bind (Ev.load1 0 2 1 rfl) ?_
  refine Ev.bind (Ev.load1 1 2 1 rfl) ?_
  refine Ev.bind (Ev.load1 2 2 1 rfl) ?_
  exact Ev.pure' rfl

theorem ev_part89 {v783 : IVec S8x8x256 32} {v3450 : Vec F S32x256 .bf16} {v4062 : IVec S8x256 32} {v4071 : IVec S8x256 32} {v4080 : IVec S8x256 32} {v4089 : IVec S8x256 32} {v4098 : IVec S8x256 32} {v4105 : IVec S8x256 32} {v4112 : IVec S8x256 32} {v4123 : IVec S8x256 32} {v4125 : IVec S8x256 32} {c286331153_i32_1246 : BitVec 32} {s s' : Mxu F} (hk : Clean s) (hs : (stA 0 1 48 fits_48_32 s (k0_pay514 (F := F) v783 v4062 v4071 v4080 v4089) v3450) = s') :
    Ev c (Rc c (rowW t1 t2) t1.val t2.val G U X) (k0_part89 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v3450 s v4062 v4071 v4080 v4089 v4098 v4105 v4112 v4123 v4125 c286331153_i32_1246 : Pr F _)
      ⟨k0_pay511 v4123 v4125 c286331153_i32_1246, k0_pay512 v4098 v4105, k0_pay513 v4098 v4112, s'⟩ := by
  subst hs
  rw [k0_part89_eq_skeleton]
  unfold k0_part89_skel
  refine Ev.bind (Ev.push (hk _ _)) ?_
  exact Ev.pure' rfl

theorem ev_part90 {vP : FVec F S256x256 .bf16} {xP : FVec F S32x256 .bf16} {hw : k0_chk1 w3 w4 w5 w6} {v132 : BitVec 32} {v783 : IVec S8x8x256 32} {v1061 : BitVec 32} {v1104 : FVec F S64x256 .bf16} {v3450 : Vec F S32x256 .bf16} {v4119 : IVec S8x256 32} {v4128 : IVec S8x256 32} {v4137 : IVec S8x256 32} {v4146 : IVec S8x256 32} {s s' : Mxu F} (hk : Clean s) (hs : (stJ 1 1 48 fits_48_32 v1104 (stJ 0 1 48 fits_48_32 v1104 s vP xP) (k0_pay515 (F := F) v783 v4119 v4128 v4137 v4146) v3450) = s') :
    Ev c (Rc c (rowW t1 t2) t1.val t2.val G U X) (k0_part90 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v132 v783 t1 t2 v1061 v1104 v3450 v4119 v4128 v4137 v4146 (stA 0 1 48 fits_48_32 s vP xP) : Pr F _)
      ⟨s', k0_pay516 (ldW G t1.val t2.val (plOf w3 w4 w5 w6).hi 2 1), k0_pay517 (ldW G t1.val t2.val (plOf w3 w4 w5 w6).lo 2 1), k0_pay518 (ldW G t1.val t2.val (plOf w3 w4 w5 w6).hi 2 1) (ldW G t1.val t2.val (plOf w3 w4 w5 w6).lo 2 1), 2863311530#32⟩ := by
  subst hs
  rw [k0_part90_eq_skeleton]
  unfold k0_part90_skel
  refine Ev.bind Ev.junk ?_
  refine Ev.bind (Ev.push ((hk.stJ) _ _)) ?_
  refine Ev.bind Ev.junk ?_
  refine Ev.bind (Ev.load0 (plOf w3 w4 w5 w6).hi 2 1 rfl) ?_
  refine Ev.bind (Ev.load0 (plOf w3 w4 w5 w6).lo 2 1 rfl) ?_
  exact Ev.pure' rfl

theorem ev_part91 {hw : k0_chk1 w3 w4 w5 w6} {v132 : BitVec 32} {v1061 : BitVec 32} {v4208 : IVec S8x256 32} {v4213 : IVec S8x256 32} {v4220 : IVec S8x256 32} {c_m1431655766_i32_1265 : BitVec 32} :
    Ev c (Rc c (rowW t1 t2) t1.val t2.val G U X) (k0_part91 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v132 t1 t2 v1061 v4208 v4213 v4220 c_m1431655766_i32_1265 : Pr F _)
      ⟨k0_pay520 v4220, k0_pay521 v4208 v4213 c_m1431655766_i32_1265, k0_pay522 v4220, k0_pay523 v4208 v4213 c_m1431655766_i32_1265, k0_pay526 (ldW U t1.val t2.val (plOf w3 w4 w5 w6).hi 2 1) (ldW U t1.val t2.val (plOf w3 w4 w5 w6).lo 2 1), k0_pay527 (ldW U t1.val t2.val (plOf w3 w4 w5 w6).hi 2 1), k0_pay528 (ldW U t1.val t2.val (plOf w3 w4 w5 w6).lo 2 1), 1431655765#32⟩ := by
  rw [k0_part91_eq_skeleton]
  unfold k0_part91_skel
  refine Ev.bind (Ev.load1 (plOf w3 w4 w5 w6).hi 2 1 rfl) ?_
  refine Ev.bind (Ev.load1 (plOf w3 w4 w5 w6).lo 2 1 rfl) ?_
  exact Ev.pure' rfl

end Cert.KernelIdeal.Hand
-- ==== Proof.PartsC.lean ====
/- The pieces of a chunk: the last steps. -/
module

public import proofs.«01_k».proof.Proof.Codes

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

variable {arg0 : Memref sig .tc .smem S6 .i32} {harg0 : arg0.IsWhole}
variable {arg1 : Memref sig .tc .vmem S24x14336 .bf16} {harg1 : arg1.IsWhole}
variable {arg2 : Memref sig .tc .vmem S1x4096 .f32} {harg2 : arg2.IsWhole}
variable {arg3 : Memref sig .tc .vmem S1x4096 .f32} {harg3 : arg3.IsWhole}
variable {arg4 : Memref sig .tc .vmem S1x4096 .f32} {harg4 : arg4.IsWhole}
variable {arg5 : Memref sig .tc .vmem S1x4096 .f32} {harg5 : arg5.IsWhole}
variable {arg6 : Memref sig .tc .hbm S8x448x4096 .i32} {harg6 : arg6.IsWhole}
variable {arg7 : Memref sig .tc .hbm S8x448x4096 .i32} {harg7 : arg7.IsWhole}
variable {arg8 : Memref sig .tc .vmem S24x4096 .bf16} {harg8 : arg8.IsWhole}
variable {h9 : (Memref.whole cc0_scratch0).IsWhole}
variable {h10 : (Memref.whole cc0_scratch1).IsWhole}
variable {arg11 : Memref sig .tc .vmem S24x128 .f32} {harg11 : arg11.IsWhole}
variable {arg12 : DmaSems sig S3x2}
variable {c : Dev nD} {G U : Planes F} {X : Xp F} {w3 w4 w5 w6 : Elt F .i32} {t1 : Fin k0_t1_loop.trips} {t2 : Fin k0_t2_loop.trips}

theorem ev_part92 {v783 : IVec S8x8x256 32} {v1104 : FVec F S64x256 .bf16} {v3450 : Vec F S32x256 .bf16} {v4229 : IVec S8x256 32} {v4231 : IVec S8x256 32} {v4235 : IVec S8x256 32} {v4239 : IVec S8x256 32} {v4255 : IVec S8x256 32} {v4257 : IVec S8x256 32} {v4259 : IVec S8x256 32} {c1431655765_i32_1286 : BitVec 32} {s s' : Mxu F} (hk : Clean s) (hs : (stJ 0 0 56 fits_56_32 v1104 s (k0_pay533 (F := F) v783 v4229 v4231 v4235 v4239) v3450) = s') :
    Ev c (Rc c (rowW t1 t2) t1.val t2.val G U X) (k0_part92 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v3450 s v4229 v4231 v4235 v4239 v4255 v4257 v4259 c1431655765_i32_1286 : Pr F _)
      ⟨k0_pay530 v4257 v4259 c1431655765_i32_1286, k0_pay531 v4255, k0_pay532 v4257 v4259 c1431655765_i32_1286, s', k0_pay534 (F := F) v783 v4255⟩ := by
  subst hs
  rw [k0_part92_eq_skeleton]
  unfold k0_part92_skel
  refine Ev.bind (Ev.push (hk _ _)) ?_
  refine Ev.bind Ev.junk ?_
  exact Ev.pure' rfl

theorem ev_part93 {hw : k0_chk1 w3 w4 w5 w6} {v134 : BitVec 32} {v783 : IVec S8x8x256 32} {v1061 : BitVec 32} {v1104 : FVec F S64x256 .bf16} {v3450 : Vec F S32x256 .bf16} {v4266 : IVec S8x256 32} {v4270 : IVec S8x256 32} {v4274 : IVec S8x256 32} {v4310 : FVec F S64x256 .bf16} {s s' : Mxu F} (hk : Clean s) (hs : (stJ 1 0 56 fits_56_32 v1104 s (k0_pay535 v783 v4266 v4270 v4274 v4310) v3450) = s') :
    Ev c (Rc c (rowW t1 t2) t1.val t2.val G U X) (k0_part93 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v134 v783 t1 t2 v1061 v1104 v3450 v4266 v4270 v4274 s v4310 : Pr F _)
      ⟨s', k0_pay537 (ldW G t1.val t2.val (plOf w3 w4 w5 w6).s0 2 1), k0_pay538 (ldW G t1.val t2.val (plOf w3 w4 w5 w6).s0 2 1), k0_pay539 (ldW G t1.val t2.val (plOf w3 w4 w5 w6).s0 2 1), k0_pay540 (ldW G t1.val t2.val (plOf w3 w4 w5 w6).s0 2 1), k0_pay541 (ldW U t1.val t2.val (plOf w3 w4 w5 w6).s0 2 1)⟩ := by
  subst hs
  rw [k0_part93_eq_skeleton]
  unfold k0_part93_skel
  refine Ev.bind (Ev.push (hk _ _)) ?_
  refine Ev.bind Ev.junk ?_
  refine Ev.bind (Ev.load0 (plOf w3 w4 w5 w6).s0 2 1 rfl) ?_
  refine Ev.bind (Ev.load1 (plOf w3 w4 w5 w6).s0 2 1 rfl) ?_
  exact Ev.pure' rfl

theorem ev_part94 {v783 : IVec S8x8x256 32} {v1104 : FVec F S64x256 .bf16} {v3450 : Vec F S32x256 .bf16} {v4338 : IVec S8x256 32} {v4342 : IVec S8x256 32} {v4346 : IVec S8x256 32} {v4350 : IVec S8x256 32} {v4354 : IVec S8x256 32} {s s' : Mxu F} (hk : Clean s) (hs : (stJ 0 1 64 fits_64_32 v1104 s (k0_pay545 (F := F) v783 v4338 v4342 v4346 v4350) v3450) = s') :
    Ev c (Rc c (rowW t1 t2) t1.val t2.val G U X) (k0_part94 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v3450 s v4338 v4342 v4346 v4350 v4354 : Pr F _)
      ⟨k0_pay542 v4354, k0_pay543 v4354, k0_pay544 v4354, s', k0_pay546 (F := F) v783 v4354⟩ := by
  subst hs
  rw [k0_part94_eq_skeleton]
  unfold k0_part94_skel
  refine Ev.bind (Ev.push (hk _ _)) ?_
  refine Ev.bind Ev.junk ?_
  exact Ev.pure' rfl

theorem ev_part95 {hw : k0_chk1 w3 w4 w5 w6} {v136 : BitVec 32} {v783 : IVec S8x8x256 32} {v1061 : BitVec 32} {v1104 : FVec F S64x256 .bf16} {v3450 : Vec F S32x256 .bf16} {v4360 : IVec S8x256 32} {v4364 : IVec S8x256 32} {v4368 : IVec S8x256 32} {v4404 : FVec F S64x256 .bf16} {s s' : Mxu F} (hk : Clean s) (hs : (stJ 1 1 64 fits_64_32 v1104 s (k0_pay547 v783 v4360 v4364 v4368 v4404) v3450) = s') :
    Ev c (Rc c (rowW t1 t2) t1.val t2.val G U X) (k0_part95 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v136 v783 t1 t2 v1061 v1104 v3450 v4360 v4364 v4368 s v4404 : Pr F _)
      ⟨s', k0_pay549 (ldW G t1.val t2.val (plOf w3 w4 w5 w6).s1 2 1), k0_pay550 (ldW G t1.val t2.val (plOf w3 w4 w5 w6).s1 2 1), k0_pay551 (ldW G t1.val t2.val (plOf w3 w4 w5 w6).s1 2 1), k0_pay552 (ldW G t1.val t2.val (plOf w3 w4 w5 w6).s1 2 1), k0_pay553 (ldW U t1.val t2.val (plOf w3 w4 w5 w6).s1 2 1)⟩ := by
  subst hs
  rw [k0_part95_eq_skeleton]
  unfold k0_part95_skel
  refine Ev.bind (Ev.push (hk _ _)) ?_
  refine Ev.bind Ev.junk ?_
  refine Ev.bind (Ev.load0 (plOf w3 w4 w5 w6).s1 2 1 rfl) ?_
  refine Ev.bind (Ev.load1 (plOf w3 w4 w5 w6).s1 2 1 rfl) ?_
  exact Ev.pure' rfl

theorem ev_part96 {v783 : IVec S8x8x256 32} {v1104 : FVec F S64x256 .bf16} {v3450 : Vec F S32x256 .bf16} {v4432 : IVec S8x256 32} {v4436 : IVec S8x256 32} {v4440 : IVec S8x256 32} {v4444 : IVec S8x256 32} {v4448 : IVec S8x256 32} {s s' : Mxu F} (hk : Clean s) (hs : (stJ 0 0 72 fits_72_32 v1104 s (k0_pay557 (F := F) v783 v4432 v4436 v4440 v4444) v3450) = s') :
    Ev c (Rc c (rowW t1 t2) t1.val t2.val G U X) (k0_part96 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v3450 s v4432 v4436 v4440 v4444 v4448 : Pr F _)
      ⟨k0_pay554 v4448, k0_pay555 v4448, k0_pay556 v4448, s', k0_pay558 (F := F) v783 v4448⟩ := by
  subst hs
  rw [k0_part96_eq_skeleton]
  unfold k0_part96_skel
  refine Ev.bind (Ev.push (hk _ _)) ?_
  refine Ev.bind Ev.junk ?_
  exact Ev.pure' rfl

theorem ev_part97 {hw : k0_chk1 w3 w4 w5 w6} {v138 : BitVec 32} {v783 : IVec S8x8x256 32} {v1061 : BitVec 32} {v1104 : FVec F S64x256 .bf16} {v3450 : Vec F S32x256 .bf16} {v4454 : IVec S8x256 32} {v4458 : IVec S8x256 32} {v4462 : IVec S8x256 32} {v4498 : FVec F S64x256 .bf16} {s s' : Mxu F} (hk : Clean s) (hs : (stJ 1 0 72 fits_72_32 v1104 s (k0_pay559 v783 v4454 v4458 v4462 v4498) v3450) = s') :
    Ev c (Rc c (rowW t1 t2) t1.val t2.val G U X) (k0_part97 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v138 v783 t1 t2 v1061 v1104 v3450 v4454 v4458 v4462 s v4498 : Pr F _)
      ⟨s', k0_pay561 (ldW G t1.val t2.val (plOf w3 w4 w5 w6).s2 2 1), k0_pay562 (ldW G t1.val t2.val (plOf w3 w4 w5 w6).s2 2 1), k0_pay563 (ldW G t1.val t2.val (plOf w3 w4 w5 w6).s2 2 1), k0_pay564 (ldW G t1.val t2.val (plOf w3 w4 w5 w6).s2 2 1), k0_pay565 (ldW U t1.val t2.val (plOf w3 w4 w5 w6).s2 2 1)⟩ := by
  subst hs
  rw [k0_part97_eq_skeleton]
  unfold k0_part97_skel
  refine Ev.bind (Ev.push (hk _ _)) ?_
  refine Ev.bind Ev.junk ?_
  refine Ev.bind (Ev.load0 (plOf w3 w4 w5 w6).s2 2 1 rfl) ?_
  refine Ev.bind (Ev.load1 (plOf w3 w4 w5 w6).s2 2 1 rfl) ?_
  exact Ev.pure' rfl

theorem ev_part98 {v783 : IVec S8x8x256 32} {v1104 : FVec F S64x256 .bf16} {v3450 : Vec F S32x256 .bf16} {v4526 : IVec S8x256 32} {v4530 : IVec S8x256 32} {v4534 : IVec S8x256 32} {v4538 : IVec S8x256 32} {v4542 : IVec S8x256 32} {s s' : Mxu F} (hk : Clean s) (hs : (stJ 0 1 80 fits_80_32 v1104 s (k0_pay569 (F := F) v783 v4526 v4530 v4534 v4538) v3450) = s') :
    Ev c (Rc c (rowW t1 t2) t1.val t2.val G U X) (k0_part98 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v3450 s v4526 v4530 v4534 v4538 v4542 : Pr F _)
      ⟨k0_pay566 v4542, k0_pay567 v4542, k0_pay568 v4542, s', k0_pay570 (F := F) v783 v4542⟩ := by
  subst hs
  rw [k0_part98_eq_skeleton]
  unfold k0_part98_skel
  refine Ev.bind (Ev.push (hk _ _)) ?_
  refine Ev.bind Ev.junk ?_
  exact Ev.pure' rfl

theorem ev_part99 {v783 : IVec S8x8x256 32} {arg15 : BitVec 32} {v1061 : BitVec 32} {v1104 : FVec F S64x256 .bf16} {v3450 : Vec F S32x256 .bf16} {v4548 : IVec S8x256 32} {v4552 : IVec S8x256 32} {v4556 : IVec S8x256 32} {v4592 : FVec F S64x256 .bf16} {s s' : Mxu F} (hk : Clean s) (hs : (stJ 1 1 80 fits_80_32 v1104 s (k0_pay571 v783 v4548 v4552 v4556 v4592) v3450) = s') :
    Ev c (Rc c (rowW t1 t2) t1.val t2.val G U X) (k0_part99 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 arg15 v1061 v1104 v3450 v4548 v4552 v4556 s v4592 : Pr F _)
      ⟨s', (ldX X t2.val 3), k0_pay572 (ldW G t1.val t2.val 0 3 0), k0_pay573 (ldW G t1.val t2.val 1 3 0), k0_pay574 (ldW G t1.val t2.val 2 3 0), k0_pay575 (ldW G t1.val t2.val 0 3 0), k0_pay576⟩ := by
  subst hs
  rw [k0_part99_eq_skeleton]
  unfold k0_part99_skel
  refine Ev.bind (Ev.push (hk _ _)) ?_
  refine Ev.bind Ev.junk ?_
  refine Ev.bind (Ev.loadX 3 (xoff3 _)) ?_
  refine Ev.bind (Ev.load0 0 3 0 rfl) ?_
  refine Ev.bind (Ev.load0 1 3 0 rfl) ?_
  refine Ev.bind (Ev.load0 2 3 0 rfl) ?_
  exact Ev.pure' rfl

theorem ev_part100 {v4623 : IVec S8x256 32} {v4626 : IVec S8x256 32} {v4629 : IVec S8x256 32} {v4631 : IVec S8x256 32} {v4632 : IVec S8x256 32} :
    Ev c (Rc c (rowW t1 t2) t1.val t2.val G U X) (k0_part100 arg0 harg0 arg1 harg1 arg2 harg2 arg3 harg3 arg4 harg4 arg5 harg5 arg6 harg6 arg7 harg7 arg8 harg8 (Memref.whole cc0_scratch0) h9 (Memref.whole cc0_scratch1) h10 arg11 harg11 arg12 v4623 v4626 v4629 v4631 v4632 : Pr F _)
      ⟨k0_pay579 v4626 v4629 v4631 v4632, k0_pay580 v4623 v4626 v4629, k0_pay581 v4626 v4629 v4631 v4632, k0_pay582 v4623 v4626, k0_pay583 v4629⟩ := by
  rw [k0_part100_eq_skeleton]
  unfold k0_part100_skel
  exact Ev.pure' rfl

theorem ev_part101 {v1061 : BitVec 32} {v4672 : IVec S8x256 32} {v4674 : IVec S8x256 32} :
    Ev c (Rc c (rowW t1 t2) t1.val t2.val G U X) (k0_part101 arg0 harg0 arg1 harg1 arg2 harg2 arg3 harg3 arg4 harg4 arg5 harg5 arg6 harg6 arg7 harg7 arg8 harg8 (Memref.whole cc0_scratch0) h9 (Memref.whole cc0_scratch1) h10 arg11 harg11 arg12 t1 t2 v1061 v4672 v4674 : Pr F _)
      ⟨k0_pay584 v4672 v4674, k0_pay587 (ldW U t1.val t2.val 2 3 0), k0_pay588 (ldW U t1.val t2.val 0 3 0) (ldW U t1.val t2.val 1 3 0), k0_pay589 (ldW U t1.val t2.val 0 3 0) (ldW U t1.val t2.val 1 3 0), k0_pay590 (ldW U t1.val t2.val 0 3 0) (ldW U t1.val t2.val 1 3 0) (ldW U t1.val t2.val 2 3 0), k0_pay591 (ldW U t1.val t2.val 0 3 0) (ldW U t1.val t2.val 1 3 0), k0_pay592⟩ := by
  rw [k0_part101_eq_skeleton]
  unfold k0_part101_skel
  refine Ev.bind (Ev.load1 0 3 0 rfl) ?_
  refine Ev.bind (Ev.load1 1 3 0 rfl) ?_
  refine Ev.bind (Ev.load1 2 3 0 rfl) ?_
  exact Ev.pure' rfl

theorem ev_part102 {v783 : IVec S8x8x256 32} {v4650 : IVec S8x256 32} {v4659 : IVec S8x256 32} {v4668 : IVec S8x256 32} {v4677 : IVec S8x256 32} {v4686 : IVec S8x256 32} {v4693 : IVec S8x256 32} {v4700 : IVec S8x256 32} {v4709 : IVec S8x256 32} {v4710 : IVec S8x256 32} :
    Ev c (Rc c (rowW t1 t2) t1.val t2.val G U X) (k0_part102 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v4650 v4659 v4668 v4677 v4686 v4693 v4700 v4709 v4710 : Pr F _)
      ⟨k0_pay593 v4686 v4709 v4710, k0_pay594 v4686 v4693, k0_pay595 v4686 v4700, k0_pay596 (F := F) v783 v4650, k0_pay597 (F := F) v783 v4659, k0_pay598 (F := F) v783 v4668, k0_pay599 v783 v4677⟩ := by
  rw [k0_part102_eq_skeleton]
  unfold k0_part102_skel
  exact Ev.pure' rfl

theorem ev_part103 {hw : k0_chk1 w3 w4 w5 w6} {v132 : BitVec 32} {v783 : IVec S8x8x256 32} {v1061 : BitVec 32} {v1104 : FVec F S64x256 .bf16} {v4620 : Vec F S32x256 .bf16} {v4707 : IVec S8x256 32} {v4716 : IVec S8x256 32} {v4725 : IVec S8x256 32} {v4734 : IVec S8x256 32} {v4741 : FVec F S64x256 .bf16} {v4748 : FVec F S64x256 .bf16} {v4755 : FVec F S64x256 .bf16} {v4760 : IVec S64x256 32} {s s' : Mxu F} (hk : Clean s) (hs : (stJ 1 0 0 fits_0_32 v1104 (stJ 0 0 0 fits_0_32 v1104 s (k0_pay600 v4741 v4748 v4755 v4760) v4620) (k0_pay601 (F := F) v783 v4707 v4716 v4725 v4734) v4620) = s') :
    Ev c (Rc c (rowW t1 t2) t1.val t2.val G U X) (k0_part103 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v132 v783 t1 t2 v1061 v1104 s v4620 v4707 v4716 v4725 v4734 v4741 v4748 v4755 v4760 : Pr F _)
      ⟨s', k0_pay602 (ldW G t1.val t2.val (plOf w3 w4 w5 w6).hi 3 0), k0_pay603 (ldW G t1.val t2.val (plOf w3 w4 w5 w6).lo 3 0), k0_pay604 (ldW G t1.val t2.val (plOf w3 w4 w5 w6).hi 3 0)⟩ := by
  subst hs
  rw [k0_part103_eq_skeleton]
  unfold k0_part103_skel
  refine Ev.bind (Ev.push (hk _ _)) ?_
  refine Ev.bind Ev.junk ?_
  refine Ev.bind (Ev.push ((hk.stJ) _ _)) ?_
  refine Ev.bind Ev.junk ?_
  refine Ev.bind (Ev.load0 (plOf w3 w4 w5 w6).hi 3 0 rfl) ?_
  refine Ev.bind (Ev.load0 (plOf w3 w4 w5 w6).lo 3 0 rfl) ?_
  exact Ev.pure' rfl

theorem ev_part104 {hw : k0_chk1 w3 w4 w5 w6} {v132 : BitVec 32} {v1061 : BitVec 32} {v4796 : IVec S8x256 32} {v4801 : IVec S8x256 32} {v4805 : IVec S8x256 32} :
    Ev c (Rc c (rowW t1 t2) t1.val t2.val G U X) (k0_part104 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v132 t1 t2 v1061 v4796 v4801 v4805 : Pr F _)
      ⟨k0_pay607 v4801 v4805, k0_pay608 v4796 v4801, k0_pay609 v4801 v4805, k0_pay610 v4796 v4801, k0_pay611 (ldW U t1.val t2.val (plOf w3 w4 w5 w6).hi 3 0), k0_pay612 (ldW U t1.val t2.val (plOf w3 w4 w5 w6).lo 3 0), k0_pay613 (ldW U t1.val t2.val (plOf w3 w4 w5 w6).hi 3 0) (ldW U t1.val t2.val (plOf w3 w4 w5 w6).lo 3 0), k0_pay614⟩ := by
  rw [k0_part104_eq_skeleton]
  unfold k0_part104_skel
  refine Ev.bind (Ev.load1 (plOf w3 w4 w5 w6).hi 3 0 rfl) ?_
  refine Ev.bind (Ev.load1 (plOf w3 w4 w5 w6).lo 3 0 rfl) ?_
  exact Ev.pure' rfl

theorem ev_part105 {v783 : IVec S8x8x256 32} {v1104 : FVec F S64x256 .bf16} {v4620 : Vec F S32x256 .bf16} {v4817 : IVec S8x256 32} {v4819 : IVec S8x256 32} {v4823 : IVec S8x256 32} {v4827 : IVec S8x256 32} {v4831 : IVec S8x256 32} {v4836 : IVec S8x256 32} {v4843 : IVec S8x256 32} {v4844 : IVec S8x256 32} {s s' : Mxu F} (hk : Clean s) (hs : (stJ 0 1 8 fits_8_32 v1104 s (k0_pay619 (F := F) v783 v4817 v4819 v4823 v4827) v4620) = s') :
    Ev c (Rc c (rowW t1 t2) t1.val t2.val G U X) (k0_part105 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v4620 s v4817 v4819 v4823 v4827 v4831 v4836 v4843 v4844 : Pr F _)
      ⟨k0_pay616 v4831 v4836 v4844, k0_pay617 v4843, k0_pay618 v4831 v4836 v4844, s', k0_pay620 v4843⟩ := by
  subst hs
  rw [k0_part105_eq_skeleton]
  unfold k0_part105_skel
  refine Ev.bind (Ev.push (hk _ _)) ?_
  refine Ev.bind Ev.junk ?_
  exact Ev.pure' rfl

theorem ev_part106 {hw : k0_chk1 w3 w4 w5 w6} {v134 : BitVec 32} {v783 : IVec S8x8x256 32} {v1061 : BitVec 32} {v1104 : FVec F S64x256 .bf16} {v4620 : Vec F S32x256 .bf16} {v4854 : IVec S8x256 32} {v4858 : IVec S8x256 32} {v4862 : IVec S8x256 32} {v4893 : IVec S8x1x256 32} {s s' : Mxu F} (hk : Clean s) (hs : (stJ 1 1 8 fits_8_32 v1104 s (k0_pay621 (F := F) v783 v4854 v4858 v4862 v4893) v4620) = s') :
    Ev c (Rc c (rowW t1 t2) t1.val t2.val G U X) (k0_part106 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v134 v783 t1 t2 v1061 v1104 v4620 v4854 v4858 v4862 s v4893 : Pr F _)
      ⟨s', k0_pay623 (ldW G t1.val t2.val (plOf w3 w4 w5 w6).s0 3 0), k0_pay624 (ldW G t1.val t2.val (plOf w3 w4 w5 w6).s0 3 0), k0_pay625 (ldW G t1.val t2.val (plOf w3 w4 w5 w6).s0 3 0), k0_pay626 (ldW G t1.val t2.val (plOf w3 w4 w5 w6).s0 3 0)⟩ := by
  subst hs
  rw [k0_part106_eq_skeleton]
  unfold k0_part106_skel
  refine Ev.bind (Ev.push (hk _ _)) ?_
  refine Ev.bind Ev.junk ?_
  refine Ev.bind (Ev.load0 (plOf w3 w4 w5 w6).s0 3 0 rfl) ?_
  exact Ev.pure' rfl

theorem ev_part107 {hw : k0_chk1 w3 w4 w5 w6} {v134 : BitVec 32} {v783 : IVec S8x8x256 32} {v1104 : FVec F S64x256 .bf16} {v4620 : Vec F S32x256 .bf16} {v4926 : IVec S8x256 32} {v4930 : IVec S8x256 32} {v4934 : IVec S8x256 32} {v4938 : IVec S8x256 32} {s s' : Mxu F} (hk : Clean s) (hs : (stJ 0 0 16 fits_16_32 v1104 s (k0_pay631 (F := F) v783 v4926 v4930 v4934 v4938) v4620) = s') :
    Ev c (Rc c (rowW t1 t2) t1.val t2.val G U X) (k0_part107 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v134 v783 t1 t2 v1104 v4620 s v4926 v4930 v4934 v4938 : Pr F _)
      ⟨k0_pay628 (ldW U t1.val t2.val (plOf w3 w4 w5 w6).s0 3 0), k0_pay629 (ldW U t1.val t2.val (plOf w3 w4 w5 w6).s0 3 0), k0_pay630 (ldW U t1.val t2.val (plOf w3 w4 w5 w6).s0 3 0), s', k0_pay632 (ldW U t1.val t2.val (plOf w3 w4 w5 w6).s0 3 0)⟩ := by
  subst hs
  rw [k0_part107_eq_skeleton]
  unfold k0_part107_skel
  refine Ev.bind (Ev.load1 (plOf w3 w4 w5 w6).s0 3 0 rfl) ?_
  refine Ev.bind (Ev.push (hk _ _)) ?_
  refine Ev.bind Ev.junk ?_
  exact Ev.pure' rfl

theorem ev_part108 {hw : k0_chk1 w3 w4 w5 w6} {v136 : BitVec 32} {v783 : IVec S8x8x256 32} {v1061 : BitVec 32} {v1104 : FVec F S64x256 .bf16} {v4620 : Vec F S32x256 .bf16} {v4948 : IVec S8x256 32} {v4952 : IVec S8x256 32} {v4956 : IVec S8x256 32} {v4987 : IVec S8x1x256 32} {s s' : Mxu F} (hk : Clean s) (hs : (stJ 1 0 16 fits_16_32 v1104 s (k0_pay633 (F := F) v783 v4948 v4952 v4956 v4987) v4620) = s') :
    Ev c (Rc c (rowW t1 t2) t1.val t2.val G U X) (k0_part108 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v136 v783 t1 t2 v1061 v1104 v4620 v4948 v4952 v4956 s v4987 : Pr F _)
      ⟨s', k0_pay635 (ldW G t1.val t2.val (plOf w3 w4 w5 w6).s1 3 0), k0_pay636 (ldW G t1.val t2.val (plOf w3 w4 w5 w6).s1 3 0), k0_pay637 (ldW G t1.val t2.val (plOf w3 w4 w5 w6).s1 3 0), k0_pay638 (ldW G t1.val t2.val (plOf w3 w4 w5 w6).s1 3 0)⟩ := by
  subst hs
  rw [k0_part108_eq_skeleton]
  unfold k0_part108_skel
  refine Ev.bind (Ev.push (hk _ _)) ?_
  refine Ev.bind Ev.junk ?_
  refine Ev.bind (Ev.load0 (plOf w3 w4 w5 w6).s1 3 0 rfl) ?_
  exact Ev.pure' rfl

theorem ev_part109 {hw : k0_chk1 w3 w4 w5 w6} {v136 : BitVec 32} {v783 : IVec S8x8x256 32} {v1104 : FVec F S64x256 .bf16} {v4620 : Vec F S32x256 .bf16} {v5020 : IVec S8x256 32} {v5024 : IVec S8x256 32} {v5028 : IVec S8x256 32} {v5032 : IVec S8x256 32} {s s' : Mxu F} (hk : Clean s) (hs : (stJ 0 1 24 fits_24_32 v1104 s (k0_pay643 (F := F) v783 v5020 v5024 v5028 v5032) v4620) = s') :
    Ev c (Rc c (rowW t1 t2) t1.val t2.val G U X) (k0_part109 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v136 v783 t1 t2 v1104 v4620 s v5020 v5024 v5028 v5032 : Pr F _)
      ⟨k0_pay640 (ldW U t1.val t2.val (plOf w3 w4 w5 w6).s1 3 0), k0_pay641 (ldW U t1.val t2.val (plOf w3 w4 w5 w6).s1 3 0), k0_pay642 (ldW U t1.val t2.val (plOf w3 w4 w5 w6).s1 3 0), s', k0_pay644 (ldW U t1.val t2.val (plOf w3 w4 w5 w6).s1 3 0)⟩ := by
  subst hs
  rw [k0_part109_eq_skeleton]
  unfold k0_part109_skel
  refine Ev.bind (Ev.load1 (plOf w3 w4 w5 w6).s1 3 0 rfl) ?_
  refine Ev.bind (Ev.push (hk _ _)) ?_
  refine Ev.bind Ev.junk ?_
  exact Ev.pure' rfl

theorem ev_part110 {hw : k0_chk1 w3 w4 w5 w6} {v138 : BitVec 32} {v783 : IVec S8x8x256 32} {v1061 : BitVec 32} {v1104 : FVec F S64x256 .bf16} {v4620 : Vec F S32x256 .bf16} {v5042 : IVec S8x256 32} {v5046 : IVec S8x256 32} {v5050 : IVec S8x256 32} {v5081 : IVec S8x1x256 32} {s s' : Mxu F} (hk : Clean s) (hs : (stJ 1 1 24 fits_24_32 v1104 s (k0_pay645 (F := F) v783 v5042 v5046 v5050 v5081) v4620) = s') :
    Ev c (Rc c (rowW t1 t2) t1.val t2.val G U X) (k0_part110 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v138 v783 t1 t2 v1061 v1104 v4620 v5042 v5046 v5050 s v5081 : Pr F _)
      ⟨s', k0_pay647 (ldW G t1.val t2.val (plOf w3 w4 w5 w6).s2 3 0), k0_pay648 (ldW G t1.val t2.val (plOf w3 w4 w5 w6).s2 3 0), k0_pay649 (ldW G t1.val t2.val (plOf w3 w4 w5 w6).s2 3 0), k0_pay650 (ldW G t1.val t2.val (plOf w3 w4 w5 w6).s2 3 0)⟩ := by
  subst hs
  rw [k0_part110_eq_skeleton]
  unfold k0_part110_skel
  refine Ev.bind (Ev.push (hk _ _)) ?_
  refine Ev.bind Ev.junk ?_
  refine Ev.bind (Ev.load0 (plOf w3 w4 w5 w6).s2 3 0 rfl) ?_
  exact Ev.pure' rfl

theorem ev_part111 {hw : k0_chk1 w3 w4 w5 w6} {v138 : BitVec 32} {v783 : IVec S8x8x256 32} {v1104 : FVec F S64x256 .bf16} {v4620 : Vec F S32x256 .bf16} {v5114 : IVec S8x256 32} {v5118 : IVec S8x256 32} {v5122 : IVec S8x256 32} {v5126 : IVec S8x256 32} {s s' : Mxu F} (hk : Clean s) (hs : (stJ 0 0 32 fits_32_32 v1104 s (k0_pay655 (F := F) v783 v5114 v5118 v5122 v5126) v4620) = s') :
    Ev c (Rc c (rowW t1 t2) t1.val t2.val G U X) (k0_part111 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v138 v783 t1 t2 v1104 v4620 s v5114 v5118 v5122 v5126 : Pr F _)
      ⟨k0_pay652 (ldW U t1.val t2.val (plOf w3 w4 w5 w6).s2 3 0), k0_pay653 (ldW U t1.val t2.val (plOf w3 w4 w5 w6).s2 3 0), k0_pay654 (ldW U t1.val t2.val (plOf w3 w4 w5 w6).s2 3 0), s', k0_pay656 (ldW U t1.val t2.val (plOf w3 w4 w5 w6).s2 3 0)⟩ := by
  subst hs
  rw [k0_part111_eq_skeleton]
  unfold k0_part111_skel
  refine Ev.bind (Ev.load1 (plOf w3 w4 w5 w6).s2 3 0 rfl) ?_
  refine Ev.bind (Ev.push (hk _ _)) ?_
  refine Ev.bind Ev.junk ?_
  exact Ev.pure' rfl

theorem ev_part112 {v783 : IVec S8x8x256 32} {v1061 : BitVec 32} {v1104 : FVec F S64x256 .bf16} {v4620 : Vec F S32x256 .bf16} {v5136 : IVec S8x256 32} {v5140 : IVec S8x256 32} {v5144 : IVec S8x256 32} {v5175 : IVec S8x1x256 32} {s s' : Mxu F} (hk : Clean s) (hs : (stJ 1 0 32 fits_32_32 v1104 s (k0_pay657 (F := F) v783 v5136 v5140 v5144 v5175) v4620) = s') :
    Ev c (Rc c (rowW t1 t2) t1.val t2.val G U X) (k0_part112 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 v1061 v1104 v4620 v5136 v5140 v5144 s v5175 : Pr F _)
      ⟨s', k0_pay658 (ldW G t1.val t2.val 0 3 1), k0_pay659 (ldW G t1.val t2.val 1 3 1), k0_pay660 (ldW G t1.val t2.val 2 3 1), k0_pay661 (ldW G t1.val t2.val 0 3 1), k0_pay662 (ldW G t1.val t2.val 1 3 1)⟩ := by
  subst hs
  rw [k0_part112_eq_skeleton]
  unfold k0_part112_skel
  refine Ev.bind (Ev.push (hk _ _)) ?_
  refine Ev.bind Ev.junk ?_
  refine Ev.bind (Ev.load0 0 3 1 rfl) ?_
  refine Ev.bind (Ev.load0 1 3 1 rfl) ?_
  refine Ev.bind (Ev.load0 2 3 1 rfl) ?_
  exact Ev.pure' rfl

theorem ev_part113 {v5205 : IVec S8x256 32} {v5208 : IVec S8x256 32} {v5211 : IVec S8x256 32} {v5215 : IVec S8x256 32} {v5217 : IVec S8x256 32} :
    Ev c (Rc c (rowW t1 t2) t1.val t2.val G U X) (k0_part113 arg0 harg0 arg1 harg1 arg2 harg2 arg3 harg3 arg4 harg4 arg5 harg5 arg6 harg6 arg7 harg7 arg8 harg8 (Memref.whole cc0_scratch0) h9 (Memref.whole cc0_scratch1) h10 arg11 harg11 arg12 v5205 v5208 v5211 v5215 v5217 : Pr F _)
      ⟨k0_pay665 v5211 v5215 v5217, k0_pay666 v5205 v5208 v5211, k0_pay667 v5211 v5215 v5217, k0_pay668 v5205 v5208 v5211⟩ := by
  rw [k0_part113_eq_skeleton]
  unfold k0_part113_skel
  exact Ev.pure' rfl

theorem ev_part114 {v1061 : BitVec 32} :
    Ev c (Rc c (rowW t1 t2) t1.val t2.val G U X) (k0_part114 arg0 harg0 arg1 harg1 arg2 harg2 arg3 harg3 arg4 harg4 arg5 harg5 arg6 harg6 arg7 harg7 arg8 harg8 (Memref.whole cc0_scratch0) h9 (Memref.whole cc0_scratch1) h10 arg11 harg11 arg12 t1 t2 v1061 : Pr F _)
      ⟨k0_pay671 (ldW U t1.val t2.val 2 3 1), k0_pay672 (ldW U t1.val t2.val 0 3 1) (ldW U t1.val t2.val 1 3 1), k0_pay673 (ldW U t1.val t2.val 0 3 1) (ldW U t1.val t2.val 1 3 1), k0_pay674 (ldW U t1.val t2.val 0 3 1) (ldW U t1.val t2.val 1 3 1) (ldW U t1.val t2.val 2 3 1), k0_pay675 (ldW U t1.val t2.val 0 3 1) (ldW U t1.val t2.val 1 3 1), k0_pay676 (ldW U t1.val t2.val 2 3 1)⟩ := by
  rw [k0_part114_eq_skeleton]
  unfold k0_part114_skel
  refine Ev.bind (Ev.load1 0 3 1 rfl) ?_
  refine Ev.bind (Ev.load1 1 3 1 rfl) ?_
  refine Ev.bind (Ev.load1 2 3 1 rfl) ?_
  exact Ev.pure' rfl

theorem ev_part115 {v783 : IVec S8x8x256 32} {v5232 : IVec S8x256 32} {v5241 : IVec S8x256 32} {v5250 : IVec S8x256 32} {v5259 : IVec S8x256 32} {v5268 : IVec S8x256 32} {v5275 : IVec S8x256 32} {v5282 : IVec S8x256 32} {v5293 : IVec S8x256 32} {v5295 : IVec S8x256 32} {s s' : Mxu F} (hk : Clean s) (hs : (stP 0 1 s (k0_pay680 (F := F) v783 v5232 v5241 v5250 v5259)) = s') :
    Ev c (Rc c (rowW t1 t2) t1.val t2.val G U X) (k0_part115 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 s v5232 v5241 v5250 v5259 v5268 v5275 v5282 v5293 v5295 : Pr F _)
      ⟨k0_pay677 v5293 v5295, k0_pay678 v5268 v5275, k0_pay679 v5268 v5282, s'⟩ := by
  subst hs
  rw [k0_part115_eq_skeleton]
  unfold k0_part115_skel
  refine Ev.bind (Ev.push (hk _ _)) ?_
  exact Ev.pure' rfl

theorem ev_part116 {vP : FVec F S256x256 .bf16} {hw : k0_chk1 w3 w4 w5 w6} {v132 : BitVec 32} {v783 : IVec S8x8x256 32} {v1061 : BitVec 32} {v1104 : FVec F S64x256 .bf16} {v4620 : Vec F S32x256 .bf16} {v5289 : IVec S8x256 32} {v5298 : IVec S8x256 32} {v5307 : IVec S8x256 32} {v5316 : IVec S8x256 32} {s s' : Mxu F} (hk : Clean s) (hs : (stJ 1 1 48 fits_48_32 v1104 (stJ 0 1 48 fits_48_32 v1104 s vP v4620) (k0_pay681 (F := F) v783 v5289 v5298 v5307 v5316) v4620) = s') :
    Ev c (Rc c (rowW t1 t2) t1.val t2.val G U X) (k0_part116 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v132 v783 t1 t2 v1061 v1104 v4620 v5289 v5298 v5307 v5316 (stP 0 1 s vP) : Pr F _)
      ⟨s', k0_pay682 (ldW G t1.val t2.val (plOf w3 w4 w5 w6).hi 3 1), k0_pay683 (ldW G t1.val t2.val (plOf w3 w4 w5 w6).lo 3 1), k0_pay684 (ldW G t1.val t2.val (plOf w3 w4 w5 w6).hi 3 1) (ldW G t1.val t2.val (plOf w3 w4 w5 w6).lo 3 1)⟩ := by
  subst hs
  rw [k0_part116_eq_skeleton]
  unfold k0_part116_skel
  refine Ev.bind Ev.junk ?_
  refine Ev.bind (Ev.push ((hk.stJ) _ _)) ?_
  refine Ev.bind Ev.junk ?_
  refine Ev.bind (Ev.load0 (plOf w3 w4 w5 w6).hi 3 1 rfl) ?_
  refine Ev.bind (Ev.load0 (plOf w3 w4 w5 w6).lo 3 1 rfl) ?_
  exact Ev.pure' rfl

theorem ev_part117 {hw : k0_chk1 w3 w4 w5 w6} {v132 : BitVec 32} {v1061 : BitVec 32} {v5378 : IVec S8x256 32} {v5383 : IVec S8x256 32} {v5390 : IVec S8x256 32} :
    Ev c (Rc c (rowW t1 t2) t1.val t2.val G U X) (k0_part117 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v132 t1 t2 v1061 v5378 v5383 v5390 : Pr F _)
      ⟨k0_pay686 v5390, k0_pay687 v5378 v5383, k0_pay688 v5390, k0_pay689 v5378 v5383, k0_pay692 (ldW U t1.val t2.val (plOf w3 w4 w5 w6).hi 3 1) (ldW U t1.val t2.val (plOf w3 w4 w5 w6).lo 3 1), k0_pay693 (ldW U t1.val t2.val (plOf w3 w4 w5 w6).hi 3 1), k0_pay694 (ldW U t1.val t2.val (plOf w3 w4 w5 w6).lo 3 1)⟩ := by
  rw [k0_part117_eq_skeleton]
  unfold k0_part117_skel
  refine Ev.bind (Ev.load1 (plOf w3 w4 w5 w6).hi 3 1 rfl) ?_
  refine Ev.bind (Ev.load1 (plOf w3 w4 w5 w6).lo 3 1 rfl) ?_
  exact Ev.pure' rfl

theorem ev_part118 {v783 : IVec S8x8x256 32} {v1104 : FVec F S64x256 .bf16} {v4620 : Vec F S32x256 .bf16} {v5399 : IVec S8x256 32} {v5401 : IVec S8x256 32} {v5405 : IVec S8x256 32} {v5409 : IVec S8x256 32} {v5425 : IVec S8x256 32} {v5427 : IVec S8x256 32} {v5429 : IVec S8x256 32} {s s' : Mxu F} (hk : Clean s) (hs : (stJ 0 0 56 fits_56_32 v1104 s (k0_pay699 (F := F) v783 v5399 v5401 v5405 v5409) v4620) = s') :
    Ev c (Rc c (rowW t1 t2) t1.val t2.val G U X) (k0_part118 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v4620 s v5399 v5401 v5405 v5409 v5425 v5427 v5429 : Pr F _)
      ⟨k0_pay696 v5427 v5429, k0_pay697 v5425, k0_pay698 v5427 v5429, s', k0_pay700 v783 v5425⟩ := by
  subst hs
  rw [k0_part118_eq_skeleton]
  unfold k0_part118_skel
  refine Ev.bind (Ev.push (hk _ _)) ?_
  refine Ev.bind Ev.junk ?_
  exact Ev.pure' rfl

theorem ev_part119 {hw : k0_chk1 w3 w4 w5 w6} {v134 : BitVec 32} {v783 : IVec S8x8x256 32} {v1061 : BitVec 32} {v1104 : FVec F S64x256 .bf16} {v4620 : Vec F S32x256 .bf16} {v5436 : IVec S8x256 32} {v5440 : IVec S8x256 32} {v5444 : IVec S8x256 32} {v5479 : IVec S64x256 4} {s s' : Mxu F} (hk : Clean s) (hs : (stJ 1 0 56 fits_56_32 v1104 s (k0_pay701 (F := F) v783 v5436 v5440 v5444 v5479) v4620) = s') :
    Ev c (Rc c (rowW t1 t2) t1.val t2.val G U X) (k0_part119 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v134 v783 t1 t2 v1061 v1104 v4620 v5436 v5440 v5444 s v5479 : Pr F _)
      ⟨s', k0_pay703 (ldW G t1.val t2.val (plOf w3 w4 w5 w6).s0 3 1), k0_pay704 (ldW G t1.val t2.val (plOf w3 w4 w5 w6).s0 3 1), k0_pay705 (ldW G t1.val t2.val (plOf w3 w4 w5 w6).s0 3 1), k0_pay706 (ldW G t1.val t2.val (plOf w3 w4 w5 w6).s0 3 1), (ldW U t1.val t2.val (plOf w3 w4 w5 w6).s0 3 1)⟩ := by
  subst hs
  rw [k0_part119_eq_skeleton]
  unfold k0_part119_skel
  refine Ev.bind (Ev.push (hk _ _)) ?_
  refine Ev.bind Ev.junk ?_
  refine Ev.bind (Ev.load0 (plOf w3 w4 w5 w6).s0 3 1 rfl) ?_
  refine Ev.bind (Ev.load1 (plOf w3 w4 w5 w6).s0 3 1 rfl) ?_
  exact Ev.pure' rfl

theorem ev_part120 {v783 : IVec S8x8x256 32} {v1104 : FVec F S64x256 .bf16} {v4620 : Vec F S32x256 .bf16} {v5508 : IVec S8x256 32} {v5512 : IVec S8x256 32} {v5516 : IVec S8x256 32} {v5520 : IVec S8x256 32} {v5523 : Vec F S1x1x1x8x256 .i32} {s s' : Mxu F} (hk : Clean s) (hs : (stJ 0 1 64 fits_64_32 v1104 s (k0_pay711 (F := F) v783 v5508 v5512 v5516 v5520) v4620) = s') :
    Ev c (Rc c (rowW t1 t2) t1.val t2.val G U X) (k0_part120 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v4620 s v5508 v5512 v5516 v5520 v5523 : Pr F _)
      ⟨k0_pay708 v5523, k0_pay709 v5523, k0_pay710 v5523, s', k0_pay712 v783 v5523⟩ := by
  subst hs
  rw [k0_part120_eq_skeleton]
  unfold k0_part120_skel
  refine Ev.bind (Ev.push (hk _ _)) ?_
  refine Ev.bind Ev.junk ?_
  exact Ev.pure' rfl

theorem ev_part121 {hw : k0_chk1 w3 w4 w5 w6} {v136 : BitVec 32} {v783 : IVec S8x8x256 32} {v1061 : BitVec 32} {v1104 : FVec F S64x256 .bf16} {v4620 : Vec F S32x256 .bf16} {v5530 : IVec S8x256 32} {v5534 : IVec S8x256 32} {v5538 : IVec S8x256 32} {v5573 : IVec S64x256 4} {s s' : Mxu F} (hk : Clean s) (hs : (stJ 1 1 64 fits_64_32 v1104 s (k0_pay713 (F := F) v783 v5530 v5534 v5538 v5573) v4620) = s') :
    Ev c (Rc c (rowW t1 t2) t1.val t2.val G U X) (k0_part121 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v136 v783 t1 t2 v1061 v1104 v4620 v5530 v5534 v5538 s v5573 : Pr F _)
      ⟨s', k0_pay715 (ldW G t1.val t2.val (plOf w3 w4 w5 w6).s1 3 1), k0_pay716 (ldW G t1.val t2.val (plOf w3 w4 w5 w6).s1 3 1), k0_pay717 (ldW G t1.val t2.val (plOf w3 w4 w5 w6).s1 3 1), k0_pay718 (ldW G t1.val t2.val (plOf w3 w4 w5 w6).s1 3 1), (ldW U t1.val t2.val (plOf w3 w4 w5 w6).s1 3 1)⟩ := by
  subst hs
  rw [k0_part121_eq_skeleton]
  unfold k0_part121_skel
  refine Ev.bind (Ev.push (hk _ _)) ?_
  refine Ev.bind Ev.junk ?_
  refine Ev.bind (Ev.load0 (plOf w3 w4 w5 w6).s1 3 1 rfl) ?_
  refine Ev.bind (Ev.load1 (plOf w3 w4 w5 w6).s1 3 1 rfl) ?_
  exact Ev.pure' rfl

theorem ev_part122 {v783 : IVec S8x8x256 32} {v1104 : FVec F S64x256 .bf16} {v4620 : Vec F S32x256 .bf16} {v5602 : IVec S8x256 32} {v5606 : IVec S8x256 32} {v5610 : IVec S8x256 32} {v5614 : IVec S8x256 32} {v5617 : Vec F S1x1x1x8x256 .i32} {s s' : Mxu F} (hk : Clean s) (hs : (stJ 0 0 72 fits_72_32 v1104 s (k0_pay723 (F := F) v783 v5602 v5606 v5610 v5614) v4620) = s') :
    Ev c (Rc c (rowW t1 t2) t1.val t2.val G U X) (k0_part122 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v4620 s v5602 v5606 v5610 v5614 v5617 : Pr F _)
      ⟨k0_pay720 v5617, k0_pay721 v5617, k0_pay722 v5617, s', k0_pay724 v783 v5617⟩ := by
  subst hs
  rw [k0_part122_eq_skeleton]
  unfold k0_part122_skel
  refine Ev.bind (Ev.push (hk _ _)) ?_
  refine Ev.bind Ev.junk ?_
  exact Ev.pure' rfl

theorem ev_part123 {hw : k0_chk1 w3 w4 w5 w6} {v138 : BitVec 32} {v783 : IVec S8x8x256 32} {v1061 : BitVec 32} {v1104 : FVec F S64x256 .bf16} {v4620 : Vec F S32x256 .bf16} {v5624 : IVec S8x256 32} {v5628 : IVec S8x256 32} {v5632 : IVec S8x256 32} {v5667 : IVec S64x256 4} {s s' : Mxu F} (hk : Clean s) (hs : (stJ 1 0 72 fits_72_32 v1104 s (k0_pay725 (F := F) v783 v5624 v5628 v5632 v5667) v4620) = s') :
    Ev c (Rc c (rowW t1 t2) t1.val t2.val G U X) (k0_part123 arg0 harg0 arg1 harg1 arg2 harg2 arg3 harg3 arg4 harg4 arg5 harg5 arg6 harg6 arg7 harg7 arg8 harg8 (Memref.whole cc0_scratch0) h9 (Memref.whole cc0_scratch1) h10 arg11 harg11 arg12 w3 w4 w5 w6 hw v138 v783 t1 t2 v1061 v1104 v4620 v5624 v5628 v5632 s v5667 : Pr F _)
      ⟨s', k0_pay727 (ldW G t1.val t2.val (plOf w3 w4 w5 w6).s2 3 1), k0_pay728 (ldW G t1.val t2.val (plOf w3 w4 w5 w6).s2 3 1), k0_pay729 (ldW G t1.val t2.val (plOf w3 w4 w5 w6).s2 3 1), k0_pay730 (ldW G t1.val t2.val (plOf w3 w4 w5 w6).s2 3 1), (ldW U t1.val t2.val (plOf w3 w4 w5 w6).s2 3 1)⟩ := by
  subst hs
  rw [k0_part123_eq_skeleton]
  unfold k0_part123_skel
  refine Ev.bind (Ev.push (hk _ _)) ?_
  refine Ev.bind Ev.junk ?_
  refine Ev.bind (Ev.load0 (plOf w3 w4 w5 w6).s2 3 1 rfl) ?_
  refine Ev.bind (Ev.load1 (plOf w3 w4 w5 w6).s2 3 1 rfl) ?_
  exact Ev.pure' rfl

theorem ev_part124 {v783 : IVec S8x8x256 32} {v1104 : FVec F S64x256 .bf16} {v4620 : Vec F S32x256 .bf16} {v5696 : IVec S8x256 32} {v5700 : IVec S8x256 32} {v5704 : IVec S8x256 32} {v5708 : IVec S8x256 32} {v5711 : Vec F S1x1x1x8x256 .i32} {s s' : Mxu F} (hk : Clean s) (hs : (stJ 0 1 80 fits_80_32 v1104 s (k0_pay735 (F := F) v783 v5696 v5700 v5704 v5708) v4620) = s') :
    Ev c (Rc c (rowW t1 t2) t1.val t2.val G U X) (k0_part124 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 v1104 v4620 s v5696 v5700 v5704 v5708 v5711 : Pr F _)
      ⟨k0_pay732 v5711, k0_pay733 v5711, k0_pay734 v5711, s', k0_pay736 v783 v5711⟩ := by
  subst hs
  rw [k0_part124_eq_skeleton]
  unfold k0_part124_skel
  refine Ev.bind (Ev.push (hk _ _)) ?_
  refine Ev.bind Ev.junk ?_
  exact Ev.pure' rfl

end Cert.KernelIdeal.Hand
-- ==== Proof.PartsD.lean ====
/- The pieces of a chunk: the extra steps. -/
module

public import proofs.«01_k».proof.Proof.Codes

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

variable {arg0 : Memref sig .tc .smem S6 .i32} {harg0 : arg0.IsWhole}
variable {arg1 : Memref sig .tc .vmem S24x14336 .bf16} {harg1 : arg1.IsWhole}
variable {arg2 : Memref sig .tc .vmem S1x4096 .f32} {harg2 : arg2.IsWhole}
variable {arg3 : Memref sig .tc .vmem S1x4096 .f32} {harg3 : arg3.IsWhole}
variable {arg4 : Memref sig .tc .vmem S1x4096 .f32} {harg4 : arg4.IsWhole}
variable {arg5 : Memref sig .tc .vmem S1x4096 .f32} {harg5 : arg5.IsWhole}
variable {arg6 : Memref sig .tc .hbm S8x448x4096 .i32} {harg6 : arg6.IsWhole}
variable {arg7 : Memref sig .tc .hbm S8x448x4096 .i32} {harg7 : arg7.IsWhole}
variable {arg8 : Memref sig .tc .vmem S24x4096 .bf16} {harg8 : arg8.IsWhole}
variable {h9 : (Memref.whole cc0_scratch0).IsWhole}
variable {h10 : (Memref.whole cc0_scratch1).IsWhole}
variable {arg11 : Memref sig .tc .vmem S24x128 .f32} {harg11 : arg11.IsWhole}
variable {arg12 : DmaSems sig S3x2}
variable {c : Dev nD} {G U : Planes F} {X : Xp F} {w3 w4 w5 w6 : Elt F .i32} {t1 : Fin k0_t1_loop.trips} {t2 : Fin k0_t2_loop.trips}

theorem ev_part2 {v783 : IVec S8x8x256 32} {arg15 : BitVec 32} {v1061 : BitVec 32} {s s' : Mxu F} (hk : Clean s) (hs : (stP 0 0 s (k0_pay2 v783 (ldW G t1.val t2.val 4 0 0))) = s') :
    Ev c (Rc c (rowW t1 t2) t1.val t2.val G U X) (k0_part2 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 arg15 v1061 s : Pr F _)
      ⟨s', (Scalar.muli arg15 1024#32)⟩ := by
  subst hs
  rw [k0_part2_eq_skeleton]
  unfold k0_part2_skel
  refine Ev.bind (Ev.load0 4 0 0 rfl) ?_
  refine Ev.bind (Ev.push (hk _ _)) ?_
  exact Ev.pure' rfl

theorem ev_part3 {vP : FVec F S256x256 .bf16} {v783 : IVec S8x8x256 32} {v1061 : BitVec 32} {v5833 : BitVec 32} {s s' : Mxu F} (hk : Clean s) (hs : (stA 0 0 40 fits_40_32 s vP (ldX X t2.val 0)) = s') :
    Ev c (Rc c (rowW t1 t2) t1.val t2.val G U X) (k0_part3 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 v1061 (stP 0 0 s vP) v5833 : Pr F _)
      ⟨s', k0_pay4 v783 (ldW U t1.val t2.val 4 0 0), k0_pay5 v783 (ldW U t1.val t2.val 4 0 0), k0_pay6 v783 (ldW U t1.val t2.val 4 0 0), k0_pay7 (ldW U t1.val t2.val 4 0 0)⟩ := by
  subst hs
  rw [k0_part3_eq_skeleton]
  unfold k0_part3_skel
  refine Ev.bind (Ev.loadX 0 (foff0 _)) ?_
  refine Ev.bind (Ev.load1 4 0 0 rfl) ?_
  exact Ev.pure' rfl

theorem ev_part4 {v783 : IVec S8x8x256 32} {arg15 : BitVec 32} {v1061 : BitVec 32} {v5862 : FVec F S64x256 .bf16} {v5869 : FVec F S64x256 .bf16} {v5876 : FVec F S64x256 .bf16} {v5879 : IVec S8x8x256 32} {s s' : Mxu F} (hk : Clean s) (hs : (stA 1 0 40 fits_40_32 s (k0_pay8 v783 v5862 v5869 v5876 v5879) (ldX X t2.val 0)) = s') :
    Ev c (Rc c (rowW t1 t2) t1.val t2.val G U X) (k0_part4 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 arg15 v1061 s v5862 v5869 v5876 v5879 : Pr F _)
      ⟨s', k0_pay10 (ldW G t1.val t2.val 4 0 1), k0_pay11 v783 (ldW G t1.val t2.val 4 0 1), k0_pay12 v783 (ldW G t1.val t2.val 4 0 1), k0_pay13 (ldW G t1.val t2.val 4 0 1)⟩ := by
  subst hs
  rw [k0_part4_eq_skeleton]
  unfold k0_part4_skel
  refine Ev.bind (Ev.push (hk _ _)) ?_
  refine Ev.bind (Ev.loadX 0 (foff0 _)) ?_
  refine Ev.bind (Ev.load0 4 0 1 rfl) ?_
  exact Ev.pure' rfl

theorem ev_part5 {v783 : IVec S8x8x256 32} {arg15 : BitVec 32} {v1061 : BitVec 32} {v5907 : IVec S8x256 32} {v5914 : FVec F S64x256 .bf16} {v5921 : FVec F S64x256 .bf16} {v5923 : IVec S8x1x256 32} {s s' : Mxu F} (hk : Clean s) (hs : (stA 0 0 88 fits_88_32 s (k0_pay14 v783 v5907 v5914 v5921 v5923) (ldX X t2.val 0)) = s') :
    Ev c (Rc c (rowW t1 t2) t1.val t2.val G U X) (k0_part5 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 arg15 v1061 s v5907 v5914 v5921 v5923 : Pr F _)
      ⟨s', k0_pay16 (ldW U t1.val t2.val 4 0 1), k0_pay17 (ldW U t1.val t2.val 4 0 1), k0_pay18 v783 (ldW U t1.val t2.val 4 0 1), k0_pay19 (ldW U t1.val t2.val 4 0 1)⟩ := by
  subst hs
  rw [k0_part5_eq_skeleton]
  unfold k0_part5_skel
  refine Ev.bind (Ev.push (hk _ _)) ?_
  refine Ev.bind (Ev.loadX 0 (foff0 _)) ?_
  refine Ev.bind (Ev.load1 4 0 1 rfl) ?_
  exact Ev.pure' rfl

theorem ev_part6 {v783 : IVec S8x8x256 32} {arg15 : BitVec 32} {v1061 : BitVec 32} {v5955 : IVec S8x256 32} {v5959 : IVec S8x256 32} {v5966 : FVec F S64x256 .bf16} {v5967 : IVec S8x1x256 32} {s s' : Mxu F} (hk : Clean s) (hs : (stA 1 0 88 fits_88_32 s (k0_pay20 v783 v5955 v5959 v5966 v5967) (ldX X t2.val 0)) = s') :
    Ev c (Rc c (rowW t1 t2) t1.val t2.val G U X) (k0_part6 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 arg15 v1061 s v5955 v5959 v5966 v5967 : Pr F _)
      ⟨s', k0_pay22 (ldW G t1.val t2.val 4 1 0), k0_pay23 (ldW G t1.val t2.val 4 1 0), k0_pay24 (ldW G t1.val t2.val 4 1 0), k0_pay25 (ldW G t1.val t2.val 4 1 0)⟩ := by
  subst hs
  rw [k0_part6_eq_skeleton]
  unfold k0_part6_skel
  refine Ev.bind (Ev.push (hk _ _)) ?_
  refine Ev.bind (Ev.loadX 0 (foff0 _)) ?_
  refine Ev.bind (Ev.load0 4 1 0 rfl) ?_
  exact Ev.pure' rfl

theorem ev_part7 {v783 : IVec S8x8x256 32} {arg15 : BitVec 32} {v1061 : BitVec 32} {v5999 : IVec S8x256 32} {v6003 : IVec S8x256 32} {v6007 : IVec S8x256 32} {v6011 : IVec S8x256 32} {s s' : Mxu F} (hk : Clean s) (hs : (stA 0 0 40 fits_40_32 s (k0_pay26 (F := F) v783 v5999 v6003 v6007 v6011) (ldX X t2.val 1)) = s') :
    Ev c (Rc c (rowW t1 t2) t1.val t2.val G U X) (k0_part7 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 arg15 v1061 s v5999 v6003 v6007 v6011 : Pr F _)
      ⟨s', k0_pay27 (ldW U t1.val t2.val 4 1 0), k0_pay28 (ldW U t1.val t2.val 4 1 0), k0_pay29 (ldW U t1.val t2.val 4 1 0), k0_pay30 (ldW U t1.val t2.val 4 1 0), 286331153#32⟩ := by
  subst hs
  rw [k0_part7_eq_skeleton]
  unfold k0_part7_skel
  refine Ev.bind (Ev.push (hk _ _)) ?_
  refine Ev.bind (Ev.loadX 1 (foff1 _)) ?_
  refine Ev.bind (Ev.load1 4 1 0 rfl) ?_
  exact Ev.pure' rfl

theorem ev_part8 {v783 : IVec S8x8x256 32} {arg15 : BitVec 32} {v1061 : BitVec 32} {v6049 : IVec S8x256 32} {v6051 : IVec S8x256 32} {v6055 : IVec S8x256 32} {v6057 : IVec S8x256 32} {c286331153_i32_1762 : BitVec 32} {s s' : Mxu F} (hk : Clean s) (hs : (stA 1 0 40 fits_40_32 s (k0_pay31 (F := F) v783 v6049 v6051 v6055 v6057 c286331153_i32_1762) (ldX X t2.val 1)) = s') :
    Ev c (Rc c (rowW t1 t2) t1.val t2.val G U X) (k0_part8 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 arg15 v1061 s v6049 v6051 v6055 v6057 c286331153_i32_1762 : Pr F _)
      ⟨s', k0_pay32 (ldW G t1.val t2.val 4 1 1), k0_pay33 (ldW G t1.val t2.val 4 1 1), k0_pay34⟩ := by
  subst hs
  rw [k0_part8_eq_skeleton]
  unfold k0_part8_skel
  refine Ev.bind (Ev.push (hk _ _)) ?_
  refine Ev.bind (Ev.loadX 1 (foff1 _)) ?_
  refine Ev.bind (Ev.load0 4 1 1 rfl) ?_
  exact Ev.pure' rfl

theorem ev_part9 {v783 : IVec S8x8x256 32} {arg15 : BitVec 32} {v1061 : BitVec 32} {v6101 : IVec S8x256 32} {v6103 : IVec S8x256 32} {v6104 : IVec S8x256 32} {s s' : Mxu F} (hk : Clean s) (hs : (stA 0 0 88 fits_88_32 s (k0_pay35 (F := F) v783 v6101 v6103 v6104) (ldX X t2.val 1)) = s') :
    Ev c (Rc c (rowW t1 t2) t1.val t2.val G U X) (k0_part9 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t2 arg15 v1061 s v6101 v6103 v6104 : Pr F _)
      s' := by
  subst hs
  rw [k0_part9_eq_skeleton]
  unfold k0_part9_skel
  refine Ev.bind (Ev.push (hk _ _)) ?_
  refine Ev.bind (Ev.loadX 1 (foff1 _)) ?_
  exact Ev.pure' rfl

theorem ev_part10 {v783 : IVec S8x8x256 32} {arg15 : BitVec 32} {s s' : Mxu F} (hk : Clean s) (hs : (stP 1 0 s (k0_pay36 v783 (ldW U t1.val t2.val 4 1 1))) = s') :
    Ev c (Rc c (rowW t1 t2) t1.val t2.val G U X) (k0_part10 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 arg15 s : Pr F _)
      ⟨s', ((Scalar.addi ((Scalar.muli arg15 1024#32)) 256#32))⟩ := by
  subst hs
  rw [k0_part10_eq_skeleton]
  unfold k0_part10_skel
  refine Ev.bind (Ev.load1 4 1 1 rfl) ?_
  refine Ev.bind (Ev.push (hk _ _)) ?_
  exact Ev.pure' rfl

theorem ev_part11 {vP : FVec F S256x256 .bf16} {v783 : IVec S8x8x256 32} {v1061 : BitVec 32} {v6200 : BitVec 32} {s s' : Mxu F} (hk : Clean s) (hs : (stA 1 0 88 fits_88_32 s vP (ldX X t2.val 1)) = s') :
    Ev c (Rc c (rowW t1 t2) t1.val t2.val G U X) (k0_part11 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 v1061 (stP 1 0 s vP) v6200 : Pr F _)
      ⟨s', k0_pay38 v783 (ldW G t1.val t2.val 4 2 0), k0_pay39 v783 (ldW G t1.val t2.val 4 2 0), k0_pay40 v783 (ldW G t1.val t2.val 4 2 0), k0_pay41 v783 (ldW G t1.val t2.val 4 2 0)⟩ := by
  subst hs
  rw [k0_part11_eq_skeleton]
  unfold k0_part11_skel
  refine Ev.bind (Ev.loadX 1 (foff1 _)) ?_
  refine Ev.bind (Ev.load0 4 2 0 rfl) ?_
  exact Ev.pure' rfl

theorem ev_part12 {v783 : IVec S8x8x256 32} {arg15 : BitVec 32} {v1061 : BitVec 32} {v6226 : FVec F S64x256 .bf16} {v6233 : FVec F S64x256 .bf16} {v6240 : FVec F S64x256 .bf16} {v6247 : FVec F S64x256 .bf16} {s s' : Mxu F} (hk : Clean s) (hs : (stA 0 0 40 fits_40_32 s (k0_pay42 v6226 v6233 v6240 v6247) (ldX X t2.val 2)) = s') :
    Ev c (Rc c (rowW t1 t2) t1.val t2.val G U X) (k0_part12 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 arg15 v1061 s v6226 v6233 v6240 v6247 : Pr F _)
      ⟨s', k0_pay44 (ldW U t1.val t2.val 4 2 0), k0_pay45 v783 (ldW U t1.val t2.val 4 2 0), k0_pay46 v783 (ldW U t1.val t2.val 4 2 0), k0_pay47 v783 (ldW U t1.val t2.val 4 2 0)⟩ := by
  subst hs
  rw [k0_part12_eq_skeleton]
  unfold k0_part12_skel
  refine Ev.bind (Ev.push (hk _ _)) ?_
  refine Ev.bind (Ev.loadX 2 (foff2 _)) ?_
  refine Ev.bind (Ev.load1 4 2 0 rfl) ?_
  exact Ev.pure' rfl

theorem ev_part13 {v783 : IVec S8x8x256 32} {arg15 : BitVec 32} {v1061 : BitVec 32} {v6271 : IVec S8x256 32} {v6278 : FVec F S64x256 .bf16} {v6285 : FVec F S64x256 .bf16} {v6291 : IVec S64x256 4} {s s' : Mxu F} (hk : Clean s) (hs : (stA 1 0 40 fits_40_32 s (k0_pay48 v783 v6271 v6278 v6285 v6291) (ldX X t2.val 2)) = s') :
    Ev c (Rc c (rowW t1 t2) t1.val t2.val G U X) (k0_part13 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 arg15 v1061 s v6271 v6278 v6285 v6291 : Pr F _)
      ⟨s', k0_pay50 (ldW G t1.val t2.val 4 2 1), k0_pay51 (ldW G t1.val t2.val 4 2 1), k0_pay52 v783 (ldW G t1.val t2.val 4 2 1), k0_pay53 v783 (ldW G t1.val t2.val 4 2 1)⟩ := by
  subst hs
  rw [k0_part13_eq_skeleton]
  unfold k0_part13_skel
  refine Ev.bind (Ev.push (hk _ _)) ?_
  refine Ev.bind (Ev.loadX 2 (foff2 _)) ?_
  refine Ev.bind (Ev.load0 4 2 1 rfl) ?_
  exact Ev.pure' rfl

theorem ev_part14 {v783 : IVec S8x8x256 32} {arg15 : BitVec 32} {v1061 : BitVec 32} {v6319 : IVec S8x256 32} {v6323 : IVec S8x256 32} {v6330 : FVec F S64x256 .bf16} {v6335 : IVec S64x256 32} {s s' : Mxu F} (hk : Clean s) (hs : (stA 0 0 88 fits_88_32 s (k0_pay54 v783 v6319 v6323 v6330 v6335) (ldX X t2.val 2)) = s') :
    Ev c (Rc c (rowW t1 t2) t1.val t2.val G U X) (k0_part14 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 arg15 v1061 s v6319 v6323 v6330 v6335 : Pr F _)
      ⟨s', k0_pay56 (ldW U t1.val t2.val 4 2 1), k0_pay57 (ldW U t1.val t2.val 4 2 1), k0_pay58 (ldW U t1.val t2.val 4 2 1), k0_pay59 v783 (ldW U t1.val t2.val 4 2 1)⟩ := by
  subst hs
  rw [k0_part14_eq_skeleton]
  unfold k0_part14_skel
  refine Ev.bind (Ev.push (hk _ _)) ?_
  refine Ev.bind (Ev.loadX 2 (foff2 _)) ?_
  refine Ev.bind (Ev.load1 4 2 1 rfl) ?_
  exact Ev.pure' rfl

theorem ev_part15 {v783 : IVec S8x8x256 32} {arg15 : BitVec 32} {v1061 : BitVec 32} {v6367 : IVec S8x256 32} {v6371 : IVec S8x256 32} {v6375 : IVec S8x256 32} {v6379 : IVec S8x8x256 32} {s s' : Mxu F} (hk : Clean s) (hs : (stA 1 0 88 fits_88_32 s (k0_pay60 (F := F) v783 v6367 v6371 v6375 v6379) (ldX X t2.val 2)) = s') :
    Ev c (Rc c (rowW t1 t2) t1.val t2.val G U X) (k0_part15 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 arg15 v1061 s v6367 v6371 v6375 v6379 : Pr F _)
      ⟨s', k0_pay61 (ldW G t1.val t2.val 4 3 0), k0_pay62 (ldW G t1.val t2.val 4 3 0), k0_pay63 (ldW G t1.val t2.val 4 3 0), k0_pay64 (ldW G t1.val t2.val 4 3 0), k0_pay65⟩ := by
  subst hs
  rw [k0_part15_eq_skeleton]
  unfold k0_part15_skel
  refine Ev.bind (Ev.push (hk _ _)) ?_
  refine Ev.bind (Ev.loadX 2 (foff2 _)) ?_
  refine Ev.bind (Ev.load0 4 3 0 rfl) ?_
  exact Ev.pure' rfl

theorem ev_part16 {v783 : IVec S8x8x256 32} {arg15 : BitVec 32} {v1061 : BitVec 32} {v6413 : IVec S8x256 32} {v6415 : IVec S8x256 32} {v6419 : IVec S8x256 32} {v6423 : IVec S8x256 32} {v6424 : IVec S8x256 32} {s s' : Mxu F} (hk : Clean s) (hs : (stA 0 0 40 fits_40_32 s (k0_pay66 (F := F) v783 v6413 v6415 v6419 v6423 v6424) (ldX X t2.val 3)) = s') :
    Ev c (Rc c (rowW t1 t2) t1.val t2.val G U X) (k0_part16 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 arg15 v1061 s v6413 v6415 v6419 v6423 v6424 : Pr F _)
      ⟨s', k0_pay67 (ldW U t1.val t2.val 4 3 0), k0_pay68 (ldW U t1.val t2.val 4 3 0), k0_pay69 (ldW U t1.val t2.val 4 3 0)⟩ := by
  subst hs
  rw [k0_part16_eq_skeleton]
  unfold k0_part16_skel
  refine Ev.bind (Ev.push (hk _ _)) ?_
  refine Ev.bind (Ev.loadX 3 (foff3 _)) ?_
  refine Ev.bind (Ev.load1 4 3 0 rfl) ?_
  exact Ev.pure' rfl

theorem ev_part17 {v783 : IVec S8x8x256 32} {arg15 : BitVec 32} {v1061 : BitVec 32} {v6465 : IVec S8x256 32} {v6467 : IVec S8x256 32} {v6471 : IVec S8x256 32} {s s' : Mxu F} (hk : Clean s) (hs : (stA 1 0 40 fits_40_32 s (k0_pay70 (F := F) v783 v6465 v6467 v6471) (ldX X t2.val 3)) = s') :
    Ev c (Rc c (rowW t1 t2) t1.val t2.val G U X) (k0_part17 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 arg15 v1061 s v6465 v6467 v6471 : Pr F _)
      ⟨s', k0_pay71 (ldW G t1.val t2.val 4 3 1), 286331153#32⟩ := by
  subst hs
  rw [k0_part17_eq_skeleton]
  unfold k0_part17_skel
  refine Ev.bind (Ev.push (hk _ _)) ?_
  refine Ev.bind (Ev.loadX 3 (foff3 _)) ?_
  refine Ev.bind (Ev.load0 4 3 1 rfl) ?_
  exact Ev.pure' rfl

theorem ev_part18 {v783 : IVec S8x8x256 32} {arg15 : BitVec 32} {v6517 : IVec S8x256 32} {c286331153_i32_1884 : BitVec 32} {s s' : Mxu F} (hk : Clean s) (hs : (stA 0 0 88 fits_88_32 s (k0_pay72 (F := F) v783 v6517 c286331153_i32_1884) (ldX X t2.val 3)) = s') :
    Ev c (Rc c (rowW t1 t2) t1.val t2.val G U X) (k0_part18 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t2 arg15 s v6517 c286331153_i32_1884 : Pr F _)
      s' := by
  subst hs
  rw [k0_part18_eq_skeleton]
  unfold k0_part18_skel
  refine Ev.bind (Ev.push (hk _ _)) ?_
  refine Ev.bind (Ev.loadX 3 (foff3 _)) ?_
  exact Ev.pure' rfl

theorem ev_part19 {v783 : IVec S8x8x256 32} {arg15 : BitVec 32} {v1061 : BitVec 32} {s s' : Mxu F} (hk : Clean s) (hs : (stP 1 0 s (k0_pay73 v783 (ldW U t1.val t2.val 4 3 1))) = s') :
    Ev c (Rc c (rowW t1 t2) t1.val t2.val G U X) (k0_part19 arg0 harg0 arg1 harg1 arg2 harg2 arg3 harg3 arg4 harg4 arg5 harg5 arg6 harg6 arg7 harg7 arg8 harg8 (Memref.whole cc0_scratch0) h9 (Memref.whole cc0_scratch1) h10 arg11 harg11 arg12 v783 t1 t2 arg15 v1061 s : Pr F _)
      ⟨s', (Scalar.muli arg15 1024#32)⟩ := by
  subst hs
  rw [k0_part19_eq_skeleton]
  unfold k0_part19_skel
  refine Ev.bind (Ev.load1 4 3 1 rfl) ?_
  refine Ev.bind (Ev.push (hk _ _)) ?_
  exact Ev.pure' rfl

end Cert.KernelIdeal.Hand
-- ==== Proof.Trip.lean ====
/- One trip of the inner loop: from the landed words to the next state of the matrix unit. -/
module

public import proofs.«01_k».proof.Proof.PartsA
public import proofs.«01_k».proof.Proof.PartsB
public import proofs.«01_k».proof.Proof.PartsC
public import proofs.«01_k».proof.Proof.PartsD

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

variable {arg0 : Memref sig .tc .smem S6 .i32} {harg0 : arg0.IsWhole}
variable {arg1 : Memref sig .tc .vmem S24x14336 .bf16} {harg1 : arg1.IsWhole}
variable {arg2 : Memref sig .tc .vmem S1x4096 .f32} {harg2 : arg2.IsWhole}
variable {arg3 : Memref sig .tc .vmem S1x4096 .f32} {harg3 : arg3.IsWhole}
variable {arg4 : Memref sig .tc .vmem S1x4096 .f32} {harg4 : arg4.IsWhole}
variable {arg5 : Memref sig .tc .vmem S1x4096 .f32} {harg5 : arg5.IsWhole}
variable {arg6 : Memref sig .tc .hbm S8x448x4096 .i32} {harg6 : arg6.IsWhole}
variable {arg7 : Memref sig .tc .hbm S8x448x4096 .i32} {harg7 : arg7.IsWhole}
variable {arg8 : Memref sig .tc .vmem S24x4096 .bf16} {harg8 : arg8.IsWhole}
variable {h9 : (Memref.whole cc0_scratch0).IsWhole}
variable {h10 : (Memref.whole cc0_scratch1).IsWhole}
variable {arg11 : Memref sig .tc .vmem S24x128 .f32} {harg11 : arg11.IsWhole}
variable {arg12 : DmaSems sig S3x2}
variable {c : Dev nD} {G U : Planes F} {X : Xp F} {w3 w4 w5 w6 : Elt F .i32} {t1 : Fin k0_t1_loop.trips} {t2 : Fin k0_t2_loop.trips}

variable {v783 : IVec S8x8x256 32} {s1 : Mxu F}

/-- The extra steps of a trip. -/
def endSt (b : Bool) (h : IVec S8x8x256 32) (pl : Pl) (G U : Planes F) (X : Xp F) (n cc : ℕ) (s : Mxu F) : Mxu F :=
  if b then StF h G U X n cc (St h pl k0_pay74 G U X n cc s 80) 16 else St h pl k0_pay74 G U X n cc s 80

set_option pp.maxSteps 400 in
theorem trip {R0 R1 R2 : sProp (MM F)} {s0 : Mxu F} (hs0 : Clean s0) {v111 : IVec S32x256 32} {hw : k0_chk1 w3 w4 w5 w6} {v131 : BitVec 1} {v132 v134 v136 v138 : BitVec 32}
    {a : BitVec 32} {m : Mxu F}
    (h20 : Tr c R0 R1 (k0_part20 arg0 harg0 arg1 harg1 arg2 harg2 arg3 harg3 arg4 harg4 arg5 harg5 arg6 harg6 arg7 harg7 arg8 harg8 (Memref.whole cc0_scratch0) h9 (Memref.whole cc0_scratch1) h10 arg11 harg11 arg12 t1 (Scf.iv 0#32 1#32 t1) 0#32 1#32 t2 : Pr F _)
      ⟨Scf.iv 0#32 1#32 t2, Scalar.addi (Scalar.muli (Scf.iv 0#32 1#32 t1) 14#32) (Scf.iv 0#32 1#32 t2),
        Scalar.remsi (Scalar.addi (Scalar.muli (Scf.iv 0#32 1#32 t1) 14#32) (Scf.iv 0#32 1#32 t2)) 3#32⟩)
    (h21 : Tr c R1 iprop(Rc c (rowW t1 t2) t1.val t2.val G U X ∗ R2) (k0_part21 arg0 harg0 arg1 harg1 arg2 harg2 arg3 harg3 arg4 harg4 arg5 harg5 arg6 harg6 arg7 harg7 arg8 harg8 (Memref.whole cc0_scratch0) h9 (Memref.whole cc0_scratch1) h10 arg11 harg11 arg12 t1 t2 (Scf.iv 0#32 1#32 t2) (Scalar.addi (Scalar.muli (Scf.iv 0#32 1#32 t1) 14#32) (Scf.iv 0#32 1#32 t2))
        (Scalar.remsi (Scalar.addi (Scalar.muli (Scf.iv 0#32 1#32 t1) 14#32) (Scf.iv 0#32 1#32 t2)) 3#32) : Pr F _)
      ⟨k0_pay74 (F := F), ldX X t2.val 0, k0_pay75 (ldW G t1.val t2.val 0 0 0), k0_pay76 (ldW G t1.val t2.val 1 0 0), k0_pay77 (ldW G t1.val t2.val 2 0 0),
        k0_pay78 (ldW G t1.val t2.val 0 0 0), k0_pay79⟩) :
    Tr c R0 iprop(Rc c (rowW t1 t2) t1.val t2.val G U X ∗ R2)
      (k0_t2_body arg0 harg0 arg1 harg1 arg2 harg2 arg3 harg3 arg4 harg4 arg5 harg5 arg6 harg6 arg7 harg7 arg8 harg8 (Memref.whole cc0_scratch0) h9 (Memref.whole cc0_scratch1) h10 arg11 harg11 arg12 v111 w3 w4 w5 w6 hw v131 v132 v134 v136 v138 v783 0#32 1#32 t1 m (Scf.iv 0#32 1#32 t1) t2 (a, s0) : Pr F _)
      (0#32, endSt (Scalar.cmpi .ne (Scalar.extui v131) 0#32 = 1#1) v783 (plOf w3 w4 w5 w6) G U X t1.val t2.val s0) := by
  unfold k0_t2_body
  rw [k0_part125_eq_skeleton, k0_part126_eq_skeleton]
  unfold k0_part125_skel k0_part126_skel
  refine Tr.bind2 h20 ?_
  refine Tr.bind2 h21 ?_
  refine Tr.ofEv ?_
  refine Ev.bind2 ev_part22 ?_
  refine Ev.bind2 ev_part23 ?_
  refine Ev.bind2 ev_part24 ?_
  refine Ev.bind2 (ev_part25 (s' := (St v783 (plOf w3 w4 w5 w6) k0_pay74 G U X t1.val t2.val s0 2)) ?_ ?_) ?_
  · exact hs0
  · rfl
  refine Ev.bind2 ev_part26 ?_
  refine Ev.bind2 (ev_part27 (s' := (St v783 (plOf w3 w4 w5 w6) k0_pay74 G U X t1.val t2.val s0 3)) ?_ ?_) ?_
  · exact (clean_St hs0 2)
  · rfl
  refine Ev.bind2 (ev_part28 (s' := (St v783 (plOf w3 w4 w5 w6) k0_pay74 G U X t1.val t2.val s0 4)) ?_ ?_) ?_
  · exact (clean_St hs0 3)
  · rfl
  refine Ev.bind2 (ev_part29 (s' := (St v783 (plOf w3 w4 w5 w6) k0_pay74 G U X t1.val t2.val s0 5)) ?_ ?_) ?_
  · exact (clean_St hs0 4)
  · rfl
  refine Ev.bind2 (ev_part30 (s' := (St v783 (plOf w3 w4 w5 w6) k0_pay74 G U X t1.val t2.val s0 6)) ?_ ?_) ?_
  · exact (clean_St hs0 5)
  · rfl
  refine Ev.bind2 (ev_part31 (s' := (St v783 (plOf w3 w4 w5 w6) k0_pay74 G U X t1.val t2.val s0 7)) ?_ ?_) ?_
  · exact (clean_St hs0 6)
  · rfl
  refine Ev.bind2 (ev_part32 (s' := (St v783 (plOf w3 w4 w5 w6) k0_pay74 G U X t1.val t2.val s0 8)) ?_ ?_) ?_
  · exact (clean_St hs0 7)
  · rfl
  refine Ev.bind2 (ev_part33 (s' := (St v783 (plOf w3 w4 w5 w6) k0_pay74 G U X t1.val t2.val s0 9)) ?_ ?_) ?_
  · exact (clean_St hs0 8)
  · rfl
  refine Ev.bind2 (ev_part34 (s' := (St v783 (plOf w3 w4 w5 w6) k0_pay74 G U X t1.val t2.val s0 10)) ?_ ?_) ?_
  · exact (clean_St hs0 9)
  · rfl
  refine Ev.bind2 ev_part35 ?_
  refine Ev.bind2 ev_part36 ?_
  refine Ev.bind2 (ev_part37 (s' := (St v783 (plOf w3 w4 w5 w6) k0_pay74 G U X t1.val t2.val s0 11)) ?_ ?_) ?_
  · exact (clean_St hs0 10)
  · rfl
  refine Ev.bind2 (ev_part38 (s' := (St v783 (plOf w3 w4 w5 w6) k0_pay74 G U X t1.val t2.val s0 12)) ?_ ?_) ?_
  · exact (clean_St hs0 11)
  · rfl
  refine Ev.bind2 ev_part39 ?_
  refine Ev.bind2 (ev_part40 (s' := (St v783 (plOf w3 w4 w5 w6) k0_pay74 G U X t1.val t2.val s0 13)) ?_ ?_) ?_
  · exact (clean_St hs0 12)
  · rfl
  refine Ev.bind2 (ev_part41 (s' := (St v783 (plOf w3 w4 w5 w6) k0_pay74 G U X t1.val t2.val s0 14)) ?_ ?_) ?_
  · exact (clean_St hs0 13)
  · rfl
  refine Ev.bind2 (ev_part42 (s' := (St v783 (plOf w3 w4 w5 w6) k0_pay74 G U X t1.val t2.val s0 15)) ?_ ?_) ?_
  · exact (clean_St hs0 14)
  · rfl
  refine Ev.bind2 (ev_part43 (s' := (St v783 (plOf w3 w4 w5 w6) k0_pay74 G U X t1.val t2.val s0 16)) ?_ ?_) ?_
  · exact (clean_St hs0 15)
  · rfl
  refine Ev.bind2 (ev_part44 (s' := (St v783 (plOf w3 w4 w5 w6) k0_pay74 G U X t1.val t2.val s0 17)) ?_ ?_) ?_
  · exact (clean_St hs0 16)
  · rfl
  refine Ev.bind2 (ev_part45 (s' := (St v783 (plOf w3 w4 w5 w6) k0_pay74 G U X t1.val t2.val s0 18)) ?_ ?_) ?_
  · exact (clean_St hs0 17)
  · rfl
  refine Ev.bind2 (ev_part46 (s' := (St v783 (plOf w3 w4 w5 w6) k0_pay74 G U X t1.val t2.val s0 19)) ?_ ?_) ?_
  · exact (clean_St hs0 18)
  · rfl
  refine Ev.bind2 (ev_part47 (s' := (St v783 (plOf w3 w4 w5 w6) k0_pay74 G U X t1.val t2.val s0 20)) ?_ ?_) ?_
  · exact (clean_St hs0 19)
  · rfl
  refine Ev.bind2 ev_part48 ?_
  refine Ev.bind2 ev_part49 ?_
  refine Ev.bind2 ev_part50 ?_
  refine Ev.bind2 (ev_part51 (s' := (St v783 (plOf w3 w4 w5 w6) k0_pay74 G U X t1.val t2.val s0 22)) ?_ ?_) ?_
  · exact (clean_St hs0 20)
  · rfl
  refine Ev.bind2 ev_part52 ?_
  refine Ev.bind2 (ev_part53 (s' := (St v783 (plOf w3 w4 w5 w6) k0_pay74 G U X t1.val t2.val s0 23)) ?_ ?_) ?_
  · exact (clean_St hs0 22)
  · rfl
  refine Ev.bind2 (ev_part54 (s' := (St v783 (plOf w3 w4 w5 w6) k0_pay74 G U X t1.val t2.val s0 24)) ?_ ?_) ?_
  · exact (clean_St hs0 23)
  · rfl
  refine Ev.bind2 (ev_part55 (s' := (St v783 (plOf w3 w4 w5 w6) k0_pay74 G U X t1.val t2.val s0 25)) ?_ ?_) ?_
  · exact (clean_St hs0 24)
  · rfl
  refine Ev.bind2 (ev_part56 (s' := (St v783 (plOf w3 w4 w5 w6) k0_pay74 G U X t1.val t2.val s0 26)) ?_ ?_) ?_
  · exact (clean_St hs0 25)
  · rfl
  refine Ev.bind2 (ev_part57 (s' := (St v783 (plOf w3 w4 w5 w6) k0_pay74 G U X t1.val t2.val s0 27)) ?_ ?_) ?_
  · exact (clean_St hs0 26)
  · rfl
  refine Ev.bind2 (ev_part58 (s' := (St v783 (plOf w3 w4 w5 w6) k0_pay74 G U X t1.val t2.val s0 28)) ?_ ?_) ?_
  · exact (clean_St hs0 27)
  · rfl
  refine Ev.bind2 (ev_part59 (s' := (St v783 (plOf w3 w4 w5 w6) k0_pay74 G U X t1.val t2.val s0 29)) ?_ ?_) ?_
  · exact (clean_St hs0 28)
  · rfl
  refine Ev.bind2 (ev_part60 (s' := (St v783 (plOf w3 w4 w5 w6) k0_pay74 G U X t1.val t2.val s0 30)) ?_ ?_) ?_
  · exact (clean_St hs0 29)
  · rfl
  refine Ev.bind2 ev_part61 ?_
  refine Ev.bind2 ev_part62 ?_
  refine Ev.bind2 (ev_part63 (s' := (St v783 (plOf w3 w4 w5 w6) k0_pay74 G U X t1.val t2.val s0 31)) ?_ ?_) ?_
  · exact (clean_St hs0 30)
  · rfl
  refine Ev.bind2 (ev_part64 (s' := (St v783 (plOf w3 w4 w5 w6) k0_pay74 G U X t1.val t2.val s0 32)) ?_ ?_) ?_
  · exact (clean_St hs0 31)
  · rfl
  refine Ev.bind2 ev_part65 ?_
  refine Ev.bind2 (ev_part66 (s' := (St v783 (plOf w3 w4 w5 w6) k0_pay74 G U X t1.val t2.val s0 33)) ?_ ?_) ?_
  · exact (clean_St hs0 32)
  · rfl
  refine Ev.bind2 (ev_part67 (s' := (St v783 (plOf w3 w4 w5 w6) k0_pay74 G U X t1.val t2.val s0 34)) ?_ ?_) ?_
  · exact (clean_St hs0 33)
  · rfl
  refine Ev.bind2 (ev_part68 (s' := (St v783 (plOf w3 w4 w5 w6) k0_pay74 G U X t1.val t2.val s0 35)) ?_ ?_) ?_
  · exact (clean_St hs0 34)
  · rfl
  refine Ev.bind2 (ev_part69 (s' := (St v783 (plOf w3 w4 w5 w6) k0_pay74 G U X t1.val t2.val s0 36)) ?_ ?_) ?_
  · exact (clean_St hs0 35)
  · rfl
  refine Ev.bind2 (ev_part70 (s' := (St v783 (plOf w3 w4 w5 w6) k0_pay74 G U X t1.val t2.val s0 37)) ?_ ?_) ?_
  · exact (clean_St hs0 36)
  · rfl
  refine Ev.bind2 (ev_part71 (s' := (St v783 (plOf w3 w4 w5 w6) k0_pay74 G U X t1.val t2.val s0 38)) ?_ ?_) ?_
  · exact (clean_St hs0 37)
  · rfl
  refine Ev.bind2 (ev_part72 (s' := (St v783 (plOf w3 w4 w5 w6) k0_pay74 G U X t1.val t2.val s0 39)) ?_ ?_) ?_
  · exact (clean_St hs0 38)
  · rfl
  refine Ev.bind2 (ev_part73 (s' := (St v783 (plOf w3 w4 w5 w6) k0_pay74 G U X t1.val t2.val s0 40)) ?_ ?_) ?_
  · exact (clean_St hs0 39)
  · rfl
  refine Ev.bind2 ev_part74 ?_
  refine Ev.bind2 ev_part75 ?_
  refine Ev.bind2 ev_part76 ?_
  refine Ev.bind2 (ev_part77 (s' := (St v783 (plOf w3 w4 w5 w6) k0_pay74 G U X t1.val t2.val s0 42)) ?_ ?_) ?_
  · exact (clean_St hs0 40)
  · rfl
  refine Ev.bind2 ev_part78 ?_
  refine Ev.bind2 (ev_part79 (s' := (St v783 (plOf w3 w4 w5 w6) k0_pay74 G U X t1.val t2.val s0 43)) ?_ ?_) ?_
  · exact (clean_St hs0 42)
  · rfl
  refine Ev.bind (Ev.pure _) ?_
  refine Ev.bind2 (ev_part80 (s' := (St v783 (plOf w3 w4 w5 w6) k0_pay74 G U X t1.val t2.val s0 44)) ?_ ?_) ?_
  · exact (clean_St hs0 43)
  · rfl
  refine Ev.bind2 (ev_part81 (s' := (St v783 (plOf w3 w4 w5 w6) k0_pay74 G U X t1.val t2.val s0 45)) ?_ ?_) ?_
  · exact (clean_St hs0 44)
  · rfl
  refine Ev.bind2 (ev_part82 (s' := (St v783 (plOf w3 w4 w5 w6) k0_pay74 G U X t1.val t2.val s0 46)) ?_ ?_) ?_
  · exact (clean_St hs0 45)
  · rfl
  refine Ev.bind2 (ev_part83 (s' := (St v783 (plOf w3 w4 w5 w6) k0_pay74 G U X t1.val t2.val s0 47)) ?_ ?_) ?_
  · exact (clean_St hs0 46)
  · rfl
  refine Ev.bind2 (ev_part84 (s' := (St v783 (plOf w3 w4 w5 w6) k0_pay74 G U X t1.val t2.val s0 48)) ?_ ?_) ?_
  · exact (clean_St hs0 47)
  · rfl
  refine Ev.bind2 (ev_part85 (s' := (St v783 (plOf w3 w4 w5 w6) k0_pay74 G U X t1.val t2.val s0 49)) ?_ ?_) ?_
  · exact (clean_St hs0 48)
  · rfl
  refine Ev.bind2 (ev_part86 (s' := (St v783 (plOf w3 w4 w5 w6) k0_pay74 G U X t1.val t2.val s0 50)) ?_ ?_) ?_
  · exact (clean_St hs0 49)
  · rfl
  refine Ev.bind2 ev_part87 ?_
  refine Ev.bind2 ev_part88 ?_
  refine Ev.bind2 (ev_part89 ?_ rfl) ?_
  · exact (clean_St hs0 50)
  refine Ev.bind2 (ev_part90 (s' := (St v783 (plOf w3 w4 w5 w6) k0_pay74 G U X t1.val t2.val s0 52)) ?_ ?_) ?_
  · exact (clean_St hs0 50)
  · rfl
  refine Ev.bind2 ev_part91 ?_
  refine Ev.bind2 (ev_part92 (s' := (St v783 (plOf w3 w4 w5 w6) k0_pay74 G U X t1.val t2.val s0 53)) ?_ ?_) ?_
  · exact (clean_St hs0 52)
  · rfl
  refine Ev.bind2 (ev_part93 (s' := (St v783 (plOf w3 w4 w5 w6) k0_pay74 G U X t1.val t2.val s0 54)) ?_ ?_) ?_
  · exact (clean_St hs0 53)
  · rfl
  refine Ev.bind2 (ev_part94 (s' := (St v783 (plOf w3 w4 w5 w6) k0_pay74 G U X t1.val t2.val s0 55)) ?_ ?_) ?_
  · exact (clean_St hs0 54)
  · rfl
  refine Ev.bind2 (ev_part95 (s' := (St v783 (plOf w3 w4 w5 w6) k0_pay74 G U X t1.val t2.val s0 56)) ?_ ?_) ?_
  · exact (clean_St hs0 55)
  · rfl
  refine Ev.bind2 (ev_part96 (s' := (St v783 (plOf w3 w4 w5 w6) k0_pay74 G U X t1.val t2.val s0 57)) ?_ ?_) ?_
  · exact (clean_St hs0 56)
  · rfl
  refine Ev.bind2 (ev_part97 (s' := (St v783 (plOf w3 w4 w5 w6) k0_pay74 G U X t1.val t2.val s0 58)) ?_ ?_) ?_
  · exact (clean_St hs0 57)
  · rfl
  refine Ev.bind2 (ev_part98 (s' := (St v783 (plOf w3 w4 w5 w6) k0_pay74 G U X t1.val t2.val s0 59)) ?_ ?_) ?_
  · exact (clean_St hs0 58)
  · rfl
  refine Ev.bind2 (ev_part99 (s' := (St v783 (plOf w3 w4 w5 w6) k0_pay74 G U X t1.val t2.val s0 60)) ?_ ?_) ?_
  · exact (clean_St hs0 59)
  · rfl
  refine Ev.bind2 ev_part100 ?_
  refine Ev.bind2 ev_part101 ?_
  refine Ev.bind2 ev_part102 ?_
  refine Ev.bind2 (ev_part103 (s' := (St v783 (plOf w3 w4 w5 w6) k0_pay74 G U X t1.val t2.val s0 62)) ?_ ?_) ?_
  · exact (clean_St hs0 60)
  · rfl
  refine Ev.bind2 ev_part104 ?_
  refine Ev.bind2 (ev_part105 (s' := (St v783 (plOf w3 w4 w5 w6) k0_pay74 G U X t1.val t2.val s0 63)) ?_ ?_) ?_
  · exact (clean_St hs0 62)
  · rfl
  refine Ev.bind2 (ev_part106 (s' := (St v783 (plOf w3 w4 w5 w6) k0_pay74 G U X t1.val t2.val s0 64)) ?_ ?_) ?_
  · exact (clean_St hs0 63)
  · rfl
  refine Ev.bind2 (ev_part107 (s' := (St v783 (plOf w3 w4 w5 w6) k0_pay74 G U X t1.val t2.val s0 65)) ?_ ?_) ?_
  · exact (clean_St hs0 64)
  · rfl
  refine Ev.bind2 (ev_part108 (s' := (St v783 (plOf w3 w4 w5 w6) k0_pay74 G U X t1.val t2.val s0 66)) ?_ ?_) ?_
  · exact (clean_St hs0 65)
  · rfl
  refine Ev.bind2 (ev_part109 (s' := (St v783 (plOf w3 w4 w5 w6) k0_pay74 G U X t1.val t2.val s0 67)) ?_ ?_) ?_
  · exact (clean_St hs0 66)
  · rfl
  refine Ev.bind2 (ev_part110 (s' := (St v783 (plOf w3 w4 w5 w6) k0_pay74 G U X t1.val t2.val s0 68)) ?_ ?_) ?_
  · exact (clean_St hs0 67)
  · rfl
  refine Ev.bind2 (ev_part111 (s' := (St v783 (plOf w3 w4 w5 w6) k0_pay74 G U X t1.val t2.val s0 69)) ?_ ?_) ?_
  · exact (clean_St hs0 68)
  · rfl
  refine Ev.bind2 (ev_part112 (s' := (St v783 (plOf w3 w4 w5 w6) k0_pay74 G U X t1.val t2.val s0 70)) ?_ ?_) ?_
  · exact (clean_St hs0 69)
  · rfl
  refine Ev.bind2 ev_part113 ?_
  refine Ev.bind2 ev_part114 ?_
  refine Ev.bind2 (ev_part115 ?_ rfl) ?_
  · exact (clean_St hs0 70)
  refine Ev.bind2 (ev_part116 (s' := (St v783 (plOf w3 w4 w5 w6) k0_pay74 G U X t1.val t2.val s0 72)) ?_ ?_) ?_
  · exact (clean_St hs0 70)
  · rfl
  refine Ev.bind2 ev_part117 ?_
  refine Ev.bind2 (ev_part118 (s' := (St v783 (plOf w3 w4 w5 w6) k0_pay74 G U X t1.val t2.val s0 73)) ?_ ?_) ?_
  · exact (clean_St hs0 72)
  · rfl
  refine Ev.bind2 (ev_part119 (s' := (St v783 (plOf w3 w4 w5 w6) k0_pay74 G U X t1.val t2.val s0 74)) ?_ ?_) ?_
  · exact (clean_St hs0 73)
  · rfl
  refine Ev.bind2 (ev_part120 (s' := (St v783 (plOf w3 w4 w5 w6) k0_pay74 G U X t1.val t2.val s0 75)) ?_ ?_) ?_
  · exact (clean_St hs0 74)
  · rfl
  refine Ev.bind2 (ev_part121 (s' := (St v783 (plOf w3 w4 w5 w6) k0_pay74 G U X t1.val t2.val s0 76)) ?_ ?_) ?_
  · exact (clean_St hs0 75)
  · rfl
  refine Ev.bind2 (ev_part122 (s' := (St v783 (plOf w3 w4 w5 w6) k0_pay74 G U X t1.val t2.val s0 77)) ?_ ?_) ?_
  · exact (clean_St hs0 76)
  · rfl
  refine Ev.bind2 (ev_part123 (s' := (St v783 (plOf w3 w4 w5 w6) k0_pay74 G U X t1.val t2.val s0 78)) ?_ ?_) ?_
  · exact (clean_St hs0 77)
  · rfl
  refine Ev.bind2 (ev_part124 (s' := (St v783 (plOf w3 w4 w5 w6) k0_pay74 G U X t1.val t2.val s0 79)) ?_ ?_) ?_
  · exact (clean_St hs0 78)
  · rfl
  refine Ev.bind (Ev.pure _) ?_
  refine Ev.bind (Ev.push (clean_St hs0 79 _ _)) ?_
  refine Ev.bind (v := (St v783 (plOf w3 w4 w5 w6) k0_pay74 G U X t1.val t2.val s0 80)) ?_ ?_
  · exact Ev.junk
  generalize hs : (St v783 (plOf w3 w4 w5 w6) k0_pay74 G U X t1.val t2.val s0 80) = s1
  have hs1 : Clean s1 := hs ▸ clean_St hs0 80
  refine Ev.ite (fun hb => ?_) (fun hb => ?_)
  · unfold endSt
    rw [hs, if_pos (by simpa using hb)]
    refine Ev.bind (ev_part2 ?_ rfl) ?_
    · exact hs1
    refine Ev.bind (ev_part3 (s' := (StF v783 G U X t1.val t2.val s1 1)) ?_ ?_) ?_
    · exact hs1
    · rfl
    refine Ev.bind (ev_part4 (s' := (StF v783 G U X t1.val t2.val s1 2)) ?_ ?_) ?_
    · exact (clean_StF hs1 1)
    · rfl
    refine Ev.bind (ev_part5 (s' := (StF v783 G U X t1.val t2.val s1 3)) ?_ ?_) ?_
    · exact (clean_StF hs1 2)
    · rfl
    refine Ev.bind (ev_part6 (s' := (StF v783 G U X t1.val t2.val s1 4)) ?_ ?_) ?_
    · exact (clean_StF hs1 3)
    · rfl
    refine Ev.bind (ev_part7 (s' := (StF v783 G U X t1.val t2.val s1 5)) ?_ ?_) ?_
    · exact (clean_StF hs1 4)
    · rfl
    refine Ev.bind (ev_part8 (s' := (StF v783 G U X t1.val t2.val s1 6)) ?_ ?_) ?_
    · exact (clean_StF hs1 5)
    · rfl
    refine Ev.bind (ev_part9 (s' := (StF v783 G U X t1.val t2.val s1 7)) ?_ ?_) ?_
    · exact (clean_StF hs1 6)
    · rfl
    refine Ev.bind (ev_part10 ?_ rfl) ?_
    · exact (clean_StF hs1 7)
    refine Ev.bind (ev_part11 (s' := (StF v783 G U X t1.val t2.val s1 8)) ?_ ?_) ?_
    · exact (clean_StF hs1 7)
    · rfl
    refine Ev.bind (ev_part12 (s' := (StF v783 G U X t1.val t2.val s1 9)) ?_ ?_) ?_
    · exact (clean_StF hs1 8)
    · rfl
    refine Ev.bind (ev_part13 (s' := (StF v783 G U X t1.val t2.val s1 10)) ?_ ?_) ?_
    · exact (clean_StF hs1 9)
    · rfl
    refine Ev.bind (ev_part14 (s' := (StF v783 G U X t1.val t2.val s1 11)) ?_ ?_) ?_
    · exact (clean_StF hs1 10)
    · rfl
    refine Ev.bind (ev_part15 (s' := (StF v783 G U X t1.val t2.val s1 12)) ?_ ?_) ?_
    · exact (clean_StF hs1 11)
    · rfl
    refine Ev.bind (ev_part16 (s' := (StF v783 G U X t1.val t2.val s1 13)) ?_ ?_) ?_
    · exact (clean_StF hs1 12)
    · rfl
    refine Ev.bind (ev_part17 (s' := (StF v783 G U X t1.val t2.val s1 14)) ?_ ?_) ?_
    · exact (clean_StF hs1 13)
    · rfl
    refine Ev.bind (ev_part18 (s' := (StF v783 G U X t1.val t2.val s1 15)) ?_ ?_) ?_
    · exact (clean_StF hs1 14)
    · rfl
    refine Ev.bind (ev_part19 ?_ rfl) ?_
    · exact (clean_StF hs1 15)
    refine Ev.bind (Ev.loadX 3 (foff3 _)) ?_
    exact Ev.pure _
  · unfold endSt
    rw [hs, if_neg (by simpa using hb)]
    exact Ev.pure _

end Cert.KernelIdeal.Hand
-- ==== Proof.Ring.lean ====
/- The ring of copies: each step's two copies, their waits, and what they land. -/
module

public import proofs.«01_k».proof.Proof.Trip
public import Idealize.ShloMosaic.Lib.Ring
public import Idealize.ShloMosaic.Lib.Ring.Trips
public import Idealize.ShloMosaic.Lib.ValueLayout

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F]

/-! ## The places a step's copies name -/

/-- The semaphore's position, the slot's corner, the words' corner, of step `s` and array `m`. -/
abbrev oS (s : ℕ) (m : Fin 2) : Fin 2 → ℕ := ![s % 3, m.val]
abbrev oD (s : ℕ) (m : Fin 2) : Fin 5 → ℕ := ![s % 3, m.val, 0, 0, 0]
abbrev oH (s : ℕ) : Fin 3 → ℕ := ![0, 32 * (s % 14), 512 * (s / 14 % 8)]

theorem inS (s : ℕ) (m : Fin 2) : ∀ a, oS s m a + S1x1.size a ≤ S3x2.size a := by
  have := m.isLt; have := Nat.mod_lt s (by decide : 3 > 0)
  intro a; fin_cases a <;> simp [oS, S1x1, S3x2] <;> omega

/-- The semaphore of step `s` and array `m`. -/
def semC (s : ℕ) (m : Fin 2) : DmaSem sig :=
  ((cc0_scratch3.slice (Rect.unit (s := S3x2) (oS s m) S1x1.size (inS s m))).squeeze S_ squeezes_S1x1_S_).sem

theorem sem_eq {s : ℕ} {m : Fin 2} {o : Fin 2 → ℕ} (ho : o = oS s m) (h : ∀ a, o a + S1x1.size a ≤ S3x2.size a) :
    ((cc0_scratch3.slice (Rect.unit (s := S3x2) o S1x1.size h)).squeeze S_ squeezes_S1x1_S_).sem = semC s m := by
  subst ho; rfl

/-- The slot a copy fills. -/
abbrev dstM (o : Fin 5 → ℕ) (h : ∀ a, o a + S1x1x8x32x512.size a ≤ S3x2x8x32x512.size a) : Memref sig .tc .vmem S8x32x512 .i32 :=
  ((Memref.whole cc0_scratch0).slice (Rect.unit (s := S3x2x8x32x512) o S1x1x8x32x512.size h) (fun _ => rfl)).squeeze S8x32x512 squeezes_S1x1x8x32x512_S8x32x512
/-- The words a copy reads. -/
abbrev srcM (A : Memref sig .tc .hbm S8x448x4096 .i32) (o : Fin 3 → ℕ) (h : ∀ a, o a + S8x32x512.size a ≤ S8x448x4096.size a) : Memref sig .tc .hbm S8x32x512 .i32 :=
  A.slice (Rect.unit (s := S8x448x4096) o S8x32x512.size h) (fun _ => rfl)

theorem inH (s : ℕ) : ∀ a, oH s a + S8x32x512.size a ≤ S8x448x4096.size a := by
  have := Nat.mod_lt s (by decide : 14 > 0); have := Nat.mod_lt (s / 14) (by decide : 8 > 0)
  intro a; fin_cases a <;> simp [oH, S8x32x512, S8x448x4096] <;> omega

/-- The share of an array that slot `s % 3` lends to its copy. -/
def sh (s : ℕ) : PosShare TreeShare := Ring.shares3 fullShare ⟨s % 3, Nat.mod_lt _ (by decide)⟩

/-- The amount a copy credits. -/
abbrev crd : ℕ := Ref.dmaCredit cc0_scratch0 S8x32x512 .i32

variable (c : Dev nD) (A : Memref sig .tc .hbm S8x448x4096 .i32) (V : Buf (Elt F) (A.view.loc (c : Thread nD τ)))

/-- The cell of step `s` and array `m` holds the words of the step. -/
def Landed (P : Planes F) (s : ℕ) (m : Fin 2) : sProp (MM F) :=
  iprop((Memref.whole cc0_scratch0).view.loc (c : Thread nD τ) ↦[cell (s % 3) m.val]{fullShare} (slotC P (s / 14 % 8) (s % 14) : Ring F))

/-- A copy in flight: what it delivers, and the rest of the array's share. -/
def InFl (P : Planes F) (s : ℕ) (m : Fin 2) : sProp (MM F) :=
  iprop(Transfers.Flight (countersEmb (U := Pipeline.UD sig nD τ)) (c : Thread nD τ) (.dma (semC s m)) () crd
      iprop(Landed c P s m ∗ (A.view.loc (c : Thread nD τ) ↦[(srcM A (oH s) (inH s)).view.set]{sh s} V))
    ∗ (A.view.loc (c : Thread nD τ) ↦[Finset.univ \ (srcM A (oH s) (inH s)).view.set]{sh s} V))

/-- A slot with nothing in flight, apart from its cell. -/
def Idle (s : ℕ) (m : Fin 2) : sProp (MM F) :=
  iprop((A.view.loc (c : Thread nD τ) ↦[Finset.univ]{sh s} V) ∗ semVal ((c : Thread nD τ), .dma (semC s m)) 0)

/-- The cell at some contents. -/
def Cell (s : ℕ) (m : Fin 2) : sProp (MM F) :=
  iprop(∃ f : Ring F, (Memref.whole cc0_scratch0).view.loc (c : Thread nD τ) ↦[cell (s % 3) m.val]{fullShare} f)

/-- The core's waits so far. -/
def Ow : sProp (MM F) := iprop(∃ W : Waits sig Unit, owes (c : Thread nD τ) 0 W)

theorem set_dst {s : ℕ} {m : Fin 2} (h) : (dstM (oD s m) h).view.set = cell (s % 3) m.val := by
  show (((Memref.whole cc0_scratch0).view.slice _).reshape _ _).set = _
  rw [View.set_reshape]
  show ((View.whole cc0_scratch0).slice _).set = _
  rw [View.set_slice_whole]
  ext i
  have hm : i ∈ (Rect.unit (s := S3x2x8x32x512) (oD s m) S1x1x8x32x512.size h).set ↔ _ := Rect.mem_set_unit
  refine hm.trans ?_
  simp only [cell, Finset.mem_filter, Finset.mem_univ, true_and]
  have h2 := (i 2).isLt; have h3 := (i 3).isLt; have h4 := (i 4).isLt
  constructor
  · intro hi
    have h0 : s % 3 ≤ (i 0).val ∧ (i 0).val < s % 3 + 1 := hi 0
    have h1 : m.val ≤ (i 1).val ∧ (i 1).val < m.val + 1 := hi 1
    omega
  · rintro ⟨h0, h1⟩ a
    fin_cases a
    · exact (by omega : s % 3 ≤ (i 0).val ∧ (i 0).val < s % 3 + 1)
    · exact (by omega : m.val ≤ (i 1).val ∧ (i 1).val < m.val + 1)
    · exact (by have : (i 2).val < 8 := h2; omega : 0 ≤ (i 2).val ∧ (i 2).val < 0 + 8)
    · exact (by have : (i 3).val < 32 := h3; omega : 0 ≤ (i 3).val ∧ (i 3).val < 0 + 32)
    · exact (by have : (i 4).val < 512 := h4; omega : 0 ≤ (i 4).val ∧ (i 4).val < 0 + 512)

variable {c A V}

/-- What a step's copy writes is the step's words. -/
theorem landed {P : Planes F} (hP : A.view.read (Elt F) V = P) {s : ℕ} {m : Fin 2} (h) (fd : Ring F) :
    ∀ i ∈ cell (s % 3) m.val, (dstM (oD s m) h).view.write (Elt F) fd ((ReadAs.same : ReadAs (Elt F) S8x32x512 .i32 S8x32x512 .i32).apply
      ((srcM A (oH s) (inH s)).view.read (Elt F) V)) Finset.univ i = (slotC P (s / 14 % 8) (s % 14) : Ring F) i := by
  intro i hi
  rw [← set_dst h] at hi
  obtain ⟨j, -, rfl⟩ := Finset.mem_map.mp hi
  rw [View.write_emb_of_mem _ _ (Finset.mem_univ _)]
  subst hP
  show A.view.read (Elt F) V ((Rect.unit (s := S8x448x4096) (oH s) S8x32x512.size (inH s)).emb j) = A.view.read (Elt F) V _
  congr 1
  have e : (dstM (oD s m) h).view.emb j = (Rect.unit (s := S3x2x8x32x512) (oD s m) S1x1x8x32x512.size h).emb (ix5 (⟨0, Nat.one_pos⟩ : Fin 1) (⟨0, Nat.one_pos⟩ : Fin 1) (j 0) (j 1) (j 2)) := by
    rw [← reshapeEquiv_ix3_11abc (a := 8) (b := 32) (c := 512) squeezes_S1x1x8x32x512_S8x32x512.numel_eq (j 0) (j 1) (j 2)]
    show (Rect.unit (s := S3x2x8x32x512) (oD s m) S1x1x8x32x512.size h).emb (Shape.reshapeEquiv _ j) = _
    congr 2
    try (funext a; fin_cases a <;> rfl)
  rw [e]
  funext a
  apply Fin.ext
  have h0 : (j 0).val < 8 := (j 0).isLt
  have h1 : (j 1).val < 32 := (j 1).isLt
  have h2 : (j 2).val < 512 := (j 2).isLt
  have := Nat.mod_lt s (by decide : 14 > 0); have := Nat.mod_lt (s / 14) (by decide : 8 > 0)
  fin_cases a
  · show 0 + 1 * (j 0).val = (0 + 1 * (j 0).val) % 8
    omega
  · show 32 * (s % 14) + 1 * (j 1).val = (32 * (s % 14) + (0 + 1 * (j 1).val)) % 448
    omega
  · show 512 * (s / 14 % 8) + 1 * (j 2).val = (512 * (s / 14 % 8) + (0 + 1 * (j 2).val)) % 4096
    omega

/-- A step's copy starts. -/
theorem start {P : Planes F} (hP : A.view.read (Elt F) V = P) {s : ℕ} {m : Fin 2} {o : Fin 2 → ℕ} {o5 : Fin 5 → ℕ} {o3 : Fin 3 → ℕ}
    (ho : o = oS s m) (ho5 : o5 = oD s m) (ho3 : o3 = oH s) (h) (h5) (h3) {w1 w2 w3} :
    Tr c iprop(Idle c A V s m ∗ Cell c s m) (InFl c A V P s m)
      (Prog.lift (.enqueueDma (srcM A o3 h3) (.here (dstM o5 h5)) (.dma ((cc0_scratch3.slice (Rect.unit (s := S3x2) o S1x1.size h)).squeeze S_ squeezes_S1x1_S_).sem) w1 w2 w3) : Pr F PUnit) ⟨⟩ := by
  subst ho ho5 ho3
  intro Q
  unfold Idle Cell InFl
  iintro ⟨⟨⟨HA, Hv⟩, ⟨%f, Hc⟩⟩, HQ⟩
  ihave HA' := (pointsTo_split_subset (Finset.subset_univ (srcM A (oH s) (inH s)).view.set)).1 $$ HA
  icases HA' with ⟨HA, HR⟩
  iapply (Transfers.wp_dmaLocal (countersEmb (U := Pipeline.UD sig nD τ)) Variants.none (c : Thread nD τ) none (src := srcM A (oH s) (inH s)) (dst := dstM (oD s m) h5) (Sd := cell (s % 3) m.val) (fd := f) () crd rfl (by decide) (by rw [set_dst])) $$ [HA Hv Hc]
  · isplitl [HA]
    · iexact HA
    · isplitl [Hc]
      · iexact Hc
      · iexact Hv
  iintro Hf
  rw [wp_ret]
  imodintro
  iapply HQ
  isplitl [Hf]
  · iapply (Transfers.Flight_mono (countersEmb (U := Pipeline.UD sig nD τ)) (c : Thread nD τ) ?_) $$ Hf
    exact sep_mono_left (Entails.of_eq (pointsTo_congr (landed hP h5 f)))
  · iexact HR

/-- A step's copy is waited for. -/
theorem wait {P : Planes F} {s : ℕ} {m : Fin 2} {o : Fin 2 → ℕ} (ho : o = oS s m) (h) {hk} :
    Tr c iprop(InFl c A V P s m ∗ Ow c) iprop(Landed c P s m ∗ Idle c A V s m ∗ Ow c)
      (Prog.lift (.waitDma ((cc0_scratch3.slice (Rect.unit (s := S3x2) o S1x1.size h)).squeeze S_ squeezes_S1x1_S_).sem cc0_scratch0 S8x32x512 .i32 hk) : Pr F PUnit) ⟨⟩ := by
  subst ho
  intro Q
  unfold Idle InFl Ow
  iintro ⟨⟨⟨Hf, HR⟩, ⟨%W, HO⟩⟩, HQ⟩
  iapply (Transfers.wp_waitLocalSized (countersEmb (U := Pipeline.UD sig nD τ)) Variants.none (c : Thread nD τ) none (sem := semC s m) () rfl) $$ [Hf HO]
  · isplitl [Hf]
    · iexact Hf
    · iexact HO
  iintro ⟨⟨HL, HA⟩, Hv, HO⟩
  rw [wp_ret]
  imodintro
  iapply HQ
  isplitl [HL]
  · iexact HL
  isplitl [HA HR Hv]
  · isplitl [HA HR]
    · iapply (pointsTo_split_subset (Finset.subset_univ (srcM A (oH s) (inH s)).view.set)).2
      isplitl [HA]
      · iexact HA
      · iexact HR
    · iexact Hv
  · iexists _
    iexact HO

/-! ## The offsets the trips compute -/

/-- The step of a trip. -/
abbrev stp (t1 : Fin k0_t1_loop.trips) (t2 : Fin k0_t2_loop.trips) : ℕ := 14 * t1.val + t2.val

theorem off6_eq : ∀ t1 t2, k0_off6 t1 t2 = oS (stp t1 t2) 0 := by decide +kernel
theorem off9_eq : ∀ t1 t2, k0_off9 t1 t2 = oS (stp t1 t2) 1 := by decide +kernel
theorem cond1_eq : ∀ t1 t2, k0_cond1 t1 t2 = 1#1 ↔ stp t1 t2 + 2 < 112 := by decide +kernel
theorem off11_eq : ∀ t1 t2, k0_off11 t1 t2 = oS (stp t1 t2 + 2) 0 := by decide +kernel
theorem off12_eq : ∀ t1 t2, k0_off12 t1 t2 = oD (stp t1 t2 + 2) 0 := by decide +kernel
theorem off13_eq : ∀ t1 t2, stp t1 t2 + 2 < 112 → k0_off13 t1 t2 = oH (stp t1 t2 + 2) := by decide +kernel
theorem off14_eq : ∀ t1 t2, k0_off14 t1 t2 = oS (stp t1 t2 + 2) 1 := by decide +kernel
theorem off15_eq : ∀ t1 t2, k0_off15 t1 t2 = oD (stp t1 t2 + 2) 1 := by decide +kernel
theorem off16_eq : ∀ t2, k0_off16 t2 = ![0, 1024 * t2.val] := by decide +kernel
theorem off17_eq : ∀ t1 t2, k0_off17 t1 t2 = ![rowW t1 t2, 0, 0, 0, 0] := by decide +kernel
theorem rowW_eq : ∀ t1 t2, rowW t1 t2 = stp t1 t2 % 3 := by decide +kernel

/-! ## The two copies of a step, and a trip's waits and starts -/

abbrev gM : Memref sig .tc .hbm S8x448x4096 .i32 := Memref.whole main_arg1
abbrev uM : Memref sig .tc .hbm S8x448x4096 .i32 := Memref.whole main_arg4

variable (c) (G U : Planes F)

/-- Both copies of step `s` in flight. -/
def Fly (s : ℕ) : sProp (MM F) := iprop(InFl c gM G G s 0 ∗ InFl c uM U U s 1)
/-- Nothing in flight into the slot of step `s`, its cells at anything. -/
def Free (s : ℕ) : sProp (MM F) := iprop((Idle c gM G s 0 ∗ Cell c s 0) ∗ (Idle c uM U s 1 ∗ Cell c s 1))
/-- The slot of step `s` once it is that step's turn to have started. -/
def Slot (s : ℕ) : sProp (MM F) := if s < 112 then Fly c G U s else Free c G U s

/-- The slots before step `s` is waited for. -/
def RingAt (s : ℕ) : sProp (MM F) := iprop(Slot c G U s ∗ Slot c G U (s + 1) ∗ Free c G U (s + 2) ∗ Ow c)
/-- What the matrix steps of step `s` leave alone. -/
def Rest (s : ℕ) : sProp (MM F) := iprop((Idle c gM G s 0 ∗ Idle c uM U s 1) ∗ Slot c G U (s + 1) ∗ Slot c G U (s + 2) ∗ Ow c)

theorem free_add3 (s : ℕ) : (Free c G U (s + 3) : sProp (MM F)) = Free c G U s := by
  have e : (s + 3) % 3 = s % 3 := by omega
  have es : ∀ m, semC (s + 3) m = semC s m := fun m => (sem_eq (by simp only [oS, e]) (inS (s + 3) m))
  unfold Free Idle Cell sh
  simp only [es, e]

variable {c G U}

theorem readA {b : Ref sig .tc} {V : b.ty.Contents (Elt F)} : (View.whole b).read (Elt F) V = V := rfl

end Cert.KernelIdeal.Hand
-- ==== Proof.Wait.lean ====
/- A trip's waits and starts. -/
module

public import proofs.«01_k».proof.Proof.Ring

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F]

variable {arg0 : Memref sig .tc .smem S6 .i32} {harg0 : arg0.IsWhole}
variable {arg1 : Memref sig .tc .vmem S24x14336 .bf16} {harg1 : arg1.IsWhole}
variable {arg2 : Memref sig .tc .vmem S1x4096 .f32} {harg2 : arg2.IsWhole}
variable {arg3 : Memref sig .tc .vmem S1x4096 .f32} {harg3 : arg3.IsWhole}
variable {arg4 : Memref sig .tc .vmem S1x4096 .f32} {harg4 : arg4.IsWhole}
variable {arg5 : Memref sig .tc .vmem S1x4096 .f32} {harg5 : arg5.IsWhole}
variable {h6 : (gM).IsWhole}
variable {h7 : (uM).IsWhole}
variable {arg8 : Memref sig .tc .vmem S24x4096 .bf16} {harg8 : arg8.IsWhole}
variable {h9 : (Memref.whole cc0_scratch0).IsWhole}
variable {h10 : (Memref.whole cc0_scratch1).IsWhole}
variable {arg11 : Memref sig .tc .vmem S24x128 .f32} {harg11 : arg11.IsWhole}
variable {c : Dev nD} {G U : Planes F} {X : Xp F} {w3 w4 w5 w6 : Elt F .i32} {t1 : Fin k0_t1_loop.trips} {t2 : Fin k0_t2_loop.trips}

/-- The permuted activations, held. -/
abbrev XP (c : Dev nD) (X : Xp F) : sProp (MM F) := iprop((Memref.whole cc0_scratch1).view.loc (c : Thread nD τ) ↦[Finset.univ]{fullShare} X)

theorem stp_lt (t1 : Fin k0_t1_loop.trips) (t2 : Fin k0_t2_loop.trips) : stp t1 t2 < 112 := by
  have h1 : t1.val < 8 := t1.isLt
  have h2 : t2.val < 14 := t2.isLt
  unfold stp; omega

theorem landed_eq (P : Planes F) (t1 : Fin k0_t1_loop.trips) (t2 : Fin k0_t2_loop.trips) (m : Fin 2) :
    Landed c P (stp t1 t2) m = iprop((Memref.whole cc0_scratch0).view.loc (c : Thread nD τ) ↦[cell (rowW t1 t2) m.val]{fullShare} (slotC P t1.val t2.val : Ring F)) := by
  have h1 : t1.val < 8 := t1.isLt
  have h2 : t2.val < 14 := t2.isLt
  have e1 : stp t1 t2 / 14 % 8 = t1.val := by unfold stp; omega
  have e2 : stp t1 t2 % 14 = t2.val := by unfold stp; omega
  unfold Landed
  rw [e1, e2, rowW_eq]

/-- The wait for a step's first copy. -/
theorem tr_part20 {c0 c1 : BitVec 32} {a13 : BitVec 32} {w} (hw : w = (⟨Scf.iv c0 c1 t2, Scalar.addi (Scalar.muli a13 14#32) (Scf.iv c0 c1 t2), Scalar.remsi (Scalar.addi (Scalar.muli a13 14#32) (Scf.iv c0 c1 t2)) 3#32⟩ : Σ' (_ : BitVec 32) (_ : BitVec 32), BitVec 32)) :
    Tr c iprop(RingAt c G U (stp t1 t2) ∗ XP c X)
      iprop((Landed c G (stp t1 t2) 0 ∗ Idle c gM G (stp t1 t2) 0 ∗ Ow c) ∗ InFl c uM U U (stp t1 t2) 1 ∗ Slot c G U (stp t1 t2 + 1) ∗ Free c G U (stp t1 t2 + 2) ∗ XP c X)
      (k0_part20 arg0 harg0 arg1 harg1 arg2 harg2 arg3 harg3 arg4 harg4 arg5 harg5 gM h6 uM h7 arg8 harg8 (Memref.whole cc0_scratch0) h9 (Memref.whole cc0_scratch1) h10 arg11 harg11 cc0_scratch3 t1 a13 c0 c1 t2 : Pr F _) w := by
  subst hw
  rw [k0_part20_eq_skeleton]
  unfold k0_part20_skel
  refine Tr.bind (Tr.conv (Tr.frame (R₂ := iprop(InFl c uM U U (stp t1 t2) 1 ∗ Slot c G U (stp t1 t2 + 1) ∗ Free c G U (stp t1 t2 + 2) ∗ XP c X)) (wait (A := gM) (V := G) (P := G) (off6_eq t1 t2) _)) ?_ .rfl) ?_
  · unfold RingAt
    rw [show Slot c G U (stp t1 t2) = Fly c G U (stp t1 t2) from if_pos (stp_lt t1 t2)]
    unfold Fly
    iintro ⟨⟨⟨HG, HU⟩, HS, HF, HO⟩, HX⟩
    isplitl [HG HO]
    · isplitl [HG]
      · iexact HG
      · iexact HO
    · isplitl [HU]
      · iexact HU
      · isplitl [HS]
        · iexact HS
        · isplitl [HF]
          · iexact HF
          · iexact HX
  · exact Tr.pure _

/-- The start of a later step's first copy. -/
theorem tr_part1 {v1060 : BitVec 32} {R : sProp (MM F)} (h : k0_cond1 t1 t2 = 1#1) :
    Tr c iprop((Idle c gM G (stp t1 t2 + 2) 0 ∗ Cell c (stp t1 t2 + 2) 0) ∗ R) iprop(InFl c gM G G (stp t1 t2 + 2) 0 ∗ R)
      (k0_part1 arg0 harg0 arg1 harg1 arg2 harg2 arg3 harg3 arg4 harg4 arg5 harg5 gM h6 uM h7 arg8 harg8 (Memref.whole cc0_scratch0) h9 (Memref.whole cc0_scratch1) h10 arg11 harg11 cc0_scratch3 t1 t2 v1060 h : Pr F _) ⟨⟩ := by
  rw [k0_part1_eq_skeleton]
  unfold k0_part1_skel
  refine Tr.bind (Tr.frame (start (A := gM) (V := G) (P := G) rfl (off11_eq t1 t2) (off12_eq t1 t2) (off13_eq t1 t2 ((cond1_eq t1 t2).1 h)) _ _ _)) ?_
  exact Tr.pure _

/-- The wait for a step's second copy, the start of a later step's, and the first loads. -/
theorem tr_part21 {v1060 v1061 a15 : BitVec 32} :
    Tr c iprop((Landed c G (stp t1 t2) 0 ∗ Idle c gM G (stp t1 t2) 0 ∗ Ow c) ∗ InFl c uM U U (stp t1 t2) 1 ∗ Slot c G U (stp t1 t2 + 1) ∗ Free c G U (stp t1 t2 + 2) ∗ XP c X)
      iprop(Rc c (rowW t1 t2) t1.val t2.val G U X ∗ Rest c G U (stp t1 t2))
      (k0_part21 arg0 harg0 arg1 harg1 arg2 harg2 arg3 harg3 arg4 harg4 arg5 harg5 gM h6 uM h7 arg8 harg8 (Memref.whole cc0_scratch0) h9 (Memref.whole cc0_scratch1) h10 arg11 harg11 cc0_scratch3 t1 t2 a15 v1060 v1061 : Pr F _)
      ⟨k0_pay74, ldX X t2.val 0, k0_pay75 (ldW G t1.val t2.val 0 0 0), k0_pay76 (ldW G t1.val t2.val 1 0 0), k0_pay77 (ldW G t1.val t2.val 2 0 0), k0_pay78 (ldW G t1.val t2.val 0 0 0), k0_pay79⟩ := by
  rw [k0_part21_eq_skeleton]
  unfold k0_part21_skel
  refine Tr.bind (Tr.conv (Tr.frame (R₂ := iprop((Landed c G (stp t1 t2) 0 ∗ Idle c gM G (stp t1 t2) 0) ∗ Slot c G U (stp t1 t2 + 1) ∗ Free c G U (stp t1 t2 + 2) ∗ XP c X)) (wait (A := uM) (V := U) (P := U) (off9_eq t1 t2) _)) ?_ .rfl) ?_
  · iintro ⟨⟨HL, HI, HO⟩, HU, HS, HF, HX⟩
    isplitl [HU HO]
    · isplitl [HU]
      · iexact HU
      · iexact HO
    · isplitl [HL HI]
      · isplitl [HL]
        · iexact HL
        · iexact HI
      · isplitl [HS]
        · iexact HS
        · isplitl [HF]
          · iexact HF
          · iexact HX
  · have tail : ∀ S : sProp (MM F), Tr c iprop(Rc c (rowW t1 t2) t1.val t2.val G U X ∗ S) iprop(Rc c (rowW t1 t2) t1.val t2.val G U X ∗ S) (do
        let v1110_r0 : Vec F S32x256 .bf16 ← Prog.lift (.load (Memref.whole cc0_scratch1) (Rect.unit (s := S32x14336) (k0_off16 t2) S32x256.size (k0_off16_inb t2)).toLoadRect (View.loadsAt_vmem h_S32x256))
        let v1112_r0 : Vec F S1x1x1x8x256 .i32 ← Prog.lift (.load (Memref.whole cc0_scratch0) (Rect.unit (s := S3x2x8x32x512) (k0_off17 t1 t2) S1x1x1x8x256.size (k0_off17_inb t1 t2)).toLoadRect (View.loadsAt_vmem h_S1x1x1x8x256))
        let v1115_r0 : Vec F S1x1x1x8x256 .i32 ← Prog.lift (.load (Memref.whole cc0_scratch0) (Rect.unit (s := S3x2x8x32x512) (k0_off18 t1 t2) S1x1x1x8x256.size (k0_off18_inb t1 t2)).toLoadRect (View.loadsAt_vmem h_S1x1x1x8x256))
        let v1118_r0 : Vec F S1x1x1x8x256 .i32 ← Prog.lift (.load (Memref.whole cc0_scratch0) (Rect.unit (s := S3x2x8x32x512) (k0_off19 t1 t2) S1x1x1x8x256.size (k0_off19_inb t1 t2)).toLoadRect (View.loadsAt_vmem h_S1x1x1x8x256))
        pure ⟨k0_pay74, v1110_r0, k0_pay75 v1112_r0, k0_pay76 v1115_r0, k0_pay77 v1118_r0, k0_pay78 v1112_r0, k0_pay79⟩ : Pr F (Σ' (_ : FVec F S64x256 .bf16) (_ : Vec F S32x256 .bf16) (_ : IVec S8x256 32) (_ : IVec S8x256 32) (_ : IVec S8x256 32) (_ : IVec S8x256 32), IVec S8x256 32))
        ⟨k0_pay74, ldX X t2.val 0, k0_pay75 (ldW G t1.val t2.val 0 0 0), k0_pay76 (ldW G t1.val t2.val 1 0 0), k0_pay77 (ldW G t1.val t2.val 2 0 0), k0_pay78 (ldW G t1.val t2.val 0 0 0), k0_pay79⟩ := by
      intro S
      apply Tr.ofEv
      refine Ev.bind (Ev.loadX 0 (off16_eq t2)) ?_
      refine Ev.bind (Ev.load0 0 0 0 (off17_eq t1 t2)) ?_
      refine Ev.bind (Ev.load0 1 0 0 rfl) ?_
      refine Ev.bind (Ev.load0 2 0 0 rfl) ?_
      exact Ev.pure' rfl
    by_cases h : k0_cond1 t1 t2 = 1#1
    · rw [dif_pos h]
      have hlt := (cond1_eq t1 t2).1 h
      refine Tr.bind (Tr.conv (tr_part1 (G := G) (R := iprop((Landed c U (stp t1 t2) 1 ∗ Idle c uM U (stp t1 t2) 1 ∗ Ow c) ∗ (Landed c G (stp t1 t2) 0 ∗ Idle c gM G (stp t1 t2) 0) ∗ Slot c G U (stp t1 t2 + 1) ∗ (Idle c uM U (stp t1 t2 + 2) 1 ∗ Cell c (stp t1 t2 + 2) 1) ∗ XP c X)) h) ?_ .rfl) ?_
      · unfold Free
        iintro ⟨HL, HLL, HS, ⟨HF, HF'⟩, HX⟩
        isplitl [HF]
        · iexact HF
        · isplitl [HL]
          · iexact HL
          · isplitl [HLL]
            · iexact HLL
            · isplitl [HS]
              · iexact HS
              · isplitl [HF']
                · iexact HF'
                · iexact HX
      refine Tr.bind (Tr.conv (Tr.frame (R₂ := iprop(InFl c gM G G (stp t1 t2 + 2) 0 ∗ (Landed c U (stp t1 t2) 1 ∗ Idle c uM U (stp t1 t2) 1 ∗ Ow c) ∗ (Landed c G (stp t1 t2) 0 ∗ Idle c gM G (stp t1 t2) 0) ∗ Slot c G U (stp t1 t2 + 1) ∗ XP c X)) (start (A := uM) (V := U) (P := U) rfl (off14_eq t1 t2) (off15_eq t1 t2) (off13_eq t1 t2 hlt) _ _ _)) ?_ .rfl) ?_
      · iintro ⟨HI, HL, HLL, HS, HF, HX⟩
        isplitl [HF]
        · iexact HF
        · isplitl [HI]
          · iexact HI
          · isplitl [HL]
            · iexact HL
            · isplitl [HLL]
              · iexact HLL
              · isplitl [HS]
                · iexact HS
                · iexact HX
      refine Tr.conv (tail (Rest c G U (stp t1 t2))) ?_ .rfl
      rw [landed_eq, landed_eq]
      unfold Rc Rest
      rw [show Slot c G U (stp t1 t2 + 2) = Fly c G U (stp t1 t2 + 2) from if_pos hlt]
      unfold Fly
      iintro ⟨HU, HG, ⟨HL, HI, HO⟩, ⟨HLL, HII⟩, HS, HX⟩
      isplitl [HL HLL HX]
      · isplitl [HLL]
        · iexact HLL
        · isplitl [HL]
          · iexact HL
          · iexact HX
      · isplitl [HI HII]
        · isplitl [HII]
          · iexact HII
          · iexact HI
        · isplitl [HS]
          · iexact HS
          · isplitl [HU HG]
            · isplitl [HG]
              · iexact HG
              · iexact HU
            · iexact HO
    · rw [dif_neg h]
      refine Tr.conv (tail (Rest c G U (stp t1 t2))) ?_ .rfl
      rw [landed_eq, landed_eq]
      unfold Rc Rest
      rw [show Slot c G U (stp t1 t2 + 2) = Free c G U (stp t1 t2 + 2) from if_neg (fun h' => h ((cond1_eq t1 t2).2 h'))]
      iintro ⟨⟨HL, HI, HO⟩, ⟨HLL, HII⟩, HS, HF, HX⟩
      isplitl [HL HLL HX]
      · isplitl [HLL]
        · iexact HLL
        · isplitl [HL]
          · iexact HL
          · iexact HX
      · isplitl [HI HII]
        · isplitl [HII]
          · iexact HII
          · iexact HI
        · isplitl [HS]
          · iexact HS
          · isplitl [HF]
            · iexact HF
            · iexact HO

end Cert.KernelIdeal.Hand
-- ==== Proof.Inner.lean ====
/- The inner loop: a trip keeps the ring, and the trips compose. -/
module

public import proofs.«01_k».proof.Proof.Wait

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F]

variable {arg0 : Memref sig .tc .smem S6 .i32} {harg0 : arg0.IsWhole}
variable {arg1 : Memref sig .tc .vmem S24x14336 .bf16} {harg1 : arg1.IsWhole}
variable {arg2 : Memref sig .tc .vmem S1x4096 .f32} {harg2 : arg2.IsWhole}
variable {arg3 : Memref sig .tc .vmem S1x4096 .f32} {harg3 : arg3.IsWhole}
variable {arg4 : Memref sig .tc .vmem S1x4096 .f32} {harg4 : arg4.IsWhole}
variable {arg5 : Memref sig .tc .vmem S1x4096 .f32} {harg5 : arg5.IsWhole}
variable {h6 : (gM).IsWhole}
variable {h7 : (uM).IsWhole}
variable {arg8 : Memref sig .tc .vmem S24x4096 .bf16} {harg8 : arg8.IsWhole}
variable {h9 : (Memref.whole cc0_scratch0).IsWhole}
variable {h10 : (Memref.whole cc0_scratch1).IsWhole}
variable {arg11 : Memref sig .tc .vmem S24x128 .f32} {harg11 : arg11.IsWhole}
variable {c : Dev nD} {G U : Planes F} {X : Xp F} {w3 w4 w5 w6 : Elt F .i32} {t1 : Fin k0_t1_loop.trips} {t2 : Fin k0_t2_loop.trips}

/-- A counted loop whose trips keep a resource and a property of the carried value. -/
theorem Tr.forFrom {σ : Type} {n : ℕ} (body : Fin n → σ → Pr F σ) (I : ℕ → sProp (MM F)) (P : ℕ → σ → Prop)
    (hb : ∀ (k : Fin n) (acc : σ), P k.val acc → ∃ acc', P (k.val + 1) acc' ∧ Tr c (I k.val) (I (k.val + 1)) (body k acc) acc') :
    ∀ (k : ℕ) (_ : k ≤ n) (acc : σ), P k acc → ∃ v, P n v ∧ Tr c (I k) (I n) (Scf.forFrom body ((List.finRange n).drop k) acc) v := by
  intro k
  induction h : n - k generalizing k with
  | zero =>
    intro hk acc hP
    obtain rfl : k = n := by omega
    rw [List.drop_of_length_le (by simp), Scf.forFrom_nil]
    exact ⟨acc, hP, Tr.pure _⟩
  | succ m ih =>
    intro hk acc hP
    have hlt : k < n := by omega
    rw [List.drop_eq_getElem_cons (by simpa using hlt), List.getElem_finRange, Fin.cast_mk, Scf.forFrom_cons]
    obtain ⟨a1, h1, ht⟩ := hb ⟨k, hlt⟩ acc hP
    obtain ⟨v, hv, hr⟩ := ih (k + 1) (by omega) (by omega) a1 h1
    exact ⟨v, hv, Tr.bind ht hr⟩

theorem Tr.loop {σ : Type} {w : ℕ} (lb ub st : BitVec w) (hok : Scf.OK lb ub st) (init : σ) (body : Fin (Scf.trips lb ub st) → σ → Pr F σ)
    (I : ℕ → sProp (MM F)) (P : ℕ → σ → Prop)
    (hb : ∀ (k : Fin (Scf.trips lb ub st)) (acc : σ), P k.val acc → ∃ acc', P (k.val + 1) acc' ∧ Tr c (I k.val) (I (k.val + 1)) (body k acc) acc')
    (h0 : P 0 init) : ∃ v, P (Scf.trips lb ub st) v ∧ Tr c (I 0) (I (Scf.trips lb ub st)) (Scf.for lb ub st hok init body) v := by
  rw [Scf.for_eq]
  exact Tr.forFrom body I P hb 0 (Nat.zero_le _) init h0

/-- After a trip the ring is ready for the next step. -/
theorem ring_next : iprop(Rc c (rowW t1 t2) t1.val t2.val G U X ∗ Rest c G U (stp t1 t2)) ⊢ iprop(RingAt c G U (stp t1 t2 + 1) ∗ XP c X) := by
  have e : (Free c G U (stp t1 t2 + 1 + 2) : sProp (MM F)) = Free c G U (stp t1 t2) := free_add3 c G U (stp t1 t2)
  unfold RingAt
  rw [e]
  have l0 := landed_eq (F := F) (c := c) G t1 t2 0
  have l1 := landed_eq (F := F) (c := c) U t1 t2 1
  unfold Rc Rest Free Cell
  unfold Landed at l0 l1
  simp only [Fin.val_zero, Fin.val_one] at l0 l1 ⊢
  rw [← l0, ← l1]
  iintro ⟨⟨HG, HU, HX⟩, ⟨HI, HII⟩, HS, HS', HO⟩
  isplitr [HX]
  · isplitl [HS]
    · iexact HS
    · isplitl [HS']
      · iexact HS'
      · isplitr [HO]
        · isplitl [HI HG]
          · isplitl [HI]
            · iexact HI
            · iexists _
              iexact HG
          · isplitl [HII]
            · iexact HII
            · iexists _
              iexact HU
        · iexact HO
  · iexact HX

variable {v111 : IVec S32x256 32} {hw : k0_chk1 w3 w4 w5 w6} {v131 : BitVec 1} {v132 v134 v136 v138 : BitVec 32} {v783 : IVec S8x8x256 32}

/-- The matrix unit after the first `k` chunks of block `n`. -/
def chunkSt (fx : Prop) [Decidable fx] (v783 : IVec S8x8x256 32) (pl : Pl) (G U : Planes F) (X : Xp F) (n : ℕ) (s : Mxu F) : ℕ → Mxu F
  | 0 => s
  | k + 1 => endSt fx v783 pl G U X n k (chunkSt fx v783 pl G U X n s k)

theorem clean_endSt {fx : Prop} [Decidable fx] {pl : Pl} {n cc : ℕ} {s : Mxu F} (h : Clean s) : Clean (endSt fx v783 pl G U X n cc s) := by
  unfold endSt
  split
  · exact clean_StF (clean_St h _) _
  · exact clean_St h _

theorem clean_chunkSt {fx : Prop} [Decidable fx] {pl : Pl} {n : ℕ} {s : Mxu F} (h : Clean s) : ∀ k, Clean (chunkSt fx v783 pl G U X n s k)
  | 0 => h
  | k + 1 => clean_endSt (clean_chunkSt h k)

/-- The inner loop. -/
theorem tr_inner {m : Mxu F} {s0 : Mxu F} (hs0 : Clean s0) :
    Tr c iprop(RingAt c G U (14 * t1.val) ∗ XP c X) iprop(RingAt c G U (14 * t1.val + 14) ∗ XP c X)
      (Scf.Loop.for k0_t2_loop k0_t2_ok (0#32, s0) (k0_t2_body arg0 harg0 arg1 harg1 arg2 harg2 arg3 harg3 arg4 harg4 arg5 harg5 gM h6 uM h7 arg8 harg8 (Memref.whole cc0_scratch0) h9 (Memref.whole cc0_scratch1) h10 arg11 harg11 cc0_scratch3 v111 w3 w4 w5 w6 hw v131 v132 v134 v136 v138 v783 0#32 1#32 t1 m (Scf.iv 0#32 1#32 t1)) : Pr F _)
      (0#32, chunkSt (Scalar.cmpi .ne (Scalar.extui v131) 0#32 = 1#1) v783 (plOf w3 w4 w5 w6) G U X t1.val s0 14) := by
  obtain ⟨v, hv, ht⟩ := Tr.loop (c := c) _ _ _ k0_t2_ok ((0#32, s0) : BitVec 32 × Mxu F) (k0_t2_body arg0 harg0 arg1 harg1 arg2 harg2 arg3 harg3 arg4 harg4 arg5 harg5 gM h6 uM h7 arg8 harg8 (Memref.whole cc0_scratch0) h9 (Memref.whole cc0_scratch1) h10 arg11 harg11 cc0_scratch3 v111 w3 w4 w5 w6 hw v131 v132 v134 v136 v138 v783 0#32 1#32 t1 m (Scf.iv 0#32 1#32 t1) : Fin k0_t2_loop.trips → BitVec 32 × Mxu F → Pr F _)
    (fun k => iprop(RingAt c G U (14 * t1.val + k) ∗ XP c X))
    (fun k acc => acc = (0#32, chunkSt (Scalar.cmpi .ne (Scalar.extui v131) 0#32 = 1#1) v783 (plOf w3 w4 w5 w6) G U X t1.val s0 k))
    (by
      rintro k acc rfl
      exact ⟨_, rfl, Tr.conv (trip (t2 := k) (clean_chunkSt hs0 k.val) (tr_part20 rfl) tr_part21) .rfl ring_next⟩)
    rfl
  subst hv
  exact ht

end Cert.KernelIdeal.Hand
-- ==== Proof.Outer.lean ====
/- One trip of the outer loop: a block of 512 outputs. -/
module

public import proofs.«01_k».proof.Proof.Inner

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F]

variable {arg0 : Memref sig .tc .smem S6 .i32} {harg0 : arg0.IsWhole}
variable {arg1 : Memref sig .tc .vmem S24x14336 .bf16} {harg1 : arg1.IsWhole}
variable {arg2 : Memref sig .tc .vmem S1x4096 .f32} {harg2 : arg2.IsWhole}
variable {arg3 : Memref sig .tc .vmem S1x4096 .f32} {harg3 : arg3.IsWhole}
variable {arg4 : Memref sig .tc .vmem S1x4096 .f32} {harg4 : arg4.IsWhole}
variable {arg5 : Memref sig .tc .vmem S1x4096 .f32} {harg5 : arg5.IsWhole}
variable {h6 : (gM).IsWhole}
variable {h7 : (uM).IsWhole}
variable {arg8 : Memref sig .tc .vmem S24x4096 .bf16} {harg8 : arg8.IsWhole}
variable {h9 : (Memref.whole cc0_scratch0).IsWhole}
variable {h10 : (Memref.whole cc0_scratch1).IsWhole}
variable {arg11 : Memref sig .tc .vmem S24x128 .f32} {harg11 : arg11.IsWhole}
variable {c : Dev nD} {G U : Planes F} {X : Xp F} {w3 w4 w5 w6 : Elt F .i32} {t1 : Fin k0_t1_loop.trips} {t2 : Fin k0_t2_loop.trips}
variable {v111 : IVec S32x256 32} {hw : k0_chk1 w3 w4 w5 w6} {v131 : BitVec 1} {v132 v134 v136 v138 : BitVec 32} {v783 : IVec S8x8x256 32}

/-- A store through a whole buffer's view. -/
theorem Tr.store {cs : CoreSpace} {s : Shape} {e : EltTy} {m : Memref sig .tc cs s e} {r : Rect s} {w : r.shape.Idx → Elt F e} {hx : (m.access r).Stores Finset.univ} {hm}
    {f : Buf (Elt F) (m.view.loc (c : Thread nD τ))} :
    Tr c (m.view.loc (c : Thread nD τ) ↦[Finset.univ]{fullShare} f) (m.view.loc (c : Thread nD τ) ↦[Finset.univ]{fullShare} (m.view.writes (Elt F) f [⟨r, w⟩]))
      (Prog.lift (.store m r w Finset.univ hx hm) : Pr F PUnit) ⟨⟩ := by
  intro Q
  iintro ⟨HR, HQ⟩
  iapply (wp_store (defs := defs₀ (F := F)) (𝒱 := Variants.none) (c := (c : Thread nD τ)) (bd := none) (E := Set.univ) (m := m) (r := r) (S := Finset.univ) (f := f) (Finset.subset_univ _)) $$ HR
  iintro HR
  rw [wp_ret]
  imodintro
  iapply HQ
  iexact HR

/-- A buffer held whole. -/
abbrev At {cs : CoreSpace} {s : Shape} {e : EltTy} (c : Dev nD) (m : Memref sig .tc cs s e) (f : Buf (Elt F) (m.view.loc (c : Thread nD τ))) : sProp (MM F) :=
  iprop(m.view.loc (c : Thread nD τ) ↦[Finset.univ]{fullShare} f)

/-- What a block's tail reads: the row sums, the scales and the zeros. -/
def Tail (c : Dev nD) (arg11 : Memref sig .tc .vmem S24x128 .f32) (arg2 arg3 arg4 arg5 : Memref sig .tc .vmem S1x4096 .f32)
    (f11 : Buf (Elt F) (arg11.view.loc (c : Thread nD τ))) (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ))) : sProp (MM F) :=
  iprop(At c arg11 f11 ∗ At c arg2 f2 ∗ At c arg3 f3 ∗ At c arg4 f4 ∗ At c arg5 f5)

variable {f11 : Buf (Elt F) (arg11.view.loc (c : Thread nD τ))} {f2 : Buf (Elt F) (arg2.view.loc (c : Thread nD τ))} {f3 : Buf (Elt F) (arg3.view.loc (c : Thread nD τ))}
    {f4 : Buf (Elt F) (arg4.view.loc (c : Thread nD τ))} {f5 : Buf (Elt F) (arg5.view.loc (c : Thread nD τ))} {f8 : Buf (Elt F) (arg8.view.loc (c : Thread nD τ))}

/-! ## The states of the matrix unit as its rows are taken -/

def mx416 (s : Mxu F) : Mxu F := s.pop 0 96 64 fits_96_64
def mx417 (s : Mxu F) : Mxu F := (mx416 s).pop 1 96 64 fits_96_64
def mx418 (s : Mxu F) : Mxu F := (mx417 s).pop 0 0 32 fits_0_32
def mx419 (s : Mxu F) : Mxu F := (mx418 s).pop 0 8 32 fits_8_32
def mx420 (s : Mxu F) : Mxu F := (mx419 s).pop 0 16 32 fits_16_32
def mx421 (s : Mxu F) : Mxu F := (mx420 s).pop 0 24 32 fits_24_32
def mx422 (s : Mxu F) : Mxu F := (mx421 s).pop 0 32 32 fits_32_32
def mx423 (s : Mxu F) : Mxu F := (mx422 s).pop 0 40 32 fits_40_32
def mx424 (s : Mxu F) : Mxu F := (mx423 s).pop 1 0 32 fits_0_32
def mx425 (s : Mxu F) : Mxu F := (mx424 s).pop 1 8 32 fits_8_32
def mx426 (s : Mxu F) : Mxu F := (mx425 s).pop 1 16 32 fits_16_32
def mx427 (s : Mxu F) : Mxu F := (mx426 s).pop 1 24 32 fits_24_32
def mx428 (s : Mxu F) : Mxu F := (mx427 s).pop 1 32 32 fits_32_32
def mx429 (s : Mxu F) : Mxu F := (mx428 s).pop 1 40 32 fits_40_32
def mx430 (s : Mxu F) : Mxu F := (mx429 s).pop 0 48 32 fits_48_32
def mx431 (s : Mxu F) : Mxu F := (mx430 s).pop 0 56 32 fits_56_32
def mx432 (s : Mxu F) : Mxu F := (mx431 s).pop 0 64 32 fits_64_32
def mx433 (s : Mxu F) : Mxu F := (mx432 s).pop 0 72 32 fits_72_32
def mx434 (s : Mxu F) : Mxu F := (mx433 s).pop 0 80 32 fits_80_32
def mx435 (s : Mxu F) : Mxu F := (mx434 s).pop 0 88 32 fits_88_32
def mx436 (s : Mxu F) : Mxu F := (mx435 s).pop 1 48 32 fits_48_32
def mx437 (s : Mxu F) : Mxu F := (mx436 s).pop 1 56 32 fits_56_32
def mx438 (s : Mxu F) : Mxu F := (mx437 s).pop 1 64 32 fits_64_32
def mx439 (s : Mxu F) : Mxu F := (mx438 s).pop 1 72 32 fits_72_32
def mx440 (s : Mxu F) : Mxu F := (mx439 s).pop 1 80 32 fits_80_32
def mx441 (s : Mxu F) : Mxu F := (mx440 s).pop 1 88 32 fits_88_32

variable (v111 : IVec S32x256 32) (v132 v134 v136 v138 : BitVec 32) (s : Mxu F) (S : Vec F S24x128 .f32) (a3 a2 a5 a4 : Vec F S1x256 .f32)

/-- The rows' correction terms: the offset of each row's width. -/
abbrev e798 : FVec F S32x256 .f32 := k0_pay741 v111
abbrev e800 : FVec F S24x256 .f32 := k0_pay742 S
abbrev e808 : FVec F S32x256 .f32 := k0_pay743 v111 v132
abbrev e816 : FVec F S32x256 .f32 := k0_pay744 v111 v132
/-- The first tile of the block. -/
def tile0 : FVec F S24x256 .bf16 :=
  k0_pay751 (e798 v111) (e800 S) (e816 v111 v132)
    (k0_pay748 (e800 S) (k0_pay745 v111 v134 v136 v138 (e808 v111 v132) (e816 v111 v132) ((mx417 s).read 0 0 fits_0_32) ((mx418 s).read 0 8 fits_8_32) ((mx419 s).read 0 16 fits_16_32) ((mx420 s).read 0 24 fits_24_32) ((mx421 s).read 0 32 fits_32_32) ((mx422 s).read 0 40 fits_40_32)) (k0_pay746 (e798 v111)) (k0_pay747 a3) a2)
    ((mx427 s).read 1 32 fits_32_32) ((mx428 s).read 1 40 fits_40_32)
    (k0_pay749 v111 v134 v136 (e808 v111 v132) ((mx423 s).read 1 0 fits_0_32) ((mx424 s).read 1 8 fits_8_32) ((mx425 s).read 1 16 fits_16_32) ((mx426 s).read 1 24 fits_24_32)) (k0_pay750 v111 v138) (Scalar.shli 1#32 (Scalar.subi 7#32 v138)) a5 a4
/-- The second tile of the block. -/
def tile1 : FVec F S24x256 .bf16 :=
  k0_pay1 (e800 S)
    (k0_pay754 v111 v136 v138 (e798 v111) (e800 S) (e816 v111 v132) ((mx431 s).read 0 64 fits_64_32) ((mx432 s).read 0 72 fits_72_32) ((mx433 s).read 0 80 fits_80_32) ((mx434 s).read 0 88 fits_88_32) (k0_pay752 (e808 v111 v132) ((mx429 s).read 0 48 fits_48_32) ((mx430 s).read 0 56 fits_56_32)) (k0_pay753 v111 v134) (Scalar.subi 7#32 v134) 1#32 a3 a2)
    (k0_pay755 v111 v134 v136 v138 (e808 v111 v132) (e816 v111 v132) ((mx435 s).read 1 48 fits_48_32) ((mx436 s).read 1 56 fits_56_32) ((mx437 s).read 1 64 fits_64_32) ((mx438 s).read 1 72 fits_72_32) ((mx439 s).read 1 80 fits_80_32) ((mx440 s).read 1 88 fits_88_32)) (k0_pay756 (e798 v111) a5) a4
variable {v111 v132 v134 v136 v138 s S a3 a2 a5 a4}

/-- The rectangle of a block's tile, and of its scales. -/
abbrev rc8 (t1 : Fin k0_t1_loop.trips) (w : BitVec 32) (h : ∀ a, (k0_off132 t1 w) a + S24x256.size a ≤ S24x4096.size a) : Rect S24x4096 := Rect.unit (s := S24x4096) (k0_off132 t1 w) S24x256.size h
abbrev rdA (c : Dev nD) (m : Memref sig .tc .vmem S1x4096 .f32) (f : Buf (Elt F) (m.view.loc (c : Thread nD τ))) (t1 : Fin k0_t1_loop.trips) (w : BitVec 32)
    (h : ∀ a, (k0_off131 t1 w) a + S1x256.size a ≤ S1x4096.size a) : Vec F S1x256 .f32 :=
  m.view.readAt (Elt F) (Rect.unit (s := S1x4096) (k0_off131 t1 w) S1x256.size h).toLoadRect f
abbrev rdS (c : Dev nD) (m : Memref sig .tc .vmem S24x128 .f32) (f : Buf (Elt F) (m.view.loc (c : Thread nD τ))) : Vec F S24x128 .f32 :=
  m.view.readAt (Elt F) (Rect.unit (s := S24x128) ![0, 0] S24x128.size inb_S24x128_S24x128_0_0).toLoadRect f

/-- The output after a block. -/
def blk (c : Dev nD) (arg11 : Memref sig .tc .vmem S24x128 .f32) (arg2 arg3 arg4 arg5 : Memref sig .tc .vmem S1x4096 .f32) (arg8 : Memref sig .tc .vmem S24x4096 .bf16)
    (f11 : Buf (Elt F) (arg11.view.loc (c : Thread nD τ))) (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ)))
    (v111 : IVec S32x256 32) (v132 v134 v136 v138 : BitVec 32) (s : Mxu F) (t1 : Fin k0_t1_loop.trips)
    (f8 : Buf (Elt F) (arg8.view.loc (c : Thread nD τ))) : Buf (Elt F) (arg8.view.loc (c : Thread nD τ)) :=
  arg8.view.writes (Elt F) f8 [⟨rc8 t1 256#32 (k0_off132_inb t1 1), tile1 v111 v132 v134 v136 v138 s (rdS c arg11 f11) (rdA c arg3 f3 t1 256#32 (k0_off131_inb t1 1)) (rdA c arg2 f2 t1 256#32 (k0_off131_inb t1 1)) (rdA c arg5 f5 t1 256#32 (k0_off131_inb t1 1)) (rdA c arg4 f4 t1 256#32 (k0_off131_inb t1 1))⟩,
    ⟨rc8 t1 0#32 (k0_off132_inb t1 0), tile0 v111 v132 v134 v136 v138 s (rdS c arg11 f11) (rdA c arg3 f3 t1 0#32 (k0_off131_inb t1 0)) (rdA c arg2 f2 t1 0#32 (k0_off131_inb t1 0)) (rdA c arg5 f5 t1 0#32 (k0_off131_inb t1 0)) (rdA c arg4 f4 t1 0#32 (k0_off131_inb t1 0))⟩]

theorem Ev.tail2 {t1 : Fin k0_t1_loop.trips} {w : BitVec 32} {h} {hl} {R : sProp (MM F)} : Ev c iprop(Tail c arg11 arg2 arg3 arg4 arg5 f11 f2 f3 f4 f5 ∗ R)
    (Prog.lift (.load arg2 (Rect.unit (s := S1x4096) (k0_off131 t1 w) S1x256.size h).toLoadRect hl) : Pr F _) (rdA c arg2 f2 t1 w h) := by
  unfold Tail
  exact Ev.frame_l (Ev.frame_r (Ev.frame_l (Ev.lift_load (Finset.subset_univ _) rfl)))
theorem Ev.tail3 {t1 : Fin k0_t1_loop.trips} {w : BitVec 32} {h} {hl} {R : sProp (MM F)} : Ev c iprop(Tail c arg11 arg2 arg3 arg4 arg5 f11 f2 f3 f4 f5 ∗ R)
    (Prog.lift (.load arg3 (Rect.unit (s := S1x4096) (k0_off131 t1 w) S1x256.size h).toLoadRect hl) : Pr F _) (rdA c arg3 f3 t1 w h) := by
  unfold Tail
  exact Ev.frame_l (Ev.frame_r (Ev.frame_r (Ev.frame_l (Ev.lift_load (Finset.subset_univ _) rfl))))
theorem Ev.tail4 {t1 : Fin k0_t1_loop.trips} {w : BitVec 32} {h} {hl} {R : sProp (MM F)} : Ev c iprop(Tail c arg11 arg2 arg3 arg4 arg5 f11 f2 f3 f4 f5 ∗ R)
    (Prog.lift (.load arg4 (Rect.unit (s := S1x4096) (k0_off131 t1 w) S1x256.size h).toLoadRect hl) : Pr F _) (rdA c arg4 f4 t1 w h) := by
  unfold Tail
  exact Ev.frame_l (Ev.frame_r (Ev.frame_r (Ev.frame_r (Ev.frame_l (Ev.lift_load (Finset.subset_univ _) rfl)))))
theorem Ev.tail5 {t1 : Fin k0_t1_loop.trips} {w : BitVec 32} {h} {hl} {R : sProp (MM F)} : Ev c iprop(Tail c arg11 arg2 arg3 arg4 arg5 f11 f2 f3 f4 f5 ∗ R)
    (Prog.lift (.load arg5 (Rect.unit (s := S1x4096) (k0_off131 t1 w) S1x256.size h).toLoadRect hl) : Pr F _) (rdA c arg5 f5 t1 w h) := by
  unfold Tail
  exact Ev.frame_l (Ev.frame_r (Ev.frame_r (Ev.frame_r (Ev.frame_r (Ev.lift_load (Finset.subset_univ _) rfl)))))
theorem Ev.tail11 {hl} {R : sProp (MM F)} : Ev c iprop(Tail c arg11 arg2 arg3 arg4 arg5 f11 f2 f3 f4 f5 ∗ R)
    (Prog.lift (.load arg11 (Rect.unit (s := S24x128) ![0, 0] S24x128.size inb_S24x128_S24x128_0_0).toLoadRect hl) : Pr F _) (rdS c arg11 f11) := by
  unfold Tail
  exact Ev.frame_l (Ev.frame_l (Ev.lift_load (Finset.subset_univ _) rfl))

/-- What a block leaves alone. -/
abbrev Hold (c : Dev nD) (arg11 : Memref sig .tc .vmem S24x128 .f32) (arg2 arg3 arg4 arg5 : Memref sig .tc .vmem S1x4096 .f32)
    (f11 : Buf (Elt F) (arg11.view.loc (c : Thread nD τ))) (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ))) (R : sProp (MM F)) : sProp (MM F) :=
  iprop(Tail c arg11 arg2 arg3 arg4 arg5 f11 f2 f3 f4 f5 ∗ R)

/-- Arrange the resources before the inner loop and after it. -/
theorem arr {A B C D : sProp (MM F)} : iprop(A ∗ B ∗ C ∗ D) ⊢ iprop((C ∗ D) ∗ A ∗ B) := by
  iintro ⟨HA, HB, HC, HD⟩
  isplitl [HC HD]
  · isplitl [HC]
    · iexact HC
    · iexact HD
  · isplitl [HA]
    · iexact HA
    · iexact HB
theorem arr' {A B C D : sProp (MM F)} : iprop((C ∗ D) ∗ A ∗ B) ⊢ iprop(A ∗ B ∗ C ∗ D) := by
  iintro ⟨⟨HC, HD⟩, HA, HB⟩
  isplitl [HA]
  · iexact HA
  · isplitl [HB]
    · iexact HB
    · isplitl [HC]
      · iexact HC
      · iexact HD

theorem Tr.store8 {r : Rect S24x4096} {w : r.shape.Idx → Elt F .bf16} {hx : (arg8.access r).Stores Finset.univ} {hm} {T R : sProp (MM F)}
    {f : Buf (Elt F) (arg8.view.loc (c : Thread nD τ))} :
    Tr c iprop(T ∗ At c arg8 f ∗ R) iprop(T ∗ At c arg8 (arg8.view.writes (Elt F) f [⟨r, w⟩]) ∗ R)
      (Prog.lift (.store arg8 r w Finset.univ hx hm) : Pr F PUnit) ⟨⟩ := by
  intro Q
  refine .trans ?_ (Tr.store (m := arg8) (r := r) (w := w) (f := f) Q)
  iintro ⟨⟨HT, HA, HR⟩, HQ⟩
  isplitl [HA]
  · iexact HA
  · iintro HA
    iapply HQ
    isplitl [HT]
    · iexact HT
    · isplitl [HA]
      · iexact HA
      · iexact HR

/-- A block: the chunks, then the tail. -/
theorem tr_block {s0 : Mxu F} {a : BitVec 32} (hs0 : Clean s0) :
    Tr c iprop(Tail c arg11 arg2 arg3 arg4 arg5 f11 f2 f3 f4 f5 ∗ At c arg8 f8 ∗ RingAt c G U (14 * t1.val) ∗ XP c X)
      iprop(Tail c arg11 arg2 arg3 arg4 arg5 f11 f2 f3 f4 f5
        ∗ At c arg8 (blk c arg11 arg2 arg3 arg4 arg5 arg8 f11 f2 f3 f4 f5 v111 v132 v134 v136 v138 (chunkSt (Scalar.cmpi .ne (Scalar.extui v131) 0#32 = 1#1) v783 (plOf w3 w4 w5 w6) G U X t1.val s0 14) t1 f8)
        ∗ RingAt c G U (14 * t1.val + 14) ∗ XP c X)
      (k0_t1_body arg0 harg0 arg1 harg1 arg2 harg2 arg3 harg3 arg4 harg4 arg5 harg5 gM h6 uM h7 arg8 harg8 (Memref.whole cc0_scratch0) h9 (Memref.whole cc0_scratch1) h10 arg11 harg11 cc0_scratch3 v111 w3 w4 w5 w6 hw v131 v132 v134 v136 v138 v783 t1 (a, s0) : Pr F _)
      (0#32, mx441 (chunkSt (Scalar.cmpi .ne (Scalar.extui v131) 0#32 = 1#1) v783 (plOf w3 w4 w5 w6) G U X t1.val s0 14)) := by
  unfold k0_t1_body
  rw [k0_part127_eq_skeleton, k0_part128_eq_skeleton, k0_part129_eq_skeleton, k0_part130_eq_skeleton, k0_part131_eq_skeleton, k0_part132_eq_skeleton]
  unfold k0_part127_skel k0_part128_skel k0_part129_skel k0_part130_skel k0_part131_skel k0_part132_skel
  refine Tr.bind2 (Tr.conv (Tr.frame (R₂ := iprop(Tail c arg11 arg2 arg3 arg4 arg5 f11 f2 f3 f4 f5 ∗ At c arg8 f8)) (tr_inner hs0)) arr arr') ?_
  refine Tr.bind2 Ev.tail11 ?_
  refine Tr.bind (Tr.pure _) ?_
  refine Tr.bind2 Ev.tail3 ?_
  refine Tr.bind (Tr.pure _) ?_
  refine Tr.bind2 Ev.tail2 ?_
  refine Tr.bind (Tr.pure _) ?_
  refine Tr.bind2 Ev.tail5 ?_
  refine Tr.bind2 Ev.tail4 ?_
  refine Tr.bind2 (Ev.frame_r (Ev.frame_l (Ev.lift_load (Finset.subset_univ _) rfl))) ?_
  refine Tr.bind2 Tr.store8 ?_
  refine Tr.bind (Tr.pure _) ?_
  refine Tr.bind2 Ev.tail3 ?_
  refine Tr.bind2 Ev.tail2 ?_
  refine Tr.bind (Tr.pure _) ?_
  refine Tr.bind2 Ev.tail5 ?_
  refine Tr.bind2 Ev.tail4 ?_
  refine Tr.bind (Tr.pure _) ?_
  refine Tr.bind (Ev.frame_r (Ev.frame_l (Ev.lift_load (Finset.subset_univ _) rfl))) ?_
  refine Tr.bind Tr.store8 ?_
  exact Tr.pure _

end Cert.KernelIdeal.Hand
-- ==== Proof.Blocks.lean ====
/- The outer loop: the blocks compose, and the matrix unit ends drained. -/
module

public import proofs.«01_k».proof.Proof.Outer
public import Idealize.ShloMosaic.Lib.WritesUnit

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F]

variable {arg0 : Memref sig .tc .smem S6 .i32} {harg0 : arg0.IsWhole}
variable {arg1 : Memref sig .tc .vmem S24x14336 .bf16} {harg1 : arg1.IsWhole}
variable {arg2 : Memref sig .tc .vmem S1x4096 .f32} {harg2 : arg2.IsWhole}
variable {arg3 : Memref sig .tc .vmem S1x4096 .f32} {harg3 : arg3.IsWhole}
variable {arg4 : Memref sig .tc .vmem S1x4096 .f32} {harg4 : arg4.IsWhole}
variable {arg5 : Memref sig .tc .vmem S1x4096 .f32} {harg5 : arg5.IsWhole}
variable {h6 : (gM).IsWhole}
variable {h7 : (uM).IsWhole}
variable {arg8 : Memref sig .tc .vmem S24x4096 .bf16} {harg8 : arg8.IsWhole}
variable {h9 : (Memref.whole cc0_scratch0).IsWhole}
variable {h10 : (Memref.whole cc0_scratch1).IsWhole}
variable {arg11 : Memref sig .tc .vmem S24x128 .f32} {harg11 : arg11.IsWhole}
variable {c : Dev nD} {G U : Planes F} {X : Xp F} {w3 w4 w5 w6 : Elt F .i32} {t1 : Fin k0_t1_loop.trips} {t2 : Fin k0_t2_loop.trips}
variable {v111 : IVec S32x256 32} {hw : k0_chk1 w3 w4 w5 w6} {v131 : BitVec 1} {v132 v134 v136 v138 : BitVec 32} {v783 : IVec S8x8x256 32}

variable {f11 : Buf (Elt F) (arg11.view.loc (c : Thread nD τ))} {f2 : Buf (Elt F) (arg2.view.loc (c : Thread nD τ))} {f3 : Buf (Elt F) (arg3.view.loc (c : Thread nD τ))}
    {f4 : Buf (Elt F) (arg4.view.loc (c : Thread nD τ))} {f5 : Buf (Elt F) (arg5.view.loc (c : Thread nD τ))} {f8 : Buf (Elt F) (arg8.view.loc (c : Thread nD τ))}

/-! ## The matrix unit between blocks -/

/-- Nothing staged, nothing live. -/
def Dr (s : Mxu F) : Prop := Clean s ∧ ∀ q R, s.live q R = false

theorem Dr.drained {s : Mxu F} (h : Dr s) : s.Drained := ⟨fun q r => by rw [h.1 q r]; rfl, h.2⟩

theorem dr_init : Dr (Mxu.init : Mxu F) := ⟨fun q r => by simp, fun _ _ => rfl⟩

/-- Only the rows the blocks use are live. -/
def Low (s : Mxu F) : Prop := ∀ q (R : Fin 1024), 448 ≤ R.val → s.live q R = false

theorem low_stA {q r : Fin 2} {A : ℕ} {hA : Mxu.Fits A 32} {s : Mxu F} {v : FVec F S256x256 .bf16} {x : FVec F S32x256 .bf16} (h : Low s) (ha : A ≤ 88) :
    Low (stA q r A hA s v x) := by
  intro a R hR
  unfold stA stP
  rw [Mxu.live_accLhs, if_neg (by omega), Mxu.live_pushed]
  exact h a R hR

theorem low_stJ {q r : Fin 2} {A : ℕ} {hA : Mxu.Fits A 32} {z : FVec F S64x256 .bf16} {s : Mxu F} {v : FVec F S256x256 .bf16} {x : FVec F S32x256 .bf16} (h : Low s) (ha : A ≤ 88) :
    Low (stJ q r A hA z s v x) := by
  intro a R hR
  unfold stJ
  rw [Mxu.live_accBy, if_neg (by omega)]
  exact low_stA h ha a R hR

variable {h' : IVec S8x8x256 32} {pl : Pl} {z : FVec F S64x256 .bf16} {n cc : ℕ} {s : Mxu F}

theorem low_St (hs : Low s) : ∀ j, Low (St h' pl z G U X n cc s j)
  | 0 => hs
  | j + 1 => low_stJ (low_St hs j) (by unfold addrOf; omega)

theorem low_StF (hs : Low s) : ∀ j, Low (StF h' G U X n cc s j)
  | 0 => hs
  | j + 1 => low_stA (low_StF hs j) (by unfold addrFix; omega)

theorem low_chunkSt {fx : Prop} [Decidable fx] (hs : Low s) : ∀ k, Low (chunkSt fx h' pl G U X n s k)
  | 0 => hs
  | k + 1 => by
    unfold chunkSt endSt
    split
    · exact low_StF (low_St (low_chunkSt hs k) _) _
    · exact low_St (low_chunkSt hs k) _

theorem pk {p : Prop} [Decidable p] {b : Bool} (h : ¬p → b = false) : (if p then false else b) = false := by
  by_cases hp : p
  · rw [if_pos hp]
  · rw [if_neg hp]; exact h hp

theorem dr_mx (hc : Clean s) (hl : Low s) : Dr (mx441 s) := by
  refine ⟨fun q r => hc q r, fun q R => ?_⟩
  have hR := R.isLt
  unfold mx441 mx440 mx439 mx438 mx437 mx436 mx435 mx434 mx433 mx432 mx431 mx430 mx429 mx428 mx427 mx426 mx425 mx424 mx423 mx422 mx421 mx420 mx419 mx418 mx417 mx416
  simp only [Mxu.live_pop]
  by_cases hR' : 448 ≤ R.val
  · rw [hl q R hR']; simp
  · have hq : q = 0 ∨ q = 1 := by omega
    rcases hq with rfl | rfl
    · simp only [show ((0 : Fin 2) = 1) = False from by decide, eq_self, _root_.true_and, _root_.false_and, if_false]
      repeat (refine pk fun _ => ?_)
      exfalso; omega
    · simp only [show ((1 : Fin 2) = 0) = False from by decide, eq_self, _root_.true_and, _root_.false_and, if_false]
      repeat (refine pk fun _ => ?_)
      exfalso; omega

theorem dr_block {fx : Prop} [Decidable fx] (hs : Dr s) (k : ℕ) : Dr (mx441 (chunkSt fx h' pl G U X n s k)) :=
  dr_mx (clean_chunkSt hs.1 k) (low_chunkSt (fun q R _ => hs.2 q R) k)

/-- The same but for the loaded tiles. -/
def Sim (s s' : Mxu F) : Prop := s.reg = s'.reg ∧ s.acc = s'.acc ∧ s.live = s'.live

theorem Dr.sim (h : Dr s) : Sim s Mxu.init := by
  refine ⟨?_, ?_, ?_⟩
  · funext q r; rw [h.1 q r]; rfl
  · funext q R C; rw [s.clean q R C (h.2 q R)]; rfl
  · funext q R; rw [h.2 q R]; rfl

theorem sim_eq {s s' : Mxu F} (h : Sim s s') : s = {s' with gmr := s.gmr} := by
  obtain ⟨h1, h2, h3⟩ := h
  cases s; cases s'
  simp only at h1 h2 h3
  subst h1 h2 h3
  rfl

theorem sim_pushed {s s' : Mxu F} (h : Sim s s') {q r : Fin 2} {v : FVec F S256x256 .bf16} : Sim (stP q r s v) (stP q r s' v) := by
  rw [sim_eq h]
  unfold stP Mxu.pushed
  cases hr : s'.reg q r <;> exact ⟨rfl, rfl, rfl⟩

theorem sim_stA {s s' : Mxu F} (h : Sim s s') {q r : Fin 2} {A : ℕ} {hA : Mxu.Fits A 32} {v : FVec F S256x256 .bf16} {x : FVec F S32x256 .bf16} :
    Sim (stA q r A hA s v x) (stA q r A hA s' v x) := by
  unfold stA
  rw [sim_eq (sim_pushed (q := q) (r := r) (v := v) h)]
  exact ⟨rfl, rfl, rfl⟩

theorem sim_stJ {s s' : Mxu F} (h : Sim s s') {q r : Fin 2} {A : ℕ} {hA : Mxu.Fits A 32} {v : FVec F S256x256 .bf16} {x : FVec F S32x256 .bf16} :
    Sim (stJ q r A hA z s v x) (stJ q r A hA z s' v x) := by
  unfold stJ
  rw [sim_eq (sim_stA (q := q) (r := r) (hA := hA) (v := v) (x := x) h), sim_eq (sim_pushed (q := q) (r := r) (v := v) h)]
  exact ⟨rfl, rfl, rfl⟩

theorem sim_St {s s' : Mxu F} (hs : Sim s s') : ∀ j, Sim (St h' pl z G U X n cc s j) (St h' pl z G U X n cc s' j)
  | 0 => hs
  | j + 1 => sim_stJ (sim_St hs j)

theorem sim_StF {s s' : Mxu F} (hs : Sim s s') : ∀ j, Sim (StF h' G U X n cc s j) (StF h' G U X n cc s' j)
  | 0 => hs
  | j + 1 => sim_stA (sim_StF hs j)

theorem sim_chunkSt {fx : Prop} [Decidable fx] {s s' : Mxu F} (hs : Sim s s') : ∀ k, Sim (chunkSt fx h' pl G U X n s k) (chunkSt fx h' pl G U X n s' k)
  | 0 => hs
  | k + 1 => by
    unfold chunkSt endSt
    split
    · exact sim_StF (sim_St (sim_chunkSt hs k) _) _
    · exact sim_St (sim_chunkSt hs k) _

variable {S : Vec F S24x128 .f32} {a3 a2 a5 a4 : Vec F S1x256 .f32}

theorem tile0_sim {s s' : Mxu F} (h : Sim s s') : tile0 v111 v132 v134 v136 v138 s S a3 a2 a5 a4 = tile0 v111 v132 v134 v136 v138 s' S a3 a2 a5 a4 := by
  rw [sim_eq h]; rfl
theorem tile1_sim {s s' : Mxu F} (h : Sim s s') : tile1 v111 v132 v134 v136 v138 s S a3 a2 a5 a4 = tile1 v111 v132 v134 v136 v138 s' S a3 a2 a5 a4 := by
  rw [sim_eq h]; rfl

/-! ## The output, block by block -/

/-- A position within a tile. -/
def tix (i : S24x4096.Idx) : S24x256.Idx := fun a => ⟨(![(i 0).val, (i 1).val % 256] a) % S24x256.size a, Nat.mod_lt _ (by fin_cases a <;> decide)⟩
/-- The block of a column. -/
def blkOf (i : S24x4096.Idx) : Fin k0_t1_loop.trips := ⟨(i 1).val / 512 % 8, Nat.mod_lt _ (by decide : 0 < 8)⟩

/-- The output as the kernel computes it. -/
def OutAt (c : Dev nD) (arg11 : Memref sig .tc .vmem S24x128 .f32) (arg2 arg3 arg4 arg5 : Memref sig .tc .vmem S1x4096 .f32)
    (f11 : Buf (Elt F) (arg11.view.loc (c : Thread nD τ))) (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ)))
    (v111 : IVec S32x256 32) (v132 v134 v136 v138 : BitVec 32) (st : ℕ → Mxu F) (i : S24x4096.Idx) : Elt F .bf16 :=
  if (i 1).val % 512 < 256 then
    tile0 v111 v132 v134 v136 v138 (st (blkOf i)) (rdS c arg11 f11) (rdA c arg3 f3 (blkOf i) 0#32 (k0_off131_inb (blkOf i) 0)) (rdA c arg2 f2 (blkOf i) 0#32 (k0_off131_inb (blkOf i) 0)) (rdA c arg5 f5 (blkOf i) 0#32 (k0_off131_inb (blkOf i) 0)) (rdA c arg4 f4 (blkOf i) 0#32 (k0_off131_inb (blkOf i) 0)) (tix i)
  else
    tile1 v111 v132 v134 v136 v138 (st (blkOf i)) (rdS c arg11 f11) (rdA c arg3 f3 (blkOf i) 256#32 (k0_off131_inb (blkOf i) 1)) (rdA c arg2 f2 (blkOf i) 256#32 (k0_off131_inb (blkOf i) 1)) (rdA c arg5 f5 (blkOf i) 256#32 (k0_off131_inb (blkOf i) 1)) (rdA c arg4 f4 (blkOf i) 256#32 (k0_off131_inb (blkOf i) 1)) (tix i)

theorem off132_0 : ∀ t1, k0_off132 t1 0#32 = ![0, 512 * t1.val] := by decide +kernel
theorem off132_1 : ∀ t1, k0_off132 t1 256#32 = ![0, 512 * t1.val + 256] := by decide +kernel

/-- After a block, the outputs up to its end are there. -/
theorem blk_done {st : ℕ → Mxu F} (hs : Sim s (st t1.val))
    (h8 : ∀ i : S24x4096.Idx, (i 1).val < 512 * t1.val → arg8.view.read (Elt F) f8 i = OutAt c arg11 arg2 arg3 arg4 arg5 f11 f2 f3 f4 f5 v111 v132 v134 v136 v138 st i) :
    ∀ i : S24x4096.Idx, (i 1).val < 512 * (t1.val + 1) →
      arg8.view.read (Elt F) (blk c arg11 arg2 arg3 arg4 arg5 arg8 f11 f2 f3 f4 f5 v111 v132 v134 v136 v138 s t1 f8) i
        = OutAt c arg11 arg2 arg3 arg4 arg5 f11 f2 f3 f4 f5 v111 v132 v134 v136 v138 st i := by
  intro i hi
  have ht : t1.val < 8 := t1.isLt
  have h0 : (i 0).val < 24 := (i 0).isLt
  have hx0 : (tix i 0).val = (i 0).val := by show (i 0).val % 24 = _; omega
  have hx1 : (tix i 1).val = (i 1).val % 256 := by show (i 1).val % 256 % 256 = _; omega
  unfold blk
  by_cases hlo : (i 1).val < 512 * t1.val
  · rw [View.read_writes_cons_unit_of_not_mem _ _ _ _ _ _ (off132_1 t1) 1 (Or.inl (by show (i 1).val < 512 * t1.val + 256; omega)),
      View.read_writes_cons_unit_of_not_mem _ _ _ _ _ _ (off132_0 t1) 1 (Or.inl (by show (i 1).val < 512 * t1.val; omega))]
    exact h8 i hlo
  · have hb : blkOf i = t1 := Fin.ext (by show (i 1).val / 512 % 8 = _; omega)
    subst hb
    by_cases hm : (i 1).val < 512 * (blkOf i).val + 256
    · rw [View.read_writes_cons_unit_of_not_mem _ _ _ _ _ _ (off132_1 (blkOf i)) 1 (Or.inl (by show (i 1).val < 512 * (blkOf i).val + 256; omega)),
        View.read_writes_cons_unit_of_mem _ _ _ _ _ _ (tix i) (off132_0 (blkOf i)) (by
          intro a; fin_cases a
          · show (i 0).val = 0 + (tix i 0).val; omega
          · show (i 1).val = 512 * (blkOf i).val + (tix i 1).val; omega)]
      unfold OutAt
      rw [if_pos (by omega), tile0_sim hs]
    · rw [View.read_writes_cons_unit_of_mem _ _ _ _ _ _ (tix i) (off132_1 (blkOf i)) (by
          intro a; fin_cases a
          · show (i 0).val = 0 + (tix i 0).val; omega
          · show (i 1).val = 512 * (blkOf i).val + 256 + (tix i 1).val; omega)]
      unfold OutAt
      rw [if_neg (by omega), tile1_sim hs]

/-- The matrix unit at the end of block `n`, from the initial state. -/
def blkSt (fx : Prop) [Decidable fx] (v783 : IVec S8x8x256 32) (pl : Pl) (G U : Planes F) (X : Xp F) (n : ℕ) : Mxu F :=
  chunkSt fx v783 pl G U X n Mxu.init 14

/-- The outer loop. -/
theorem tr_outer {s0 : Mxu F} (hs0 : Dr s0) : ∃ s' : Mxu F, Dr s' ∧ ∃ f8' : Buf (Elt F) (arg8.view.loc (c : Thread nD τ)),
    (∀ i : S24x4096.Idx, arg8.view.read (Elt F) f8' i = OutAt c arg11 arg2 arg3 arg4 arg5 f11 f2 f3 f4 f5 v111 v132 v134 v136 v138
      (blkSt (Scalar.cmpi .ne (Scalar.extui v131) 0#32 = 1#1) v783 (plOf w3 w4 w5 w6) G U X) i) ∧
    Tr c iprop(Tail c arg11 arg2 arg3 arg4 arg5 f11 f2 f3 f4 f5 ∗ At c arg8 f8 ∗ RingAt c G U 0 ∗ XP c X)
      iprop(Tail c arg11 arg2 arg3 arg4 arg5 f11 f2 f3 f4 f5 ∗ At c arg8 f8' ∗ RingAt c G U 112 ∗ XP c X)
      (Scf.Loop.for k0_t1_loop k0_t1_ok (0#32, s0) (k0_t1_body arg0 harg0 arg1 harg1 arg2 harg2 arg3 harg3 arg4 harg4 arg5 harg5 gM h6 uM h7 arg8 harg8 (Memref.whole cc0_scratch0) h9 (Memref.whole cc0_scratch1) h10 arg11 harg11 cc0_scratch3 v111 w3 w4 w5 w6 hw v131 v132 v134 v136 v138 v783) : Pr F _)
      (0#32, s') := by
  -- the output after `k` blocks, as a function of the states that the blocks start from
  let ss : ℕ → Mxu F := fun k => Nat.rec s0 (fun n s => mx441 (chunkSt (Scalar.cmpi .ne (Scalar.extui v131) 0#32 = 1#1) v783 (plOf w3 w4 w5 w6) G U X n s 14)) k
  let ff : ℕ → Buf (Elt F) (arg8.view.loc (c : Thread nD τ)) := fun k => Nat.rec f8 (fun n f =>
    if h : n < k0_t1_loop.trips then blk c arg11 arg2 arg3 arg4 arg5 arg8 f11 f2 f3 f4 f5 v111 v132 v134 v136 v138 (chunkSt (Scalar.cmpi .ne (Scalar.extui v131) 0#32 = 1#1) v783 (plOf w3 w4 w5 w6) G U X n (ss n) 14) ⟨n, h⟩ f else f) k
  have hss : ∀ k, Dr (ss k) := by
    intro k
    induction k with
    | zero => exact hs0
    | succ k ih => exact dr_block ih 14
  have hff : ∀ k ≤ 8, ∀ i : S24x4096.Idx, (i 1).val < 512 * k → arg8.view.read (Elt F) (ff k) i = OutAt c arg11 arg2 arg3 arg4 arg5 f11 f2 f3 f4 f5 v111 v132 v134 v136 v138
      (blkSt (Scalar.cmpi .ne (Scalar.extui v131) 0#32 = 1#1) v783 (plOf w3 w4 w5 w6) G U X) i := by
    intro k
    induction k with
    | zero => intro _ i hi; omega
    | succ k ih =>
      intro hk
      have hlt : k < k0_t1_loop.trips := by show k < 8; omega
      have e : ff (k + 1) = blk c arg11 arg2 arg3 arg4 arg5 arg8 f11 f2 f3 f4 f5 v111 v132 v134 v136 v138 (chunkSt (Scalar.cmpi .ne (Scalar.extui v131) 0#32 = 1#1) v783 (plOf w3 w4 w5 w6) G U X k (ss k) 14) ⟨k, hlt⟩ (ff k) := dif_pos hlt
      rw [e]
      exact blk_done (t1 := ⟨k, hlt⟩) (sim_chunkSt (hss k).sim 14) (ih (by omega))
  refine ⟨ss 8, hss 8, ff 8, fun i => hff 8 le_rfl i (by have : (i 1).val < 4096 := (i 1).isLt; omega), ?_⟩
  obtain ⟨v, hv, ht⟩ := Tr.loop (c := c) _ _ _ k0_t1_ok ((0#32, s0) : BitVec 32 × Mxu F) (k0_t1_body arg0 harg0 arg1 harg1 arg2 harg2 arg3 harg3 arg4 harg4 arg5 harg5 gM h6 uM h7 arg8 harg8 (Memref.whole cc0_scratch0) h9 (Memref.whole cc0_scratch1) h10 arg11 harg11 cc0_scratch3 v111 w3 w4 w5 w6 hw v131 v132 v134 v136 v138 v783 : Fin k0_t1_loop.trips → BitVec 32 × Mxu F → Pr F _)
    (fun k => iprop(Tail c arg11 arg2 arg3 arg4 arg5 f11 f2 f3 f4 f5 ∗ At c arg8 (ff k) ∗ RingAt c G U (14 * k) ∗ XP c X))
    (fun k acc => acc = (0#32, ss k))
    (by
      rintro k acc rfl
      refine ⟨_, rfl, ?_⟩
      have e : ff (k.val + 1) = blk c arg11 arg2 arg3 arg4 arg5 arg8 f11 f2 f3 f4 f5 v111 v132 v134 v136 v138 (chunkSt (Scalar.cmpi .ne (Scalar.extui v131) 0#32 = 1#1) v783 (plOf w3 w4 w5 w6) G U X k.val (ss k.val) 14) k (ff k.val) := dif_pos k.isLt
      rw [e]
      exact tr_block (t1 := k) (hss k.val).1)
    rfl
  subst hv
  exact ht

end Cert.KernelIdeal.Hand
-- ==== Proof.Pre.lean ====
/- What precedes the outer loop: the first copies, the counts, the activations permuted and their row sums. -/
module

public import proofs.«01_k».proof.Proof.Blocks

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F]

variable {arg0 : Memref sig .tc .smem S6 .i32} {harg0 : arg0.IsWhole}
variable {arg1 : Memref sig .tc .vmem S24x14336 .bf16} {harg1 : arg1.IsWhole}
variable {arg2 : Memref sig .tc .vmem S1x4096 .f32} {harg2 : arg2.IsWhole}
variable {arg3 : Memref sig .tc .vmem S1x4096 .f32} {harg3 : arg3.IsWhole}
variable {arg4 : Memref sig .tc .vmem S1x4096 .f32} {harg4 : arg4.IsWhole}
variable {arg5 : Memref sig .tc .vmem S1x4096 .f32} {harg5 : arg5.IsWhole}
variable {h6 : (gM).IsWhole}
variable {h7 : (uM).IsWhole}
variable {arg8 : Memref sig .tc .vmem S24x4096 .bf16} {harg8 : arg8.IsWhole}
variable {h9 : (Memref.whole cc0_scratch0).IsWhole}
variable {h10 : (Memref.whole cc0_scratch1).IsWhole}
variable {arg11 : Memref sig .tc .vmem S24x128 .f32} {harg11 : arg11.IsWhole}
variable {c : Dev nD} {G U : Planes F} {X : Xp F} {w3 w4 w5 w6 : Elt F .i32}
variable {f0 : Buf (Elt F) (arg0.view.loc (c : Thread nD τ))} {f1 : Buf (Elt F) (arg1.view.loc (c : Thread nD τ))} {f11 : Buf (Elt F) (arg11.view.loc (c : Thread nD τ))} {f10 : Xp F} {R : sProp (MM F)}

/-! ## The matrix unit between products -/

theorem mxu_ext {s t : Mxu F} (h1 : s.reg = t.reg) (h2 : s.gmr = t.gmr) (h3 : s.acc = t.acc) (h4 : s.live = t.live) : s = t := by
  cases s; cases t
  simp only at h1 h2 h3 h4
  subst h1 h2 h3 h4
  rfl

theorem pop_dr {s : Mxu F} (hs : Dr s) {q : Fin 2} {A M : ℕ} {h : Mxu.Fits A M} : s.pop q A M h = s := by
  refine mxu_ext rfl rfl ?_ ?_
  · funext q' r cc
    show (if _ then _ else _) = _
    split
    · exact (s.clean q' r cc (hs.2 q' r)).symm
    · rfl
  · funext q' r
    show (if _ then _ else _) = _
    split
    · exact (hs.2 q' r).symm
    · rfl

theorem pop_accBy {s : Mxu F} (hs : Dr s) {q : Fin 2} {t : Mxu.Staged F} {A M : ℕ} {φ : FTy} {l : FVec F (Mxu.STile M) φ} {h : Mxu.Fits A M} :
    (s.accBy q t A l h).pop q A M h = s := by
  refine mxu_ext rfl rfl ?_ ?_
  · funext q' r cc
    show (if _ then _ else dite _ _ _) = _
    split
    · exact (s.clean q' r cc (hs.2 q' r)).symm
    · rfl
  · funext q' r
    show (if _ then _ else ite _ _ _) = _
    split
    · exact (hs.2 q' r).symm
    · rfl

/-- The permutation of a tile's columns, as a matrix. -/
def permV : FVec F S256x256 .bf16 := k0_pay763 (F := F) (iota .tc S256x256 32 [0] iota_S256x256_d0_w32) (iota .tc S256x256 32 [1] iota_S256x256_d1_w32) (Scalar.select (Scalar.cmpi .eq 64#32 0#32) 1#32 64#32) k0_pay760 k0_pay761 k0_pay762
def permT : Mxu.Staged F := ⟨.bf16, false, permV⟩
/-- The matrix unit with the permutation staged. -/
def s26 : Mxu F := Mxu.init.pushed 0 0 false permV

/-- A tile of the activations. -/
def xT (c : Dev nD) (arg1 : Memref sig .tc .vmem S24x14336 .bf16) (f1 : Buf (Elt F) (arg1.view.loc (c : Thread nD τ))) (k : ℕ) : Vec F S24x256 .bf16 :=
  fun i => arg1.view.read (Elt F) f1 (fun a => ⟨(![(i 0).val, 256 * k + (i 1).val] a) % S24x14336.size a, Nat.mod_lt _ (by fin_cases a <;> decide)⟩)
/-- The tile with the rows the unit wants beside it. -/
def xpd (c : Dev nD) (arg1 : Memref sig .tc .vmem S24x14336 .bf16) (f1 : Buf (Elt F) (arg1.view.loc (c : Thread nD τ))) (k : ℕ) : FVec F S32x256 .bf16 :=
  k0_pay770 (k0_pay764 (F := F)) (xT c arg1 f1 k)
/-- The tile permuted. -/
def tp (c : Dev nD) (arg1 : Memref sig .tc .vmem S24x14336 .bf16) (f1 : Buf (Elt F) (arg1.view.loc (c : Thread nD τ))) (k : ℕ) : FVec F S32x256 .f32 :=
  permT.pass (xpd c arg1 f1 k)
/-- The tile permuted, as it is stored. -/
def tileV (c : Dev nD) (arg1 : Memref sig .tc .vmem S24x14336 .bf16) (f1 : Buf (Elt F) (arg1.view.loc (c : Thread nD τ))) (k : ℕ) : FVec F S32x256 .bf16 :=
  k0_pay768 (tp c arg1 f1 k)
/-- The sum of the tiles up to tile `k`. -/
def sumTo (c : Dev nD) (arg1 : Memref sig .tc .vmem S24x14336 .bf16) (f1 : Buf (Elt F) (arg1.view.loc (c : Thread nD τ))) : ℕ → FVec F S24x256 .f32
  | 0 => k0_pay766 (xT c arg1 f1 0)
  | k + 1 => addf (sumTo c arg1 f1 k) (extf .f32 (k0_pay765 (xT c arg1 f1 (k + 1))) bitsLt_bf16_f32)
/-- The matrix unit after the first tile, the permutation loaded. -/
def s1 (c : Dev nD) (arg1 : Memref sig .tc .vmem S24x14336 .bf16) (f1 : Buf (Elt F) (arg1.view.loc (c : Thread nD τ))) : Mxu F :=
  (s26.accLhs 0 0 0 (k0_pay767 (xT c arg1 f1 0)) fits_0_32).pop 0 0 32 fits_0_32

/-- A position within a tile of the permuted activations. -/
def xin (i : S32x14336.Idx) : S32x256.Idx := fun a => ⟨(![(i 0).val, (i 1).val % 256] a) % S32x256.size a, Nat.mod_lt _ (by fin_cases a <;> decide)⟩
/-- The permuted activations. -/
def XV (c : Dev nD) (arg1 : Memref sig .tc .vmem S24x14336 .bf16) (f1 : Buf (Elt F) (arg1.view.loc (c : Thread nD τ))) : Xp F :=
  fun i => tileV c arg1 f1 ((i 1).val / 256) (xin i)
/-- The permuted activations up to tile `k`. -/
def fill (c : Dev nD) (arg1 : Memref sig .tc .vmem S24x14336 .bf16) (f1 : Buf (Elt F) (arg1.view.loc (c : Thread nD τ))) (f : Xp F) (k : ℕ) : Xp F :=
  fun i => if (i 1).val < 256 * k then XV c arg1 f1 i else f i

theorem fill_zero : fill c arg1 f1 f10 0 = f10 := by
  funext i
  exact if_neg (by omega)
theorem fill_all : fill c arg1 f1 f10 56 = XV c arg1 f1 := by
  funext i
  have : (i 1).val < 14336 := (i 1).isLt
  exact if_pos (by omega)

theorem live_s1 (q : Fin 2) (r : Fin 1024) : (s1 c arg1 f1).live q r = false := by
  unfold s1
  rw [Mxu.live_pop]
  split
  · rfl
  · rename_i h
    rw [Mxu.live_accLhs, if_neg h]
    rfl

theorem reg_s26 : (s26 (F := F)).reg 0 0 = some permT := rfl

theorem s1_dr : Dr (s1 c arg1 f1) := by
  refine ⟨fun q r => ?_, live_s1⟩
  show (if q = 0 ∧ r = 0 then none else s26.reg q r) = none
  split
  · rfl
  · rename_i h
    show (if q = 0 ∧ r = 0 then some _ else none) = none
    rw [if_neg h]

theorem s1_gmr : (s1 c arg1 f1).gmr 0 = some permT := rfl

theorem read_s1 {A : ℕ} {l : FVec F (Mxu.STile 32) .bf16} {h : Mxu.Fits A 32} :
    ((s1 c arg1 f1).accBy 0 permT A l h).read 0 A h = permT.pass l :=
  Mxu.read_accBy_of_not_live _ _ _ _ _ _ fun _ => live_s1 _ _

theorem read_s27 : ((s26 (F := F)).accLhs 0 0 0 (k0_pay767 (xT c arg1 f1 0)) fits_0_32).read 0 0 fits_0_32 = tp c arg1 f1 0 :=
  Mxu.read_accLhs_of_not_live _ _ _ _ _ _ fun _ => rfl

/-! ## Loads and stores -/

abbrev xpM : Memref sig .tc .vmem S32x14336 .bf16 := Memref.whole cc0_scratch1

theorem Ev.ldT (k : ℕ) {off : Fin 2 → ℕ} {inb : ∀ a, off a + S24x256.size a ≤ S24x14336.size a} {hl} (ho : off = ![0, 256 * k]) :
    Ev c (At c arg1 f1) (Prog.lift (.load arg1 (Rect.unit (s := S24x14336) off S24x256.size inb).toLoadRect hl) : Pr F _) (xT c arg1 f1 k) := by
  subst ho
  refine Ev.lift_load (Finset.subset_univ _) ?_
  funext i
  show arg1.view.read (Elt F) f1 _ = arg1.view.read (Elt F) f1 _
  congr 1
  funext a
  apply Fin.ext
  have h0 : (i 0).val < 24 := (i 0).isLt
  have h1 : (i 1).val < 256 := (i 1).isLt
  have hk : 256 * k + 256 ≤ 14336 := inb 1
  fin_cases a
  · show 0 + 1 * (i 0).val = (i 0).val % 24
    omega
  · show 256 * k + 1 * (i 1).val = (256 * k + (i 1).val) % 14336
    omega

/-- A load whose value nothing uses. -/
theorem Tr.ldP {X : Xp F} {r : LoadRect S32x14336} {hl} {R' : sProp (MM F)} :
    Tr c iprop(R' ∗ At c xpM X ∗ R) iprop(R' ∗ At c xpM X ∗ R) (Prog.lift (.load xpM r hl) : Pr F _) (xpM.view.readAt (Elt F) r X) :=
  Ev.frame_r (Ev.frame_l (Ev.lift_load (Finset.subset_univ _) rfl))

theorem fill_step {k : ℕ} (hk : k < 56) {inb : ∀ a, (![0, 256 * k] : Fin 2 → ℕ) a + S32x256.size a ≤ S32x14336.size a} :
    xpM.view.writes (Elt F) (fill c arg1 f1 f10 k) [⟨Rect.unit (s := S32x14336) ![0, 256 * k] S32x256.size inb, tileV c arg1 f1 k⟩] = fill c arg1 f1 f10 (k + 1) := by
  funext i
  have h0 : (i 0).val < 32 := (i 0).isLt
  have h1 : (i 1).val < 14336 := (i 1).isLt
  have hx0 : (xin i 0).val = (i 0).val := by show (i 0).val % 32 = _; omega
  have hx1 : (xin i 1).val = (i 1).val % 256 := by show (i 1).val % 256 % 256 = _; omega
  show xpM.view.read (Elt F) (xpM.view.writes (Elt F) (fill c arg1 f1 f10 k) [⟨Rect.unit (s := S32x14336) ![0, 256 * k] S32x256.size inb, tileV c arg1 f1 k⟩]) i = _
  unfold fill
  by_cases hlo : (i 1).val < 256 * k
  · rw [View.read_writes_cons_unit_of_not_mem _ _ _ _ _ _ rfl 1 (Or.inl (by show (i 1).val < 256 * k; omega)), if_pos (by omega)]
    exact if_pos hlo
  · by_cases hhi : (i 1).val < 256 * (k + 1)
    · rw [View.read_writes_cons_unit_of_mem _ _ _ _ _ _ (xin i) rfl (by
          intro a; fin_cases a
          · show (i 0).val = 0 + (xin i 0).val; omega
          · show (i 1).val = 256 * k + (xin i 1).val; omega), if_pos hhi]
      have e : (i 1).val / 256 = k := by omega
      unfold XV
      rw [e]
    · rw [View.read_writes_cons_unit_of_not_mem _ _ _ _ _ _ rfl 1 (Or.inr (by show 256 * k + 256 ≤ (i 1).val; omega)), if_neg hhi]
      exact if_neg hlo

theorem Tr.stx (k : ℕ) (hk : k < 56) {off : Fin 2 → ℕ} {inb : ∀ a, off a + S32x256.size a ≤ S32x14336.size a} {w : S32x256.Idx → Elt F .bf16} {hx hm} {R' : sProp (MM F)}
    (ho : off = ![0, 256 * k]) (hw : w = tileV c arg1 f1 k) :
    Tr c iprop(R' ∗ At c xpM (fill c arg1 f1 f10 k) ∗ R) iprop(R' ∗ At c xpM (fill c arg1 f1 f10 (k + 1)) ∗ R)
      (Prog.lift (.store xpM (Rect.unit (s := S32x14336) off S32x256.size inb) w Finset.univ hx hm) : Pr F PUnit) ⟨⟩ := by
  subst ho hw
  have h := Tr.store (c := c) (m := xpM) (f := fill c arg1 f1 f10 k) (w := tileV c arg1 f1 k) (hx := hx) (hm := hm)
  rw [fill_step hk] at h
  refine Tr.conv (Tr.frame (R₂ := iprop(R' ∗ R)) h) ?_ ?_
  · iintro ⟨H1, H2, H3⟩
    isplitl [H2]
    · iexact H2
    · isplitl [H1]
      · iexact H1
      · iexact H3
  · iintro ⟨H2, H1, H3⟩
    isplitl [H1]
    · iexact H1
    · isplitl [H2]
      · iexact H2
      · iexact H3

/-- The row sums as they are stored. -/
def sumV (c : Dev nD) (arg1 : Memref sig .tc .vmem S24x14336 .bf16) (f1 : Buf (Elt F) (arg1.view.loc (c : Thread nD τ))) : FVec F S24x128 .f32 :=
  k0_pay954 (sumTo c arg1 f1 53) (xT c arg1 f1 54) (xT c arg1 f1 55)
def srowF (c : Dev nD) (arg1 : Memref sig .tc .vmem S24x14336 .bf16) (arg11 : Memref sig .tc .vmem S24x128 .f32) (f1 : Buf (Elt F) (arg1.view.loc (c : Thread nD τ)))
    (f11 : Buf (Elt F) (arg11.view.loc (c : Thread nD τ))) : Buf (Elt F) (arg11.view.loc (c : Thread nD τ)) :=
  arg11.view.writes (Elt F) f11 [⟨Rect.unit (s := S24x128) ![0, 0] S24x128.size inb_S24x128_S24x128_0_0, sumV c arg1 f1⟩]

theorem Tr.ld11 {r : LoadRect S24x128} {hl} {R' R'' : sProp (MM F)} :
    Tr c iprop(R' ∗ R'' ∗ At c arg11 f11 ∗ R) iprop(R' ∗ R'' ∗ At c arg11 f11 ∗ R) (Prog.lift (.load arg11 r hl) : Pr F _) (arg11.view.readAt (Elt F) r f11) :=
  Ev.frame_r (Ev.frame_r (Ev.frame_l (Ev.lift_load (Finset.subset_univ _) rfl)))

theorem Tr.st11 {hx hm} {R' R'' : sProp (MM F)} :
    Tr c iprop(R' ∗ R'' ∗ At c arg11 f11 ∗ R) iprop(R' ∗ R'' ∗ At c arg11 (srowF c arg1 arg11 f1 f11) ∗ R)
      (Prog.lift (.store arg11 (Rect.unit (s := S24x128) ![0, 0] S24x128.size inb_S24x128_S24x128_0_0) (sumV c arg1 f1) Finset.univ hx hm) : Pr F PUnit) ⟨⟩ := by
  refine Tr.conv (Tr.frame (R₂ := iprop(R' ∗ R'' ∗ R)) (Tr.store (c := c) (m := arg11) (f := f11) (hx := hx) (hm := hm))) ?_ ?_
  · iintro ⟨H1, H2, H3, H4⟩
    isplitl [H3]
    · iexact H3
    · isplitl [H1]
      · iexact H1
      · isplitl [H2]
        · iexact H2
        · iexact H4
  · iintro ⟨H3, H1, H2, H4⟩
    isplitl [H1]
    · iexact H1
    · isplitl [H2]
      · iexact H2
      · isplitl [H3]
        · iexact H3
        · iexact H4

/-- A count. -/
abbrev cnt (c : Dev nD) (arg0 : Memref sig .tc .smem S6 .i32) (f0 : Buf (Elt F) (arg0.view.loc (c : Thread nD τ))) (o : Fin 1 → ℕ) (h : ∀ a, o a + S1.size a ≤ S6.size a) : Elt F .i32 :=
  (arg0.access (Rect.unit (s := S6) o S1.size h)).read (Elt F) f0 (Shape.Idx.first (numel1_S1 ▸ Nat.one_pos))

theorem Ev.smem {o : Fin 1 → ℕ} {h : ∀ a, o a + S1.size a ≤ S6.size a} {hp} :
    Ev c (At c arg0 f0) (smemLoad arg0 (Rect.unit (s := S6) o S1.size h) numel1_S1 hp : Pr F _) (cnt c arg0 f0 o h) := by
  intro Q
  unfold smemLoad
  iintro ⟨HR, HQ⟩
  iapply (wp_smemLoadElt (defs := defs₀ (F := F)) (𝒱 := Variants.none) (c := (c : Thread nD τ)) (bd := none) (E := Set.univ) (m := arg0) (r := Rect.unit (s := S6) o S1.size h) (f := f0) (S := Finset.univ) (Finset.subset_univ _)) $$ HR
  iintro HR
  rw [wp_ret]
  imodintro
  iapply HQ
  iexact HR

/-! ## The activations, tile by tile -/

theorem tr_part139 :
    Tr c iprop(At c arg1 f1 ∗ At c xpM (fill c arg1 f1 f10 0) ∗ R) iprop(At c arg1 f1 ∗ At c xpM (fill c arg1 f1 f10 3) ∗ R)
      (k0_part139 arg0 harg0 arg1 harg1 arg2 harg2 arg3 harg3 arg4 harg4 arg5 harg5 gM h6 uM h7 arg8 harg8 (Memref.whole cc0_scratch0) h9 (Memref.whole cc0_scratch1) h10 arg11 harg11 cc0_scratch3 (s26 (F := F)) (k0_pay764 (F := F)) (sumTo c arg1 f1 0) (k0_pay767 (xT c arg1 f1 0)) : Pr F _)
      ⟨(sumTo c arg1 f1 3), (s1 c arg1 f1), (k0_pay778 (tp c arg1 f1 3))⟩ := by
  rw [k0_part139_eq_skeleton]
  unfold k0_part139_skel
  refine Tr.bind Tr.ldP ?_
  refine Tr.bind (Tr.stx 0 (by decide) rfl (congrArg k0_pay768 (read_s27 (c := c) (arg1 := arg1) (f1 := f1)))) ?_
  refine Tr.bind (Tr.ofEv (Ev.ldT 1 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 1 (by decide) rfl rfl) ?_
  refine Tr.bind (Tr.ofEv (Ev.ldT 2 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 2 (by decide) rfl rfl) ?_
  refine Tr.bind (Tr.ofEv (Ev.ldT 3 rfl)) ?_
  refine Tr.bind (Ev.loaded (s := s1 c arg1 f1) s1_gmr) ?_
  simp only [pop_accBy (s1_dr (c := c) (arg1 := arg1) (f1 := f1)), read_s1]
  refine Tr.bind Tr.ldP ?_
  exact Tr.pure _

theorem tr_part140 :
    Tr c iprop(At c arg1 f1 ∗ At c xpM (fill c arg1 f1 f10 3) ∗ R) iprop(At c arg1 f1 ∗ At c xpM (fill c arg1 f1 f10 7) ∗ R)
      (k0_part140 arg0 harg0 arg1 harg1 arg2 harg2 arg3 harg3 arg4 harg4 arg5 harg5 gM h6 uM h7 arg8 harg8 (Memref.whole cc0_scratch0) h9 (Memref.whole cc0_scratch1) h10 arg11 harg11 cc0_scratch3 (k0_pay764 (F := F)) (sumTo c arg1 f1 3) (s1 c arg1 f1) (k0_pay778 (tp c arg1 f1 3)) : Pr F _)
      ⟨(sumTo c arg1 f1 7), ((s1 c arg1 f1).accBy 0 permT 64 (xpd c arg1 f1 7) fits_64_32)⟩ := by
  rw [k0_part140_eq_skeleton]
  unfold k0_part140_skel
  refine Tr.bind (Tr.stx 3 (by decide) rfl rfl) ?_
  refine Tr.bind (Tr.ofEv (Ev.ldT 4 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 4 (by decide) rfl rfl) ?_
  refine Tr.bind (Tr.ofEv (Ev.ldT 5 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 5 (by decide) rfl rfl) ?_
  refine Tr.bind (Tr.ofEv (Ev.ldT 6 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 6 (by decide) rfl rfl) ?_
  refine Tr.bind (Tr.ofEv (Ev.ldT 7 rfl)) ?_
  refine Tr.bind (Ev.loaded (s := s1 c arg1 f1) s1_gmr) ?_
  try simp only [pop_accBy (s1_dr (c := c) (arg1 := arg1) (f1 := f1)), read_s1]
  exact Tr.pure _

theorem tr_part141 :
    Tr c iprop(At c arg1 f1 ∗ At c xpM (fill c arg1 f1 f10 7) ∗ R) iprop(At c arg1 f1 ∗ At c xpM (fill c arg1 f1 f10 11) ∗ R)
      (k0_part141 arg0 harg0 arg1 harg1 arg2 harg2 arg3 harg3 arg4 harg4 arg5 harg5 gM h6 uM h7 arg8 harg8 (Memref.whole cc0_scratch0) h9 (Memref.whole cc0_scratch1) h10 arg11 harg11 cc0_scratch3 (k0_pay764 (F := F)) (sumTo c arg1 f1 7) ((s1 c arg1 f1).accBy 0 permT 64 (xpd c arg1 f1 7) fits_64_32) : Pr F _)
      ⟨(sumTo c arg1 f1 10), (s1 c arg1 f1)⟩ := by
  rw [k0_part141_eq_skeleton]
  unfold k0_part141_skel
  refine Tr.bind Tr.ldP ?_
  try  simp only [pop_accBy (s1_dr (c := c) (arg1 := arg1) (f1 := f1)), read_s1]
  refine Tr.bind (Tr.stx 7 (by decide) rfl rfl) ?_
  refine Tr.bind (Tr.ofEv (Ev.ldT 8 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 8 (by decide) rfl rfl) ?_
  refine Tr.bind (Tr.ofEv (Ev.ldT 9 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 9 (by decide) rfl rfl) ?_
  refine Tr.bind (Tr.ofEv (Ev.ldT 10 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 10 (by decide) rfl rfl) ?_
  exact Tr.pure _

theorem tr_part142 :
    Tr c iprop(At c arg1 f1 ∗ At c xpM (fill c arg1 f1 f10 11) ∗ R) iprop(At c arg1 f1 ∗ At c xpM (fill c arg1 f1 f10 14) ∗ R)
      (k0_part142 arg0 harg0 arg1 harg1 arg2 harg2 arg3 harg3 arg4 harg4 arg5 harg5 gM h6 uM h7 arg8 harg8 (Memref.whole cc0_scratch0) h9 (Memref.whole cc0_scratch1) h10 arg11 harg11 cc0_scratch3 (k0_pay764 (F := F)) (sumTo c arg1 f1 10) (s1 c arg1 f1) : Pr F _)
      ⟨(sumTo c arg1 f1 14), ((s1 c arg1 f1).accBy 0 permT 32 (xpd c arg1 f1 14) fits_32_32), (tp c arg1 f1 14)⟩ := by
  rw [k0_part142_eq_skeleton]
  unfold k0_part142_skel
  refine Tr.bind (Tr.ofEv (Ev.ldT 11 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 11 (by decide) rfl rfl) ?_
  refine Tr.bind (Tr.ofEv (Ev.ldT 12 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 12 (by decide) rfl rfl) ?_
  refine Tr.bind (Tr.ofEv (Ev.ldT 13 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 13 (by decide) rfl rfl) ?_
  refine Tr.bind (Tr.ofEv (Ev.ldT 14 rfl)) ?_
  refine Tr.bind (Ev.loaded (s := s1 c arg1 f1) s1_gmr) ?_
  simp only [pop_accBy (s1_dr (c := c) (arg1 := arg1) (f1 := f1)), read_s1]
  exact Tr.pure _

theorem tr_part143 :
    Tr c iprop(At c arg1 f1 ∗ At c xpM (fill c arg1 f1 f10 14) ∗ R) iprop(At c arg1 f1 ∗ At c xpM (fill c arg1 f1 f10 18) ∗ R)
      (k0_part143 arg0 harg0 arg1 harg1 arg2 harg2 arg3 harg3 arg4 harg4 arg5 harg5 gM h6 uM h7 arg8 harg8 (Memref.whole cc0_scratch0) h9 (Memref.whole cc0_scratch1) h10 arg11 harg11 cc0_scratch3 (k0_pay764 (F := F)) (sumTo c arg1 f1 14) ((s1 c arg1 f1).accBy 0 permT 32 (xpd c arg1 f1 14) fits_32_32) (tp c arg1 f1 14) : Pr F _)
      ⟨(sumTo c arg1 f1 17), (s1 c arg1 f1)⟩ := by
  rw [k0_part143_eq_skeleton]
  unfold k0_part143_skel
  refine Tr.bind Tr.ldP ?_
  try  simp only [pop_accBy (s1_dr (c := c) (arg1 := arg1) (f1 := f1)), read_s1]
  refine Tr.bind (Tr.stx 14 (by decide) rfl rfl) ?_
  refine Tr.bind (Tr.ofEv (Ev.ldT 15 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 15 (by decide) rfl rfl) ?_
  refine Tr.bind (Tr.ofEv (Ev.ldT 16 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 16 (by decide) rfl rfl) ?_
  refine Tr.bind (Tr.ofEv (Ev.ldT 17 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 17 (by decide) rfl rfl) ?_
  exact Tr.pure _

theorem tr_part144 :
    Tr c iprop(At c arg1 f1 ∗ At c xpM (fill c arg1 f1 f10 18) ∗ R) iprop(At c arg1 f1 ∗ At c xpM (fill c arg1 f1 f10 21) ∗ R)
      (k0_part144 arg0 harg0 arg1 harg1 arg2 harg2 arg3 harg3 arg4 harg4 arg5 harg5 gM h6 uM h7 arg8 harg8 (Memref.whole cc0_scratch0) h9 (Memref.whole cc0_scratch1) h10 arg11 harg11 cc0_scratch3 (k0_pay764 (F := F)) (sumTo c arg1 f1 17) (s1 c arg1 f1) : Pr F _)
      ⟨(sumTo c arg1 f1 21), (tp c arg1 f1 21), (s1 c arg1 f1)⟩ := by
  rw [k0_part144_eq_skeleton]
  unfold k0_part144_skel
  refine Tr.bind (Tr.ofEv (Ev.ldT 18 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 18 (by decide) rfl rfl) ?_
  refine Tr.bind (Tr.ofEv (Ev.ldT 19 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 19 (by decide) rfl rfl) ?_
  refine Tr.bind (Tr.ofEv (Ev.ldT 20 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 20 (by decide) rfl rfl) ?_
  refine Tr.bind (Tr.ofEv (Ev.ldT 21 rfl)) ?_
  refine Tr.bind (Ev.loaded (s := s1 c arg1 f1) s1_gmr) ?_
  simp only [pop_accBy (s1_dr (c := c) (arg1 := arg1) (f1 := f1)), read_s1]
  exact Tr.pure _

theorem tr_part145 :
    Tr c iprop(At c arg1 f1 ∗ At c xpM (fill c arg1 f1 f10 21) ∗ R) iprop(At c arg1 f1 ∗ At c xpM (fill c arg1 f1 f10 25) ∗ R)
      (k0_part145 arg0 harg0 arg1 harg1 arg2 harg2 arg3 harg3 arg4 harg4 arg5 harg5 gM h6 uM h7 arg8 harg8 (Memref.whole cc0_scratch0) h9 (Memref.whole cc0_scratch1) h10 arg11 harg11 cc0_scratch3 (k0_pay764 (F := F)) (sumTo c arg1 f1 21) (tp c arg1 f1 21) (s1 c arg1 f1) : Pr F _)
      ⟨(sumTo c arg1 f1 24), (s1 c arg1 f1)⟩ := by
  rw [k0_part145_eq_skeleton]
  unfold k0_part145_skel
  refine Tr.bind Tr.ldP ?_
  refine Tr.bind (Tr.stx 21 (by decide) rfl rfl) ?_
  refine Tr.bind (Tr.ofEv (Ev.ldT 22 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 22 (by decide) rfl rfl) ?_
  refine Tr.bind (Tr.ofEv (Ev.ldT 23 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 23 (by decide) rfl rfl) ?_
  refine Tr.bind (Tr.ofEv (Ev.ldT 24 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 24 (by decide) rfl rfl) ?_
  exact Tr.pure _

theorem tr_part146 :
    Tr c iprop(At c arg1 f1 ∗ At c xpM (fill c arg1 f1 f10 25) ∗ R) iprop(At c arg1 f1 ∗ At c xpM (fill c arg1 f1 f10 28) ∗ R)
      (k0_part146 arg0 harg0 arg1 harg1 arg2 harg2 arg3 harg3 arg4 harg4 arg5 harg5 gM h6 uM h7 arg8 harg8 (Memref.whole cc0_scratch0) h9 (Memref.whole cc0_scratch1) h10 arg11 harg11 cc0_scratch3 (k0_pay764 (F := F)) (sumTo c arg1 f1 24) (s1 c arg1 f1) : Pr F _)
      ⟨(sumTo c arg1 f1 28), (s1 c arg1 f1), (k0_pay860 (tp c arg1 f1 28))⟩ := by
  rw [k0_part146_eq_skeleton]
  unfold k0_part146_skel
  refine Tr.bind (Tr.ofEv (Ev.ldT 25 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 25 (by decide) rfl rfl) ?_
  refine Tr.bind (Tr.ofEv (Ev.ldT 26 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 26 (by decide) rfl rfl) ?_
  refine Tr.bind (Tr.ofEv (Ev.ldT 27 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 27 (by decide) rfl rfl) ?_
  refine Tr.bind (Tr.ofEv (Ev.ldT 28 rfl)) ?_
  refine Tr.bind (Ev.loaded (s := s1 c arg1 f1) s1_gmr) ?_
  simp only [pop_accBy (s1_dr (c := c) (arg1 := arg1) (f1 := f1)), read_s1]
  exact Tr.pure _

theorem tr_part147 :
    Tr c iprop(At c arg1 f1 ∗ At c xpM (fill c arg1 f1 f10 28) ∗ R) iprop(At c arg1 f1 ∗ At c xpM (fill c arg1 f1 f10 32) ∗ R)
      (k0_part147 arg0 harg0 arg1 harg1 arg2 harg2 arg3 harg3 arg4 harg4 arg5 harg5 gM h6 uM h7 arg8 harg8 (Memref.whole cc0_scratch0) h9 (Memref.whole cc0_scratch1) h10 arg11 harg11 cc0_scratch3 (k0_pay764 (F := F)) (sumTo c arg1 f1 28) (s1 c arg1 f1) (k0_pay860 (tp c arg1 f1 28)) : Pr F _)
      ⟨(sumTo c arg1 f1 31), (s1 c arg1 f1), (xT c arg1 f1 32)⟩ := by
  rw [k0_part147_eq_skeleton]
  unfold k0_part147_skel
  refine Tr.bind Tr.ldP ?_
  refine Tr.bind (Tr.stx 28 (by decide) rfl rfl) ?_
  refine Tr.bind (Tr.ofEv (Ev.ldT 29 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 29 (by decide) rfl rfl) ?_
  refine Tr.bind (Tr.ofEv (Ev.ldT 30 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 30 (by decide) rfl rfl) ?_
  refine Tr.bind (Tr.ofEv (Ev.ldT 31 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 31 (by decide) rfl rfl) ?_
  refine Tr.bind (Tr.ofEv (Ev.ldT 32 rfl)) ?_
  exact Tr.pure _

theorem tr_part148 :
    Tr c iprop(At c arg1 f1 ∗ At c xpM (fill c arg1 f1 f10 32) ∗ R) iprop(At c arg1 f1 ∗ At c xpM (fill c arg1 f1 f10 35) ∗ R)
      (k0_part148 arg0 harg0 arg1 harg1 arg2 harg2 arg3 harg3 arg4 harg4 arg5 harg5 gM h6 uM h7 arg8 harg8 (Memref.whole cc0_scratch0) h9 (Memref.whole cc0_scratch1) h10 arg11 harg11 cc0_scratch3 (k0_pay764 (F := F)) (sumTo c arg1 f1 31) (s1 c arg1 f1) (xT c arg1 f1 32) : Pr F _)
      ⟨(sumTo c arg1 f1 35), (s1 c arg1 f1), (k0_pay884 (tp c arg1 f1 35))⟩ := by
  rw [k0_part148_eq_skeleton]
  unfold k0_part148_skel
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 32 (by decide) rfl rfl) ?_
  refine Tr.bind (Tr.ofEv (Ev.ldT 33 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 33 (by decide) rfl rfl) ?_
  refine Tr.bind (Tr.ofEv (Ev.ldT 34 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 34 (by decide) rfl rfl) ?_
  refine Tr.bind (Tr.ofEv (Ev.ldT 35 rfl)) ?_
  refine Tr.bind (Ev.loaded (s := s1 c arg1 f1) s1_gmr) ?_
  simp only [pop_accBy (s1_dr (c := c) (arg1 := arg1) (f1 := f1)), read_s1]
  exact Tr.pure _

theorem tr_part149 :
    Tr c iprop(At c arg1 f1 ∗ At c xpM (fill c arg1 f1 f10 35) ∗ R) iprop(At c arg1 f1 ∗ At c xpM (fill c arg1 f1 f10 39) ∗ R)
      (k0_part149 arg0 harg0 arg1 harg1 arg2 harg2 arg3 harg3 arg4 harg4 arg5 harg5 gM h6 uM h7 arg8 harg8 (Memref.whole cc0_scratch0) h9 (Memref.whole cc0_scratch1) h10 arg11 harg11 cc0_scratch3 (k0_pay764 (F := F)) (sumTo c arg1 f1 35) (s1 c arg1 f1) (k0_pay884 (tp c arg1 f1 35)) : Pr F _)
      ⟨(sumTo c arg1 f1 38), (s1 c arg1 f1), (k0_pay896 (xT c arg1 f1 39))⟩ := by
  rw [k0_part149_eq_skeleton]
  unfold k0_part149_skel
  refine Tr.bind Tr.ldP ?_
  refine Tr.bind (Tr.stx 35 (by decide) rfl rfl) ?_
  refine Tr.bind (Tr.ofEv (Ev.ldT 36 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 36 (by decide) rfl rfl) ?_
  refine Tr.bind (Tr.ofEv (Ev.ldT 37 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 37 (by decide) rfl rfl) ?_
  refine Tr.bind (Tr.ofEv (Ev.ldT 38 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 38 (by decide) rfl rfl) ?_
  refine Tr.bind (Tr.ofEv (Ev.ldT 39 rfl)) ?_
  exact Tr.pure _

theorem tr_part150 :
    Tr c iprop(At c arg1 f1 ∗ At c xpM (fill c arg1 f1 f10 39) ∗ R) iprop(At c arg1 f1 ∗ At c xpM (fill c arg1 f1 f10 42) ∗ R)
      (k0_part150 arg0 harg0 arg1 harg1 arg2 harg2 arg3 harg3 arg4 harg4 arg5 harg5 gM h6 uM h7 arg8 harg8 (Memref.whole cc0_scratch0) h9 (Memref.whole cc0_scratch1) h10 arg11 harg11 cc0_scratch3 (k0_pay764 (F := F)) (sumTo c arg1 f1 38) (s1 c arg1 f1) (k0_pay896 (xT c arg1 f1 39)) : Pr F _)
      ⟨(sumTo c arg1 f1 42), (s1 c arg1 f1), (k0_pay908 (tp c arg1 f1 42))⟩ := by
  rw [k0_part150_eq_skeleton]
  unfold k0_part150_skel
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 39 (by decide) rfl rfl) ?_
  refine Tr.bind (Tr.ofEv (Ev.ldT 40 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 40 (by decide) rfl rfl) ?_
  refine Tr.bind (Tr.ofEv (Ev.ldT 41 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 41 (by decide) rfl rfl) ?_
  refine Tr.bind (Tr.ofEv (Ev.ldT 42 rfl)) ?_
  refine Tr.bind (Ev.loaded (s := s1 c arg1 f1) s1_gmr) ?_
  simp only [pop_accBy (s1_dr (c := c) (arg1 := arg1) (f1 := f1)), read_s1]
  exact Tr.pure _

theorem tr_part151 :
    Tr c iprop(At c arg1 f1 ∗ At c xpM (fill c arg1 f1 f10 42) ∗ R) iprop(At c arg1 f1 ∗ At c xpM (fill c arg1 f1 f10 46) ∗ R)
      (k0_part151 arg0 harg0 arg1 harg1 arg2 harg2 arg3 harg3 arg4 harg4 arg5 harg5 gM h6 uM h7 arg8 harg8 (Memref.whole cc0_scratch0) h9 (Memref.whole cc0_scratch1) h10 arg11 harg11 cc0_scratch3 (k0_pay764 (F := F)) (sumTo c arg1 f1 42) (s1 c arg1 f1) (k0_pay908 (tp c arg1 f1 42)) : Pr F _)
      ⟨(sumTo c arg1 f1 45), (s1 c arg1 f1), (k0_pay920 (xT c arg1 f1 46)), (k0_pay921 (xT c arg1 f1 46))⟩ := by
  rw [k0_part151_eq_skeleton]
  unfold k0_part151_skel
  refine Tr.bind Tr.ldP ?_
  refine Tr.bind (Tr.stx 42 (by decide) rfl rfl) ?_
  refine Tr.bind (Tr.ofEv (Ev.ldT 43 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 43 (by decide) rfl rfl) ?_
  refine Tr.bind (Tr.ofEv (Ev.ldT 44 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 44 (by decide) rfl rfl) ?_
  refine Tr.bind (Tr.ofEv (Ev.ldT 45 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 45 (by decide) rfl rfl) ?_
  refine Tr.bind (Tr.ofEv (Ev.ldT 46 rfl)) ?_
  exact Tr.pure _

theorem tr_part152 :
    Tr c iprop(At c arg1 f1 ∗ At c xpM (fill c arg1 f1 f10 46) ∗ R) iprop(At c arg1 f1 ∗ At c xpM (fill c arg1 f1 f10 49) ∗ R)
      (k0_part152 arg0 harg0 arg1 harg1 arg2 harg2 arg3 harg3 arg4 harg4 arg5 harg5 gM h6 uM h7 arg8 harg8 (Memref.whole cc0_scratch0) h9 (Memref.whole cc0_scratch1) h10 arg11 harg11 cc0_scratch3 (k0_pay764 (F := F)) (sumTo c arg1 f1 45) (s1 c arg1 f1) (k0_pay920 (xT c arg1 f1 46)) (k0_pay921 (xT c arg1 f1 46)) : Pr F _)
      ⟨(sumTo c arg1 f1 49), (s1 c arg1 f1), (k0_pay933 (tp c arg1 f1 49)), (xpM.view.readAt (Elt F) (Rect.unit (s := S32x14336) ![0, 12544] S32x256.size inb_S32x14336_S32x256_0_12544).toLoadRect (fill c arg1 f1 f10 49))⟩ := by
  rw [k0_part152_eq_skeleton]
  unfold k0_part152_skel
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 46 (by decide) rfl rfl) ?_
  refine Tr.bind (Tr.ofEv (Ev.ldT 47 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 47 (by decide) rfl rfl) ?_
  refine Tr.bind (Tr.ofEv (Ev.ldT 48 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 48 (by decide) rfl rfl) ?_
  refine Tr.bind (Tr.ofEv (Ev.ldT 49 rfl)) ?_
  refine Tr.bind (Ev.loaded (s := s1 c arg1 f1) s1_gmr) ?_
  simp only [pop_accBy (s1_dr (c := c) (arg1 := arg1) (f1 := f1)), read_s1]
  refine Tr.bind Tr.ldP ?_
  exact Tr.pure _

theorem tr_part153 :
    Tr c iprop(At c arg1 f1 ∗ At c xpM (fill c arg1 f1 f10 49) ∗ R) iprop(At c arg1 f1 ∗ At c xpM (fill c arg1 f1 f10 53) ∗ R)
      (k0_part153 arg0 harg0 arg1 harg1 arg2 harg2 arg3 harg3 arg4 harg4 arg5 harg5 gM h6 uM h7 arg8 harg8 (Memref.whole cc0_scratch0) h9 (Memref.whole cc0_scratch1) h10 arg11 harg11 cc0_scratch3 (k0_pay764 (F := F)) (sumTo c arg1 f1 49) (s1 c arg1 f1) (k0_pay933 (tp c arg1 f1 49)) (xpM.view.readAt (Elt F) (Rect.unit (s := S32x14336) ![0, 12544] S32x256.size inb_S32x14336_S32x256_0_12544).toLoadRect (fill c arg1 f1 f10 49)) : Pr F _)
      ⟨(s1 c arg1 f1), (k0_pay944 (xT c arg1 f1 53)), (sumTo c arg1 f1 53)⟩ := by
  rw [k0_part153_eq_skeleton]
  unfold k0_part153_skel
  refine Tr.bind (Tr.stx 49 (by decide) rfl rfl) ?_
  refine Tr.bind (Tr.ofEv (Ev.ldT 50 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 50 (by decide) rfl rfl) ?_
  refine Tr.bind (Tr.ofEv (Ev.ldT 51 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 51 (by decide) rfl rfl) ?_
  refine Tr.bind (Tr.ofEv (Ev.ldT 52 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 52 (by decide) rfl rfl) ?_
  refine Tr.bind (Tr.ofEv (Ev.ldT 53 rfl)) ?_
  exact Tr.pure _

theorem tr_part154 :
    Tr c iprop(At c arg1 f1 ∗ At c xpM (fill c arg1 f1 f10 53) ∗ At c arg11 f11 ∗ R) iprop(At c arg1 f1 ∗ At c xpM (fill c arg1 f1 f10 56) ∗ At c arg11 (srowF c arg1 arg11 f1 f11) ∗ R)
      (k0_part154 arg0 harg0 arg1 harg1 arg2 harg2 arg3 harg3 arg4 harg4 arg5 harg5 gM h6 uM h7 arg8 harg8 (Memref.whole cc0_scratch0) h9 (Memref.whole cc0_scratch1) h10 arg11 harg11 cc0_scratch3 (k0_pay764 (F := F)) (s1 c arg1 f1) (k0_pay944 (xT c arg1 f1 53)) (sumTo c arg1 f1 53) : Pr F _)
      ⟨(s1 c arg1 f1), k0_pay955⟩ := by
  rw [k0_part154_eq_skeleton]
  unfold k0_part154_skel
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 53 (by decide) rfl rfl) ?_
  refine Tr.bind (Tr.ofEv (Ev.ldT 54 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 54 (by decide) rfl rfl) ?_
  refine Tr.bind (Tr.ofEv (Ev.ldT 55 rfl)) ?_
  refine Tr.bind (Ev.loaded (s := s1 c arg1 f1) s1_gmr) ?_
  simp only [pop_accBy (s1_dr (c := c) (arg1 := arg1) (f1 := f1)), read_s1]
  refine Tr.bind Tr.ldP ?_
  refine Tr.bind (Tr.stx 55 (by decide) rfl rfl) ?_
  refine Tr.bind Tr.ld11 ?_
  refine Tr.bind Tr.st11 ?_
  exact Tr.pure _

end Cert.KernelIdeal.Hand
-- ==== Proof.Chk.lean ====
/- The kernel's reads lie within the ring, whatever the counts. -/
module

public import proofs.«01_k».proof.Proof.Ring

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F]

/-! ## The planes lie within the array, whatever the counts -/

section
variable (w3 w4 w5 w6 : BitVec 32)

theorem select_or {α : Type} {b : BitVec 1} {x y : α} {P : α → Prop} (hx : P x) (hy : P y) : P (if b = 1#1 then x else y) := by
  split
  · exact hx
  · exact hy

theorem absW_cases : absW w3 w4 w5 w6 = 4#32 ∨ absW w3 w4 w5 w6 = 5#32 ∨ absW w3 w4 w5 w6 = 6#32 ∨ absW w3 w4 w5 w6 = 7#32 := by
  unfold absW Scalar.select
  split
  · exact .inl rfl
  · split
    · exact .inr (.inl rfl)
    · split
      · exact .inr (.inr (.inl rfl))
      · split
        · exact .inr (.inr (.inr rfl))
        · exact .inl rfl

theorem hi_lt : (plOf w3 w4 w5 w6).hi < 8 := by
  show (Scalar.indexCast (Scalar.subi (absW w3 w4 w5 w6) 1#32)).toNat < 8
  rcases absW_cases w3 w4 w5 w6 with h | h | h | h <;> rw [h] <;> decide
theorem lo_lt : (plOf w3 w4 w5 w6).lo < 8 := by
  show (Scalar.indexCast (Scalar.addi (Scalar.subi (absW w3 w4 w5 w6) 1#32) 1#32)).toNat < 8
  rcases absW_cases w3 w4 w5 w6 with h | h | h | h <;> rw [h] <;> decide
theorem s0_lt : (plOf w3 w4 w5 w6).s0 < 8 := by
  show (Scalar.indexCast (sgW w3 w4 w5 w6 3#32 3#32 5#32)).toNat < 8
  unfold sgW
  rcases absW_cases w3 w4 w5 w6 with h | h | h | h <;> rw [h] <;> decide
theorem s1_lt : (plOf w3 w4 w5 w6).s1 < 8 := by
  show (Scalar.indexCast (sgW w3 w4 w5 w6 4#32 4#32 6#32)).toNat < 8
  unfold sgW
  rcases absW_cases w3 w4 w5 w6 with h | h | h | h <;> rw [h] <;> decide
theorem s2_lt : (plOf w3 w4 w5 w6).s2 < 8 := by
  show (Scalar.indexCast (sgW w3 w4 w5 w6 5#32 5#32 7#32)).toNat < 8
  unfold sgW
  rcases absW_cases w3 w4 w5 w6 with h | h | h | h <;> rw [h] <;> decide

theorem rowW_lt (t1 : Fin k0_t1_loop.trips) (t2 : Fin k0_t2_loop.trips) : rowW t1 t2 < 3 := by
  rw [rowW_eq]
  exact Nat.mod_lt _ (by decide)

theorem inb5 {off : Fin 5 → ℕ} (h0 : off 0 < 3) (h1 : off 1 < 2) (h2 : off 2 < 8) (h3 : off 3 ≤ 24) (h4 : off 4 ≤ 256) :
    ∀ a, off a + S1x1x1x8x256.size a ≤ S3x2x8x32x512.size a := by
  intro a
  fin_cases a
  · show off 0 + 1 ≤ 3; omega
  · show off 1 + 1 ≤ 2; omega
  · show off 2 + 1 ≤ 8; omega
  · show off 3 + 8 ≤ 32; omega
  · show off 4 + 256 ≤ 512; omega

theorem chk23 : ∀ (t1 : Fin k0_t1_loop.trips) (t2 : Fin k0_t2_loop.trips), ∀ a, (k0_off23 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk24 : ∀ (t1 : Fin k0_t1_loop.trips) (t2 : Fin k0_t2_loop.trips), ∀ a, (k0_off24 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk25 : ∀ (t1 : Fin k0_t1_loop.trips) (t2 : Fin k0_t2_loop.trips), ∀ a, (k0_off25 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk26 : ∀ (t1 : Fin k0_t1_loop.trips) (t2 : Fin k0_t2_loop.trips), ∀ a, (k0_off26 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk27 : ∀ (t1 : Fin k0_t1_loop.trips) (t2 : Fin k0_t2_loop.trips), ∀ (r : Fin 3), ∀ a, (k0_off27 w3 w4 w5 w6 t1 t2 (k0_off27_at r).1 (k0_off27_at r).2.1 (k0_off27_at r).2.2) a + S1x1x1x8x256.size a ≤ S3x2x8x32x512.size a := fun t1 t2 r => by
    fin_cases r
    · exact inb5 (rowW_lt t1 t2) (Nat.le_of_ble_eq_true rfl) (s0_lt w3 w4 w5 w6) (Nat.le_of_ble_eq_true rfl) (Nat.le_of_ble_eq_true rfl)
    · exact inb5 (rowW_lt t1 t2) (Nat.le_of_ble_eq_true rfl) (s1_lt w3 w4 w5 w6) (Nat.le_of_ble_eq_true rfl) (Nat.le_of_ble_eq_true rfl)
    · exact inb5 (rowW_lt t1 t2) (Nat.le_of_ble_eq_true rfl) (s2_lt w3 w4 w5 w6) (Nat.le_of_ble_eq_true rfl) (Nat.le_of_ble_eq_true rfl)
theorem chk28 : ∀ (t1 : Fin k0_t1_loop.trips) (t2 : Fin k0_t2_loop.trips), ∀ (r : Fin 3), ∀ a, (k0_off28 w3 w4 w5 w6 t1 t2 (k0_off28_at r).1 (k0_off28_at r).2.1 (k0_off28_at r).2.2) a + S1x1x1x8x256.size a ≤ S3x2x8x32x512.size a := fun t1 t2 r => by
    fin_cases r
    · exact inb5 (rowW_lt t1 t2) (Nat.le_of_ble_eq_true rfl) (s0_lt w3 w4 w5 w6) (Nat.le_of_ble_eq_true rfl) (Nat.le_of_ble_eq_true rfl)
    · exact inb5 (rowW_lt t1 t2) (Nat.le_of_ble_eq_true rfl) (s1_lt w3 w4 w5 w6) (Nat.le_of_ble_eq_true rfl) (Nat.le_of_ble_eq_true rfl)
    · exact inb5 (rowW_lt t1 t2) (Nat.le_of_ble_eq_true rfl) (s2_lt w3 w4 w5 w6) (Nat.le_of_ble_eq_true rfl) (Nat.le_of_ble_eq_true rfl)
theorem chk35 : ∀ (t1 : Fin k0_t1_loop.trips) (t2 : Fin k0_t2_loop.trips), ∀ a, (k0_off35 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk36 : ∀ (t1 : Fin k0_t1_loop.trips) (t2 : Fin k0_t2_loop.trips), ∀ a, (k0_off36 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk37 : ∀ (t1 : Fin k0_t1_loop.trips) (t2 : Fin k0_t2_loop.trips), ∀ a, (k0_off37 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk38 : ∀ (t1 : Fin k0_t1_loop.trips) (t2 : Fin k0_t2_loop.trips), ∀ a, (k0_off38 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk39 : ∀ (t1 : Fin k0_t1_loop.trips) (t2 : Fin k0_t2_loop.trips), ∀ (r : Fin 3), ∀ a, (k0_off39 w3 w4 w5 w6 t1 t2 (k0_off39_at r).1 (k0_off39_at r).2.1 (k0_off39_at r).2.2) a + S1x1x1x8x256.size a ≤ S3x2x8x32x512.size a := fun t1 t2 r => by
    fin_cases r
    · exact inb5 (rowW_lt t1 t2) (Nat.le_of_ble_eq_true rfl) (s0_lt w3 w4 w5 w6) (Nat.le_of_ble_eq_true rfl) (Nat.le_of_ble_eq_true rfl)
    · exact inb5 (rowW_lt t1 t2) (Nat.le_of_ble_eq_true rfl) (s1_lt w3 w4 w5 w6) (Nat.le_of_ble_eq_true rfl) (Nat.le_of_ble_eq_true rfl)
    · exact inb5 (rowW_lt t1 t2) (Nat.le_of_ble_eq_true rfl) (s2_lt w3 w4 w5 w6) (Nat.le_of_ble_eq_true rfl) (Nat.le_of_ble_eq_true rfl)
theorem chk40 : ∀ (t1 : Fin k0_t1_loop.trips) (t2 : Fin k0_t2_loop.trips), ∀ (r : Fin 3), ∀ a, (k0_off40 w3 w4 w5 w6 t1 t2 (k0_off40_at r).1 (k0_off40_at r).2.1 (k0_off40_at r).2.2) a + S1x1x1x8x256.size a ≤ S3x2x8x32x512.size a := fun t1 t2 r => by
    fin_cases r
    · exact inb5 (rowW_lt t1 t2) (Nat.le_of_ble_eq_true rfl) (s0_lt w3 w4 w5 w6) (Nat.le_of_ble_eq_true rfl) (Nat.le_of_ble_eq_true rfl)
    · exact inb5 (rowW_lt t1 t2) (Nat.le_of_ble_eq_true rfl) (s1_lt w3 w4 w5 w6) (Nat.le_of_ble_eq_true rfl) (Nat.le_of_ble_eq_true rfl)
    · exact inb5 (rowW_lt t1 t2) (Nat.le_of_ble_eq_true rfl) (s2_lt w3 w4 w5 w6) (Nat.le_of_ble_eq_true rfl) (Nat.le_of_ble_eq_true rfl)
theorem chk48 : ∀ (t1 : Fin k0_t1_loop.trips) (t2 : Fin k0_t2_loop.trips), ∀ a, (k0_off48 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk49 : ∀ (t1 : Fin k0_t1_loop.trips) (t2 : Fin k0_t2_loop.trips), ∀ a, (k0_off49 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk50 : ∀ (t1 : Fin k0_t1_loop.trips) (t2 : Fin k0_t2_loop.trips), ∀ a, (k0_off50 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk51 : ∀ (t1 : Fin k0_t1_loop.trips) (t2 : Fin k0_t2_loop.trips), ∀ a, (k0_off51 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk52 : ∀ (t1 : Fin k0_t1_loop.trips) (t2 : Fin k0_t2_loop.trips), ∀ (r : Fin 3), ∀ a, (k0_off52 w3 w4 w5 w6 t1 t2 (k0_off52_at r).1 (k0_off52_at r).2.1 (k0_off52_at r).2.2) a + S1x1x1x8x256.size a ≤ S3x2x8x32x512.size a := fun t1 t2 r => by
    fin_cases r
    · exact inb5 (rowW_lt t1 t2) (Nat.le_of_ble_eq_true rfl) (s0_lt w3 w4 w5 w6) (Nat.le_of_ble_eq_true rfl) (Nat.le_of_ble_eq_true rfl)
    · exact inb5 (rowW_lt t1 t2) (Nat.le_of_ble_eq_true rfl) (s1_lt w3 w4 w5 w6) (Nat.le_of_ble_eq_true rfl) (Nat.le_of_ble_eq_true rfl)
    · exact inb5 (rowW_lt t1 t2) (Nat.le_of_ble_eq_true rfl) (s2_lt w3 w4 w5 w6) (Nat.le_of_ble_eq_true rfl) (Nat.le_of_ble_eq_true rfl)
theorem chk53 : ∀ (t1 : Fin k0_t1_loop.trips) (t2 : Fin k0_t2_loop.trips), ∀ (r : Fin 3), ∀ a, (k0_off53 w3 w4 w5 w6 t1 t2 (k0_off53_at r).1 (k0_off53_at r).2.1 (k0_off53_at r).2.2) a + S1x1x1x8x256.size a ≤ S3x2x8x32x512.size a := fun t1 t2 r => by
    fin_cases r
    · exact inb5 (rowW_lt t1 t2) (Nat.le_of_ble_eq_true rfl) (s0_lt w3 w4 w5 w6) (Nat.le_of_ble_eq_true rfl) (Nat.le_of_ble_eq_true rfl)
    · exact inb5 (rowW_lt t1 t2) (Nat.le_of_ble_eq_true rfl) (s1_lt w3 w4 w5 w6) (Nat.le_of_ble_eq_true rfl) (Nat.le_of_ble_eq_true rfl)
    · exact inb5 (rowW_lt t1 t2) (Nat.le_of_ble_eq_true rfl) (s2_lt w3 w4 w5 w6) (Nat.le_of_ble_eq_true rfl) (Nat.le_of_ble_eq_true rfl)
theorem chk60 : ∀ (t1 : Fin k0_t1_loop.trips) (t2 : Fin k0_t2_loop.trips), ∀ a, (k0_off60 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk61 : ∀ (t1 : Fin k0_t1_loop.trips) (t2 : Fin k0_t2_loop.trips), ∀ a, (k0_off61 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk62 : ∀ (t1 : Fin k0_t1_loop.trips) (t2 : Fin k0_t2_loop.trips), ∀ a, (k0_off62 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk63 : ∀ (t1 : Fin k0_t1_loop.trips) (t2 : Fin k0_t2_loop.trips), ∀ a, (k0_off63 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk64 : ∀ (t1 : Fin k0_t1_loop.trips) (t2 : Fin k0_t2_loop.trips), ∀ (r : Fin 3), ∀ a, (k0_off64 w3 w4 w5 w6 t1 t2 (k0_off64_at r).1 (k0_off64_at r).2.1 (k0_off64_at r).2.2) a + S1x1x1x8x256.size a ≤ S3x2x8x32x512.size a := fun t1 t2 r => by
    fin_cases r
    · exact inb5 (rowW_lt t1 t2) (Nat.le_of_ble_eq_true rfl) (s0_lt w3 w4 w5 w6) (Nat.le_of_ble_eq_true rfl) (Nat.le_of_ble_eq_true rfl)
    · exact inb5 (rowW_lt t1 t2) (Nat.le_of_ble_eq_true rfl) (s1_lt w3 w4 w5 w6) (Nat.le_of_ble_eq_true rfl) (Nat.le_of_ble_eq_true rfl)
    · exact inb5 (rowW_lt t1 t2) (Nat.le_of_ble_eq_true rfl) (s2_lt w3 w4 w5 w6) (Nat.le_of_ble_eq_true rfl) (Nat.le_of_ble_eq_true rfl)
theorem chk65 : ∀ (t1 : Fin k0_t1_loop.trips) (t2 : Fin k0_t2_loop.trips), ∀ (r : Fin 3), ∀ a, (k0_off65 w3 w4 w5 w6 t1 t2 (k0_off65_at r).1 (k0_off65_at r).2.1 (k0_off65_at r).2.2) a + S1x1x1x8x256.size a ≤ S3x2x8x32x512.size a := fun t1 t2 r => by
    fin_cases r
    · exact inb5 (rowW_lt t1 t2) (Nat.le_of_ble_eq_true rfl) (s0_lt w3 w4 w5 w6) (Nat.le_of_ble_eq_true rfl) (Nat.le_of_ble_eq_true rfl)
    · exact inb5 (rowW_lt t1 t2) (Nat.le_of_ble_eq_true rfl) (s1_lt w3 w4 w5 w6) (Nat.le_of_ble_eq_true rfl) (Nat.le_of_ble_eq_true rfl)
    · exact inb5 (rowW_lt t1 t2) (Nat.le_of_ble_eq_true rfl) (s2_lt w3 w4 w5 w6) (Nat.le_of_ble_eq_true rfl) (Nat.le_of_ble_eq_true rfl)
theorem chk72 : ∀ (t1 : Fin k0_t1_loop.trips) (t2 : Fin k0_t2_loop.trips), ∀ a, (k0_off72 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk73 : ∀ (t1 : Fin k0_t1_loop.trips) (t2 : Fin k0_t2_loop.trips), ∀ a, (k0_off73 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk74 : ∀ (t1 : Fin k0_t1_loop.trips) (t2 : Fin k0_t2_loop.trips), ∀ a, (k0_off74 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk75 : ∀ (t1 : Fin k0_t1_loop.trips) (t2 : Fin k0_t2_loop.trips), ∀ a, (k0_off75 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk76 : ∀ (t1 : Fin k0_t1_loop.trips) (t2 : Fin k0_t2_loop.trips), ∀ (r : Fin 3), ∀ a, (k0_off76 w3 w4 w5 w6 t1 t2 (k0_off76_at r).1 (k0_off76_at r).2.1 (k0_off76_at r).2.2) a + S1x1x1x8x256.size a ≤ S3x2x8x32x512.size a := fun t1 t2 r => by
    fin_cases r
    · exact inb5 (rowW_lt t1 t2) (Nat.le_of_ble_eq_true rfl) (s0_lt w3 w4 w5 w6) (Nat.le_of_ble_eq_true rfl) (Nat.le_of_ble_eq_true rfl)
    · exact inb5 (rowW_lt t1 t2) (Nat.le_of_ble_eq_true rfl) (s1_lt w3 w4 w5 w6) (Nat.le_of_ble_eq_true rfl) (Nat.le_of_ble_eq_true rfl)
    · exact inb5 (rowW_lt t1 t2) (Nat.le_of_ble_eq_true rfl) (s2_lt w3 w4 w5 w6) (Nat.le_of_ble_eq_true rfl) (Nat.le_of_ble_eq_true rfl)
theorem chk77 : ∀ (t1 : Fin k0_t1_loop.trips) (t2 : Fin k0_t2_loop.trips), ∀ (r : Fin 3), ∀ a, (k0_off77 w3 w4 w5 w6 t1 t2 (k0_off77_at r).1 (k0_off77_at r).2.1 (k0_off77_at r).2.2) a + S1x1x1x8x256.size a ≤ S3x2x8x32x512.size a := fun t1 t2 r => by
    fin_cases r
    · exact inb5 (rowW_lt t1 t2) (Nat.le_of_ble_eq_true rfl) (s0_lt w3 w4 w5 w6) (Nat.le_of_ble_eq_true rfl) (Nat.le_of_ble_eq_true rfl)
    · exact inb5 (rowW_lt t1 t2) (Nat.le_of_ble_eq_true rfl) (s1_lt w3 w4 w5 w6) (Nat.le_of_ble_eq_true rfl) (Nat.le_of_ble_eq_true rfl)
    · exact inb5 (rowW_lt t1 t2) (Nat.le_of_ble_eq_true rfl) (s2_lt w3 w4 w5 w6) (Nat.le_of_ble_eq_true rfl) (Nat.le_of_ble_eq_true rfl)
theorem chk84 : ∀ (t1 : Fin k0_t1_loop.trips) (t2 : Fin k0_t2_loop.trips), ∀ a, (k0_off84 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk85 : ∀ (t1 : Fin k0_t1_loop.trips) (t2 : Fin k0_t2_loop.trips), ∀ a, (k0_off85 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk86 : ∀ (t1 : Fin k0_t1_loop.trips) (t2 : Fin k0_t2_loop.trips), ∀ a, (k0_off86 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk87 : ∀ (t1 : Fin k0_t1_loop.trips) (t2 : Fin k0_t2_loop.trips), ∀ a, (k0_off87 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk88 : ∀ (t1 : Fin k0_t1_loop.trips) (t2 : Fin k0_t2_loop.trips), ∀ (r : Fin 3), ∀ a, (k0_off88 w3 w4 w5 w6 t1 t2 (k0_off88_at r).1 (k0_off88_at r).2.1 (k0_off88_at r).2.2) a + S1x1x1x8x256.size a ≤ S3x2x8x32x512.size a := fun t1 t2 r => by
    fin_cases r
    · exact inb5 (rowW_lt t1 t2) (Nat.le_of_ble_eq_true rfl) (s0_lt w3 w4 w5 w6) (Nat.le_of_ble_eq_true rfl) (Nat.le_of_ble_eq_true rfl)
    · exact inb5 (rowW_lt t1 t2) (Nat.le_of_ble_eq_true rfl) (s1_lt w3 w4 w5 w6) (Nat.le_of_ble_eq_true rfl) (Nat.le_of_ble_eq_true rfl)
    · exact inb5 (rowW_lt t1 t2) (Nat.le_of_ble_eq_true rfl) (s2_lt w3 w4 w5 w6) (Nat.le_of_ble_eq_true rfl) (Nat.le_of_ble_eq_true rfl)
theorem chk89 : ∀ (t1 : Fin k0_t1_loop.trips) (t2 : Fin k0_t2_loop.trips), ∀ (r : Fin 3), ∀ a, (k0_off89 w3 w4 w5 w6 t1 t2 (k0_off89_at r).1 (k0_off89_at r).2.1 (k0_off89_at r).2.2) a + S1x1x1x8x256.size a ≤ S3x2x8x32x512.size a := fun t1 t2 r => by
    fin_cases r
    · exact inb5 (rowW_lt t1 t2) (Nat.le_of_ble_eq_true rfl) (s0_lt w3 w4 w5 w6) (Nat.le_of_ble_eq_true rfl) (Nat.le_of_ble_eq_true rfl)
    · exact inb5 (rowW_lt t1 t2) (Nat.le_of_ble_eq_true rfl) (s1_lt w3 w4 w5 w6) (Nat.le_of_ble_eq_true rfl) (Nat.le_of_ble_eq_true rfl)
    · exact inb5 (rowW_lt t1 t2) (Nat.le_of_ble_eq_true rfl) (s2_lt w3 w4 w5 w6) (Nat.le_of_ble_eq_true rfl) (Nat.le_of_ble_eq_true rfl)
theorem chk96 : ∀ (t1 : Fin k0_t1_loop.trips) (t2 : Fin k0_t2_loop.trips), ∀ a, (k0_off96 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk97 : ∀ (t1 : Fin k0_t1_loop.trips) (t2 : Fin k0_t2_loop.trips), ∀ a, (k0_off97 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk98 : ∀ (t1 : Fin k0_t1_loop.trips) (t2 : Fin k0_t2_loop.trips), ∀ a, (k0_off98 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk99 : ∀ (t1 : Fin k0_t1_loop.trips) (t2 : Fin k0_t2_loop.trips), ∀ a, (k0_off99 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk100 : ∀ (t1 : Fin k0_t1_loop.trips) (t2 : Fin k0_t2_loop.trips), ∀ (r : Fin 3), ∀ a, (k0_off100 w3 w4 w5 w6 t1 t2 (k0_off100_at r).1 (k0_off100_at r).2.1 (k0_off100_at r).2.2) a + S1x1x1x8x256.size a ≤ S3x2x8x32x512.size a := fun t1 t2 r => by
    fin_cases r
    · exact inb5 (rowW_lt t1 t2) (Nat.le_of_ble_eq_true rfl) (s0_lt w3 w4 w5 w6) (Nat.le_of_ble_eq_true rfl) (Nat.le_of_ble_eq_true rfl)
    · exact inb5 (rowW_lt t1 t2) (Nat.le_of_ble_eq_true rfl) (s1_lt w3 w4 w5 w6) (Nat.le_of_ble_eq_true rfl) (Nat.le_of_ble_eq_true rfl)
    · exact inb5 (rowW_lt t1 t2) (Nat.le_of_ble_eq_true rfl) (s2_lt w3 w4 w5 w6) (Nat.le_of_ble_eq_true rfl) (Nat.le_of_ble_eq_true rfl)
theorem chk101 : ∀ (t1 : Fin k0_t1_loop.trips) (t2 : Fin k0_t2_loop.trips), ∀ (r : Fin 3), ∀ a, (k0_off101 w3 w4 w5 w6 t1 t2 (k0_off101_at r).1 (k0_off101_at r).2.1 (k0_off101_at r).2.2) a + S1x1x1x8x256.size a ≤ S3x2x8x32x512.size a := fun t1 t2 r => by
    fin_cases r
    · exact inb5 (rowW_lt t1 t2) (Nat.le_of_ble_eq_true rfl) (s0_lt w3 w4 w5 w6) (Nat.le_of_ble_eq_true rfl) (Nat.le_of_ble_eq_true rfl)
    · exact inb5 (rowW_lt t1 t2) (Nat.le_of_ble_eq_true rfl) (s1_lt w3 w4 w5 w6) (Nat.le_of_ble_eq_true rfl) (Nat.le_of_ble_eq_true rfl)
    · exact inb5 (rowW_lt t1 t2) (Nat.le_of_ble_eq_true rfl) (s2_lt w3 w4 w5 w6) (Nat.le_of_ble_eq_true rfl) (Nat.le_of_ble_eq_true rfl)
theorem chk108 : ∀ (t1 : Fin k0_t1_loop.trips) (t2 : Fin k0_t2_loop.trips), ∀ a, (k0_off108 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk109 : ∀ (t1 : Fin k0_t1_loop.trips) (t2 : Fin k0_t2_loop.trips), ∀ a, (k0_off109 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk110 : ∀ (t1 : Fin k0_t1_loop.trips) (t2 : Fin k0_t2_loop.trips), ∀ a, (k0_off110 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk111 : ∀ (t1 : Fin k0_t1_loop.trips) (t2 : Fin k0_t2_loop.trips), ∀ a, (k0_off111 w3 w4 w5 w6 t1 t2) a + S1x1x1x8x256.size a ≤ S3x2x8x32x512.size a := fun t1 t2 => inb5 (rowW_lt t1 t2) (Nat.le_of_ble_eq_true rfl) (by first | exact hi_lt w3 w4 w5 w6 | exact lo_lt w3 w4 w5 w6) (Nat.le_of_ble_eq_true rfl) (Nat.le_of_ble_eq_true rfl)
theorem chk112 : ∀ (t1 : Fin k0_t1_loop.trips) (t2 : Fin k0_t2_loop.trips), ∀ (r : Fin 3), ∀ a, (k0_off112 w3 w4 w5 w6 t1 t2 (k0_off112_at r).1 (k0_off112_at r).2.1 (k0_off112_at r).2.2) a + S1x1x1x8x256.size a ≤ S3x2x8x32x512.size a := fun t1 t2 r => by
    fin_cases r
    · exact inb5 (rowW_lt t1 t2) (Nat.le_of_ble_eq_true rfl) (s0_lt w3 w4 w5 w6) (Nat.le_of_ble_eq_true rfl) (Nat.le_of_ble_eq_true rfl)
    · exact inb5 (rowW_lt t1 t2) (Nat.le_of_ble_eq_true rfl) (s1_lt w3 w4 w5 w6) (Nat.le_of_ble_eq_true rfl) (Nat.le_of_ble_eq_true rfl)
    · exact inb5 (rowW_lt t1 t2) (Nat.le_of_ble_eq_true rfl) (s2_lt w3 w4 w5 w6) (Nat.le_of_ble_eq_true rfl) (Nat.le_of_ble_eq_true rfl)
theorem chk113 : ∀ (t1 : Fin k0_t1_loop.trips) (t2 : Fin k0_t2_loop.trips), ∀ (r : Fin 3), ∀ a, (k0_off113 w3 w4 w5 w6 t1 t2 (k0_off113_at r).1 (k0_off113_at r).2.1 (k0_off113_at r).2.2) a + S1x1x1x8x256.size a ≤ S3x2x8x32x512.size a := fun t1 t2 r => by
    fin_cases r
    · exact inb5 (rowW_lt t1 t2) (Nat.le_of_ble_eq_true rfl) (s0_lt w3 w4 w5 w6) (Nat.le_of_ble_eq_true rfl) (Nat.le_of_ble_eq_true rfl)
    · exact inb5 (rowW_lt t1 t2) (Nat.le_of_ble_eq_true rfl) (s1_lt w3 w4 w5 w6) (Nat.le_of_ble_eq_true rfl) (Nat.le_of_ble_eq_true rfl)
    · exact inb5 (rowW_lt t1 t2) (Nat.le_of_ble_eq_true rfl) (s2_lt w3 w4 w5 w6) (Nat.le_of_ble_eq_true rfl) (Nat.le_of_ble_eq_true rfl)

theorem chk_all : k0_chk1 w3 w4 w5 w6 :=
  ⟨⟨chk23 w3 w4 w5 w6, chk24 w3 w4 w5 w6, chk25 w3 w4 w5 w6, chk26 w3 w4 w5 w6, chk27 w3 w4 w5 w6, chk28 w3 w4 w5 w6, chk35 w3 w4 w5 w6, chk36 w3 w4 w5 w6, chk37 w3 w4 w5 w6, chk38 w3 w4 w5 w6, chk39 w3 w4 w5 w6, chk40 w3 w4 w5 w6, chk48 w3 w4 w5 w6, chk49 w3 w4 w5 w6, chk50 w3 w4 w5 w6, chk51 w3 w4 w5 w6, chk52 w3 w4 w5 w6, chk53 w3 w4 w5 w6, chk60 w3 w4 w5 w6, chk61 w3 w4 w5 w6, chk62 w3 w4 w5 w6, chk63 w3 w4 w5 w6, chk64 w3 w4 w5 w6, chk65 w3 w4 w5 w6, chk72 w3 w4 w5 w6, chk73 w3 w4 w5 w6, chk74 w3 w4 w5 w6, chk75 w3 w4 w5 w6, chk76 w3 w4 w5 w6, chk77 w3 w4 w5 w6, chk84 w3 w4 w5 w6, chk85 w3 w4 w5 w6⟩,
    ⟨chk86 w3 w4 w5 w6, chk87 w3 w4 w5 w6, chk88 w3 w4 w5 w6, chk89 w3 w4 w5 w6, chk96 w3 w4 w5 w6, chk97 w3 w4 w5 w6, chk98 w3 w4 w5 w6, chk99 w3 w4 w5 w6, chk100 w3 w4 w5 w6, chk101 w3 w4 w5 w6, chk108 w3 w4 w5 w6, chk109 w3 w4 w5 w6, chk110 w3 w4 w5 w6, chk111 w3 w4 w5 w6, chk112 w3 w4 w5 w6, chk113 w3 w4 w5 w6⟩⟩

end

end Cert.KernelIdeal.Hand
-- ==== Proof.Body.lean ====
/- The kernel's body from beginning to end. -/
module

public import proofs.«01_k».proof.Proof.Pre
public import proofs.«01_k».proof.Proof.Chk

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F]

variable {arg0 : Memref sig .tc .smem S6 .i32} {harg0 : arg0.IsWhole}
variable {arg1 : Memref sig .tc .vmem S24x14336 .bf16} {harg1 : arg1.IsWhole}
variable {arg2 : Memref sig .tc .vmem S1x4096 .f32} {harg2 : arg2.IsWhole}
variable {arg3 : Memref sig .tc .vmem S1x4096 .f32} {harg3 : arg3.IsWhole}
variable {arg4 : Memref sig .tc .vmem S1x4096 .f32} {harg4 : arg4.IsWhole}
variable {arg5 : Memref sig .tc .vmem S1x4096 .f32} {harg5 : arg5.IsWhole}
variable {h6 : (gM).IsWhole}
variable {h7 : (uM).IsWhole}
variable {arg8 : Memref sig .tc .vmem S24x4096 .bf16} {harg8 : arg8.IsWhole}
variable {h9 : (Memref.whole cc0_scratch0).IsWhole}
variable {h10 : (Memref.whole cc0_scratch1).IsWhole}
variable {arg11 : Memref sig .tc .vmem S24x128 .f32} {harg11 : arg11.IsWhole}
variable {c : Dev nD} {G U : Planes F} {X : Xp F} {w3 w4 w5 w6 : Elt F .i32}
variable {f0 : Buf (Elt F) (arg0.view.loc (c : Thread nD τ))} {f1 : Buf (Elt F) (arg1.view.loc (c : Thread nD τ))} {f11 : Buf (Elt F) (arg11.view.loc (c : Thread nD τ))} {f10 : Xp F} {R : sProp (MM F)}
variable {f2 : Buf (Elt F) (arg2.view.loc (c : Thread nD τ))} {f3 : Buf (Elt F) (arg3.view.loc (c : Thread nD τ))}
    {f4 : Buf (Elt F) (arg4.view.loc (c : Thread nD τ))} {f5 : Buf (Elt F) (arg5.view.loc (c : Thread nD τ))} {f8 : Buf (Elt F) (arg8.view.loc (c : Thread nD τ))}

/-! ## The counts -/

abbrev cA (c : Dev nD) (arg0 : Memref sig .tc .smem S6 .i32) (f0 : Buf (Elt F) (arg0.view.loc (c : Thread nD τ))) : Elt F .i32 := cnt c arg0 f0 ![0] inb_S6_S1_0
abbrev cB (c : Dev nD) (arg0 : Memref sig .tc .smem S6 .i32) (f0 : Buf (Elt F) (arg0.view.loc (c : Thread nD τ))) : Elt F .i32 := cnt c arg0 f0 ![1] inb_S6_S1_1
abbrev cC (c : Dev nD) (arg0 : Memref sig .tc .smem S6 .i32) (f0 : Buf (Elt F) (arg0.view.loc (c : Thread nD τ))) : Elt F .i32 := cnt c arg0 f0 ![2] inb_S6_S1_2
abbrev cD (c : Dev nD) (arg0 : Memref sig .tc .smem S6 .i32) (f0 : Buf (Elt F) (arg0.view.loc (c : Thread nD τ))) : Elt F .i32 := cnt c arg0 f0 ![3] inb_S6_S1_3
abbrev cE (c : Dev nD) (arg0 : Memref sig .tc .smem S6 .i32) (f0 : Buf (Elt F) (arg0.view.loc (c : Thread nD τ))) : Elt F .i32 := cnt c arg0 f0 ![4] inb_S6_S1_4
abbrev cF (c : Dev nD) (arg0 : Memref sig .tc .smem S6 .i32) (f0 : Buf (Elt F) (arg0.view.loc (c : Thread nD τ))) : Elt F .i32 := cnt c arg0 f0 ![5] inb_S6_S1_5

/-- The rows' widths, as the kernel computes them. -/
def V111 (c : Dev nD) (arg0 : Memref sig .tc .smem S6 .i32) (f0 : Buf (Elt F) (arg0.view.loc (c : Thread nD τ))) : IVec S32x256 32 :=
  k0_pay759 (k0_pay757 (cA c arg0 f0) (cB c arg0 f0) (cC c arg0 f0) (cD c arg0 f0) (cE c arg0 f0))
    (k0_pay758 (cA c arg0 f0) (cB c arg0 f0) (cC c arg0 f0) (cD c arg0 f0) (cE c arg0 f0) (cF c arg0 f0))

/-- Whether every width from 3 to 8 has rows, as the kernel computes it. -/
def V131 (w3 w4 w5 w6 : BitVec 32) : BitVec 1 :=
  Scalar.andi (Scalar.andi (Scalar.andi (Scalar.andi 1#1 (Scalar.xori (Scalar.cmpi .eq w3 0#32) 1#1)) (Scalar.xori (Scalar.cmpi .eq w4 0#32) 1#1)) (Scalar.xori (Scalar.cmpi .eq w5 0#32) 1#1)) (Scalar.xori (Scalar.cmpi .eq w6 0#32) 1#1)

/-! ## The first pieces -/

theorem tr_part133 : Tr c iprop((Idle c gM G 0 0 ∗ Cell c 0 0) ∗ R) iprop(InFl c gM G G 0 0 ∗ R)
    (k0_part133 arg0 harg0 arg1 harg1 arg2 harg2 arg3 harg3 arg4 harg4 arg5 harg5 gM h6 uM h7 arg8 harg8 (Memref.whole cc0_scratch0) h9 (Memref.whole cc0_scratch1) h10 arg11 harg11 cc0_scratch3 : Pr F _) Mxu.init := by
  rw [k0_part133_eq_skeleton]
  unfold k0_part133_skel
  refine Tr.bind (Tr.frame (start (A := gM) (V := G) (P := G) rfl (by decide +kernel) (by decide +kernel) (by decide +kernel) _ _ _)) ?_
  exact Tr.pure _

theorem tr_part134 : Tr c iprop((Idle c uM U 0 1 ∗ Cell c 0 1) ∗ R) iprop(InFl c uM U U 0 1 ∗ R)
    (k0_part134 arg0 harg0 arg1 harg1 arg2 harg2 arg3 harg3 arg4 harg4 arg5 harg5 gM h6 uM h7 arg8 harg8 (Memref.whole cc0_scratch0) h9 (Memref.whole cc0_scratch1) h10 arg11 harg11 cc0_scratch3 : Pr F _) ⟨⟩ := by
  rw [k0_part134_eq_skeleton]
  unfold k0_part134_skel
  refine Tr.bind (Tr.frame (start (A := uM) (V := U) (P := U) rfl (by decide +kernel) (by decide +kernel) (by decide +kernel) _ _ _)) ?_
  exact Tr.pure _

theorem sep_swap {P Q S : sProp (MM F)} : iprop(P ∗ Q ∗ S) ⊢ iprop(Q ∗ P ∗ S) := by
  iintro ⟨H1, H2, H3⟩
  isplitl [H2]
  · iexact H2
  · isplitl [H1]
    · iexact H1
    · iexact H3

theorem sep_mid {P Q Q' S : sProp (MM F)} (h : Q ⊢ Q') : iprop(P ∗ Q ∗ S) ⊢ iprop(P ∗ Q' ∗ S) := by
  iintro ⟨H1, H2, H3⟩
  isplitl [H1]
  · iexact H1
  · isplitl [H2]
    · iapply h
      iexact H2
    · iexact H3

theorem tr_part135 : Tr c iprop((Idle c gM G 1 0 ∗ Cell c 1 0) ∗ (Idle c uM U 1 1 ∗ Cell c 1 1) ∗ At c arg0 f0 ∗ R) iprop(InFl c gM G G 1 0 ∗ InFl c uM U U 1 1 ∗ At c arg0 f0 ∗ R)
    (k0_part135 arg0 harg0 arg1 harg1 arg2 harg2 arg3 harg3 arg4 harg4 arg5 harg5 gM h6 uM h7 arg8 harg8 (Memref.whole cc0_scratch0) h9 (Memref.whole cc0_scratch1) h10 arg11 harg11 cc0_scratch3 : Pr F _)
    ⟨k0_pay757 (cA c arg0 f0) (cB c arg0 f0) (cC c arg0 f0) (cD c arg0 f0) (cE c arg0 f0),
      k0_pay758 (cA c arg0 f0) (cB c arg0 f0) (cC c arg0 f0) (cD c arg0 f0) (cE c arg0 f0) (cF c arg0 f0)⟩ := by
  rw [k0_part135_eq_skeleton]
  unfold k0_part135_skel
  refine Tr.bind (Tr.frame (start (A := gM) (V := G) (P := G) rfl (by decide +kernel) (by decide +kernel) (by decide +kernel) _ _ _)) ?_
  refine Tr.bind (Tr.conv (Tr.frame (R₂ := iprop(InFl c gM G G 1 0 ∗ At c arg0 f0 ∗ R)) (start (A := uM) (V := U) (P := U) rfl (by decide +kernel) (by decide +kernel) (by decide +kernel) _ _ _)) sep_swap sep_swap) ?_
  refine Ev.frame_r (Ev.frame_r (Ev.frame_l ?_))
  refine Ev.bind Ev.smem ?_
  refine Ev.bind Ev.smem ?_
  refine Ev.bind Ev.smem ?_
  refine Ev.bind Ev.smem ?_
  refine Ev.bind Ev.smem ?_
  refine Ev.bind Ev.smem ?_
  exact Ev.pure _

/-- What the counts decide, as the kernel computes it. -/
theorem ev_part136 {v105 v110 : IVec S32x256 32} : Ev c (At c arg0 f0)
    (k0_part136 arg0 harg0 arg1 harg1 arg2 harg2 arg3 harg3 arg4 harg4 arg5 harg5 gM h6 uM h7 arg8 harg8 (Memref.whole cc0_scratch0) h9 (Memref.whole cc0_scratch1) h10 arg11 harg11 cc0_scratch3 Mxu.init v105 v110 : Pr F _)
    ⟨k0_pay759 v105 v110, cE c arg0 f0, cD c arg0 f0, cC c arg0 f0, cB c arg0 f0, chk_all _ _ _ _, V131 (cE c arg0 f0) (cD c arg0 f0) (cC c arg0 f0) (cB c arg0 f0),
      Scalar.subi (absW (cE c arg0 f0) (cD c arg0 f0) (cC c arg0 f0) (cB c arg0 f0)) 1#32, sgW (cE c arg0 f0) (cD c arg0 f0) (cC c arg0 f0) (cB c arg0 f0) 3#32 3#32 5#32,
      sgW (cE c arg0 f0) (cD c arg0 f0) (cC c arg0 f0) (cB c arg0 f0) 4#32 4#32 6#32, sgW (cE c arg0 f0) (cD c arg0 f0) (cC c arg0 f0) (cB c arg0 f0) 5#32 5#32 7#32, Mxu.init⟩ := by
  rw [k0_part136_eq_skeleton]
  unfold k0_part136_skel
  refine Ev.bind Ev.smem ?_
  refine Ev.bind Ev.smem ?_
  refine Ev.bind Ev.smem ?_
  refine Ev.bind Ev.smem ?_
  refine Ev.bind (v := ⟨chk_all _ _ _ _⟩) (Ev.op_assume (chk_all _ _ _ _) (Ev.pure _)) ?_
  simp only [pop_dr dr_init]
  exact Ev.pure _

theorem ev_part137 {R : sProp (MM F)} : Ev c R
    (k0_part137 arg0 harg0 arg1 harg1 arg2 harg2 arg3 harg3 arg4 harg4 arg5 harg5 gM h6 uM h7 arg8 harg8 (Memref.whole cc0_scratch0) h9 (Memref.whole cc0_scratch1) h10 arg11 harg11 cc0_scratch3 Mxu.init : Pr F _)
    ⟨Mxu.init, iota .tc S256x256 32 [0] iota_S256x256_d0_w32, iota .tc S256x256 32 [1] iota_S256x256_d1_w32, Scalar.select (Scalar.cmpi .eq 64#32 0#32) 1#32 64#32, k0_pay760, k0_pay761, k0_pay762⟩ := by
  rw [k0_part137_eq_skeleton]
  unfold k0_part137_skel
  simp (config := {zetaHave := true, zeta := true}) only [pop_dr dr_init]
  exact Ev.pure _

theorem ev_part138 : Ev c (At c arg1 f1)
    (k0_part138 arg0 harg0 arg1 harg1 arg2 harg2 arg3 harg3 arg4 harg4 arg5 harg5 gM h6 uM h7 arg8 harg8 (Memref.whole cc0_scratch0) h9 (Memref.whole cc0_scratch1) h10 arg11 harg11 cc0_scratch3 Mxu.init (iota .tc S256x256 32 [0] iota_S256x256_d0_w32) (iota .tc S256x256 32 [1] iota_S256x256_d1_w32) (Scalar.select (Scalar.cmpi .eq 64#32 0#32) 1#32 64#32) k0_pay760 k0_pay761 k0_pay762 : Pr F _)
    ⟨s26, k0_pay764 (F := F), sumTo c arg1 f1 0, k0_pay767 (xT c arg1 f1 0)⟩ := by
  rw [k0_part138_eq_skeleton]
  unfold k0_part138_skel
  refine Ev.bind (Ev.push rfl) ?_
  refine Ev.bind (Ev.ldT 0 rfl) ?_
  exact Ev.pure _

theorem Ev.exit {s : Mxu F} (h : s.Drained) {R : sProp (MM F)} : Ev c R (s.exit : Pr F PUnit) ⟨⟩ :=
  Ev.op_assume h (Ev.pure _)

/-- The output as the kernel computes it, from the counts, the activations, the planes, the scales and the zeros. -/
def OutK (c : Dev nD) (arg0 : Memref sig .tc .smem S6 .i32) (arg1 : Memref sig .tc .vmem S24x14336 .bf16) (arg11 : Memref sig .tc .vmem S24x128 .f32) (arg2 arg3 arg4 arg5 : Memref sig .tc .vmem S1x4096 .f32)
    (f0 : Buf (Elt F) (arg0.view.loc (c : Thread nD τ))) (f1 : Buf (Elt F) (arg1.view.loc (c : Thread nD τ))) (f11 : Buf (Elt F) (arg11.view.loc (c : Thread nD τ))) (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ))) (G U : Planes F) (i : S24x4096.Idx) : Elt F .bf16 :=
  OutAt c arg11 arg2 arg3 arg4 arg5 (srowF c arg1 arg11 f1 f11) f2 f3 f4 f5 (V111 c arg0 f0)
    (Scalar.subi (absW (cE c arg0 f0) (cD c arg0 f0) (cC c arg0 f0) (cB c arg0 f0)) 1#32) (sgW (cE c arg0 f0) (cD c arg0 f0) (cC c arg0 f0) (cB c arg0 f0) 3#32 3#32 5#32)
    (sgW (cE c arg0 f0) (cD c arg0 f0) (cC c arg0 f0) (cB c arg0 f0) 4#32 4#32 6#32) (sgW (cE c arg0 f0) (cD c arg0 f0) (cC c arg0 f0) (cB c arg0 f0) 5#32 5#32 7#32)
    (blkSt (Scalar.cmpi .ne (Scalar.extui (V131 (cE c arg0 f0) (cD c arg0 f0) (cC c arg0 f0) (cB c arg0 f0))) 0#32 = 1#1) k0_pay955 (plOf (cE c arg0 f0) (cD c arg0 f0) (cC c arg0 f0) (cB c arg0 f0)) G U (XV c arg1 f1)) i

theorem free_mod (c : Dev nD) (G U : Planes F) (s : ℕ) : (Free c G U s : sProp (MM F)) = Free c G U (s % 3) := by
  have h : ∀ k r : ℕ, (Free c G U (3 * k + r) : sProp (MM F)) = Free c G U r := by
    intro k r
    induction k with
    | zero => rw [Nat.mul_zero, Nat.zero_add]
    | succ k ih => rw [show 3 * (k + 1) + r = 3 * k + r + 3 by omega, free_add3, ih]
  conv_lhs => rw [← Nat.div_add_mod s 3]
  exact h _ _

set_option pp.maxSteps 400 in
/-- The whole body: it leaves its inputs as they were and its output as stated. -/
theorem tr_body : ∃ f8' : Buf (Elt F) (arg8.view.loc (c : Thread nD τ)),
    (∀ i : S24x4096.Idx, arg8.view.read (Elt F) f8' i = OutK c arg0 arg1 arg11 arg2 arg3 arg4 arg5 f0 f1 f11 f2 f3 f4 f5 G U i) ∧
    Tr c iprop((Free c G U 0 ∗ Free c G U 1 ∗ Free c G U 2 ∗ Ow c) ∗ At c arg0 f0 ∗ At c arg1 f1 ∗ At c xpM f10 ∗ At c arg11 f11 ∗ (At c arg2 f2 ∗ At c arg3 f3 ∗ At c arg4 f4 ∗ At c arg5 f5) ∗ At c arg8 f8)
      iprop((Free c G U 0 ∗ Free c G U 1 ∗ Free c G U 2 ∗ Ow c) ∗ At c arg0 f0 ∗ At c arg1 f1 ∗ At c xpM (XV c arg1 f1) ∗ At c arg11 (srowF c arg1 arg11 f1 f11) ∗ (At c arg2 f2 ∗ At c arg3 f3 ∗ At c arg4 f4 ∗ At c arg5 f5) ∗ At c arg8 f8')
      (cc0_bitplane_gated_matvec arg0 harg0 arg1 harg1 arg2 harg2 arg3 harg3 arg4 harg4 arg5 harg5 gM h6 uM h7 arg8 harg8 (Memref.whole cc0_scratch0) h9 (Memref.whole cc0_scratch1) h10 arg11 harg11 cc0_scratch3 : Pr F PUnit) ⟨⟩ := by
  obtain ⟨s', hs', f8', hf8, hT⟩ := tr_outer (arg0 := arg0) (harg0 := harg0) (arg1 := arg1) (harg1 := harg1) (arg2 := arg2) (harg2 := harg2) (arg3 := arg3) (harg3 := harg3) (arg4 := arg4) (harg4 := harg4) (arg5 := arg5) (harg5 := harg5) (h6 := h6) (h7 := h7) (arg8 := arg8) (harg8 := harg8) (h9 := h9) (h10 := h10) (arg11 := arg11) (harg11 := harg11) (c := c) (G := G) (U := U) (X := XV c arg1 f1)
    (w3 := cE c arg0 f0) (w4 := cD c arg0 f0) (w5 := cC c arg0 f0) (w6 := cB c arg0 f0) (v111 := V111 c arg0 f0) (hw := chk_all _ _ _ _) (v131 := V131 (cE c arg0 f0) (cD c arg0 f0) (cC c arg0 f0) (cB c arg0 f0))
    (v132 := Scalar.subi (absW (cE c arg0 f0) (cD c arg0 f0) (cC c arg0 f0) (cB c arg0 f0)) 1#32) (v134 := sgW (cE c arg0 f0) (cD c arg0 f0) (cC c arg0 f0) (cB c arg0 f0) 3#32 3#32 5#32)
    (v136 := sgW (cE c arg0 f0) (cD c arg0 f0) (cC c arg0 f0) (cB c arg0 f0) 4#32 4#32 6#32) (v138 := sgW (cE c arg0 f0) (cD c arg0 f0) (cC c arg0 f0) (cB c arg0 f0) 5#32 5#32 7#32)
    (v783 := k0_pay955) (f11 := srowF c arg1 arg11 f1 f11) (f2 := f2) (f3 := f3) (f4 := f4) (f5 := f5) (f8 := f8) (s0 := s1 c arg1 f1) s1_dr
  refine ⟨f8', hf8, ?_⟩
  rw [cc0_bitplane_gated_matvec_eq_skeleton]
  unfold cc0_bitplane_gated_matvec_skel
  -- the four copies
  refine Tr.bind (Tr.conv (tr_part133 (G := G) (R := iprop((Idle c uM U 0 1 ∗ Cell c 0 1) ∗ Free c G U 1 ∗ (Free c G U 2 ∗ Ow c) ∗ At c arg0 f0 ∗ At c arg1 f1 ∗ At c xpM f10 ∗ At c arg11 f11 ∗ (At c arg2 f2 ∗ At c arg3 f3 ∗ At c arg4 f4 ∗ At c arg5 f5) ∗ At c arg8 f8))) ?_ .rfl) ?_
  · unfold Free
    iintro ⟨⟨⟨H0, H1⟩, H2, H3, H4⟩, H5⟩
    isplitl [H0]
    · iexact H0
    isplitl [H1]
    · iexact H1
    isplitl [H2]
    · iexact H2
    isplitl [H3 H4]
    · isplitl [H3]
      · iexact H3
      · iexact H4
    · iexact H5
  refine Tr.bind (Tr.conv (tr_part134 (U := U) (R := iprop(InFl c gM G G 0 0 ∗ Free c G U 1 ∗ (Free c G U 2 ∗ Ow c) ∗ At c arg0 f0 ∗ At c arg1 f1 ∗ At c xpM f10 ∗ At c arg11 f11 ∗ (At c arg2 f2 ∗ At c arg3 f3 ∗ At c arg4 f4 ∗ At c arg5 f5) ∗ At c arg8 f8))) sep_swap .rfl) ?_
  refine Tr.bind (Tr.conv (tr_part135 (G := G) (U := U) (f0 := f0) (R := iprop(Fly c G U 0 ∗ (Free c G U 2 ∗ Ow c) ∗ At c arg1 f1 ∗ At c xpM f10 ∗ At c arg11 f11 ∗ (At c arg2 f2 ∗ At c arg3 f3 ∗ At c arg4 f4 ∗ At c arg5 f5) ∗ At c arg8 f8))) ?_ .rfl) ?_
  · unfold Free Fly
    iintro ⟨H0, H1, ⟨H2, H3⟩, H4, H5, H6⟩
    isplitl [H2]
    · iexact H2
    isplitl [H3]
    · iexact H3
    isplitl [H5]
    · iexact H5
    isplitl [H0 H1]
    · isplitl [H1]
      · iexact H1
      · iexact H0
    isplitl [H4]
    · iexact H4
    · iexact H6
  refine Tr.bind (Ev.frame_r (Ev.frame_r (Ev.frame_l ev_part136))) ?_
  refine Tr.bind ev_part137 ?_
  refine Tr.bind (Tr.conv (Tr.ofEv (R₂ := iprop(At c xpM f10 ∗ At c arg11 f11 ∗ At c arg0 f0 ∗ RingAt c G U 0 ∗ (At c arg2 f2 ∗ At c arg3 f3 ∗ At c arg4 f4 ∗ At c arg5 f5) ∗ At c arg8 f8)) (ev_part138 (f1 := f1))) ?_ .rfl) ?_
  · unfold RingAt
    rw [show (Slot c G U 0 : sProp (MM F)) = Fly c G U 0 from if_pos (by decide), show (Slot c G U (0 + 1) : sProp (MM F)) = Fly c G U 1 from if_pos (by decide)]
    unfold Fly
    iintro ⟨H0, H1, H2, H3, ⟨H4, H5⟩, H6, H7, H8, H9⟩
    isplitl [H6]
    · iexact H6
    isplitl [H7]
    · iexact H7
    isplitl [H8]
    · iexact H8
    isplitl [H2]
    · iexact H2
    isplitl [H0 H1 H3 H4 H5]
    · isplitl [H3]
      · iexact H3
      isplitl [H0 H1]
      · isplitl [H0]
        · iexact H0
        · iexact H1
      isplitl [H4]
      · iexact H4
      · iexact H5
    · iexact H9
  have hz : (At c xpM f10 : sProp (MM F)) ⊢ At c xpM (fill c arg1 f1 f10 0) := by
    rw [fill_zero]
  refine Tr.conv ?_ (sep_mid hz) .rfl
  refine Tr.bind tr_part139 ?_
  refine Tr.bind tr_part140 ?_
  refine Tr.bind tr_part141 ?_
  refine Tr.bind tr_part142 ?_
  refine Tr.bind tr_part143 ?_
  refine Tr.bind tr_part144 ?_
  refine Tr.bind tr_part145 ?_
  refine Tr.bind tr_part146 ?_
  refine Tr.bind tr_part147 ?_
  refine Tr.bind tr_part148 ?_
  refine Tr.bind tr_part149 ?_
  refine Tr.bind tr_part150 ?_
  refine Tr.bind tr_part151 ?_
  refine Tr.bind tr_part152 ?_
  refine Tr.bind tr_part153 ?_
  refine Tr.bind tr_part154 ?_
  refine Tr.bind (Tr.conv (Tr.frame (R₂ := iprop(At c arg0 f0 ∗ At c arg1 f1)) hT) ?_ .rfl) ?_
  · rw [fill_all]
    unfold Tail
    iintro ⟨H1, H2, H3, H4, H5, ⟨H6, H7, H8, H9⟩, H10⟩
    isplitl [H2 H3 H5 H6 H7 H8 H9 H10]
    · isplitl [H3 H6 H7 H8 H9]
      · isplitl [H3]
        · iexact H3
        isplitl [H6]
        · iexact H6
        isplitl [H7]
        · iexact H7
        isplitl [H8]
        · iexact H8
        · iexact H9
      isplitl [H10]
      · iexact H10
      isplitl [H5]
      · iexact H5
      · iexact H2
    · isplitl [H4]
      · iexact H4
      · iexact H1
  refine Tr.bind (Ev.exit hs'.drained) ?_
  refine Tr.conv (Tr.pure _) .rfl ?_
  unfold RingAt Tail
  rw [show (Slot c G U 112 : sProp (MM F)) = Free c G U 112 from if_neg (by decide), show (Slot c G U (112 + 1) : sProp (MM F)) = Free c G U 113 from if_neg (by decide),
    free_mod c G U 112, free_mod c G U 113, free_mod c G U (112 + 2)]
  show iprop(((_ ∗ _ ∗ _ ∗ _ ∗ _) ∗ _ ∗ (Free c G U 1 ∗ Free c G U 2 ∗ Free c G U 0 ∗ _) ∗ _) ∗ _ ∗ _) ⊢ _
  iintro ⟨⟨⟨H3, H6, H7, H8, H9⟩, H10, ⟨Ha, Hb, Hc, Hd⟩, H2⟩, H0, H1⟩
  isplitl [Ha Hb Hc Hd]
  · isplitl [Hc]
    · iexact Hc
    isplitl [Ha]
    · iexact Ha
    isplitl [Hb]
    · iexact Hb
    · iexact Hd
  isplitl [H0]
  · iexact H0
  isplitl [H1]
  · iexact H1
  isplitl [H2]
  · iexact H2
  isplitl [H3]
  · iexact H3
  isplitl [H6 H7 H8 H9]
  · isplitl [H6]
    · iexact H6
    isplitl [H7]
    · iexact H7
    isplitl [H8]
    · iexact H8
    · iexact H9
  · iexact H10

end Cert.KernelIdeal.Hand
-- ==== Proof.Twin.lean ====
/- The program as printed and its idealization are one text; a frame of the one at the bits is a frame of the other. -/
module

public import proofs.«01_k».proof.Defs
public import proofs.«01_k».proof.Proof.Gen.Kernel
public import proofs.«01_k».proof.Proof.Gen.KernelIdeal
public import Idealize.ShloMosaic.Lib.Tactic

@[expose] public section

noncomputable section

namespace Cert.KernelIdeal.Hand

open Idealize.ShloMosaic Idealize.ShloMosaic.TcCoe Idealize.ShloMosaic.Tactic
open Idealize.SL.Sem
open Cert.KernelIdeal Cert.KernelIdeal.Gen

/-- What a frame says at the end: the arguments as they were, every semaphore at zero. -/
def FrameEnd {F : FTy → Type} [FloatOps F] (m : (ℓ : Loc nD τ sig) → Buf (Elt F) ℓ) (r : PUnit × MemSt nD τ sig (Elt F)) : Prop :=
  (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.sem = fun _ => 0

/-- The frame of the printed program is the frame of the idealization's text read at the bits. -/
theorem frame_eq : Cert.quiescent_Kernel (hKernel := Cert.Kernel.Gen.facts) =
    (∀ (m : (ℓ : Loc nD τ sig) → Buf (Elt Bits) ℓ) (g : Dev nD → PrngReg), True →
      θ_run (defs (F := Bits)) (onTc (τ := τ) (main (F := Bits))) ⟨m, fun _ => 0, g⟩ (FrameEnd m)) := by
  sl_kernel_rfl

end Cert.KernelIdeal.Hand

end
-- ==== Proof.Run.lean ====
/- The run of the whole program: what its result holds, its arguments unchanged, its semaphores at zero. -/
module

public import proofs.«01_k».proof.Proof.Body
public import proofs.«01_k».proof.Proof.Twin

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A buffer held whole. -/
abbrev Wh (c : Dev nD) (b : Ref sig .tc) (f : b.ty.shape.Idx → Elt F b.ty.elt) : sProp 𝕄 :=
  iprop((Memref.whole b).view.loc (c : Thread nD τ) ↦[Finset.univ]{fullShare} f)

/-! ## The ring, taken apart and put together -/

section Ring

variable (c : Dev nD) (G U : Planes F)

/-- The six cells of the ring. -/
abbrev cellI (b : Fin 3 × Fin 2) : Finset (Idx ((c : Thread nD τ).loc cc0_scratch0)) := cell b.1.val b.2.val

theorem cellI_disjoint : ∀ b b' : Fin 3 × Fin 2, b ≠ b' → Disjoint (cellI c b) (cellI c b') := by
  intro b b' h
  refine Finset.disjoint_filter.mpr fun i _ h1 h2 => h ?_
  exact Prod.ext (Fin.ext (h1.1.symm.trans h2.1)) (Fin.ext (h1.2.symm.trans h2.2))

theorem cellI_cover : (Finset.univ : Finset (Fin 3 × Fin 2)).biUnion (cellI c) = Finset.univ := by
  refine Finset.eq_univ_iff_forall.mpr fun (i : S3x2x8x32x512.Idx) => ?_
  exact Finset.mem_biUnion.mpr ⟨(⟨(i 0).val, (i 0).isLt⟩, ⟨(i 1).val, (i 1).isLt⟩), Finset.mem_univ _, Finset.mem_filter.mpr ⟨Finset.mem_univ _, rfl, rfl⟩⟩

theorem bigSep_cells (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

/-- The six semaphores of the ring at zero. -/
def Sems : sProp 𝕄 :=
  iprop(semVal ((c : Thread nD τ), .dma (semC 0 0)) 0 ∗ semVal ((c : Thread nD τ), .dma (semC 0 1)) 0
    ∗ semVal ((c : Thread nD τ), .dma (semC 1 0)) 0 ∗ semVal ((c : Thread nD τ), .dma (semC 1 1)) 0
    ∗ semVal ((c : Thread nD τ), .dma (semC 2 0)) 0 ∗ semVal ((c : Thread nD τ), .dma (semC 2 1)) 0)

theorem ring_in (f : Ring F) : iprop(Wh c main_arg1 G ∗ Wh c main_arg4 U ∗ Wh c cc0_scratch0 f ∗ Sems c) ⊢ iprop(Free c G U 0 ∗ Free c G U 1 ∗ Free c G U 2) := by
  unfold Free Idle Cell Sems sh
  iintro ⟨HG, HU, HR, S0, S1, S2, S3, S4, S5⟩
  ihave HG := (Ring.pointsTo_thirds fullShare G).1 $$ HG
  ihave HU := (Ring.pointsTo_thirds fullShare U).1 $$ HU
  ihave HR := (BIBase.Entails.of_eq (Ring.pointsTo_blocks (cellI c) (cellI_disjoint c) (cellI_cover c) f)) $$ HR
  ihave HR := (BIBase.Entails.of_eq (bigSep_cells _)) $$ HR
  icases HG with ⟨G0, G1, G2⟩
  icases HU with ⟨U0, U1, U2⟩
  icases HR with ⟨R0, R1, R2, R3, R4, R5⟩
  isplitl [G0 S0 R0 U0 S1 R1]
  · isplitl [G0 S0 R0]
    · isplitl [G0 S0]
      · isplitl [G0]
        · iexact G0
        · iexact S0
      · iexists f; iexact R0
    · isplitl [U0 S1]
      · isplitl [U0]
        · iexact U0
        · iexact S1
      · iexists f; iexact R1
  isplitl [G1 S2 R2 U1 S3 R3]
  · isplitl [G1 S2 R2]
    · isplitl [G1 S2]
      · isplitl [G1]
        · iexact G1
        · iexact S2
      · iexists f; iexact R2
    · isplitl [U1 S3]
      · isplitl [U1]
        · iexact U1
        · iexact S3
      · iexists f; iexact R3
  · isplitl [G2 S4 R4]
    · isplitl [G2 S4]
      · isplitl [G2]
        · iexact G2
        · iexact S4
      · iexists f; iexact R4
    · isplitl [U2 S5]
      · isplitl [U2]
        · iexact U2
        · iexact S5
      · iexists f; iexact R5

theorem ring_out (f : Ring F) : iprop(Free c G U 0 ∗ Free c G U 1 ∗ Free c G U 2) ⊢ iprop(Wh c main_arg1 G ∗ Wh c main_arg4 U ∗ (∃ f, Wh c cc0_scratch0 f) ∗ Sems c) := by
  unfold Free Idle Cell Sems sh
  iintro ⟨⟨⟨⟨G0, S0⟩, R0⟩, ⟨⟨U0, S1⟩, R1⟩⟩, ⟨⟨⟨G1, S2⟩, R2⟩, ⟨⟨U1, S3⟩, R3⟩⟩, ⟨⟨⟨G2, S4⟩, R4⟩, ⟨⟨U2, S5⟩, R5⟩⟩⟩
  isplitl [G0 G1 G2]
  · iapply (Ring.pointsTo_thirds fullShare G).2
    isplitl [G0]
    · iexact G0
    isplitl [G1]
    · iexact G1
    · iexact G2
  isplitl [U0 U1 U2]
  · iapply (Ring.pointsTo_thirds fullShare U).2
    isplitl [U0]
    · iexact U0
    isplitl [U1]
    · iexact U1
    · iexact U2
  isplitl [R0 R1 R2 R3 R4 R5]
  · iapply (Ring.pointsTo_blocks_join_exists (cellI c) (cellI_disjoint c) (cellI_cover c) f)
    iapply (BIBase.Entails.of_eq (bigSep_cells _).symm)
    isplitl [R0]
    · iexact R0
    isplitl [R1]
    · iexact R1
    isplitl [R2]
    · iexact R2
    isplitl [R3]
    · iexact R3
    isplitl [R4]
    · iexact R4
    · iexact R5
  isplitl [S0]
  · iexact S0
  isplitl [S1]
  · iexact S1
  isplitl [S2]
  · iexact S2
  isplitl [S3]
  · iexact S3
  isplitl [S4]
  · iexact S4
  · iexact S5

end Ring

/-! ## The operands -/

abbrev s0 : Memref sig .tc .smem S6 .i32 := Memref.whole cc0_stg0_0
abbrev s1' : Memref sig .tc .vmem S24x14336 .bf16 := Memref.whole cc0_stg1_0
abbrev s2 : Memref sig .tc .vmem S1x4096 .f32 := Memref.whole cc0_stg2_0
abbrev s3 : Memref sig .tc .vmem S1x4096 .f32 := Memref.whole cc0_stg3_0
abbrev s4 : Memref sig .tc .vmem S1x4096 .f32 := Memref.whole cc0_stg4_0
abbrev s5 : Memref sig .tc .vmem S1x4096 .f32 := Memref.whole cc0_stg5_0
abbrev s6 : Memref sig .tc .vmem S24x4096 .bf16 := Memref.whole cc0_stg6_0
abbrev sr : Memref sig .tc .vmem S24x128 .f32 := Memref.whole cc0_scratch2

/-- The row sums' buffer is written whole. -/
theorem srowF_whole (c : Dev nD) (f1 : S24x14336.Idx → Elt F .bf16) (f11 : S24x128.Idx → Elt F .f32) : srowF c s1' sr f1 f11 = sumV c s1' f1 := by
  funext i
  refine Eq.trans (b := sr.view.read (Elt F) (srowF c s1' sr f1 f11) i) rfl ?_
  unfold srowF
  rw [View.read_writes_cons_unit_of_mem _ _ _ _ _ _ i rfl (by intro a; fin_cases a <;> exact (Nat.zero_add _).symm)]

/-- The result as the kernel computes it. -/
def Res (c : Dev nD) (cnts : S6.Idx → Elt F .i32) (x : S24x14336.Idx → Elt F .bf16) (gs gz us uz : S1x4096.Idx → Elt F .f32) (G U : Planes F) : S24x4096.Idx → Elt F .bf16 :=
  OutK c s0 s1' sr s2 s3 s4 s5 cnts x (sumV c s1' x) gs gz us uz G U

theorem res_eq (c : Dev nD) (cnts : S6.Idx → Elt F .i32) (x : S24x14336.Idx → Elt F .bf16) (gs gz us uz : S1x4096.Idx → Elt F .f32) (G U : Planes F) (f11 : S24x128.Idx → Elt F .f32) :
    OutK c s0 s1' sr s2 s3 s4 s5 cnts x f11 gs gz us uz G U = Res c cnts x gs gz us uz G U := by
  unfold Res OutK
  rw [srowF_whole, srowF_whole]

theorem owns_whole (c : Dev nD) (b : Ref sig .tc) (X : b.ty.shape.Idx → Elt F b.ty.elt) :
    (owns (c : Thread nD τ) (Memref.whole b) fullShare X : sProp 𝕄) = Wh c b X := by
  have hs : (Memref.whole b).view.set = Finset.univ := View.set_whole b
  refine Entails.antisymm ?_ ?_
  · unfold owns
    rw [hs]
    show (_ : sProp 𝕄) ⊢ _
    iintro ⟨%f, %hf, H⟩
    obtain rfl : f = X := hf
    iexact H
  · unfold owns
    rw [hs]
    show (_ : sProp 𝕄) ⊢ _
    iintro H
    iexists X
    isplitr
    · ipureintro; rfl
    · iexact H

/-- The body at its staging buffers. -/
theorem body_wp (c : Dev nD) (cnts : S6.Idx → Elt F .i32) (x : S24x14336.Idx → Elt F .bf16) (gs gz us uz : S1x4096.Idx → Elt F .f32) (G U : Planes F)
    (f0 : Ring F) (f10 : Xp F) (f11 : S24x128.Idx → Elt F .f32) (f8 : S24x4096.Idx → Elt F .bf16) {h0 h1 h2 h3 h4 h5 h6 h7 h8 h9 h10 h11} :
    Tr c iprop((Wh c main_arg1 G ∗ Wh c main_arg4 U ∗ Wh c cc0_scratch0 f0 ∗ Sems c) ∗ Ow c ∗ Wh c cc0_scratch1 f10 ∗ Wh c cc0_scratch2 f11
        ∗ Wh c cc0_stg0_0 cnts ∗ Wh c cc0_stg1_0 x ∗ Wh c cc0_stg2_0 gs ∗ Wh c cc0_stg3_0 gz ∗ Wh c cc0_stg4_0 us ∗ Wh c cc0_stg5_0 uz ∗ Wh c cc0_stg6_0 f8)
      iprop((Wh c main_arg1 G ∗ Wh c main_arg4 U ∗ (∃ f, Wh c cc0_scratch0 f) ∗ Sems c) ∗ Ow c ∗ (∃ f, Wh c cc0_scratch1 f) ∗ (∃ f, Wh c cc0_scratch2 f)
        ∗ Wh c cc0_stg0_0 cnts ∗ Wh c cc0_stg1_0 x ∗ Wh c cc0_stg2_0 gs ∗ Wh c cc0_stg3_0 gz ∗ Wh c cc0_stg4_0 us ∗ Wh c cc0_stg5_0 uz ∗ Wh c cc0_stg6_0 (Res c cnts x gs gz us uz G U))
      (cc0_bitplane_gated_matvec s0 h0 s1' h1 s2 h2 s3 h3 s4 h4 s5 h5 gM h6 uM h7 s6 h8 (Memref.whole cc0_scratch0) h9 (Memref.whole cc0_scratch1) h10 sr h11 cc0_scratch3 : Pr F PUnit) ⟨⟩ := by
  obtain ⟨f8', hf8, hT⟩ := tr_body (arg0 := s0) (harg0 := h0) (arg1 := s1') (harg1 := h1) (arg2 := s2) (harg2 := h2) (arg3 := s3) (harg3 := h3) (arg4 := s4) (harg4 := h4) (arg5 := s5) (harg5 := h5)
    (h6 := h6) (h7 := h7) (arg8 := s6) (harg8 := h8) (h9 := h9) (h10 := h10) (arg11 := sr) (harg11 := h11) (c := c) (G := G) (U := U) (f0 := cnts) (f1 := x) (f10 := f10) (f11 := f11) (f2 := gs) (f3 := gz) (f4 := us) (f5 := uz) (f8 := f8)
  have e8 : f8' = Res c cnts x gs gz us uz G U := funext fun i => (hf8 i).trans (congrFun (res_eq c cnts x gs gz us uz G U f11) i)
  rw [e8] at hT
  refine Tr.conv hT ?_ ?_
  · iintro ⟨HR, HO, HX, HS, H0, H1, H2, H3, H4, H5, H8⟩
    ihave HR := (ring_in c G U f0) $$ HR
    icases HR with ⟨Ha, Hb, Hc⟩
    isplitl [Ha Hb Hc HO]
    · isplitl [Ha]
      · iexact Ha
      isplitl [Hb]
      · iexact Hb
      isplitl [Hc]
      · iexact Hc
      · iexact HO
    isplitl [H0]
    · iexact H0
    isplitl [H1]
    · iexact H1
    isplitl [HX]
    · iexact HX
    isplitl [HS]
    · iexact HS
    isplitl [H2 H3 H4 H5]
    · isplitl [H2]
      · iexact H2
      isplitl [H3]
      · iexact H3
      isplitl [H4]
      · iexact H4
      · iexact H5
    · iexact H8
  · iintro ⟨⟨Ha, Hb, Hc, HO⟩, H0, H1, HX, HS, ⟨H2, H3, H4, H5⟩, H8⟩
    isplitl [Ha Hb Hc]
    · iapply (ring_out c G U f0)
      isplitl [Ha]
      · iexact Ha
      isplitl [Hb]
      · iexact Hb
      · iexact Hc
    isplitl [HO]
    · iexact HO
    isplitl [HX]
    · iexists _; iexact HX
    isplitl [HS]
    · iexists _; iexact HS
    isplitl [H0]
    · iexact H0
    isplitl [H1]
    · iexact H1
    isplitl [H2]
    · iexact H2
    isplitl [H3]
    · iexact H3
    isplitl [H4]
    · iexact H4
    isplitl [H5]
    · iexact H5
    · iexact H8

/-! ## The proof data -/

theorem hmain (𝒱 : Variants) : Pipeline.HMain (Ix := Unit) (Name := ℕ) (U := Pipeline.UD sig nD τ) (Lvl := ℕ) cfgs 0 defs₀ 𝒱 m (main (F := F)) (V m) :=
  Pipeline.hmain_prefix cfgs 0 defs₀ 𝒱 m main hostOps0 hostOps0_sub hostOps0_fresh main_chain

/-- The semaphores of the body's copies. -/
abbrev osem0 : Fin 6 → SemLoc sig := fun j => (![.dma 7, .dma 8, .dma 9, .dma 10, .dma 11, .dma 12] : Fin 6 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄) = Sems c := by
  rw [Pipeline.ownSems0_eq_of_list c osem0 [0, 1, 2, 3, 4, 5] (by decide) (by decide)]; rfl
/-- The arrays the body's copies read. -/
def H0 : Finset (Ref sig .tc) := {main_arg1, main_arg4}
theorem H0_sub : H0 ⊆ Pipeline.restRefs sig spec0 := by decide
theorem hbm_eq (c : Dev nD) :
    (bigSep H0 (fun b => ((c : Thread nD τ).loc b) ↦{fullShare} V m c b) : sProp 𝕄) = iprop(Wh c main_arg1 (V m c main_arg1) ∗ Wh c main_arg4 (V m c main_arg4)) := by
  rw [BI.bigSep_eq_bigSepL_of_eq [main_arg1, main_arg4] (by decide) (by decide)]; rfl

/-- The result from the arrays as the launch finds them. -/
def resV (c : Dev nD) : S24x4096.Idx → Elt F .bf16 :=
  Res c (V m c main_arg7) (V m c main_v0) (V m c main_v1) (V m c main_v2) (V m c main_v3) (V m c main_v4) (V m c main_arg1) (V m c main_arg4)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => resV m c
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem blk0 (c : Dev nD) (t : Fin cfg0.N) : iblk m c 0 t = V m c main_arg7 := by
  obtain rfl := fin_N0 t
  exact funext fun i => congrArg (V m c main_arg7) (funext fun a => Fin.ext (Pipeline.Window.rect_emb_val_of_index_zero win0_0 t0_0 a rfl i))
theorem blk1 (c : Dev nD) (t : Fin cfg0.N) : iblk m c 1 t = V m c main_v0 := by
  obtain rfl := fin_N0 t
  exact funext fun i => congrArg (V m c main_v0) (funext fun a => Fin.ext (Pipeline.Window.rect_emb_val_of_index_zero win0_1 t0_0 a rfl i))
theorem blk2 (c : Dev nD) (t : Fin cfg0.N) : iblk m c 2 t = V m c main_v1 := by
  obtain rfl := fin_N0 t
  exact funext fun i => congrArg (V m c main_v1) (funext fun a => Fin.ext (Pipeline.Window.rect_emb_val_of_index_zero win0_2 t0_0 a rfl i))
theorem blk3 (c : Dev nD) (t : Fin cfg0.N) : iblk m c 3 t = V m c main_v2 := by
  obtain rfl := fin_N0 t
  exact funext fun i => congrArg (V m c main_v2) (funext fun a => Fin.ext (Pipeline.Window.rect_emb_val_of_index_zero win0_3 t0_0 a rfl i))
theorem blk4 (c : Dev nD) (t : Fin cfg0.N) : iblk m c 4 t = V m c main_v3 := by
  obtain rfl := fin_N0 t
  exact funext fun i => congrArg (V m c main_v3) (funext fun a => Fin.ext (Pipeline.Window.rect_emb_val_of_index_zero win0_4 t0_0 a rfl i))
theorem blk5 (c : Dev nD) (t : Fin cfg0.N) : iblk m c 5 t = V m c main_v4 := by
  obtain rfl := fin_N0 t
  exact funext fun i => congrArg (V m c main_v4) (funext fun a => Fin.ext (Pipeline.Window.rect_emb_val_of_index_zero win0_5 t0_0 a rfl i))

theorem mem6 (i : S24x4096.Idx) : i ∈ ((cfg0.win 6).blk t0_0).view.set := by
  have h : ((cfg0.win 6).blk t0_0).view.emb i = i :=
    funext fun a => Fin.ext (Pipeline.Window.rect_emb_val_of_index_zero win0_6 t0_0 a rfl i)
  exact Eq.mp (congrArg (· ∈ ((cfg0.win 6).blk t0_0).view.set) h) (View.emb_mem_set _ i)

/-- The result array at the end. -/
theorem arr6 (c : Dev nD) : (dats m 0 c).arrAt 6 cfg0.N = resV m c := by
  refine (dats m 0 c).arrAt_eq_of_cover 6 (resV m c) ?_ fun i => ⟨t0_0, flush0_6 _, mem6 i⟩
  intro t ht
  obtain rfl := fin_N0 t
  exact funext fun i => (congrArg (resV m c) (funext fun a => Fin.ext (Pipeline.Window.rect_emb_val_of_index_zero win0_6 t0_0 a rfl i))).symm

theorem before0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; try rfl) t d).trans
    (by unfold Dat.fetched Dat.blockOf iblk; try rfl)
theorem before1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; try rfl) t d).trans
    (by unfold Dat.fetched Dat.blockOf iblk; try rfl)
theorem before2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; try rfl) t d).trans
    (by unfold Dat.fetched Dat.blockOf iblk; try rfl)
theorem before3 (c : Dev nD) (t : Fin cfg0.N) (d) : (dats m 0 c).before 3 t d = iblk m c 3 t :=
  ((dats m 0 c).before_in_eq_fetched 3 rfl (fun _ => rfl) (fun _ _ _ => rfl) (fun t => by dsimp only [dats]; unfold Dat.blockOf iblk; try rfl) t d).trans
    (by unfold Dat.fetched Dat.blockOf iblk; try rfl)
theorem before4 (c : Dev nD) (t : Fin cfg0.N) (d) : (dats m 0 c).before 4 t d = iblk m c 4 t :=
  ((dats m 0 c).before_in_eq_fetched 4 rfl (fun _ => rfl) (fun _ _ _ => rfl) (fun t => by dsimp only [dats]; unfold Dat.blockOf iblk; try rfl) t d).trans
    (by unfold Dat.fetched Dat.blockOf iblk; try rfl)
theorem before5 (c : Dev nD) (t : Fin cfg0.N) (d) : (dats m 0 c).before 5 t d = iblk m c 5 t :=
  ((dats m 0 c).before_in_eq_fetched 5 rfl (fun _ => rfl) (fun _ _ _ => rfl) (fun t => by dsimp only [dats]; unfold Dat.blockOf iblk; try rfl) t d).trans
    (by unfold Dat.fetched Dat.blockOf iblk; try rfl)

def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ owns (c : Thread nD τ) ((cfg0.win 6).stage (cfg0.slots t 6)) fullShare ((dats m 0 c).after 6 t))

/-- What the stagings hold before and after the body. -/
theorem pre0 (c : Dev nD) (t : Fin cfg0.N) :
    (iprop(∃ d, owns (c : Thread nD τ) ((cfg0.win 0).stage (cfg0.slots t 0)) fullShare ((dats m 0 c).before 0 t d)) : sProp 𝕄) ⊢ Wh c cc0_stg0_0 (V m c main_arg7) := by
  iintro ⟨%d, H⟩
  rw [before0, blk0]
  iapply (BIBase.Entails.of_eq (owns_whole c cc0_stg0_0 (V m c main_arg7)))
  iexact H
theorem post0 (c : Dev nD) (t : Fin cfg0.N) :
    (Wh c cc0_stg0_0 (V m c main_arg7) : sProp 𝕄) ⊢ owns (c : Thread nD τ) ((cfg0.win 0).stage (cfg0.slots t 0)) fullShare ((dats m 0 c).after 0 t) := by
  rw [show (dats m 0 c).after 0 t = iblk m c 0 t from rfl, blk0]
  exact BIBase.Entails.of_eq (owns_whole c cc0_stg0_0 (V m c main_arg7)).symm
theorem pre1 (c : Dev nD) (t : Fin cfg0.N) :
    (iprop(∃ d, owns (c : Thread nD τ) ((cfg0.win 1).stage (cfg0.slots t 1)) fullShare ((dats m 0 c).before 1 t d)) : sProp 𝕄) ⊢ Wh c cc0_stg1_0 (V m c main_v0) := by
  iintro ⟨%d, H⟩
  rw [before1, blk1]
  iapply (BIBase.Entails.of_eq (owns_whole c cc0_stg1_0 (V m c main_v0)))
  iexact H
theorem post1 (c : Dev nD) (t : Fin cfg0.N) :
    (Wh c cc0_stg1_0 (V m c main_v0) : sProp 𝕄) ⊢ owns (c : Thread nD τ) ((cfg0.win 1).stage (cfg0.slots t 1)) fullShare ((dats m 0 c).after 1 t) := by
  rw [show (dats m 0 c).after 1 t = iblk m c 1 t from rfl, blk1]
  exact BIBase.Entails.of_eq (owns_whole c cc0_stg1_0 (V m c main_v0)).symm
theorem pre2 (c : Dev nD) (t : Fin cfg0.N) :
    (iprop(∃ d, owns (c : Thread nD τ) ((cfg0.win 2).stage (cfg0.slots t 2)) fullShare ((dats m 0 c).before 2 t d)) : sProp 𝕄) ⊢ Wh c cc0_stg2_0 (V m c main_v1) := by
  iintro ⟨%d, H⟩
  rw [before2, blk2]
  iapply (BIBase.Entails.of_eq (owns_whole c cc0_stg2_0 (V m c main_v1)))
  iexact H
theorem post2 (c : Dev nD) (t : Fin cfg0.N) :
    (Wh c cc0_stg2_0 (V m c main_v1) : sProp 𝕄) ⊢ owns (c : Thread nD τ) ((cfg0.win 2).stage (cfg0.slots t 2)) fullShare ((dats m 0 c).after 2 t) := by
  rw [show (dats m 0 c).after 2 t = iblk m c 2 t from rfl, blk2]
  exact BIBase.Entails.of_eq (owns_whole c cc0_stg2_0 (V m c main_v1)).symm
theorem pre3 (c : Dev nD) (t : Fin cfg0.N) :
    (iprop(∃ d, owns (c : Thread nD τ) ((cfg0.win 3).stage (cfg0.slots t 3)) fullShare ((dats m 0 c).before 3 t d)) : sProp 𝕄) ⊢ Wh c cc0_stg3_0 (V m c main_v2) := by
  iintro ⟨%d, H⟩
  rw [before3, blk3]
  iapply (BIBase.Entails.of_eq (owns_whole c cc0_stg3_0 (V m c main_v2)))
  iexact H
theorem post3 (c : Dev nD) (t : Fin cfg0.N) :
    (Wh c cc0_stg3_0 (V m c main_v2) : sProp 𝕄) ⊢ owns (c : Thread nD τ) ((cfg0.win 3).stage (cfg0.slots t 3)) fullShare ((dats m 0 c).after 3 t) := by
  rw [show (dats m 0 c).after 3 t = iblk m c 3 t from rfl, blk3]
  exact BIBase.Entails.of_eq (owns_whole c cc0_stg3_0 (V m c main_v2)).symm
theorem pre4 (c : Dev nD) (t : Fin cfg0.N) :
    (iprop(∃ d, owns (c : Thread nD τ) ((cfg0.win 4).stage (cfg0.slots t 4)) fullShare ((dats m 0 c).before 4 t d)) : sProp 𝕄) ⊢ Wh c cc0_stg4_0 (V m c main_v3) := by
  iintro ⟨%d, H⟩
  rw [before4, blk4]
  iapply (BIBase.Entails.of_eq (owns_whole c cc0_stg4_0 (V m c main_v3)))
  iexact H
theorem post4 (c : Dev nD) (t : Fin cfg0.N) :
    (Wh c cc0_stg4_0 (V m c main_v3) : sProp 𝕄) ⊢ owns (c : Thread nD τ) ((cfg0.win 4).stage (cfg0.slots t 4)) fullShare ((dats m 0 c).after 4 t) := by
  rw [show (dats m 0 c).after 4 t = iblk m c 4 t from rfl, blk4]
  exact BIBase.Entails.of_eq (owns_whole c cc0_stg4_0 (V m c main_v3)).symm
theorem pre5 (c : Dev nD) (t : Fin cfg0.N) :
    (iprop(∃ d, owns (c : Thread nD τ) ((cfg0.win 5).stage (cfg0.slots t 5)) fullShare ((dats m 0 c).before 5 t d)) : sProp 𝕄) ⊢ Wh c cc0_stg5_0 (V m c main_v4) := by
  iintro ⟨%d, H⟩
  rw [before5, blk5]
  iapply (BIBase.Entails.of_eq (owns_whole c cc0_stg5_0 (V m c main_v4)))
  iexact H
theorem post5 (c : Dev nD) (t : Fin cfg0.N) :
    (Wh c cc0_stg5_0 (V m c main_v4) : sProp 𝕄) ⊢ owns (c : Thread nD τ) ((cfg0.win 5).stage (cfg0.slots t 5)) fullShare ((dats m 0 c).after 5 t) := by
  rw [show (dats m 0 c).after 5 t = iblk m c 5 t from rfl, blk5]
  exact BIBase.Entails.of_eq (owns_whole c cc0_stg5_0 (V m c main_v4)).symm
theorem pre6 (c : Dev nD) (t : Fin cfg0.N) :
    (iprop(∃ d, owns (c : Thread nD τ) ((cfg0.win 6).stage (cfg0.slots t 6)) fullShare ((dats m 0 c).before 6 t d)) : sProp 𝕄) ⊢ iprop(∃ f : S24x4096.Idx → Elt F .bf16, Wh c cc0_stg6_0 f) := by
  iintro ⟨%d, H⟩
  iexists _
  iapply (BIBase.Entails.of_eq (owns_whole c cc0_stg6_0 ((dats m 0 c).before 6 t d)))
  iexact H
theorem post6 (c : Dev nD) (t : Fin cfg0.N) :
    (Wh c cc0_stg6_0 (resV m c) : sProp 𝕄) ⊢ owns (c : Thread nD τ) ((cfg0.win 6).stage (cfg0.slots t 6)) fullShare ((dats m 0 c).after 6 t) :=
  BIBase.Entails.of_eq (owns_whole c cc0_stg6_0 (resV m c)).symm

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = Pipeline.ΦD osem0 spec0 H0 (V m) c from rfl, show (dats m 0 c).Φ t.castSucc = Pipeline.ΦD osem0 spec0 H0 (V m) c from rfl, Pipeline.ΦD_eq,
    scopedRest0_eq, ownSems0_eq, hbm_eq]
  unfold Dat.owesAt Pipeline.owesWithin
  rw [show (dats m 0 c).owed t.castSucc = 0 from rfl, show (dats m 0 c).owed t.succ = 0 from rfl]
  iintro ⟨⟨⟨⟨%f0, HS0⟩, ⟨%f10, HS1⟩, ⟨%f11, HS2⟩⟩, Hg, Hq, HG, HU⟩, ⟨%W, -, HW⟩, H0, H1, H2, H3, H4, H5, H6⟩
  ihave H0 := (pre0 m c t) $$ H0
  ihave H1 := (pre1 m c t) $$ H1
  ihave H2 := (pre2 m c t) $$ H2
  ihave H3 := (pre3 m c t) $$ H3
  ihave H4 := (pre4 m c t) $$ H4
  ihave H5 := (pre5 m c t) $$ H5
  ihave H6 := (pre6 m c t) $$ H6
  icases H6 with ⟨%f8, H6⟩
  iapply (body_wp c (V m c main_arg7) (V m c main_v0) (V m c main_v1) (V m c main_v2) (V m c main_v3) (V m c main_v4) (V m c main_arg1) (V m c main_arg4) f0 f10 f11 f8 _)
  isplitl [HS0 HS1 HS2 Hq HG HU HW H0 H1 H2 H3 H4 H5 H6]
  · isplitl [HG HU HS0 Hq]
    · isplitl [HG]
      · iexact HG
      isplitl [HU]
      · iexact HU
      isplitl [HS0]
      · iexact HS0
      · iexact Hq
    isplitl [HW]
    · unfold Ow
      iexists W
      iexact HW
    isplitl [HS1]
    · iexact HS1
    isplitl [HS2]
    · iexact HS2
    isplitl [H0]
    · iexact H0
    isplitl [H1]
    · iexact H1
    isplitl [H2]
    · iexact H2
    isplitl [H3]
    · iexact H3
    isplitl [H4]
    · iexact H4
    isplitl [H5]
    · iexact H5
    iexact H6
  · unfold Ow
    iintro ⟨⟨HG, HU, HS0, Hq⟩, ⟨%W', HW'⟩, HS1, HS2, H0, H1, H2, H3, H4, H5, H6⟩
    isplitl [HS0 HS1 HS2 Hg Hq HG HU]
    · isplitl [HS0 HS1 HS2]
      · isplitl [HS0]
        · iexact HS0
        isplitl [HS1]
        · iexact HS1
        · iexact HS2
      isplitl [Hg]
      · iexact Hg
      isplitl [Hq]
      · iexact Hq
      isplitl [HG]
      · iexact HG
      · iexact HU
    isplitl [HW']
    · iexists W'
      isplitr
      · ipureintro; exact fun _ _ => Or.inl trivial
      · iexact HW'
    isplitl [H0]
    · iapply (post0 m c t); iexact H0
    isplitl [H1]
    · iapply (post1 m c t); iexact H1
    isplitl [H2]
    · iapply (post2 m c t); iexact H2
    isplitl [H3]
    · iapply (post3 m c t); iexact H3
    isplitl [H4]
    · iapply (post4 m c t); iexact H4
    isplitl [H5]
    · iapply (post5 m c t); iexact H5
    iapply (post6 m c t); iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The program ends with its arguments as they were, every semaphore at zero, and the result the kernel computes. -/
theorem run : θ_run defs (onTc (τ := τ) (main (F := F))) ⟨m, fun _ => 0, ρ⟩ (fun r => FrameEnd m r ∧ ∀ c : Dev nD, r.2.mem ((c.tc : Thread nD τ).loc main_v5) = resV m c) :=
  (θ_run defs _ _).mono (fun r h => ⟨⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).1 0).trans (((dats m 0 c).arrAt_in 0 rfl _).trans ((A_eq m c 0).trans (V_main_arg7 m c)))⟩, h.2⟩,
    fun c => ((h.1 c).1 6).trans (arr6 m c)⟩) (run_main m ρ)

theorem frame : θ_run defs (onTc (τ := τ) (main (F := F))) ⟨m, fun _ => 0, ρ⟩ (FrameEnd m) :=
  (θ_run defs _ _).mono (fun _ h => h.1) (run m ρ)

end Cert.KernelIdeal.Hand

end
-- ==== Proof.Acc.lean ====
/- The matrix unit's result rows after a block: sums of products, one term for each step that deposited there. -/
module

public import proofs.«01_k».proof.Proof.Outer
public import Idealize.ShloMosaic.Lib.Pointwise

@[expose] public section

noncomputable section

namespace Cert.KernelIdeal.Hand

open Idealize.ShloMosaic Idealize.SL.Sem
open Cert.KernelIdeal Cert.KernelIdeal.Gen
open scoped BigOperators

/-- Result row `r` of group `a` of unit `q`. -/
def rd (s : Mxu Ideal) (q : Fin 2) (a : ℕ) (ha : a < 12) (r : Fin 32) (C : Fin 256) : EReal :=
  s.acc q ⟨32 * a + r.val, by omega⟩ C

/-- A row of the left value times a column of the right one. -/
def dotT (x : FVec Ideal S32x256 .bf16) (v : FVec Ideal S256x256 .bf16) (r : Fin 32) (C : Fin 256) : EReal :=
  ∑ l : Fin 256, (x (ix2 r l) : EReal) * v (ix2 l C)

theorem deposit_ideal (s : Mxu Ideal) (q : Fin 2) (R : Fin 1024) (C : Fin 256) (x : EReal) :
    (Mxu.deposit (s.live q R) (s.acc q R C) x : EReal) = (s.acc q R C : EReal) + x := by
  cases h : s.live q R with
  | true => rfl
  | false =>
    rw [s.clean q R C h]
    show x = Ideal.ofBits .f32 0 + x
    rw [show Ideal.ofBits .f32 0 = 0 from Ideal.ofBits_zero_f32, zero_add]

theorem pass_ideal (v : FVec Ideal S256x256 .bf16) (x : FVec Ideal S32x256 .bf16) (r : Fin 32) (C : Fin 256) :
    ((⟨.bf16, false, v⟩ : Mxu.Staged Ideal).pass (M := 32) x (ix2 r C) : EReal) = dotT x v r C := by
  show Ideal.mxuPass (DotDims.plain 32 256 256) x v (ix2 r C) = _
  have h := Ideal.matmul_apply₁ (DotDims.plain 32 256 256) (a := 1) rfl (K := 256) rfl x v (fun _ => 0) (ix2 r C)
  unfold Ideal.matmul at h
  rw [zero_add, zero_add] at h
  refine Eq.trans h ?_
  unfold dotT
  refine Finset.sum_congr rfl fun l _ => ?_
  pointwise

variable {q' r' : Fin 2} {A : ℕ} {hA : Mxu.Fits A 32} {z : FVec Ideal S64x256 .bf16} {s : Mxu Ideal} {v : FVec Ideal S256x256 .bf16}
  {x : FVec Ideal S32x256 .bf16}

theorem staged_stP (hs : Clean s) : (stP q' r' s v).staged q' r' = ⟨.bf16, false, v⟩ := by
  unfold stP
  rw [Mxu.staged_eq, Mxu.reg_pushed_of_none (hn := hs q' r')]
  rfl

theorem rd_stA (hs : Clean s) (b : ℕ) (hb : A = 8 * b) (q : Fin 2) (a : ℕ) (ha : a < 12) (r : Fin 32) (C : Fin 256) :
    rd (stA q' r' A hA s v x) q a ha r C = rd s q a ha r C + if q = q' ∧ a = b then dotT x v r C else 0 := by
  unfold rd stA Mxu.accLhs Mxu.accBy
  dsimp only
  rw [staged_stP hs, show (stP q' r' s v).acc = s.acc from Mxu.acc_pushed _ _ _ _ _, show (stP q' r' s v).live = s.live from Mxu.live_pushed _ _ _ _ _]
  subst hb
  by_cases h : q = q' ∧ a = b
  · obtain ⟨rfl, rfl⟩ := h
    have hr := r.isLt
    rw [dif_pos ⟨rfl, by show 4 * (8 * a) ≤ 32 * a + r.val; omega, by show 32 * a + r.val < 4 * (8 * a) + 32; omega⟩, if_pos ⟨rfl, rfl⟩, deposit_ideal]
    refine congrArg _ ?_
    rw [← pass_ideal]
    refine congrArg _ ?_
    rw [show (⟨32 * a + r.val - 4 * (8 * a), by omega⟩ : Fin 32) = r from Fin.ext (by show 32 * a + r.val - 4 * (8 * a) = r.val; omega)]
    funext i
    fin_cases i <;> rfl
  · rw [if_neg h, add_zero, dif_neg]
    rintro ⟨h1, h2, h3⟩
    have hr := r.isLt
    exact h ⟨h1, by omega⟩

theorem rd_stJ (hs : Clean s) (b : ℕ) (hb : A = 8 * b) (q : Fin 2) (a : ℕ) (ha : a < 12) (r : Fin 32) (C : Fin 256) :
    rd (stJ q' r' A hA z s v x) q a ha r C = rd s q a ha r C + if q = q' ∧ a = b then dotT x v r C else 0 := by
  rw [← rd_stA (hA := hA) hs b hb]
  unfold stJ
  generalize stA q' r' A hA s v x = s1
  generalize (stP q' r' s v).staged q' r' = t
  unfold rd Mxu.accBy
  dsimp only
  rw [dif_neg]
  rintro ⟨_, h2, _⟩
  have hr := r.isLt
  omega

variable {h' : IVec S8x8x256 32} {pl : Pl} {G U : Planes Ideal} {X : Xp Ideal} {n cc : ℕ}

theorem rd_St (hs : Clean s) (q : Fin 2) (a : ℕ) (ha : a < 12) (r : Fin 32) (C : Fin 256) : ∀ j,
    rd (St h' pl z G U X n cc s j) q a ha r C = rd s q a ha r C + ∑ i ∈ Finset.range j, if q = unitOf i ∧ a = 6 * (i / 10 % 2) + i / 2 % 5 then
      dotT (ldX X cc (i / 20)) (codeAt h' pl G U n cc i) r C else 0
  | 0 => by simp [St]
  | j + 1 => by
    rw [St, rd_stJ (A := addrOf j) (clean_St hs j) (6 * (j / 10 % 2) + j / 2 % 5) rfl, rd_St hs q a ha r C j, Finset.sum_range_succ, add_assoc]

theorem rd_StF (hs : Clean s) (q : Fin 2) (a : ℕ) (ha : a < 12) (r : Fin 32) (C : Fin 256) : ∀ j,
    rd (StF h' G U X n cc s j) q a ha r C = rd s q a ha r C + ∑ i ∈ Finset.range j, if q = unitOf i ∧ a = 6 * (i / 2 % 2) + 5 then
      dotT (ldX X cc (i / 4)) (singleCode h' (ldW (armOf G U (i % 2)) n cc 4 (i / 4) (i / 2 % 2))) r C else 0
  | 0 => by simp [StF]
  | j + 1 => by
    rw [StF, rd_stA (A := addrFix j) (clean_StF hs j) (6 * (j / 2 % 2) + 5) rfl, rd_StF hs q a ha r C j, Finset.sum_range_succ, add_assoc]

/-- A sum over `J * T` steps of which one of each `T` counts. -/
theorem sum_pick (J T : ℕ) (t : ℕ) (ht : t < T) (p : ℕ → Prop) [DecidablePred p] (f : ℕ → EReal) (hp : ∀ j < J, ∀ i < T, p (j * T + i) ↔ i = t) :
    (∑ i ∈ Finset.range (J * T), if p i then f i else 0) = ∑ j ∈ Finset.range J, f (j * T + t) := by
  rw [Finset.sum_range, Fin.sum_univ_tiles J T rfl, Finset.sum_range]
  refine Finset.sum_congr rfl fun j _ => ?_
  rw [Finset.sum_eq_single (⟨t, ht⟩ : Fin T)]
  · exact if_pos ((hp j j.isLt t ht).mpr rfl)
  · intro i _ hi
    exact if_neg fun hh => hi (Fin.ext ((hp j j.isLt i i.isLt).mp hh))
  · intro hh; exact absurd (Finset.mem_univ _) hh

/-- What a chunk adds to the five code segments. -/
theorem rd_St80 (hs : Clean s) (q : Fin 2) (t g : ℕ) (ht : t < 2) (hg : g < 5) (r : Fin 32) (C : Fin 256) :
    rd (St h' pl z G U X n cc s 80) q (6 * t + g) (by omega) r C = rd s q (6 * t + g) (by omega) r C +
      ∑ k ∈ Finset.range 4, dotT (ldX X cc k) (segCode h' pl (armOf G U q) n cc k t g) r C := by
  rw [rd_St hs]
  refine congrArg _ ?_
  have hq := q.isLt
  rw [sum_pick 4 20 (10 * t + 2 * g + q.val) (by omega) (fun i => q = unitOf i ∧ 6 * t + g = 6 * (i / 10 % 2) + i / 2 % 5)]
  · refine Finset.sum_congr rfl fun k hk => ?_
    unfold codeAt
    rw [show (k * 20 + (10 * t + 2 * g + q.val)) / 20 = k by omega, show (k * 20 + (10 * t + 2 * g + q.val)) % 2 = q.val by omega,
      show (k * 20 + (10 * t + 2 * g + q.val)) / 10 % 2 = t by omega, show (k * 20 + (10 * t + 2 * g + q.val)) / 2 % 5 = g by omega]
  · intro j hj i hi
    rw [Fin.ext_iff]
    show q.val = (j * 20 + i) % 2 ∧ _ ↔ _
    omega

/-- A chunk's steps add nothing to the group of the extra steps. -/
theorem rd_St80_fix (hs : Clean s) (q : Fin 2) (t : ℕ) (ht : t < 2) (r : Fin 32) (C : Fin 256) :
    rd (St h' pl z G U X n cc s 80) q (6 * t + 5) (by omega) r C = rd s q (6 * t + 5) (by omega) r C := by
  rw [rd_St hs, Finset.sum_eq_zero, add_zero]
  intro i _
  exact if_neg fun h => by omega

/-- The extra steps add nothing to the code segments. -/
theorem rd_StF16 (hs : Clean s) (q : Fin 2) (t g : ℕ) (ht : t < 2) (hg : g < 5) (r : Fin 32) (C : Fin 256) :
    rd (StF h' G U X n cc s 16) q (6 * t + g) (by omega) r C = rd s q (6 * t + g) (by omega) r C := by
  rw [rd_StF hs, Finset.sum_eq_zero, add_zero]
  intro i _
  exact if_neg fun h => by omega

theorem rd_StF16_fix (hs : Clean s) (q : Fin 2) (t : ℕ) (ht : t < 2) (r : Fin 32) (C : Fin 256) :
    rd (StF h' G U X n cc s 16) q (6 * t + 5) (by omega) r C = rd s q (6 * t + 5) (by omega) r C +
      ∑ k ∈ Finset.range 4, dotT (ldX X cc k) (singleCode h' (ldW (armOf G U q) n cc 4 k t)) r C := by
  rw [rd_StF hs]
  refine congrArg _ ?_
  have hq := q.isLt
  rw [sum_pick 4 4 (2 * t + q.val) (by omega) (fun i => q = unitOf i ∧ 6 * t + 5 = 6 * (i / 2 % 2) + 5)]
  · refine Finset.sum_congr rfl fun k hk => ?_
    rw [show (k * 4 + (2 * t + q.val)) / 4 = k by omega, show (k * 4 + (2 * t + q.val)) % 2 = q.val by omega,
      show (k * 4 + (2 * t + q.val)) / 2 % 2 = t by omega]
  · intro j hj i hi
    rw [Fin.ext_iff]
    show q.val = (j * 4 + i) % 2 ∧ _ ↔ _
    omega

variable {fx : Prop} [Decidable fx]

/-- The code segments' rows after `k` chunks. -/
theorem rd_chunk (hs : Clean s) (q : Fin 2) (t g : ℕ) (ht : t < 2) (hg : g < 5) (r : Fin 32) (C : Fin 256) : ∀ k,
    rd (chunkSt fx h' pl G U X n s k) q (6 * t + g) (by omega) r C = rd s q (6 * t + g) (by omega) r C +
      ∑ c ∈ Finset.range k, ∑ i ∈ Finset.range 4, dotT (ldX X c i) (segCode h' pl (armOf G U q) n c i t g) r C
  | 0 => by simp [chunkSt]
  | k + 1 => by
    rw [chunkSt, endSt, Finset.sum_range_succ, ← add_assoc, ← rd_chunk hs q t g ht hg r C k]
    split
    · rw [rd_StF16 (clean_St (clean_chunkSt hs k) 80) q t g ht hg, rd_St80 (clean_chunkSt hs k) q t g ht hg]
    · rw [rd_St80 (clean_chunkSt hs k) q t g ht hg]

/-- The extra steps' rows after `k` chunks. -/
theorem rd_chunk_fix (hs : Clean s) (q : Fin 2) (t : ℕ) (ht : t < 2) (r : Fin 32) (C : Fin 256) : ∀ k,
    rd (chunkSt fx h' pl G U X n s k) q (6 * t + 5) (by omega) r C = rd s q (6 * t + 5) (by omega) r C +
      ∑ c ∈ Finset.range k, ∑ i ∈ Finset.range 4, if fx then dotT (ldX X c i) (singleCode h' (ldW (armOf G U q) n c 4 i t)) r C else 0
  | 0 => by simp [chunkSt]
  | k + 1 => by
    rw [chunkSt, endSt, Finset.sum_range_succ, ← add_assoc, ← rd_chunk_fix hs q t ht r C k]
    split
    · rw [rd_StF16_fix (clean_St (clean_chunkSt hs k) 80) q t ht, rd_St80_fix (clean_chunkSt hs k) q t ht]
      simp only [if_pos (of_decide_eq_true ‹decide fx = true›)]
    · rw [rd_St80_fix (clean_chunkSt hs k) q t ht]
      simp only [if_neg (fun h => ‹¬decide fx = true› (decide_eq_true h)), Finset.sum_const_zero, add_zero]

theorem clean_init : Clean (Mxu.init : Mxu Ideal) := fun _ _ => Mxu.reg_init _ _
theorem rd_init (q : Fin 2) (a : ℕ) (ha : a < 12) (r : Fin 32) (C : Fin 256) : rd (Mxu.init : Mxu Ideal) q a ha r C = 0 := by
  show Ideal.ofBits .f32 0 = 0
  exact Ideal.ofBits_zero_f32

end Cert.KernelIdeal.Hand
-- ==== Proof.Tile.lean ====
/- The block's two tiles read at an index. -/
module

public import proofs.«01_k».proof.Proof.Acc

@[expose] public section

noncomputable section

namespace Cert.KernelIdeal.Hand

open Idealize.ShloMosaic Idealize.SL.Sem
open Cert.KernelIdeal Cert.KernelIdeal.Gen

/-- The weight of a plane in a row of width `w`: `k` is the exponent of plane zero. -/
def cfW (k s w : BitVec 32) : BitVec 32 := Scalar.select (IntOp.cmpi .slt s w) (Scalar.shli 1#32 (Scalar.subi k s)) 0#32
/-- The row's sum over the planes from the six groups of result rows. -/
def totE (w hi s0 s1 s2 : BitVec 32) (R0 R1 R2 R3 R4 R5 : EReal) : EReal :=
  R0 * Ideal.ofBits .f32 1107296256#32 + (((cfW 6#32 hi w).toInt : ℝ) : EReal) * R1 + (((cfW 7#32 s0 w).toInt : ℝ) : EReal) * R2 +
    (((cfW 7#32 s1 w).toInt : ℝ) : EReal) * R3 + (((cfW 7#32 s2 w).toInt : ℝ) : EReal) * R4 -
    Scalar.select (IntOp.andi (IntOp.cmpi .eq w 4#32) (Scalar.cmpi .eq hi 3#32)) (Ideal.ofBits .f32 1090519040#32 * R5) 0
/-- The middle of the row's range. -/
def midE (w : BitVec 32) : EReal := ((((IntOp.shli .vector 1#32 (IntOp.subi 8#32 w)).toInt : ℝ) : EReal) - 1) * Ideal.ofBits .f32 1056964608#32
/-- One of the two products. -/
def armE (sc tot mid z S : EReal) : EReal := sc * (tot + (mid - z) * S)
/-- The result from the two products. -/
def outE (g u : EReal) : EReal := g * Ideal.logistic g * u

/-- The weighted sum of unit `q`, tile `t`. -/
def totS (w hi s0 s1 s2 : BitVec 32) (s : Mxu Ideal) (q : Fin 2) (t : ℕ) (ht : t < 2) (r : Fin 32) (C : Fin 256) : EReal :=
  totE w hi s0 s1 s2 (rd s q (6 * t + 0) (by omega) r C) (rd s q (6 * t + 1) (by omega) r C) (rd s q (6 * t + 2) (by omega) r C) (rd s q (6 * t + 3) (by omega) r C)
    (rd s q (6 * t + 4) (by omega) r C) (rd s q (6 * t + 5) (by omega) r C)

theorem read_rd (s : Mxu Ideal) (q : Fin 2) (A : ℕ) (h : Mxu.Fits A 32) (a : ℕ) (ha : a < 12) (e : A = 8 * a) (r : Fin 32) (C : Fin 256) :
    s.read q A h (ix2 r C) = rd s q a ha r C := by
  subst e
  unfold rd
  show s.acc q _ _ = _
  congr 1
  exact Fin.ext (by show 4 * (8 * a) + r.val = 32 * a + r.val; omega)

variable {v111 : IVec S32x256 32} {v132 v134 v136 v138 : BitVec 32} {s : Mxu Ideal} {S : Vec Ideal S24x128 .f32} {a3 a2 a5 a4 : Vec Ideal S1x256 .f32}

theorem tile0_apply (r : Fin 24) (C : Fin 256) (w : BitVec 32) (hw : v111 (ix2 ⟨r.val, by omega⟩ C) = w) (z : EReal) (hS : ∀ q : Fin 128, S (ix2 r q) = z) :
    (tile0 (F := Ideal) v111 v132 v134 v136 v138 s S a3 a2 a5 a4 (ix2 r C) : EReal) =
      outE (armE (a2 (ix2 0 C)) (totS w v132 v134 v136 v138 s 0 0 (by omega) ⟨r.val, by omega⟩ C) (midE w) (a3 (ix2 0 C)) z)
        (armE (a4 (ix2 0 C)) (totS w v132 v134 v136 v138 s 1 0 (by omega) ⟨r.val, by omega⟩ C) (midE w) (a5 (ix2 0 C)) z) := by
  subst hw
  unfold totS
  simp only [← read_rd s _ 0 fits_0_32 (6 * 0 + 0) (by omega) rfl, ← read_rd s _ 8 fits_8_32 (6 * 0 + 1) (by omega) rfl, ← read_rd s _ 16 fits_16_32 (6 * 0 + 2) (by omega) rfl,
    ← read_rd s _ 24 fits_24_32 (6 * 0 + 3) (by omega) rfl, ← read_rd s _ 32 fits_32_32 (6 * 0 + 4) (by omega) rfl, ← read_rd s _ 40 fits_40_32 (6 * 0 + 5) (by omega) rfl]
  pointwise [tile0, k0_pay741, k0_pay742, k0_pay743, k0_pay744, k0_pay745, k0_pay746, k0_pay747, k0_pay748, k0_pay749, k0_pay750, k0_pay751]
  simp only [hS, dite_eq_ite, ite_self]
  simp (disch := decide) only [mx416, mx417, mx418, mx419, mx420, mx421, mx422, mx423, mx424, mx425, mx426, mx427, mx428, Mxu.read_pop_ne]
  rfl

theorem tile1_apply (r : Fin 24) (C : Fin 256) (w : BitVec 32) (hw : v111 (ix2 ⟨r.val, by omega⟩ C) = w) (z : EReal) (hS : ∀ q : Fin 128, S (ix2 r q) = z) :
    (tile1 (F := Ideal) v111 v132 v134 v136 v138 s S a3 a2 a5 a4 (ix2 r C) : EReal) =
      outE (armE (a2 (ix2 0 C)) (totS w v132 v134 v136 v138 s 0 1 (by omega) ⟨r.val, by omega⟩ C) (midE w) (a3 (ix2 0 C)) z)
        (armE (a4 (ix2 0 C)) (totS w v132 v134 v136 v138 s 1 1 (by omega) ⟨r.val, by omega⟩ C) (midE w) (a5 (ix2 0 C)) z) := by
  subst hw
  unfold totS
  simp only [← read_rd s _ 48 fits_48_32 (6 * 1 + 0) (by omega) rfl, ← read_rd s _ 56 fits_56_32 (6 * 1 + 1) (by omega) rfl, ← read_rd s _ 64 fits_64_32 (6 * 1 + 2) (by omega) rfl,
    ← read_rd s _ 72 fits_72_32 (6 * 1 + 3) (by omega) rfl, ← read_rd s _ 80 fits_80_32 (6 * 1 + 4) (by omega) rfl, ← read_rd s _ 88 fits_88_32 (6 * 1 + 5) (by omega) rfl]
  pointwise [tile1, k0_pay1, k0_pay741, k0_pay742, k0_pay743, k0_pay744, k0_pay747, k0_pay752, k0_pay753, k0_pay754, k0_pay755, k0_pay756]
  simp only [hS, dite_eq_ite, ite_self]
  simp (disch := decide) only [mx416, mx417, mx418, mx419, mx420, mx421, mx422, mx423, mx424, mx425, mx426, mx427, mx428, mx429, mx430, mx431, mx432, mx433, mx434, mx435,
    mx436, mx437, mx438, mx439, mx440, Mxu.read_pop_ne]
  rfl

end Cert.KernelIdeal.Hand
-- ==== Proof.Width.lean ====
/- The width of a row, from the counts of rows of each width. -/
module

public import Idealize.ShloMosaic.Lib.Pointwise

@[expose] public section

noncomputable section

namespace Cert.Hand

open Idealize.ShloMosaic

/-- One where `x` is at most `r`. -/
def leW (x r : BitVec 32) : BitVec 32 := BitVec.setWidth 32 (IntOp.cmpi .sle x r)

/-- Three and the number of groups that end at or before row `r`. -/
def widthW (a b c d e f r : BitVec 32) : BitVec 32 :=
  3#32 + leW a r + leW (a + b) r + leW (a + b + c) r + leW (a + b + c + d) r + leW (a + b + c + d + e) r + leW (a + b + c + d + e + f) r

theorem width_bools : ∀ b0 b1 b2 b3 b4 b5 : Bool,
    3#32 + BitVec.setWidth 32 (BitVec.ofBool b0) + BitVec.setWidth 32 (BitVec.ofBool b1) + BitVec.setWidth 32 (BitVec.ofBool b2) +
      BitVec.setWidth 32 (BitVec.ofBool b3) + BitVec.setWidth 32 (BitVec.ofBool b4) + BitVec.setWidth 32 (BitVec.ofBool b5) =
    BitVec.ofNat 32 (3 + b0.toNat + b1.toNat + b2.toNat + b3.toNat + b4.toNat + b5.toNat) := by decide

theorem width_ne : ∀ b0 b1 b2 b3 b4 b5 : Bool, (b1 → b0) → (b2 → b1) → (b3 → b2) → (b4 → b3) → (b5 → b4) →
    (3 ≤ 3 + b0.toNat + b1.toNat + b2.toNat + b3.toNat + b4.toNat + b5.toNat ∧ 3 + b0.toNat + b1.toNat + b2.toNat + b3.toNat + b4.toNat + b5.toNat ≤ 9) ∧
    (b1 = b0 → 3 + b0.toNat + b1.toNat + b2.toNat + b3.toNat + b4.toNat + b5.toNat ≠ 4) ∧
    (b2 = b1 → 3 + b0.toNat + b1.toNat + b2.toNat + b3.toNat + b4.toNat + b5.toNat ≠ 5) ∧
    (b3 = b2 → 3 + b0.toNat + b1.toNat + b2.toNat + b3.toNat + b4.toNat + b5.toNat ≠ 6) ∧
    (b4 = b3 → 3 + b0.toNat + b1.toNat + b2.toNat + b3.toNat + b4.toNat + b5.toNat ≠ 7) := by decide

/-- Prefix sums that do not wrap are ordered. -/
theorem sle_add {p q r : BitVec 32} (h : p.toNat + q.toNat < 2 ^ 31) (h' : (p + q).sle r = true) : p.sle r = true := by
  have e : (p + q).toNat = p.toNat + q.toNat := by rw [BitVec.toNat_add]; omega
  rw [BitVec.sle_iff_toInt_le] at h' ⊢
  rw [BitVec.toInt_eq_toNat_of_lt (by omega)] at h' ⊢
  omega

/-- A row's width is one of 3 … 9, and not one that has no rows. -/
theorem width_cases (a b c d e f r : BitVec 32) (ha : a.toNat < 2 ^ 28) (hb : b.toNat < 2 ^ 28) (hc : c.toNat < 2 ^ 28) (hd : d.toNat < 2 ^ 28)
    (he : e.toNat < 2 ^ 28) (hf : f.toNat < 2 ^ 28) : ∃ w : ℕ, (3 ≤ w ∧ w ≤ 9) ∧ widthW a b c d e f r = BitVec.ofNat 32 w ∧
      (b = 0#32 → w ≠ 4) ∧ (c = 0#32 → w ≠ 5) ∧ (d = 0#32 → w ≠ 6) ∧ (e = 0#32 → w ≠ 7) := by
  have n1 : (a + b).toNat = a.toNat + b.toNat := by rw [BitVec.toNat_add]; omega
  have n2 : (a + b + c).toNat = a.toNat + b.toNat + c.toNat := by rw [BitVec.toNat_add, n1]; omega
  have n3 : (a + b + c + d).toNat = a.toNat + b.toNat + c.toNat + d.toNat := by rw [BitVec.toNat_add, n2]; omega
  have n4 : (a + b + c + d + e).toNat = a.toNat + b.toNat + c.toNat + d.toNat + e.toNat := by rw [BitVec.toNat_add, n3]; omega
  obtain ⟨h1, h2, h3, h4, h5⟩ := width_ne (a.sle r) ((a + b).sle r) ((a + b + c).sle r) ((a + b + c + d).sle r) ((a + b + c + d + e).sle r) ((a + b + c + d + e + f).sle r)
    (sle_add (by omega)) (sle_add (by omega)) (sle_add (by omega)) (sle_add (by omega)) (sle_add (by omega))
  refine ⟨_, h1, width_bools _ _ _ _ _ _, fun h => h2 ?_, fun h => h3 ?_, fun h => h4 ?_, fun h => h5 ?_⟩ <;> rw [h, BitVec.add_zero]

end Cert.Hand
-- ==== Proof.Ref.lean ====
/- The reference's result read at an index. -/
module

public import proofs.«01_k».proof.Proof.Gen.ReferenceIdeal.Run
public import proofs.«01_k».proof.Proof.Width

@[expose] public section

noncomputable section

namespace Cert.ReferenceIdeal.Value

open Idealize.ShloMosaic Idealize.SL.Sem
open Cert.ReferenceIdeal Cert.ReferenceIdeal.Gen

/-- The row's width. -/
def widthR (cnt : IVec S6 32) : IVec S24 32 :=
  addi (broadcastInDim S24 ![] bcast_S_S24 (constantI S_ 32 3#32)) (Host.reduce IntOp.addi (extui 32 (cmpi .sle (broadcastInDim S24x6 ![0, 1] bcast_S1x6_S24x6_0_1 (broadcastInDim S1x6 ![1] bcast_S6_S1x6_1 (Host.reduceWindow IntOp.addi ![6] ![1] ![5] ![0] cnt (broadcastInDim S_ ![] bcast_S_S_ (constantI S_ 32 0#32)) reduceWindows_S6_S6_w6s1p5_0 h_S_))) (broadcastInDim S24x6 ![0, 1] bcast_S24x1_S24x6_0_1 (broadcastInDim S24x1 ![0] bcast_S24_S24x1_0 (iotaInDim S24 32 0)))) natLt_1_32) (constantI S_ 32 0#32) reducesTo_S24x6_S24_d1 h_S_)
/-- The plane's weight in the row. -/
def coefR (cnt : IVec S6 32) : FVec Ideal S24x8 .f32 :=
  select (cmpi .slt (broadcastInDim S24x8 ![0, 1] bcast_S1x8_S24x8_0_1 (broadcastInDim S1x8 ![1] bcast_S8_S1x8_1 (iotaInDim S8 32 0))) (broadcastInDim S24x8 ![0, 1] bcast_S24x1_S24x8_0_1 (broadcastInDim S24x1 ![0] bcast_S24_S24x1_0 (widthR cnt)))) (broadcastInDim S24x8 ![0, 1] bcast_S1x8_S24x8_0_1 (broadcastInDim S1x8 ![1] bcast_S8_S1x8_1 (sitofp .f32 (Host.shli (broadcastInDim S8 ![] bcast_S_S8 (constantI S_ 32 1#32)) (subi (broadcastInDim S8 ![] bcast_S_S8 (constantI S_ 32 7#32)) (iotaInDim S8 32 0)))))) (broadcastInDim S24x8 ![] bcast_S_S24x8 (id (constant S_ .f32 0x00000000#32)))
/-- The planes' bits. -/
def bitsR (P : IVec S8x448x4096 32) : FVec Ideal S8x448x32x4096 .bf16 :=
  sitofp .bf16 (andi (Host.shrsi (broadcastInDim S8x448x32x4096 ![0, 1, 2, 3] bcast_S8x448x1x4096_S8x448x32x4096_0_1_2_3 (broadcastInDim S8x448x1x4096 ![0, 1, 3] bcast_S8x448x4096_S8x448x1x4096_0_1_3 P)) (broadcastInDim S8x448x32x4096 ![0, 1, 2, 3] bcast_S1x1x32x1_S8x448x32x4096_0_1_2_3 (broadcastInDim S1x1x32x1 ![2] bcast_S32_S1x1x32x1_2 (iotaInDim S32 32 0)))) (broadcastInDim S8x448x32x4096 ![] bcast_S_S8x448x32x4096 (constantI S_ 32 1#32)))
/-- The activations, a row of words of 32. -/
def x3R (x : FVec Ideal S24x1x14336 .bf16) : FVec Ideal S24x448x32 .bf16 :=
  shapeCast _ (shapeCast _ x shapeCasts_S24x1x14336_S24x14336) shapeCasts_S24x14336_S24x448x32
/-- The row's product with each plane. -/
def dotR (x : FVec Ideal S24x1x14336 .bf16) (P : IVec S8x448x4096 32) : FVec Ideal S8x24x4096 .f32 :=
  transpose S8x24x4096 [0, 2, 1] (Host.dotGeneral dot_S8x448x32x4096_S24x448x32_S8x4096x24_21_21_03_0_n_n none (bitsR P) (x3R x)) transposes_S8x4096x24_S8x24x4096_0_2_1
/-- The weighted sum over the planes. -/
def accR (cnt : IVec S6 32) (x : FVec Ideal S24x1x14336 .bf16) (P : IVec S8x448x4096 32) : FVec Ideal S24x4096 .f32 :=
  Host.reduceAdd (mulf (broadcastInDim S8x24x4096 ![0, 1, 2] bcast_S8x24x1_S8x24x4096_0_1_2 (broadcastInDim S8x24x1 ![0, 1] bcast_S8x24_S8x24x1_0_1 (transpose S8x24 [1, 0] (coefR cnt) transposes_S24x8_S8x24_1_0))) (dotR x P)) (constant S_ .f32 0x00000000#32) reducesTo_S8x24x4096_S24x4096_d0 h_S_
/-- The middle of the row's range. -/
def midR (cnt : IVec S6 32) : FVec Ideal S24 .f32 :=
  mulf (subf (sitofp .f32 (Host.shli (broadcastInDim S24 ![] bcast_S_S24 (constantI S_ 32 1#32)) (subi (broadcastInDim S24 ![] bcast_S_S24 (constantI S_ 32 8#32)) (widthR cnt)))) (broadcastInDim S24 ![] bcast_S_S24 (constant S_ .f32 0x3F800000#32))) (broadcastInDim S24 ![] bcast_S_S24 (constant S_ .f32 0x3F000000#32))
/-- The row's sum. -/
def rowR (x : FVec Ideal S24x1x14336 .bf16) : FVec Ideal S24 .f32 :=
  Host.reduceAdd (extf .f32 (shapeCast _ x shapeCasts_S24x1x14336_S24x14336) bitsLt_bf16_f32) (constant S_ .f32 0x00000000#32) reducesTo_S24x14336_S24_d1 h_S_
/-- One of the two products. -/
def gR (cnt : IVec S6 32) (x : FVec Ideal S24x1x14336 .bf16) (P : IVec S8x448x4096 32) (s z : FVec Ideal S4096 .f32) : FVec Ideal S24x4096 .f32 :=
  mulf (broadcastInDim S24x4096 ![0, 1] bcast_S1x4096_S24x4096_0_1 (broadcastInDim S1x4096 ![1] bcast_S4096_S1x4096_1 s)) (addf (accR cnt x P) (mulf (subf (broadcastInDim S24x4096 ![0, 1] bcast_S24x1_S24x4096_0_1 (broadcastInDim S24x1 ![0] bcast_S24_S24x1_0 (midR cnt))) (broadcastInDim S24x4096 ![0, 1] bcast_S1x4096_S24x4096_0_1 (broadcastInDim S1x4096 ![1] bcast_S4096_S1x4096_1 z))) (broadcastInDim S24x4096 ![0, 1] bcast_S24x1_S24x4096_0_1 (broadcastInDim S24x1 ![0] bcast_S24_S24x1_0 (rowR x)))))
/-- The result from the two products. -/
def outR (g u : FVec Ideal S24x4096 .f32) : FVec Ideal S24x4096 .bf16 :=
  truncf .bf16 (mulf (mulf g (Host.divf (broadcastInDim S24x4096 ![] bcast_S_S24x4096 (constant S_ .f32 0x3F800000#32)) (addf (broadcastInDim S24x4096 ![] bcast_S_S24x4096 (constant S_ .f32 0x3F800000#32)) (Host.exp (Host.negf g))))) u) bitsLt_bf16_f32

set_option maxRecDepth 8192 in
theorem res_eq (m : (ℓ : Loc nD τ sig) → Buf (Elt Ideal) ℓ) (c : Dev nD) : res_main_v95 m c =
    outR (gR (m ((c.tc : Thread nD τ).loc main_arg7)) (m ((c.tc : Thread nD τ).loc main_arg0)) (m ((c.tc : Thread nD τ).loc main_arg1)) (m ((c.tc : Thread nD τ).loc main_arg2)) (m ((c.tc : Thread nD τ).loc main_arg3)))
      (gR (m ((c.tc : Thread nD τ).loc main_arg7)) (m ((c.tc : Thread nD τ).loc main_arg0)) (m ((c.tc : Thread nD τ).loc main_arg4)) (m ((c.tc : Thread nD τ).loc main_arg5)) (m ((c.tc : Thread nD τ).loc main_arg6))) := by
  unfold res_main_v95
  rfl

/-- The count at place `k + n - 5`, zero outside. -/
def wsel (cnt : IVec S6 32) (k n : ℕ) : BitVec 32 := if h : 5 ≤ k + n ∧ k + n - 5 < 6 then cnt (ix1 ⟨k + n - 5, h.2⟩) else 0#32

theorem cumR (cnt : IVec S6 32) (v : IVec S_ 32) (hv : v (Shape.Idx.first h_S_) = 0#32) :
    (fun k : Fin 6 => Host.reduceWindow IntOp.addi ![6] ![1] ![5] ![0] cnt v reduceWindows_S6_S6_w6s1p5_0 h_S_ (ix1 k)) =
      ![cnt (ix1 0), cnt (ix1 0) + cnt (ix1 1), cnt (ix1 0) + cnt (ix1 1) + cnt (ix1 2), cnt (ix1 0) + cnt (ix1 1) + cnt (ix1 2) + cnt (ix1 3),
        cnt (ix1 0) + cnt (ix1 1) + cnt (ix1 2) + cnt (ix1 3) + cnt (ix1 4), cnt (ix1 0) + cnt (ix1 1) + cnt (ix1 2) + cnt (ix1 3) + cnt (ix1 4) + cnt (ix1 5)] := by
  funext k
  unfold Host.reduceWindow
  simp only [hv]
  refine Eq.trans (b := (List.finRange 6).foldl (fun r n => r + wsel cnt k.val n.val) 0#32) ?_ ?_
  · refine congrArg (fun F : BitVec 32 → Fin 6 → BitVec 32 => (List.finRange 6).foldl F 0#32) ?_
    funext r n
    refine congrArg (fun t => r + t) ?_
    have hs : ((⟨1, ![6]⟩ : Shape).rowMajor.symm n 0).val = n.val :=
      (Shape.rowMajor_val_one _).symm.trans (congrArg Fin.val (Equiv.apply_symm_apply _ _))
    unfold wsel
    refine dite_congr (propext ⟨fun h => ?_, fun h a => ?_⟩) (fun h => ?_) (fun h => rfl)
    · have h0 := h 0
      change 5 ≤ k.val * 1 + ((⟨1, ![6]⟩ : Shape).rowMajor.symm n 0).val ∧ k.val * 1 + ((⟨1, ![6]⟩ : Shape).rowMajor.symm n 0).val - 5 < 6 at h0
      omega
    · fin_cases a
      change 5 ≤ k.val * 1 + ((⟨1, ![6]⟩ : Shape).rowMajor.symm n 0).val ∧ k.val * 1 + ((⟨1, ![6]⟩ : Shape).rowMajor.symm n 0).val - 5 < 6
      omega
    · refine congrArg cnt (funext fun a => ?_)
      fin_cases a
      refine Fin.ext ?_
      change k.val * 1 + ((⟨1, ![6]⟩ : Shape).rowMajor.symm n 0).val - 5 = k.val + n.val - 5
      omega
  fin_cases k
  · refine Eq.trans (b := ((((((0#32 + 0#32) + 0#32) + 0#32) + 0#32) + 0#32) + cnt (ix1 0))) rfl ?_
    simp only [BitVec.add_zero, BitVec.zero_add]
    rfl
  · refine Eq.trans (b := ((((((0#32 + 0#32) + 0#32) + 0#32) + 0#32) + cnt (ix1 0)) + cnt (ix1 1))) rfl ?_
    simp only [BitVec.add_zero, BitVec.zero_add]
    rfl
  · refine Eq.trans (b := ((((((0#32 + 0#32) + 0#32) + 0#32) + cnt (ix1 0)) + cnt (ix1 1)) + cnt (ix1 2))) rfl ?_
    simp only [BitVec.add_zero, BitVec.zero_add]
    rfl
  · refine Eq.trans (b := ((((((0#32 + 0#32) + 0#32) + cnt (ix1 0)) + cnt (ix1 1)) + cnt (ix1 2)) + cnt (ix1 3))) rfl ?_
    simp only [BitVec.add_zero, BitVec.zero_add]
    rfl
  · refine Eq.trans (b := ((((((0#32 + 0#32) + cnt (ix1 0)) + cnt (ix1 1)) + cnt (ix1 2)) + cnt (ix1 3)) + cnt (ix1 4))) rfl ?_
    simp only [BitVec.add_zero, BitVec.zero_add]
    rfl
  · refine Eq.trans (b := ((((((0#32 + cnt (ix1 0)) + cnt (ix1 1)) + cnt (ix1 2)) + cnt (ix1 3)) + cnt (ix1 4)) + cnt (ix1 5))) rfl ?_
    simp only [BitVec.add_zero, BitVec.zero_add]
    rfl

theorem widthR_apply (cnt : IVec S6 32) (r : Fin 24) : widthR cnt (ix1 r) =
    Cert.Hand.widthW (cnt (ix1 0)) (cnt (ix1 1)) (cnt (ix1 2)) (cnt (ix1 3)) (cnt (ix1 4)) (cnt (ix1 5)) (BitVec.ofNat 32 r.val) := by
  have h := cumR cnt (broadcastInDim S_ ![] bcast_S_S_ (constantI S_ 32 0#32)) rfl
  pointwise [widthR]
  simp only [congrFun h]
  show 3#32 + (Cert.Hand.leW _ _ + (Cert.Hand.leW _ _ + (Cert.Hand.leW _ _ + (Cert.Hand.leW _ _ + (Cert.Hand.leW _ _ + (Cert.Hand.leW _ _ + 0#32)))))) = _
  unfold Cert.Hand.widthW
  simp only [BitVec.add_zero, BitVec.add_assoc]
  rfl

/-- The weight of plane `p` in a row of width `w`. -/
def cfR (p w : BitVec 32) : BitVec 32 := Scalar.select (IntOp.cmpi .slt p w) (IntOp.shli .host 1#32 (IntOp.subi 7#32 p)) 0#32

theorem coefR_apply (cnt : IVec S6 32) (r : Fin 24) (p : Fin 8) : (coefR cnt (ix2 r p) : EReal) = (((cfR (BitVec.ofNat 32 p.val) (widthR cnt (ix1 r))).toInt : ℝ) : EReal) := by
  pointwise [coefR]
  unfold cfR Scalar.select
  split
  · rfl
  · refine Eq.trans Ideal.ofBits_zero_f32 ?_
    simp

theorem bitsR_apply (P : IVec S8x448x4096 32) (p : Fin 8) (w : Fin 448) (j : Fin 32) (n : Fin 4096) :
    (bitsR P (ix4 p w j n) : EReal) = ((((P (ix3 p w n)).getLsbD j.val).toNat : ℝ) : EReal) := by
  pointwise [bitsR]
  have h : ∀ (b : BitVec 32) (j : Fin 32), (IntOp.andi (IntOp.shrsi .host b (BitVec.ofNat 32 j.val)) 1#32).toInt = ((b.getLsbD j.val).toNat : ℤ) := by
    intro b j
    have hj := j.isLt
    have e : IntOp.andi (IntOp.shrsi .host b (BitVec.ofNat 32 j.val)) 1#32 = BitVec.setWidth 32 (BitVec.ofBool (b.getLsbD j.val)) := by
      apply BitVec.eq_of_getLsbD_eq
      intro i hi
      have hn : (BitVec.ofNat 32 j.val).toNat = j.val := by rw [BitVec.toNat_ofNat]; omega
      cases i with
      | zero => simp [IntOp.andi, IntOp.shrsi, hn, hj, BitVec.getElem_sshiftRight, BitVec.getLsbD_eq_getElem hj]
      | succ i => simp [IntOp.andi, IntOp.shrsi, hn, hj, BitVec.getLsbD_ofBool]
    rw [e]
    cases b.getLsbD j.val <;> rfl
  show (((IntOp.andi (IntOp.shrsi .host (P (ix3 p w n)) (BitVec.ofNat 32 j.val)) 1#32).toInt : ℝ) : EReal) = _
  rw [h]
  simp

theorem dotR_apply (x : FVec Ideal S24x1x14336 .bf16) (P : IVec S8x448x4096 32) (p : Fin 8) (r : Fin 24) (n : Fin 4096) :
    (dotR x P (ix3 p r n) : EReal) = ∑ w : Fin 448, ∑ j : Fin 32, ((((P (ix3 p w n)).getLsbD j.val).toNat : ℝ) : EReal) * x (ix3 r 0 ⟨w.val * 32 + j.val, by omega⟩) := by
  have h : ∀ w j, (x3R x (ix3 r w j) : EReal) = x (ix3 r 0 ⟨w.val * 32 + j.val, by omega⟩) := by
    intro w j
    pointwise [x3R]
  pointwise [dotR]
  rw [Finset.sum_comm]
  simp only [bitsR_apply, h]

theorem accR_apply (cnt : IVec S6 32) (x : FVec Ideal S24x1x14336 .bf16) (P : IVec S8x448x4096 32) (r : Fin 24) (n : Fin 4096) :
    (accR cnt x P (ix2 r n) : EReal) = ∑ p : Fin 8, (coefR cnt (ix2 r p) : EReal) * dotR x P (ix3 p r n) := by
  pointwise [accR]

theorem midR_apply (cnt : IVec S6 32) (r : Fin 24) :
    (midR cnt (ix1 r) : EReal) = ((((IntOp.shli .host 1#32 (IntOp.subi 8#32 (widthR cnt (ix1 r)))).toInt : ℝ) : EReal) - 1) * Ideal.ofBits .f32 1056964608#32 := by
  pointwise [midR]
  rfl

theorem rowR_apply (x : FVec Ideal S24x1x14336 .bf16) (r : Fin 24) : (rowR x (ix1 r) : EReal) = ∑ y : Fin 14336, (x (ix3 r 0 y) : EReal) := by
  pointwise [rowR]

theorem gR_apply (cnt : IVec S6 32) (x : FVec Ideal S24x1x14336 .bf16) (P : IVec S8x448x4096 32) (s z : FVec Ideal S4096 .f32) (r : Fin 24) (n : Fin 4096) :
    (gR cnt x P s z (ix2 r n) : EReal) = s (ix1 n) * (accR cnt x P (ix2 r n) + (midR cnt (ix1 r) - z (ix1 n)) * rowR x (ix1 r)) := by
  pointwise [gR]

theorem outR_apply (g u : FVec Ideal S24x4096 .f32) (r : Fin 24) (n : Fin 4096) :
    (outR g u (ix2 r n) : EReal) = g (ix2 r n) * Ideal.logistic (g (ix2 r n)) * u (ix2 r n) := by
  pointwise [outR]
  rfl

end Cert.ReferenceIdeal.Value
-- ==== Proof.Coef.lean ====
/- The kernel's groups of planes weighted are the planes weighted one by one. -/
module

public import proofs.«01_k».proof.Proof.Tile
public import proofs.«01_k».proof.Proof.Ref

@[expose] public section

noncomputable section

namespace Cert.KernelIdeal.Hand

open Idealize.ShloMosaic Idealize.SL.Sem
open Cert.KernelIdeal Cert.KernelIdeal.Gen
open Cert.ReferenceIdeal.Value (cfR)
open scoped BigOperators

theorem cf7_val : ∀ s : Fin 8, ∀ w : Fin 10, (cfW 7#32 (BitVec.ofNat 32 s.val) (BitVec.ofNat 32 w.val)).toInt = if s.val < w.val then 2 ^ (7 - s.val) else 0 := by decide +kernel
theorem cf6_val : ∀ s : Fin 7, ∀ w : Fin 10, (cfW 6#32 (BitVec.ofNat 32 s.val) (BitVec.ofNat 32 w.val)).toInt = if s.val < w.val then 2 ^ (6 - s.val) else 0 := by decide +kernel
theorem cfR_val : ∀ s : Fin 8, ∀ w : Fin 10, (cfR (BitVec.ofNat 32 s.val) (BitVec.ofNat 32 w.val)).toInt = if s.val < w.val then 2 ^ (7 - s.val) else 0 := by decide +kernel

theorem bits_32 : Ideal.ofBits .f32 1107296256#32 = ((32 : ℝ) : EReal) := by
  simp [Ideal.ofBits, Ideal.ieee, -EReal.coe_mul]; norm_num
theorem bits_8 : Ideal.ofBits .f32 1090519040#32 = ((8 : ℝ) : EReal) := by
  simp [Ideal.ofBits, Ideal.ieee, -EReal.coe_mul]; norm_num

/-- The single plane `i` (of three) when width `a` has no rows: the planes from 3 on, without the pair `a - 1`, `a`. -/
def snglN (a i : ℕ) : ℕ := if i + 3 < a - 1 then i + 3 else i + 5

/-- The correction's weight. -/
theorem fix_val : ∀ a w : Fin 10, IntOp.andi (IntOp.cmpi .eq (BitVec.ofNat 32 w.val) 4#32) (Scalar.cmpi .eq (BitVec.ofNat 32 (a.val - 1)) 3#32) =
    if w.val = 4 ∧ a.val - 1 = 3 then 1#1 else 0#1 := by decide +kernel

theorem coef_eq (B : ℕ → ℝ) (X4 : ℝ) (a w : ℕ) (ha : 4 ≤ a ∧ a ≤ 7) (hw : 3 ≤ w ∧ w ≤ 9) (h : (a ≠ w) ∨ (a = 4 ∧ X4 = B 4)) :
    totE (BitVec.ofNat 32 w) (BitVec.ofNat 32 (a - 1)) (BitVec.ofNat 32 (snglN a 0)) (BitVec.ofNat 32 (snglN a 1)) (BitVec.ofNat 32 (snglN a 2))
      ((4 * B 0 + 2 * B 1 + B 2 : ℝ) : EReal) ((2 * B (a - 1) + B a : ℝ) : EReal) ((B (snglN a 0) : ℝ) : EReal) ((B (snglN a 1) : ℝ) : EReal) ((B (snglN a 2) : ℝ) : EReal) (X4 : EReal) =
    ∑ p : Fin 8, (((cfR (BitVec.ofNat 32 p.val) (BitVec.ofNat 32 w)).toInt : ℝ) : EReal) * ((B p.val : ℝ) : EReal) := by
  have h7 : ∀ s : ℕ, s < 8 → (cfW 7#32 (BitVec.ofNat 32 s) (BitVec.ofNat 32 w)).toInt = if s < w then 2 ^ (7 - s) else 0 := fun s hs => cf7_val ⟨s, hs⟩ ⟨w, by omega⟩
  have h6 := cf6_val ⟨a - 1, by omega⟩ ⟨w, by omega⟩
  have hR : ∀ p : Fin 8, (cfR (BitVec.ofNat 32 p.val) (BitVec.ofNat 32 w)).toInt = if p.val < w then 2 ^ (7 - p.val) else 0 := fun p => cfR_val p ⟨w, by omega⟩
  have hf := fix_val ⟨a, by omega⟩ ⟨w, by omega⟩
  have hs : ∀ i, i < 3 → snglN a i < 8 := by intro i hi; unfold snglN; split <;> omega
  simp only at h6 hf
  unfold totE
  rw [h6, hf, h7 _ (hs 0 (by omega)), h7 _ (hs 1 (by omega)), h7 _ (hs 2 (by omega)), bits_32, bits_8]
  simp only [hR]
  have e : Scalar.select (if w = 4 ∧ a - 1 = 3 then 1#1 else 0#1) (((8 : ℝ) : EReal) * (X4 : EReal)) 0 = (((if w = 4 ∧ a - 1 = 3 then 8 * X4 else 0 : ℝ)) : EReal) := by
    split
    · rw [EReal.coe_mul]; rfl
    · rfl
  rw [e]
  simp only [← EReal.coe_mul, ← EReal.coe_add, ← EReal.coe_sub]
  rw [Fin.sum_univ_eight]
  simp only [← EReal.coe_add]
  congr 1
  obtain ⟨ha1, ha2⟩ := ha
  obtain ⟨hw1, hw2⟩ := hw
  interval_cases a <;> interval_cases w <;> simp [snglN] at h ⊢ <;> (try rw [h]) <;> ring

end Cert.KernelIdeal.Hand
-- ==== Proof.Counts.lean ====
/- What the counts decide. -/
module

public import proofs.«01_k».proof.Proof.Coef
public import proofs.«01_k».proof.Proof.Run

@[expose] public section

noncomputable section

namespace Cert.KernelIdeal.Hand

open Idealize.ShloMosaic Idealize.SL.Sem
open Cert.KernelIdeal Cert.KernelIdeal.Gen

theorem cnt_whole (c : Dev nD) (f : S6.Idx → Elt Ideal .i32) (k : Fin 6) (h : ∀ a, (![k.val] : Fin 1 → ℕ) a + S1.size a ≤ S6.size a) :
    cnt (F := Ideal) c (Memref.whole cc0_stg0_0) f ![k.val] h = f (ix1 k) := by
  show f _ = f _
  congr 1
  funext a
  fin_cases a
  exact Fin.ext (by show k.val + 1 * 0 = k.val; omega)

theorem V111_apply (c : Dev nD) (f : S6.Idx → Elt Ideal .i32) (r : Fin 32) (C : Fin 256) :
    V111 (F := Ideal) c (Memref.whole cc0_stg0_0) f (ix2 r C) =
      Cert.Hand.widthW (f (ix1 0)) (f (ix1 1)) (f (ix1 2)) (f (ix1 3)) (f (ix1 4)) (f (ix1 5)) (BitVec.ofNat 32 r.val) := by
  have h0 := cnt_whole c f 0 inb_S6_S1_0
  have h1 := cnt_whole c f 1 inb_S6_S1_1
  have h2 := cnt_whole c f 2 inb_S6_S1_2
  have h3 := cnt_whole c f 3 inb_S6_S1_3
  have h4 := cnt_whole c f 4 inb_S6_S1_4
  have h5 := cnt_whole c f 5 inb_S6_S1_5
  unfold V111 cA cB cC cD cE cF
  erw [h0, h1, h2, h3, h4, h5]
  generalize f (ix1 0) = a0
  generalize f (ix1 1) = a1
  generalize f (ix1 2) = a2
  generalize f (ix1 3) = a3
  generalize f (ix1 4) = a4
  generalize f (ix1 5) = a5
  pointwise [k0_pay759, k0_pay757, k0_pay758]
  unfold Cert.Hand.widthW Cert.Hand.leW
  have e : Scalar.addi 0#32 a0 = a0 := BitVec.zero_add _
  rw [e]
  rfl

/-- The planes read when width `a` has no rows. -/
def plN (a : ℕ) : Pl := ⟨a - 1, a, snglN a 0, snglN a 1, snglN a 2⟩

theorem word_cases : ∀ a : Fin 8, 4 ≤ a.val →
    Scalar.subi (BitVec.ofNat 32 a.val) 1#32 = BitVec.ofNat 32 (a.val - 1) ∧
    (∀ i : Fin 3, Scalar.select (Scalar.cmpi .sgt (Scalar.subi (BitVec.ofNat 32 a.val) 1#32) (BitVec.ofNat 32 (i.val + 3))) (BitVec.ofNat 32 (i.val + 3)) (BitVec.ofNat 32 (i.val + 5)) =
      BitVec.ofNat 32 (snglN a.val i.val)) ∧
    (Scalar.indexCast (BitVec.ofNat 32 (a.val - 1))).toNat = a.val - 1 ∧
    (Scalar.indexCast (Scalar.addi (BitVec.ofNat 32 (a.val - 1)) 1#32)).toNat = a.val ∧
    (∀ i : Fin 3, (Scalar.indexCast (BitVec.ofNat 32 (snglN a.val i.val))).toNat = snglN a.val i.val) := by decide +kernel

/-- What the kernel decides, given the width without rows. -/
theorem plan_of (w3 w4 w5 w6 : BitVec 32) (a : ℕ) (ha : 4 ≤ a ∧ a ≤ 7) (e : absW w3 w4 w5 w6 = BitVec.ofNat 32 a) :
    Scalar.subi (absW w3 w4 w5 w6) 1#32 = BitVec.ofNat 32 (a - 1) ∧
    sgW w3 w4 w5 w6 3#32 3#32 5#32 = BitVec.ofNat 32 (snglN a 0) ∧ sgW w3 w4 w5 w6 4#32 4#32 6#32 = BitVec.ofNat 32 (snglN a 1) ∧
    sgW w3 w4 w5 w6 5#32 5#32 7#32 = BitVec.ofNat 32 (snglN a 2) ∧ plOf w3 w4 w5 w6 = plN a := by
  obtain ⟨h1, h2, h3, h4, h5⟩ := word_cases ⟨a, by omega⟩ ha.1
  have s0 : sgW w3 w4 w5 w6 3#32 3#32 5#32 = BitVec.ofNat 32 (snglN a 0) := by unfold sgW; rw [e]; exact h2 0
  have s1 : sgW w3 w4 w5 w6 4#32 4#32 6#32 = BitVec.ofNat 32 (snglN a 1) := by unfold sgW; rw [e]; exact h2 1
  have s2 : sgW w3 w4 w5 w6 5#32 5#32 7#32 = BitVec.ofNat 32 (snglN a 2) := by unfold sgW; rw [e]; exact h2 2
  refine ⟨by rw [e]; exact h1, s0, s1, s2, ?_⟩
  have e1 : Scalar.subi (BitVec.ofNat 32 a) 1#32 = BitVec.ofNat 32 (a - 1) := h1
  have e3 : (Scalar.indexCast (BitVec.ofNat 32 (a - 1))).toNat = a - 1 := h3
  have e4 : (Scalar.indexCast (Scalar.addi (BitVec.ofNat 32 (a - 1)) 1#32)).toNat = a := h4
  have e50 : (Scalar.indexCast (BitVec.ofNat 32 (snglN a 0))).toNat = snglN a 0 := h5 0
  have e51 : (Scalar.indexCast (BitVec.ofNat 32 (snglN a 1))).toNat = snglN a 1 := h5 1
  have e52 : (Scalar.indexCast (BitVec.ofNat 32 (snglN a 2))).toNat = snglN a 2 := h5 2
  unfold plOf plN
  rw [s0, s1, s2, e, e1, e3, e4, e50, e51, e52]

theorem v131_bools : ∀ b3 b4 b5 b6 : Bool, (Scalar.cmpi .ne (Scalar.extui (Scalar.andi (Scalar.andi (Scalar.andi (Scalar.andi 1#1 (Scalar.xori (BitVec.ofBool b3) 1#1)) (Scalar.xori (BitVec.ofBool b4) 1#1)) (Scalar.xori (BitVec.ofBool b5) 1#1)) (Scalar.xori (BitVec.ofBool b6) 1#1)) : BitVec 32) 0#32 = 1#1) ↔
    (b3 = false ∧ b4 = false ∧ b5 = false ∧ b6 = false) := by decide

theorem absW_bools : ∀ b3 b4 b5 b6 : Bool, ∃ a : Fin 8, 4 ≤ a.val ∧ (Scalar.select (BitVec.ofBool b6) 4#32 (Scalar.select (BitVec.ofBool b5) 5#32 (Scalar.select (BitVec.ofBool b4) 6#32
    (Scalar.select (BitVec.ofBool b3) 7#32 4#32)))) = BitVec.ofNat 32 a.val ∧
    ((a.val = 4 ∧ b3 = false ∧ b4 = false ∧ b5 = false ∧ b6 = false) ∨ (¬(b3 = false ∧ b4 = false ∧ b5 = false ∧ b6 = false) ∧
      ((a.val = 4 ∧ b6 = true) ∨ (a.val = 5 ∧ b5 = true) ∨ (a.val = 6 ∧ b4 = true) ∨ (a.val = 7 ∧ b3 = true)))) := by
  intro b3 b4 b5 b6
  refine ⟨if b6 then 4 else if b5 then 5 else if b4 then 6 else if b3 then 7 else 4, ?_⟩
  revert b3 b4 b5 b6
  decide

/-- Either every width has rows, and the extra steps run, or the width `a` has none. -/
theorem plan_cases (w3 w4 w5 w6 : BitVec 32) (w : ℕ) (h6 : w6 = 0#32 → w ≠ 4) (h5 : w5 = 0#32 → w ≠ 5) (h4 : w4 = 0#32 → w ≠ 6) (h3 : w3 = 0#32 → w ≠ 7) :
    ∃ a : ℕ, (4 ≤ a ∧ a ≤ 7) ∧ absW w3 w4 w5 w6 = BitVec.ofNat 32 a ∧ ((a = 4 ∧ (Scalar.cmpi .ne (Scalar.extui (V131 w3 w4 w5 w6) : BitVec 32) 0#32 = 1#1)) ∨ a ≠ w) := by
  obtain ⟨a, ha, e, h⟩ := absW_bools (w3 == 0#32) (w4 == 0#32) (w5 == 0#32) (w6 == 0#32)
  refine ⟨a.val, ⟨ha, by omega⟩, e, ?_⟩
  rcases h with ⟨h, hb⟩ | ⟨-, h⟩
  · exact Or.inl ⟨h, (v131_bools _ _ _ _).mpr hb⟩
  · refine Or.inr ?_
    rcases h with ⟨h, hb⟩ | ⟨h, hb⟩ | ⟨h, hb⟩ | ⟨h, hb⟩
    · exact fun hh => h6 (eq_of_beq hb) (by omega)
    · exact fun hh => h5 (eq_of_beq hb) (by omega)
    · exact fun hh => h4 (eq_of_beq hb) (by omega)
    · exact fun hh => h3 (eq_of_beq hb) (by omega)

end Cert.KernelIdeal.Hand
-- ==== Proof.Bits.lean ====
/- The code tiles as numbers: each entry is read off the bits of the packed words. -/
module

public import proofs.«01_k».proof.Proof.Codes
public import Idealize.ShloMosaic.Lib.Pointwise

@[expose] public section

noncomputable section

namespace Cert.KernelIdeal.Hand

open Idealize.ShloMosaic Idealize.SL.Sem
open Cert.KernelIdeal Cert.KernelIdeal.Gen

/-- Bit `k` of a word, as a number. -/
def bit (w : BitVec 32) (k : ℕ) : ℤ := ((w.getLsbD k).toNat : ℤ)

/-- Nibble `s` of a word, as the kernel takes it. -/
def nibW (w : BitVec 32) (s : ℕ) : BitVec 4 := BitVec.setWidth 4 (IntOp.shrui .vector w (IntOp.muli 4#32 (BitVec.ofNat 32 s)))

theorem toInt4 : ∀ x : BitVec 4, x.getLsbD 3 = false →
    x.toInt = 4 * ((x.getLsbD 2).toNat : ℤ) + 2 * ((x.getLsbD 1).toNat : ℤ) + ((x.getLsbD 0).toNat : ℤ) := by decide

theorem nibW_bit (w : BitVec 32) {s : ℕ} (hs : s < 8) {k : ℕ} (hk : k < 4) : (nibW w s).getLsbD k = w.getLsbD (4 * s + k) := by
  unfold nibW
  interval_cases s <;> simp [IntOp.shrui, IntOp.muli, hk]

/-- A nibble whose top bit is clear is the number its other three bits spell. -/
theorem nibW_toInt (w : BitVec 32) {s : ℕ} (hs : s < 8) (h : w.getLsbD (4 * s + 3) = false) :
    (nibW w s).toInt = 4 * bit w (4 * s + 2) + 2 * bit w (4 * s + 1) + bit w (4 * s) := by
  rw [toInt4 _ (by rw [nibW_bit w hs (by decide), h])]
  simp only [nibW_bit w hs (by decide : 2 < 4), nibW_bit w hs (by decide : 1 < 4), nibW_bit w hs (by decide : 0 < 4)]
  rfl

/-! ## Words -/

def wsh (k w : BitVec 32) : BitVec 32 := IntOp.shrsi .vector w k
def wl1 (w : BitVec 32) : BitVec 32 := IntOp.shli .vector w 1#32
def wan (k w : BitVec 32) : BitVec 32 := IntOp.andi w k
def wor (a b : BitVec 32) : BitVec 32 := IntOp.ori a b
def wev (a b : BitVec 32) : BitVec 32 := wor (wan 2863311530#32 (wl1 a)) (wan 1431655765#32 b)
def wod (a b : BitVec 32) : BitVec 32 := wor (wan 2863311530#32 a) (wan 1431655765#32 (wsh 1#32 b))

/-- The word of row group `j` of a single code. -/
def wS (a : BitVec 32) : ℕ → BitVec 32
  | 0 => wan 286331153#32 a
  | 1 => wan 286331153#32 (wsh 1#32 a)
  | 2 => wan 286331153#32 (wsh 2#32 a)
  | _ => wan 286331153#32 (wsh 3#32 a)
/-- The word of row group `j` of a pair code. -/
def wP (a b : BitVec 32) : ℕ → BitVec 32
  | 0 => wan 858993459#32 (wev a b)
  | 1 => wan 858993459#32 (wod a b)
  | 2 => wan 858993459#32 (wsh 2#32 (wev a b))
  | _ => wan 858993459#32 (wsh 2#32 (wod a b))
/-- The word of row group `j` of a triple code. -/
def wT (a b d : BitVec 32) : ℕ → BitVec 32
  | 0 => wor (wan 1717986918#32 (wl1 (wev a b))) (wan 286331153#32 d)
  | 1 => wor (wan 1717986918#32 (wl1 (wod a b))) (wan 286331153#32 (wsh 1#32 d))
  | 2 => wor (wan 1717986918#32 (wsh 1#32 (wev a b))) (wan 286331153#32 (wsh 2#32 d))
  | _ => wor (wan 1717986918#32 (wsh 1#32 (wod a b))) (wan 286331153#32 (wsh 3#32 d))

theorem wS_nib (a : BitVec 32) {s j : ℕ} (hs : s < 8) (hj : j < 4) : (nibW (wS a j) s).toInt = bit a (4 * s + j) := by
  rw [nibW_toInt _ hs]
  · interval_cases j <;> interval_cases s <;>
      simp [bit, wS, wan, wsh, IntOp.andi, IntOp.shrsi, BitVec.getElem_sshiftRight]
  · interval_cases j <;> interval_cases s <;>
      simp [wS, wan, wsh, IntOp.andi, IntOp.shrsi, BitVec.getElem_sshiftRight]

theorem wP_nib (a b : BitVec 32) {s j : ℕ} (hs : s < 8) (hj : j < 4) : (nibW (wP a b j) s).toInt = 2 * bit a (4 * s + j) + bit b (4 * s + j) := by
  rw [nibW_toInt _ hs]
  · interval_cases j <;> interval_cases s <;>
      simp [bit, wP, wev, wod, wan, wor, wl1, wsh, IntOp.andi, IntOp.ori, IntOp.shli, IntOp.shrsi, BitVec.getElem_sshiftRight]
  · interval_cases j <;> interval_cases s <;>
      simp [wP, wev, wod, wan, wor, wl1, wsh, IntOp.andi, IntOp.ori, IntOp.shli, IntOp.shrsi, BitVec.getElem_sshiftRight]

theorem wT_nib (a b d : BitVec 32) {s j : ℕ} (hs : s < 8) (hj : j < 4) :
    (nibW (wT a b d j) s).toInt = 4 * bit a (4 * s + j) + 2 * bit b (4 * s + j) + bit d (4 * s + j) := by
  rw [nibW_toInt _ hs]
  · interval_cases j <;> interval_cases s <;>
      simp [bit, wT, wev, wod, wan, wor, wl1, wsh, IntOp.andi, IntOp.ori, IntOp.shli, IntOp.shrsi, BitVec.getElem_sshiftRight]
  · interval_cases j <;> interval_cases s <;>
      simp [wT, wev, wod, wan, wor, wl1, wsh, IntOp.andi, IntOp.ori, IntOp.shli, IntOp.shrsi, BitVec.getElem_sshiftRight]

/-! ## Tiles -/

theorem nibs_apply (a : IVec S8x256 32) (i : Fin 64) (C : Fin 256) :
    nibs (F := Ideal) k0_pay955 a (ix2 i C) = (((nibW (a (ix2 ⟨i.val / 8, by omega⟩ C)) (i.val % 8)).toInt : ℝ) : EReal) := by
  pointwise [nibs, k0_pay955]
  rfl

/-- Row group `l / 64` of four, its row `l % 64`. -/
theorem quad_apply (f : ℕ → IVec S8x256 32) (l C : Fin 256) : quad (F := Ideal) k0_pay955 (f 0) (f 1) (f 2) (f 3) (ix2 l C) =
    (((nibW (f (l.val / 64) (ix2 ⟨l.val % 64 / 8, by omega⟩ C)) (l.val % 64 % 8)).toInt : ℝ) : EReal) := by
  have key : ∀ (j : ℕ) (i : Fin 64), l.val / 64 = j → i.val = l.val % 64 → nibs (F := Ideal) k0_pay955 (f j) (ix2 i C) =
      (((nibW (f (l.val / 64) (ix2 ⟨l.val % 64 / 8, by omega⟩ C)) (l.val % 64 % 8)).toInt : ℝ) : EReal) := by
    intro j i hj hi
    rw [nibs_apply]
    subst hj
    simp only [hi]
  have hl := l.isLt
  pointwise [quad]
  split
  · exact key 0 _ (by omega) (by simp only; omega)
  split
  · exact key 1 _ (by omega) (by simp only; omega)
  split
  · exact key 2 _ (by omega) (by simp only; omega)
  · exact key 3 _ (by omega) (by simp only; omega)

/-- The word a code row reads, and the bit of it. -/
abbrev wrow (l : ℕ) (C : Fin 256) : S1x1x1x8x256.Idx := ix5 0 0 0 ⟨l % 64 / 8, by omega⟩ C
abbrev wbit (l : ℕ) : ℕ := 4 * (l % 64 % 8) + l / 64

theorem single_apply (a : Vec Ideal S1x1x1x8x256 .i32) (l C : Fin 256) :
    singleCode (F := Ideal) k0_pay955 a (ix2 l C) = (((bit (a (wrow l C)) (wbit l) : ℤ) : ℝ) : EReal) := by
  have h := quad_apply (fun j => match j with
    | 0 => msk 286331153#32 (wd a) | 1 => msk 286331153#32 (shr 1#32 (wd a)) | 2 => msk 286331153#32 (shr 2#32 (wd a)) | _ => msk 286331153#32 (shr 3#32 (wd a))) l C
  refine Eq.trans h ?_
  rw [← wS_nib _ (Nat.mod_lt _ (by decide)) (by omega : l.val / 64 < 4)]
  congr 4
  obtain h | h | h | h : l.val / 64 = 0 ∨ l.val / 64 = 1 ∨ l.val / 64 = 2 ∨ l.val / 64 = 3 := by omega
  all_goals
    rw [h]
    pointwise [msk, shr, wd]
    rfl

theorem pair_apply (a b : Vec Ideal S1x1x1x8x256 .i32) (l C : Fin 256) :
    pairCode (F := Ideal) k0_pay955 a b (ix2 l C) = (((2 * bit (a (wrow l C)) (wbit l) + bit (b (wrow l C)) (wbit l) : ℤ) : ℝ) : EReal) := by
  have h := quad_apply (fun j => match j with
    | 0 => msk 858993459#32 (evn (wd a) (wd b)) | 1 => msk 858993459#32 (odd (wd a) (wd b))
    | 2 => msk 858993459#32 (shr 2#32 (evn (wd a) (wd b))) | _ => msk 858993459#32 (shr 2#32 (odd (wd a) (wd b)))) l C
  refine Eq.trans h ?_
  rw [← wP_nib _ _ (Nat.mod_lt _ (by decide)) (by omega : l.val / 64 < 4)]
  congr 4
  obtain h | h | h | h : l.val / 64 = 0 ∨ l.val / 64 = 1 ∨ l.val / 64 = 2 ∨ l.val / 64 = 3 := by omega
  all_goals
    rw [h]
    pointwise [msk, shr, shl1, evn, odd, wd]
    rfl

theorem triple_apply (a b d : Vec Ideal S1x1x1x8x256 .i32) (l C : Fin 256) :
    tripleCode (F := Ideal) k0_pay955 a b d (ix2 l C) =
      (((4 * bit (a (wrow l C)) (wbit l) + 2 * bit (b (wrow l C)) (wbit l) + bit (d (wrow l C)) (wbit l) : ℤ) : ℝ) : EReal) := by
  have h := quad_apply (fun j => match j with
    | 0 => ori (msk 1717986918#32 (shl1 (evn (wd a) (wd b)))) (msk 286331153#32 (wd d))
    | 1 => ori (msk 1717986918#32 (shl1 (odd (wd a) (wd b)))) (msk 286331153#32 (shr 1#32 (wd d)))
    | 2 => ori (msk 1717986918#32 (shr 1#32 (evn (wd a) (wd b)))) (msk 286331153#32 (shr 2#32 (wd d)))
    | _ => ori (msk 1717986918#32 (shr 1#32 (odd (wd a) (wd b)))) (msk 286331153#32 (shr 3#32 (wd d)))) l C
  refine Eq.trans h ?_
  rw [← wT_nib _ _ _ (Nat.mod_lt _ (by decide)) (by omega : l.val / 64 < 4)]
  congr 4
  obtain h | h | h | h : l.val / 64 = 0 ∨ l.val / 64 = 1 ∨ l.val / 64 = 2 ∨ l.val / 64 = 3 := by omega
  all_goals
    rw [h]
    pointwise [msk, shr, shl1, evn, odd, wd]
    rfl

end Cert.KernelIdeal.Hand
-- ==== Proof.Perm.lean ====
/- The activations as the kernel permutes them, read at an index. -/
module

public import proofs.«01_k».proof.Proof.Acc
public import proofs.«01_k».proof.Proof.Pre

@[expose] public section

noncomputable section

namespace Cert.KernelIdeal.Hand

open Idealize.ShloMosaic Idealize.ShloMosaic.TcCoe Idealize.SL.Sem
open Cert.KernelIdeal Cert.KernelIdeal.Gen
open scoped BigOperators

/-- The column a permuted column is taken from. -/
def pm (l : ℕ) : ℕ := 4 * (l % 64) + l / 64

/-- The column a permuted column is taken from, as the kernel computes it. -/
def pmW (c : BitVec 32) : BitVec 32 :=
  IntOp.addi (IntOp.muli 4#32 (Scalar.select (IntOp.andi (IntOp.xori (IntOp.cmpi .slt (IntOp.remsi .vector c (Scalar.select (Scalar.cmpi .eq 64#32 0#32) 1#32 64#32)) 0#32)
        (Scalar.cmpi .slt (Scalar.select (Scalar.cmpi .eq 64#32 0#32) 1#32 64#32) 0#32))
      (IntOp.cmpi .ne (IntOp.remsi .vector c (Scalar.select (Scalar.cmpi .eq 64#32 0#32) 1#32 64#32)) 0#32))
    (IntOp.addi (IntOp.remsi .vector c (Scalar.select (Scalar.cmpi .eq 64#32 0#32) 1#32 64#32)) (Scalar.select (Scalar.cmpi .eq 64#32 0#32) 1#32 64#32))
    (IntOp.remsi .vector c (Scalar.select (Scalar.cmpi .eq 64#32 0#32) 1#32 64#32))))
  (Scalar.select (IntOp.andi (IntOp.cmpi .ne (IntOp.subi (BitVec.setWidth 32 (IntOp.cmpi .sgt c 0#32)) (BitVec.setWidth 32 (IntOp.cmpi .slt c 0#32)))
        (Scalar.subi (Scalar.extui (Scalar.cmpi .sgt 64#32 0#32)) (Scalar.extui (Scalar.cmpi .slt 64#32 0#32))))
      (IntOp.cmpi .ne (IntOp.remsi .vector c 64#32) 0#32))
    (IntOp.subi (IntOp.divsi .vector c 64#32) 1#32) (IntOp.divsi .vector c 64#32))

theorem pmW_eq : ∀ c : Fin 256, pmW (BitVec.ofNat 32 c.val) = BitVec.ofNat 32 (pm c.val) := by decide +kernel

theorem permV_apply (l c : Fin 256) : (permV (F := Ideal) (ix2 l c) : EReal) = if l.val = pm c.val then 1 else 0 := by
  have h : (permV (F := Ideal) (ix2 l c) : EReal) = (((BitVec.setWidth 32 (IntOp.cmpi .eq (BitVec.ofNat 32 l.val) (pmW (BitVec.ofNat 32 c.val)))).toInt : ℝ) : EReal) := by
    pointwise [permV, k0_pay763, k0_pay760, k0_pay761, k0_pay762]
    rfl
  rw [h, pmW_eq]
  have hp : pm c.val < 256 := by unfold pm; omega
  have hl := l.isLt
  by_cases e : l.val = pm c.val
  · rw [if_pos e, e]
    simp [IntOp.cmpi]
  · have e' : BitVec.ofNat 32 l.val ≠ BitVec.ofNat 32 (pm c.val) := by
      intro hh
      have := congrArg BitVec.toNat hh
      rw [BitVec.toNat_ofNat, BitVec.toNat_ofNat] at this
      omega
    rw [if_neg e]
    have e2 : IntOp.cmpi .eq (BitVec.ofNat 32 l.val) (BitVec.ofNat 32 (pm c.val)) = 0#1 := by
      show BitVec.ofBool (_ == _) = _
      rw [beq_eq_false_iff_ne.mpr e']
      rfl
    rw [e2]
    simp

variable (c : Dev nD) (x : S24x14336.Idx → Elt Ideal .bf16)

theorem xT_apply (r : Fin 24) (l : Fin 256) (k : ℕ) (hk : k < 56) :
    (xT (F := Ideal) c (Memref.whole cc0_stg1_0) x k (ix2 r l) : EReal) = x (ix2 r ⟨256 * k + l.val, by omega⟩) := by
  show x _ = x _
  congr 1
  funext a
  fin_cases a
  · exact Fin.ext (Nat.mod_eq_of_lt r.isLt)
  · exact Fin.ext (Nat.mod_eq_of_lt (by show 256 * k + l.val < 14336; omega))

theorem xpd_apply (T : ℕ) (hT : T < 56) (r : Fin 24) (l : Fin 256) :
    (xpd (F := Ideal) c (Memref.whole cc0_stg1_0) x T (ix2 ⟨r.val, by omega⟩ l) : EReal) = x (ix2 r ⟨256 * T + l.val, by omega⟩) := by
  have hr := r.isLt
  unfold xpd
  pointwise [k0_pay770, k0_pay769, k0_pay764]
  exact xT_apply c x r l T hT

/-- The permuted activations' row `r`. -/
theorem XV_apply (y : ℕ) (hy : y < 14336) (r : Fin 24) :
    (XV (F := Ideal) c (Memref.whole cc0_stg1_0) x (ix2 ⟨r.val, by omega⟩ ⟨y, hy⟩) : EReal) =
      x (ix2 r ⟨256 * (y / 256) + pm (y % 256), by unfold pm; omega⟩) := by
  have hp : pm (y % 256) < 256 := by unfold pm; omega
  have hx : xin (ix2 (⟨r.val, by omega⟩ : Fin 32) (⟨y, hy⟩ : Fin 14336)) = ix2 (⟨r.val, by omega⟩ : Fin 32) (⟨y % 256, by omega⟩ : Fin 256) := by
    have hr := r.isLt
    funext a
    fin_cases a
    · exact Fin.ext (Nat.mod_eq_of_lt (by show r.val < 32; omega))
    · exact Fin.ext (Nat.mod_eq_of_lt (by show y % 256 < 256; omega))
  show tileV (F := Ideal) c (Memref.whole cc0_stg1_0) x (y / 256) (xin _) = _
  rw [hx]
  have h1 : (tileV (F := Ideal) c (Memref.whole cc0_stg1_0) x (y / 256) (ix2 (⟨r.val, by omega⟩ : Fin 32) (⟨y % 256, by omega⟩ : Fin 256)) : EReal) =
      tp (F := Ideal) c (Memref.whole cc0_stg1_0) x (y / 256) (ix2 (⟨r.val, by omega⟩ : Fin 32) (⟨y % 256, by omega⟩ : Fin 256)) := by
    unfold tileV
    pointwise [k0_pay768]
  rw [h1]
  show (permT (F := Ideal)).pass (xpd (F := Ideal) c (Memref.whole cc0_stg1_0) x (y / 256)) _ = _
  unfold permT
  rw [pass_ideal]
  unfold dotT
  rw [Finset.sum_eq_single (⟨pm (y % 256), hp⟩ : Fin 256)]
  · rw [permV_apply, if_pos rfl, mul_one, xpd_apply c x _ (by omega)]
  · intro l _ hl
    rw [permV_apply, if_neg (fun h => hl (Fin.ext h)), mul_zero]
  · intro h; exact absurd (Finset.mem_univ _) h

/-- The row sum. -/
theorem sumTo_apply (r : Fin 24) (l : Fin 256) : ∀ k, (hk : k < 56) → (sumTo (F := Ideal) c (Memref.whole cc0_stg1_0) x k (ix2 r l) : EReal) =
    ∑ T : Fin (k + 1), (x (ix2 r ⟨256 * T.val + l.val, by omega⟩) : EReal)
  | 0, _ => by
    rw [sumTo]
    pointwise [k0_pay766, k0_pay765]
    rw [Fin.sum_univ_one]
    simp only [xT_apply c x r l 0 (by omega)]
    exact congrArg (fun q => x (ix2 r q)) (Fin.ext (by show 256 * 0 + l.val = l.val; omega))
  | k + 1, hk => by
    rw [sumTo, Fin.sum_univ_castSucc]
    pointwise [k0_pay765]
    rw [sumTo_apply r l k (by omega)]
    simp only [xT_apply c x r l (k + 1) hk]
    rfl

theorem sumV_apply (r : Fin 24) (q : Fin 128) :
    (sumV (F := Ideal) c (Memref.whole cc0_stg1_0) x (ix2 r q) : EReal) = ∑ y : Fin 14336, (x (ix2 r y) : EReal) := by
  unfold sumV
  pointwise [k0_pay954, k0_pay948, k0_pay951]
  rw [Fin.sum_univ_tiles 56 256 rfl, Finset.sum_comm]
  refine Finset.sum_congr rfl fun l _ => ?_
  rw [sumTo_apply c x r l 53 (by omega), xT_apply c x r l 54 (by omega), xT_apply c x r l 55 (by omega), Fin.sum_univ_castSucc (n := 55), Fin.sum_univ_castSucc (n := 54)]
  simp only [Nat.mul_comm 256]
  rfl

end Cert.KernelIdeal.Hand
-- ==== Proof.Sums.lean ====
/- The result rows after a block as sums over the activations. -/
module

public import proofs.«01_k».proof.Proof.Bits
public import proofs.«01_k».proof.Proof.Perm

@[expose] public section

noncomputable section

namespace Cert.KernelIdeal.Hand

open Idealize.ShloMosaic Idealize.SL.Sem
open Cert.KernelIdeal Cert.KernelIdeal.Gen
open scoped BigOperators

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem sum_tiles (J T : ℕ) (f : ℕ → ℝ) : ∑ i ∈ Finset.range (J * T), f i = ∑ j ∈ Finset.range J, ∑ t ∈ Finset.range T, f (j * T + t) := by
  rw [Finset.sum_range, Fin.sum_univ_tiles J T rfl]
  simp only [Finset.sum_range]

theorem sum_pm (h : ℕ → ℝ) : ∑ l ∈ Finset.range 256, h (pm l) = ∑ y ∈ Finset.range 256, h y := by
  refine Finset.sum_nbij' pm (fun y => 64 * (y % 4) + y / 4) ?_ ?_ ?_ ?_ ?_
  · intro l hl; rw [Finset.mem_range] at hl ⊢; unfold pm; omega
  · intro y hy; rw [Finset.mem_range] at hy ⊢; omega
  · intro l hl; rw [Finset.mem_range] at hl; unfold pm; omega
  · intro y hy; rw [Finset.mem_range] at hy; unfold pm; omega
  · intro l _; rfl

variable {X : Xp Ideal} {xr : ℕ → ℝ} {r : Fin 32}

/-- The row of the permuted activations, as real numbers. -/
def RowIs (X : Xp Ideal) (xr : ℕ → ℝ) (r : Fin 32) : Prop := ∀ y : Fin 14336, (X (ix2 r y) : EReal) = ((xr (256 * (y.val / 256) + pm (y.val % 256)) : ℝ) : EReal)

/-- A block's products with a code tile are the sum over the activations. -/
theorem chunk_sum (hX : RowIs X xr r) (C : Fin 256) (v : ℕ → ℕ → FVec Ideal S256x256 .bf16) (f : ℕ → ℝ)
    (hv : ∀ c < 14, ∀ k < 4, ∀ l : Fin 256, (v c k (ix2 l C) : EReal) = ((f (256 * (4 * c + k) + pm l.val) : ℝ) : EReal)) :
    ∑ c ∈ Finset.range 14, ∑ k ∈ Finset.range 4, dotT (ldX X c k) (v c k) r C = ((∑ y ∈ Finset.range 14336, xr y * f y : ℝ) : EReal) := by
  have hd : ∀ c < 14, ∀ k < 4, dotT (ldX X c k) (v c k) r C = ((∑ m ∈ Finset.range 256, xr (256 * (4 * c + k) + m) * f (256 * (4 * c + k) + m) : ℝ) : EReal) := by
    intro c hc k hk
    rw [← sum_pm (fun m => xr (256 * (4 * c + k) + m) * f (256 * (4 * c + k) + m)), Finset.sum_range, coe_sum]
    unfold dotT
    refine Finset.sum_congr rfl fun l _ => ?_
    have hl := l.isLt
    have hx : (ldX X c k (ix2 r l) : EReal) = ((xr (256 * (4 * c + k) + pm l.val) : ℝ) : EReal) := by
      have h := hX ⟨1024 * c + (256 * k + l.val), by omega⟩
      rw [show (1024 * c + (256 * k + l.val)) / 256 = 4 * c + k by omega, show (1024 * c + (256 * k + l.val)) % 256 = l.val by omega] at h
      rw [← h]
      show X _ = X _
      congr 1
      have hr := r.isLt
      funext a
      fin_cases a
      · exact Fin.ext (Nat.mod_eq_of_lt hr)
      · exact Fin.ext (Nat.mod_eq_of_lt (by show 1024 * c + (256 * k + l.val) < 14336; omega))
    rw [hx, hv c hc k hk, EReal.coe_mul]
  rw [show (14336 : ℕ) = 14 * 4 * 256 from rfl, sum_tiles (14 * 4) 256, sum_tiles 14 4, coe_sum]
  refine Finset.sum_congr rfl fun c hc => ?_
  rw [coe_sum]
  refine Finset.sum_congr rfl fun k hk => ?_
  rw [hd c (Finset.mem_range.mp hc) k (Finset.mem_range.mp hk)]
  simp only [show (c * 4 + k) * 256 = 256 * (4 * c + k) by ring]

/-- Bit `y` of column `n` of plane `p`. -/
def pbit (A : Planes Ideal) (p n y : ℕ) : ℤ := bit (A (pix p (y / 32) n)) (y % 32)
/-- The activations' product with a plane's column. -/
def dotP (xr : ℕ → ℝ) (A : Planes Ideal) (p n : ℕ) : ℝ := ∑ y ∈ Finset.range 14336, xr y * (pbit A p n y : ℝ)

theorem ldW_bit (A : Planes Ideal) (n p t c k : ℕ) (l C : Fin 256) :
    bit (ldW (F := Ideal) A n c p k t (wrow l C)) (wbit l) = pbit A p (512 * n + (256 * t + C.val)) (256 * (4 * c + k) + pm l.val) := by
  have hl := l.isLt
  unfold pbit pm
  rw [show (256 * (4 * c + k) + (4 * (l.val % 64) + l.val / 64)) / 32 = 32 * c + (8 * k + l.val % 64 / 8) by omega,
    show (256 * (4 * c + k) + (4 * (l.val % 64) + l.val / 64)) % 32 = wbit l by unfold wbit; omega]
  rfl

theorem sum_single (hX : RowIs X xr r) (A : Planes Ideal) (n p t : ℕ) (C : Fin 256) :
    ∑ c ∈ Finset.range 14, ∑ k ∈ Finset.range 4, dotT (ldX X c k) (singleCode (F := Ideal) k0_pay955 (ldW A n c p k t)) r C =
      ((dotP xr A p (512 * n + (256 * t + C.val)) : ℝ) : EReal) := by
  rw [chunk_sum hX C _ (fun y => (pbit A p (512 * n + (256 * t + C.val)) y : ℝ))]
  · rfl
  · intro c _ k _ l
    rw [single_apply, ldW_bit]

theorem sum_pair (hX : RowIs X xr r) (A : Planes Ideal) (n p p' t : ℕ) (C : Fin 256) :
    ∑ c ∈ Finset.range 14, ∑ k ∈ Finset.range 4, dotT (ldX X c k) (pairCode (F := Ideal) k0_pay955 (ldW A n c p k t) (ldW A n c p' k t)) r C =
      ((2 * dotP xr A p (512 * n + (256 * t + C.val)) + dotP xr A p' (512 * n + (256 * t + C.val)) : ℝ) : EReal) := by
  rw [chunk_sum hX C _ (fun y => 2 * (pbit A p (512 * n + (256 * t + C.val)) y : ℝ) + (pbit A p' (512 * n + (256 * t + C.val)) y : ℝ))]
  · refine congrArg (fun t : ℝ => (t : EReal)) ?_
    unfold dotP
    rw [Finset.mul_sum, ← Finset.sum_add_distrib]
    exact Finset.sum_congr rfl fun y _ => by ring
  · intro c _ k _ l
    rw [pair_apply, ldW_bit, ldW_bit]
    push_cast
    rfl

theorem sum_triple (hX : RowIs X xr r) (A : Planes Ideal) (n p p' p'' t : ℕ) (C : Fin 256) :
    ∑ c ∈ Finset.range 14, ∑ k ∈ Finset.range 4, dotT (ldX X c k) (tripleCode (F := Ideal) k0_pay955 (ldW A n c p k t) (ldW A n c p' k t) (ldW A n c p'' k t)) r C =
      ((4 * dotP xr A p (512 * n + (256 * t + C.val)) + 2 * dotP xr A p' (512 * n + (256 * t + C.val)) + dotP xr A p'' (512 * n + (256 * t + C.val)) : ℝ) : EReal) := by
  rw [chunk_sum hX C _ (fun y => 4 * (pbit A p (512 * n + (256 * t + C.val)) y : ℝ) + 2 * (pbit A p' (512 * n + (256 * t + C.val)) y : ℝ) + (pbit A p'' (512 * n + (256 * t + C.val)) y : ℝ))]
  · refine congrArg (fun t : ℝ => (t : EReal)) ?_
    unfold dotP
    rw [Finset.mul_sum, Finset.mul_sum, ← Finset.sum_add_distrib, ← Finset.sum_add_distrib]
    exact Finset.sum_congr rfl fun y _ => by ring
  · intro c _ k _ l
    rw [triple_apply, ldW_bit, ldW_bit, ldW_bit]
    push_cast
    rfl

end Cert.KernelIdeal.Hand
-- ==== Proof.Block.lean ====
/- The weighted sums a block's result rows hold. -/
module

public import proofs.«01_k».proof.Proof.Counts
public import proofs.«01_k».proof.Proof.Sums

@[expose] public section

noncomputable section

namespace Cert.KernelIdeal.Hand

open Idealize.ShloMosaic Idealize.SL.Sem
open Cert.KernelIdeal Cert.KernelIdeal.Gen
open Cert.ReferenceIdeal.Value (cfR)
open scoped BigOperators

variable {X : Xp Ideal} {xr : ℕ → ℝ} {r : Fin 32}

/-- The result rows after block `n` give the planes' products, weighted one by one. -/
theorem totS_blk (hX : RowIs X xr r) (fx : Prop) [Decidable fx] (G U : Planes Ideal) (n : ℕ) (q : Fin 2) (t : ℕ) (ht : t < 2) (C : Fin 256)
    (a w : ℕ) (ha : 4 ≤ a ∧ a ≤ 7) (hw : 3 ≤ w ∧ w ≤ 9) (h : (a = 4 ∧ fx) ∨ a ≠ w) :
    totS (BitVec.ofNat 32 w) (BitVec.ofNat 32 (a - 1)) (BitVec.ofNat 32 (snglN a 0)) (BitVec.ofNat 32 (snglN a 1)) (BitVec.ofNat 32 (snglN a 2))
      (blkSt (F := Ideal) fx k0_pay955 (plN a) G U X n) q t ht r C =
    ∑ p : Fin 8, (((cfR (BitVec.ofNat 32 p.val) (BitVec.ofNat 32 w)).toInt : ℝ) : EReal) * ((dotP xr (armOf G U q) p.val (512 * n + (256 * t + C.val)) : ℝ) : EReal) := by
  have hg : ∀ g (hg : g < 5), rd (blkSt (F := Ideal) fx k0_pay955 (plN a) G U X n) q (6 * t + g) (by omega) r C =
      ∑ c ∈ Finset.range 14, ∑ i ∈ Finset.range 4, dotT (ldX X c i) (segCode k0_pay955 (plN a) (armOf G U q) n c i t g) r C := by
    intro g hg
    unfold blkSt
    rw [rd_chunk clean_init q t g ht hg r C 14, rd_init, zero_add]
  have hf : ∃ X4 : ℝ, (fx → X4 = dotP xr (armOf G U q) 4 (512 * n + (256 * t + C.val))) ∧ rd (blkSt (F := Ideal) fx k0_pay955 (plN a) G U X n) q (6 * t + 5) (by omega) r C = (X4 : EReal) := by
    unfold blkSt
    rw [rd_chunk_fix clean_init q t ht r C 14, rd_init, zero_add]
    by_cases hfx : fx
    · refine ⟨_, fun _ => rfl, ?_⟩
      simp only [if_pos hfx]
      exact sum_single hX _ n 4 t C
    · refine ⟨0, fun h => absurd h hfx, ?_⟩
      simp only [if_neg hfx, Finset.sum_const_zero]
      rfl
  obtain ⟨X4, hX4, e5⟩ := hf
  have e0 := (hg 0 (by omega)).trans (sum_triple hX (armOf G U q) n 0 1 2 t C)
  have e1 := (hg 1 (by omega)).trans (sum_pair hX (armOf G U q) n (a - 1) a t C)
  have e2 := (hg 2 (by omega)).trans (sum_single hX (armOf G U q) n (snglN a 0) t C)
  have e3 := (hg 3 (by omega)).trans (sum_single hX (armOf G U q) n (snglN a 1) t C)
  have e4 := (hg 4 (by omega)).trans (sum_single hX (armOf G U q) n (snglN a 2) t C)
  unfold totS
  rw [e0, e1, e2, e3, e4, e5]
  refine coef_eq (fun p => dotP xr (armOf G U q) p (512 * n + (256 * t + C.val))) X4 a w ha hw ?_
  rcases h with ⟨h1, h2⟩ | h
  · exact Or.inr ⟨h1, hX4 h2⟩
  · exact Or.inl h

end Cert.KernelIdeal.Hand
-- ==== Proof.Equal.lean ====
/- The kernel's result is the reference's. -/
module

public import proofs.«01_k».proof.Proof.Block

@[expose] public section

noncomputable section

namespace Cert.KernelIdeal.Hand

open Idealize.ShloMosaic Idealize.SL.Sem
open Cert.KernelIdeal Cert.KernelIdeal.Gen
open Cert.ReferenceIdeal.Value (cfR gR outR widthR accR coefR dotR midR rowR)
open scoped BigOperators

/-- A product of the activations with a plane's column, as the reference sums it. -/
theorem dotR_eq (x : FVec Ideal S24x1x14336 .bf16) (A : Planes Ideal) (xr : ℕ → ℝ) (r : Fin 24) (hx : ∀ y : Fin 14336, (x (ix3 r 0 y) : EReal) = ((xr y.val : ℝ) : EReal))
    (p : Fin 8) (n : Fin 4096) : (dotR x A (ix3 p r n) : EReal) = ((dotP xr A p.val n.val : ℝ) : EReal) := by
  rw [Cert.ReferenceIdeal.Value.dotR_apply]
  unfold dotP
  rw [show ∑ y ∈ Finset.range 14336, xr y * (pbit A p.val n.val y : ℝ) = _ from sum_tiles 448 32 _, Finset.sum_range, coe_sum]
  refine Finset.sum_congr rfl fun w _ => ?_
  rw [Finset.sum_range, coe_sum]
  refine Finset.sum_congr rfl fun j _ => ?_
  have hw := w.isLt
  have hj := j.isLt
  rw [hx, EReal.coe_mul, mul_comm]
  refine congrArg (fun t : EReal => ((xr (w.val * 32 + j.val) : ℝ) : EReal) * t) ?_
  unfold pbit
  rw [show (w.val * 32 + j.val) / 32 = w.val by omega, show (w.val * 32 + j.val) % 32 = j.val by omega]
  have e : pix p.val w.val n.val = ix3 p w n := by
    funext a
    fin_cases a
    · exact Fin.ext (Nat.mod_eq_of_lt p.isLt)
    · exact Fin.ext (Nat.mod_eq_of_lt w.isLt)
    · exact Fin.ext (Nat.mod_eq_of_lt n.isLt)
  rw [e]
  unfold bit
  push_cast
  rfl

theorem shli_mid : ∀ w : Fin 10, 3 ≤ w.val → IntOp.shli .host 1#32 (IntOp.subi 8#32 (BitVec.ofNat 32 w.val)) = IntOp.shli .vector 1#32 (IntOp.subi 8#32 (BitVec.ofNat 32 w.val)) := by decide +kernel

/-- One of the two products, as the reference computes it. -/
theorem gR_eq (cnts : IVec S6 32) (x : FVec Ideal S24x1x14336 .bf16) (A : Planes Ideal) (sc ze : FVec Ideal S4096 .f32) (xr : ℕ → ℝ) (r : Fin 24)
    (hx : ∀ y : Fin 14336, (x (ix3 r 0 y) : EReal) = ((xr y.val : ℝ) : EReal)) (n : Fin 4096) (w : ℕ) (hw : 3 ≤ w ∧ w ≤ 9) (e : widthR cnts (ix1 r) = BitVec.ofNat 32 w) :
    (gR cnts x A sc ze (ix2 r n) : EReal) =
      armE (sc (ix1 n)) (∑ p : Fin 8, (((cfR (BitVec.ofNat 32 p.val) (BitVec.ofNat 32 w)).toInt : ℝ) : EReal) * ((dotP xr A p.val n.val : ℝ) : EReal)) (midE (BitVec.ofNat 32 w)) (ze (ix1 n))
        (∑ y : Fin 14336, (x (ix3 r 0 y) : EReal)) := by
  rw [Cert.ReferenceIdeal.Value.gR_apply, Cert.ReferenceIdeal.Value.accR_apply, Cert.ReferenceIdeal.Value.midR_apply, Cert.ReferenceIdeal.Value.rowR_apply, e]
  unfold armE midE
  have hm := shli_mid ⟨w, by omega⟩ hw.1
  simp only at hm
  rw [hm]
  have hs : ∀ p : Fin 8, (coefR cnts (ix2 r p) : EReal) * dotR x A (ix3 p r n) = (((cfR (BitVec.ofNat 32 p.val) (BitVec.ofNat 32 w)).toInt : ℝ) : EReal) * ((dotP xr A p.val n.val : ℝ) : EReal) := by
    intro p
    rw [Cert.ReferenceIdeal.Value.coefR_apply, e, dotR_eq x A xr r hx]
  rw [Finset.sum_congr rfl fun p _ => hs p]

variable (c : Dev nD) (cnts : S6.Idx → Elt Ideal .i32) (x : S24x14336.Idx → Elt Ideal .bf16) (gs gz us uz : S1x4096.Idx → Elt Ideal .f32) (G U : Planes Ideal)

/-- The kernel's result at row `r` and column `n`. -/
theorem Res_apply (xr : ℕ → ℝ) (r : Fin 24) (hx : ∀ y : Fin 14336, (x (ix2 r y) : EReal) = ((xr y.val : ℝ) : EReal)) (hc : ∀ k : Fin 6, (cnts (ix1 k)).toNat < 2 ^ 28) (n : Fin 4096) :
    ∃ w : ℕ, (3 ≤ w ∧ w ≤ 9) ∧ Cert.Hand.widthW (cnts (ix1 0)) (cnts (ix1 1)) (cnts (ix1 2)) (cnts (ix1 3)) (cnts (ix1 4)) (cnts (ix1 5)) (BitVec.ofNat 32 r.val) = BitVec.ofNat 32 w ∧
      (Res (F := Ideal) c cnts x gs gz us uz G U (ix2 r n) : EReal) =
        outE (armE (gs (ix2 0 n)) (∑ p : Fin 8, (((cfR (BitVec.ofNat 32 p.val) (BitVec.ofNat 32 w)).toInt : ℝ) : EReal) * ((dotP xr G p.val n.val : ℝ) : EReal)) (midE (BitVec.ofNat 32 w)) (gz (ix2 0 n)) (∑ y : Fin 14336, (x (ix2 r y) : EReal)))
          (armE (us (ix2 0 n)) (∑ p : Fin 8, (((cfR (BitVec.ofNat 32 p.val) (BitVec.ofNat 32 w)).toInt : ℝ) : EReal) * ((dotP xr U p.val n.val : ℝ) : EReal)) (midE (BitVec.ofNat 32 w)) (uz (ix2 0 n)) (∑ y : Fin 14336, (x (ix2 r y) : EReal))) := by
  obtain ⟨w, hw, e, h4, h5, h6, h7⟩ := Cert.Hand.width_cases (cnts (ix1 0)) (cnts (ix1 1)) (cnts (ix1 2)) (cnts (ix1 3)) (cnts (ix1 4)) (cnts (ix1 5)) (BitVec.ofNat 32 r.val)
    (hc 0) (hc 1) (hc 2) (hc 3) (hc 4) (hc 5)
  refine ⟨w, hw, e, ?_⟩
  obtain ⟨a, ha, ea, hp⟩ := plan_cases (cnts (ix1 4)) (cnts (ix1 3)) (cnts (ix1 2)) (cnts (ix1 1)) w h4 h5 h6 h7
  obtain ⟨p1, p2, p3, p4, p5⟩ := plan_of _ _ _ _ a ha ea
  have k1 : cB (F := Ideal) c (Memref.whole cc0_stg0_0) cnts = cnts (ix1 1) := cnt_whole c cnts 1 inb_S6_S1_1
  have k2 : cC (F := Ideal) c (Memref.whole cc0_stg0_0) cnts = cnts (ix1 2) := cnt_whole c cnts 2 inb_S6_S1_2
  have k3 : cD (F := Ideal) c (Memref.whole cc0_stg0_0) cnts = cnts (ix1 3) := cnt_whole c cnts 3 inb_S6_S1_3
  have k4 : cE (F := Ideal) c (Memref.whole cc0_stg0_0) cnts = cnts (ix1 4) := cnt_whole c cnts 4 inb_S6_S1_4
  have hr := r.isLt
  have hn := n.isLt
  have hX : RowIs (XV (F := Ideal) c (Memref.whole cc0_stg1_0) x) xr ⟨r.val, by omega⟩ := fun y => (XV_apply c x y.val y.isLt r).trans (hx _)
  have hV : V111 (F := Ideal) c (Memref.whole cc0_stg0_0) cnts (ix2 ⟨r.val, by omega⟩ ⟨n.val % 256, by omega⟩) = BitVec.ofNat 32 w := (V111_apply c cnts _ _).trans e
  have hS : ∀ q : Fin 128, (rdS (F := Ideal) c sr (srowF (F := Ideal) c s1' sr x (sumV (F := Ideal) c s1' x)) (ix2 r q) : EReal) = ∑ y : Fin 14336, (x (ix2 r y) : EReal) := by
    intro q
    rw [srowF_whole]
    refine Eq.trans ?_ (sumV_apply c x r q)
    show sumV (F := Ideal) c s1' x _ = _
    congr 1
    funext i
    fin_cases i
    · exact Fin.ext (by show 0 + 1 * r.val = r.val; omega)
    · exact Fin.ext (by show 0 + 1 * q.val = q.val; omega)
  have htix : tix (ix2 r n) = ix2 r ⟨n.val % 256, by omega⟩ := by
    funext i
    fin_cases i
    · exact Fin.ext (Nat.mod_eq_of_lt hr)
    · exact Fin.ext (Nat.mod_eq_of_lt (by show n.val % 256 < 256; omega))
  have hb : (blkOf (ix2 r n)).val = n.val / 512 := Nat.mod_eq_of_lt (by show n.val / 512 < 8; omega)
  have hA0 : ∀ (b : Memref sig .tc .vmem S1x4096 .f32) (f : Buf (Elt Ideal) (b.view.loc (c.tc : Thread nD τ))), n.val % 512 < 256 →
      (rdA (F := Ideal) c b f (blkOf (ix2 r n)) 0#32 (k0_off131_inb (blkOf (ix2 r n)) 0) (ix2 0 ⟨n.val % 256, by omega⟩)) = b.view.read (Elt Ideal) f (ix2 0 n) := by
    intro b f h
    show b.view.read (Elt Ideal) f _ = _
    congr 1
    have ho := k0_off131_eq (blkOf (ix2 r n)) 0
    funext i
    fin_cases i
    · refine Fin.ext ?_
      show k0_off131 (blkOf (ix2 r n)) 0#32 0 + 1 * 0 = 0
      have := congrFun ho 0
      change k0_off131 (blkOf (ix2 r n)) 0#32 0 = 0 at this
      omega
    · refine Fin.ext ?_
      show k0_off131 (blkOf (ix2 r n)) 0#32 1 + 1 * (n.val % 256) = n.val
      have := congrFun ho 1
      change k0_off131 (blkOf (ix2 r n)) 0#32 1 = 512 * (blkOf (ix2 r n)).val + 256 * 0 at this
      omega
  have hA1 : ∀ (b : Memref sig .tc .vmem S1x4096 .f32) (f : Buf (Elt Ideal) (b.view.loc (c.tc : Thread nD τ))), ¬ n.val % 512 < 256 →
      (rdA (F := Ideal) c b f (blkOf (ix2 r n)) 256#32 (k0_off131_inb (blkOf (ix2 r n)) 1) (ix2 0 ⟨n.val % 256, by omega⟩)) = b.view.read (Elt Ideal) f (ix2 0 n) := by
    intro b f h
    show b.view.read (Elt Ideal) f _ = _
    congr 1
    have ho := k0_off131_eq (blkOf (ix2 r n)) 1
    funext i
    fin_cases i
    · refine Fin.ext ?_
      show k0_off131 (blkOf (ix2 r n)) 256#32 0 + 1 * 0 = 0
      have := congrFun ho 0
      change k0_off131 (blkOf (ix2 r n)) 256#32 0 = 0 at this
      omega
    · refine Fin.ext ?_
      show k0_off131 (blkOf (ix2 r n)) 256#32 1 + 1 * (n.val % 256) = n.val
      have := congrFun ho 1
      change k0_off131 (blkOf (ix2 r n)) 256#32 1 = 512 * (blkOf (ix2 r n)).val + 256 * 1 at this
      omega
  unfold Res OutK
  rw [k1, k2, k3, k4, p1, p2, p3, p4, p5]
  unfold OutAt
  rw [htix, hb]
  split
  · rename_i h
    change n.val % 512 < 256 at h
    rw [tile0_apply r _ _ hV _ hS, totS_blk hX _ G U _ 0 0 (by omega) _ a w ha hw hp, totS_blk hX _ G U _ 1 0 (by omega) _ a w ha hw hp,
      hA0 _ _ h, hA0 _ _ h, hA0 _ _ h, hA0 _ _ h, show 512 * (n.val / 512) + (256 * 0 + n.val % 256) = n.val by omega]
    rfl
  · rename_i h
    change ¬ n.val % 512 < 256 at h
    rw [tile1_apply r _ _ hV _ hS, totS_blk hX _ G U _ 0 1 (by omega) _ a w ha hw hp, totS_blk hX _ G U _ 1 1 (by omega) _ a w ha hw hp,
      hA1 _ _ h, hA1 _ _ h, hA1 _ _ h, hA1 _ _ h, show 512 * (n.val / 512) + (256 * 1 + n.val % 256) = n.val by omega]
    rfl

/-- The kernel's result, of the arrays the launch finds, is the reference's of the arguments. -/
theorem Res_eq (X : FVec Ideal S24x1x14336 .bf16) (sg zg su zu : FVec Ideal S4096 .f32) (hx2 : ∀ r y, x (ix2 r y) = X (ix3 r 0 y)) (hgs : ∀ n, gs (ix2 0 n) = sg (ix1 n))
    (hgz : ∀ n, gz (ix2 0 n) = zg (ix1 n)) (hus : ∀ n, us (ix2 0 n) = su (ix1 n)) (huz : ∀ n, uz (ix2 0 n) = zu (ix1 n))
    (hX : ∀ i, ∃ v : ℝ, (X i : EReal) = (v : EReal)) (hc : ∀ k : Fin 6, (cnts (ix1 k)).toNat < 2 ^ 28) :
    Res (F := Ideal) c cnts x gs gz us uz G U = outR (gR cnts X G sg zg) (gR cnts X U su zu) := by
  have ht : ∀ (r : Fin 24) (n : Fin 4096), (Res (F := Ideal) c cnts x gs gz us uz G U (ix2 r n) : EReal) = outR (gR cnts X G sg zg) (gR cnts X U su zu) (ix2 r n) := by
    intro r n
    choose v hv using fun y : Fin 14336 => hX (ix3 r 0 y)
    obtain ⟨xr, hX'⟩ : ∃ xr : ℕ → ℝ, ∀ y : Fin 14336, (X (ix3 r 0 y) : EReal) = ((xr y.val : ℝ) : EReal) :=
      ⟨fun k => if h : k < 14336 then v ⟨k, h⟩ else 0, fun y => by rw [hv]; simp only [y.isLt, dite_true]⟩
    obtain ⟨w, hw, e, h⟩ := Res_apply c cnts x gs gz us uz G U xr r (fun y => (hx2 r y).trans (hX' y)) hc n
    have e' : widthR cnts (ix1 r) = BitVec.ofNat 32 w := (Cert.ReferenceIdeal.Value.widthR_apply cnts r).trans e
    rw [h, Cert.ReferenceIdeal.Value.outR_apply, gR_eq cnts X G sg zg xr r hX' n w hw e', gR_eq cnts X U su zu xr r hX' n w hw e', hgs, hgz, hus, huz]
    simp only [hx2]
    rfl
  funext i
  have hi : i = ix2 (i 0) (i 1) := by
    funext a
    fin_cases a <;> rfl
  rw [hi]
  exact ht (i 0) (i 1)

end Cert.KernelIdeal.Hand
-- ==== Proof.Final.lean ====
/- What the precondition says, and that the kernel ends with the reference's result. -/
module

public import proofs.«01_k».proof.Defs
public import proofs.«01_k».proof.Proof.Gen.Pre_tame
public import proofs.«01_k».proof.Proof.Equal

@[expose] public section

noncomputable section

namespace Cert.KernelIdeal.Hand

open Idealize.ShloMosaic Idealize.SL.Sem
open Cert.KernelIdeal Cert.KernelIdeal.Gen

variable (m : (ℓ : Loc nD τ sig) → Buf (Elt Ideal) ℓ) (c : Dev nD)

/-! ## The arrays the launch finds -/

theorem cast_x (x : FVec Ideal S24x1x14336 .bf16) (r : Fin 24) (y : Fin 14336) : shapeCast S24x14336 x shapeCasts_S24x1x14336_S24x14336 (ix2 r y) = x (ix3 r 0 y) := by
  pointwise

theorem cast_s (s : FVec Ideal S4096 .f32) (n : Fin 4096) : shapeCast S1x4096 s shapeCasts_S4096_S1x4096 (ix2 0 n) = s (ix1 n) := by
  pointwise

set_option maxRecDepth 8192 in
theorem V_v0 (r : Fin 24) (y : Fin 14336) : V m c main_v0 (ix2 r y) = m ((c.tc : Thread nD τ).loc main_arg0) (ix3 r 0 y) := by
  have h : V m c main_v0 = shapeCast S24x14336 (m ((c.tc : Thread nD τ).loc main_arg0)) shapeCasts_S24x1x14336_S24x14336 := by
    unfold V; after_results_simp <;> rfl
  rw [h]
  exact cast_x _ r y

set_option maxRecDepth 8192 in
theorem V_v1 (n : Fin 4096) : V m c main_v1 (ix2 0 n) = m ((c.tc : Thread nD τ).loc main_arg2) (ix1 n) := by
  have h : V m c main_v1 = shapeCast S1x4096 (m ((c.tc : Thread nD τ).loc main_arg2)) shapeCasts_S4096_S1x4096 := by
    unfold V; after_results_simp <;> rfl
  rw [h]
  exact cast_s _ n

set_option maxRecDepth 8192 in
theorem V_v2 (n : Fin 4096) : V m c main_v2 (ix2 0 n) = m ((c.tc : Thread nD τ).loc main_arg3) (ix1 n) := by
  have h : V m c main_v2 = shapeCast S1x4096 (m ((c.tc : Thread nD τ).loc main_arg3)) shapeCasts_S4096_S1x4096 := by
    unfold V; after_results_simp <;> rfl
  rw [h]
  exact cast_s _ n

set_option maxRecDepth 8192 in
theorem V_v3 (n : Fin 4096) : V m c main_v3 (ix2 0 n) = m ((c.tc : Thread nD τ).loc main_arg5) (ix1 n) := by
  have h : V m c main_v3 = shapeCast S1x4096 (m ((c.tc : Thread nD τ).loc main_arg5)) shapeCasts_S4096_S1x4096 := by
    unfold V; after_results_simp <;> rfl
  rw [h]
  exact cast_s _ n

set_option maxRecDepth 8192 in
theorem V_v4 (n : Fin 4096) : V m c main_v4 (ix2 0 n) = m ((c.tc : Thread nD τ).loc main_arg6) (ix1 n) := by
  have h : V m c main_v4 = shapeCast S1x4096 (m ((c.tc : Thread nD τ).loc main_arg6)) shapeCasts_S4096_S1x4096 := by
    unfold V; after_results_simp <;> rfl
  rw [h]
  exact cast_s _ n

/-! ## The precondition -/

/-- A finite value is a real number. -/
theorem real_of_lt (x : EReal) (h : Ideal.cmp .olt (max x (-x)) (Ideal.ofBits .bf16 0x7F80#16) = 1#1) : ∃ v : ℝ, x = (v : EReal) := by
  have htop : Ideal.ofBits .bf16 0x7F80#16 = ⊤ := by simp [Ideal.ofBits, Ideal.ieee]
  rw [htop] at h
  unfold Ideal.cmp at h
  induction x with
  | bot => simp at h
  | top => simp at h
  | coe v => exact ⟨v, rfl⟩

theorem nat_of_count (b : BitVec 32) (h : IntOp.andi (IntOp.cmpi .sge b 0#32) (IntOp.cmpi .slt b 268435456#32) = 1#1) : b.toNat < 2 ^ 28 := by
  have hb : ∀ p q : Bool, IntOp.andi (BitVec.ofBool p) (BitVec.ofBool q) = 1#1 → p = true ∧ q = true := by decide
  obtain ⟨h0, h1⟩ := hb _ _ h
  have h0' : (0#32).toInt ≤ b.toInt := by simpa [BitVec.sle_iff_toInt_le] using h0
  have h1' : b.toInt < (268435456#32).toInt := by simpa [BitVec.slt_iff_toInt_lt] using h1
  rw [show (0#32).toInt = 0 by decide] at h0'
  rw [show (268435456#32).toInt = 268435456 by decide] at h1'
  rw [BitVec.toInt_eq_toNat_cond] at h0' h1'
  have := b.isLt
  split at h0' <;> omega

theorem tame_out (h : Cert.Pre_KernelIdeal_tame m) : (∀ i, ∃ v : ℝ, m ((c.tc : Thread nD τ).loc main_arg0) i = (v : EReal)) ∧ ∀ k : Fin 6, (m ((c.tc : Thread nD τ).loc main_arg7) (ix1 k)).toNat < 2 ^ 28 := by
  obtain ⟨h0, h1⟩ := h c
  exact ⟨fun i => real_of_lt _ (congrFun h0 i), fun k => nat_of_count _ (congrFun h1 (ix1 k))⟩

/-! ## The result -/

/-- The reference's memory holds the kernel's arguments. -/
def SameArgs (m' : (ℓ : Loc Cert.ReferenceIdeal.nD Cert.ReferenceIdeal.τ Cert.ReferenceIdeal.sig) → Buf (Elt Ideal) ℓ) : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)
  ∧ m' ((c.tc : Thread Cert.ReferenceIdeal.nD Cert.ReferenceIdeal.τ).loc Cert.ReferenceIdeal.main_arg6) = m ((c.tc : Thread nD τ).loc main_arg6)
  ∧ m' ((c.tc : Thread Cert.ReferenceIdeal.nD Cert.ReferenceIdeal.τ).loc Cert.ReferenceIdeal.main_arg7) = m ((c.tc : Thread nD τ).loc main_arg7)

theorem result_eq (h : Cert.Pre_KernelIdeal_tame m) (m' : (ℓ : Loc Cert.ReferenceIdeal.nD Cert.ReferenceIdeal.τ Cert.ReferenceIdeal.sig) → Buf (Elt Ideal) ℓ) (hm : SameArgs m c m') :
    Cert.ReferenceIdeal.Value.res_main_v95 m' c = resV m c := by
  obtain ⟨a0, a1, a2, a3, a4, a5, a6, a7⟩ := hm
  obtain ⟨hx, hc⟩ := tame_out m c h
  rw [Cert.ReferenceIdeal.Value.res_eq, a0, a1, a2, a3, a4, a5, a6, a7]
  unfold resV
  rw [V_main_arg7, V_main_arg1, V_main_arg4]
  exact (Res_eq c _ _ _ _ _ _ _ _ _ _ _ _ _ (V_v0 m c) (V_v1 m c) (V_v2 m c) (V_v3 m c) (V_v4 m c) hx hc).symm

end Cert.KernelIdeal.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_tame
public import proofs.«01_k».proof.Proof.Run
public import proofs.«01_k».proof.Proof.Twin
public import proofs.«01_k».proof.Proof.Final

@[expose] public section

noncomputable section

namespace Cert.Proof

open Idealize.ShloMosaic Idealize.SL.Sem Cert.KernelIdeal.Hand

theorem quiescent : Cert.quiescent_Kernel (hKernel := Cert.Kernel.Gen.facts) := by
  rw [frame_eq]
  exact fun m g _ => frame m g

/-- The reference keeps its arguments and declares no semaphore. -/
theorem quiescent_ref : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.ReferenceIdeal.Value.run (F := Ideal) m g)

/-- Both programs end with the same result. -/
theorem algebraic : Cert.algebraic_KernelIdeal_ReferenceIdeal_pre_tame (hKernelIdeal := Cert.KernelIdeal.Gen.facts) (hReferenceIdeal := Cert.ReferenceIdeal.Gen.facts) (hPre_tame := Cert.Pre_tame.Gen.facts) := by
  intro m g m' g' hpre hargs
  refine ⟨fun c => resV m c, ?_, ?_⟩
  · exact (θ_run Cert.KernelIdeal.defs _ _).mono (fun r h c => ⟨h.2 c, h.1.1 c⟩) (run m g)
  · exact (θ_run Cert.ReferenceIdeal.defs _ _).mono (fun r h c => ⟨(h c).1.trans (result_eq m c hpre m' (hargs c)), (h c).2⟩) (Cert.ReferenceIdeal.Value.run (F := Ideal) m' g')

theorem claim : Cert.Claim :=
  ⟨Cert.Kernel.Gen.facts, Cert.KernelIdeal.Gen.facts, Cert.ReferenceIdeal.Gen.facts, Cert.Pre_tame.Gen.facts, quiescent, fun m g _ => frame m g, fun m g _ => frame m g,
    quiescent_ref, fun m g _ => quiescent_ref m g trivial, trivial, algebraic⟩

end Cert.Proof

end
